-- ==== Defs.lean ====
def Pre_Attn (m : (ℓ : Loc Cert.Attn.nD Cert.Attn.τ Cert.Attn.sig) → Buf (Elt Bits) ℓ) : Prop :=
  True

def Pre_AttnIdeal (m : (ℓ : Loc Cert.AttnIdeal.nD Cert.AttnIdeal.τ Cert.AttnIdeal.sig) → Buf (Elt Ideal) ℓ) : Prop :=
  True

def Pre_AttnIdeal_finite_att [hPre_finite_att : Cert.Pre_finite_att.Facts] (m : (ℓ : Loc Cert.AttnIdeal.nD Cert.AttnIdeal.τ Cert.AttnIdeal.sig) → Buf (Elt Ideal) ℓ) : Prop :=
  ∀ c : Dev Cert.AttnIdeal.nD,
    (Cert.Pre_finite_att.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3)) (m ((c.tc : Thread Cert.AttnIdeal.nD Cert.AttnIdeal.τ).loc Cert.AttnIdeal.main_arg4))).1 = (fun _ => 1#1)
    ∧ (Cert.Pre_finite_att.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3)) (m ((c.tc : Thread Cert.AttnIdeal.nD Cert.AttnIdeal.τ).loc Cert.AttnIdeal.main_arg4))).2.1 = (fun _ => 1#1)
    ∧ (Cert.Pre_finite_att.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3)) (m ((c.tc : Thread Cert.AttnIdeal.nD Cert.AttnIdeal.τ).loc Cert.AttnIdeal.main_arg4))).2.2.1 = (fun _ => 1#1)
    ∧ (Cert.Pre_finite_att.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3)) (m ((c.tc : Thread Cert.AttnIdeal.nD Cert.AttnIdeal.τ).loc Cert.AttnIdeal.main_arg4))).2.2.2.1 = (fun _ => 1#1)
    ∧ (Cert.Pre_finite_att.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3)) (m ((c.tc : Thread Cert.AttnIdeal.nD Cert.AttnIdeal.τ).loc Cert.AttnIdeal.main_arg4))).2.2.2.2 = (fun _ => 1#1)

def Pre_AttnRefIdeal (m : (ℓ : Loc Cert.AttnRefIdeal.nD Cert.AttnRefIdeal.τ Cert.AttnRefIdeal.sig) → Buf (Elt Ideal) ℓ) : Prop :=
  True

def Pre_AttnRefIdeal_finite_att [hPre_finite_att : Cert.Pre_finite_att.Facts] (m : (ℓ : Loc Cert.AttnRefIdeal.nD Cert.AttnRefIdeal.τ Cert.AttnRefIdeal.sig) → Buf (Elt Ideal) ℓ) : Prop :=
  ∀ c : Dev Cert.AttnRefIdeal.nD,
    (Cert.Pre_finite_att.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2)) (m ((c.tc : Thread Cert.AttnRefIdeal.nD Cert.AttnRefIdeal.τ).loc Cert.AttnRefIdeal.main_arg3)) (m ((c.tc : Thread Cert.AttnRefIdeal.nD Cert.AttnRefIdeal.τ).loc Cert.AttnRefIdeal.main_arg4))).1 = (fun _ => 1#1)
    ∧ (Cert.Pre_finite_att.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2)) (m ((c.tc : Thread Cert.AttnRefIdeal.nD Cert.AttnRefIdeal.τ).loc Cert.AttnRefIdeal.main_arg3)) (m ((c.tc : Thread Cert.AttnRefIdeal.nD Cert.AttnRefIdeal.τ).loc Cert.AttnRefIdeal.main_arg4))).2.1 = (fun _ => 1#1)
    ∧ (Cert.Pre_finite_att.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2)) (m ((c.tc : Thread Cert.AttnRefIdeal.nD Cert.AttnRefIdeal.τ).loc Cert.AttnRefIdeal.main_arg3)) (m ((c.tc : Thread Cert.AttnRefIdeal.nD Cert.AttnRefIdeal.τ).loc Cert.AttnRefIdeal.main_arg4))).2.2.1 = (fun _ => 1#1)
    ∧ (Cert.Pre_finite_att.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2)) (m ((c.tc : Thread Cert.AttnRefIdeal.nD Cert.AttnRefIdeal.τ).loc Cert.AttnRefIdeal.main_arg3)) (m ((c.tc : Thread Cert.AttnRefIdeal.nD Cert.AttnRefIdeal.τ).loc Cert.AttnRefIdeal.main_arg4))).2.2.2.1 = (fun _ => 1#1)
    ∧ (Cert.Pre_finite_att.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2)) (m ((c.tc : Thread Cert.AttnRefIdeal.nD Cert.AttnRefIdeal.τ).loc Cert.AttnRefIdeal.main_arg3)) (m ((c.tc : Thread Cert.AttnRefIdeal.nD Cert.AttnRefIdeal.τ).loc Cert.AttnRefIdeal.main_arg4))).2.2.2.2 = (fun _ => 1#1)

def Pre_FfnHid (m : (ℓ : Loc Cert.FfnHid.nD Cert.FfnHid.τ Cert.FfnHid.sig) → Buf (Elt Bits) ℓ) : Prop :=
  True

def Pre_FfnHidIdeal (m : (ℓ : Loc Cert.FfnHidIdeal.nD Cert.FfnHidIdeal.τ Cert.FfnHidIdeal.sig) → Buf (Elt Ideal) ℓ) : Prop :=
  True

def Pre_FfnHidIdeal_finite_hid [hPre_finite_hid : Cert.Pre_finite_hid.Facts] (m : (ℓ : Loc Cert.FfnHidIdeal.nD Cert.FfnHidIdeal.τ Cert.FfnHidIdeal.sig) → Buf (Elt Ideal) ℓ) : Prop :=
  ∀ c : Dev Cert.FfnHidIdeal.nD,
    (Cert.Pre_finite_hid.fn (F := Ideal) (m ((c.tc : Thread Cert.FfnHidIdeal.nD Cert.FfnHidIdeal.τ).loc Cert.FfnHidIdeal.main_arg0)) (m ((c.tc : Thread Cert.FfnHidIdeal.nD Cert.FfnHidIdeal.τ).loc Cert.FfnHidIdeal.main_arg1)) (m ((c.tc : Thread Cert.FfnHidIdeal.nD Cert.FfnHidIdeal.τ).loc Cert.FfnHidIdeal.main_arg2)) (m ((c.tc : Thread Cert.FfnHidIdeal.nD Cert.FfnHidIdeal.τ).loc Cert.FfnHidIdeal.main_arg3))).1 = (fun _ => 1#1)
    ∧ (Cert.Pre_finite_hid.fn (F := Ideal) (m ((c.tc : Thread Cert.FfnHidIdeal.nD Cert.FfnHidIdeal.τ).loc Cert.FfnHidIdeal.main_arg0)) (m ((c.tc : Thread Cert.FfnHidIdeal.nD Cert.FfnHidIdeal.τ).loc Cert.FfnHidIdeal.main_arg1)) (m ((c.tc : Thread Cert.FfnHidIdeal.nD Cert.FfnHidIdeal.τ).loc Cert.FfnHidIdeal.main_arg2)) (m ((c.tc : Thread Cert.FfnHidIdeal.nD Cert.FfnHidIdeal.τ).loc Cert.FfnHidIdeal.main_arg3))).2.1 = (fun _ => 1#1)
    ∧ (Cert.Pre_finite_hid.fn (F := Ideal) (m ((c.tc : Thread Cert.FfnHidIdeal.nD Cert.FfnHidIdeal.τ).loc Cert.FfnHidIdeal.main_arg0)) (m ((c.tc : Thread Cert.FfnHidIdeal.nD Cert.FfnHidIdeal.τ).loc Cert.FfnHidIdeal.main_arg1)) (m ((c.tc : Thread Cert.FfnHidIdeal.nD Cert.FfnHidIdeal.τ).loc Cert.FfnHidIdeal.main_arg2)) (m ((c.tc : Thread Cert.FfnHidIdeal.nD Cert.FfnHidIdeal.τ).loc Cert.FfnHidIdeal.main_arg3))).2.2 = (fun _ => 1#1)

def Pre_FfnHidRefIdeal (m : (ℓ : Loc Cert.FfnHidRefIdeal.nD Cert.FfnHidRefIdeal.τ Cert.FfnHidRefIdeal.sig) → Buf (Elt Ideal) ℓ) : Prop :=
  True

def Pre_FfnHidRefIdeal_finite_hid [hPre_finite_hid : Cert.Pre_finite_hid.Facts] (m : (ℓ : Loc Cert.FfnHidRefIdeal.nD Cert.FfnHidRefIdeal.τ Cert.FfnHidRefIdeal.sig) → Buf (Elt Ideal) ℓ) : Prop :=
  ∀ c : Dev Cert.FfnHidRefIdeal.nD,
    (Cert.Pre_finite_hid.fn (F := Ideal) (m ((c.tc : Thread Cert.FfnHidRefIdeal.nD Cert.FfnHidRefIdeal.τ).loc Cert.FfnHidRefIdeal.main_arg0)) (m ((c.tc : Thread Cert.FfnHidRefIdeal.nD Cert.FfnHidRefIdeal.τ).loc Cert.FfnHidRefIdeal.main_arg1)) (m ((c.tc : Thread Cert.FfnHidRefIdeal.nD Cert.FfnHidRefIdeal.τ).loc Cert.FfnHidRefIdeal.main_arg2)) (m ((c.tc : Thread Cert.FfnHidRefIdeal.nD Cert.FfnHidRefIdeal.τ).loc Cert.FfnHidRefIdeal.main_arg3))).1 = (fun _ => 1#1)
    ∧ (Cert.Pre_finite_hid.fn (F := Ideal) (m ((c.tc : Thread Cert.FfnHidRefIdeal.nD Cert.FfnHidRefIdeal.τ).loc Cert.FfnHidRefIdeal.main_arg0)) (m ((c.tc : Thread Cert.FfnHidRefIdeal.nD Cert.FfnHidRefIdeal.τ).loc Cert.FfnHidRefIdeal.main_arg1)) (m ((c.tc : Thread Cert.FfnHidRefIdeal.nD Cert.FfnHidRefIdeal.τ).loc Cert.FfnHidRefIdeal.main_arg2)) (m ((c.tc : Thread Cert.FfnHidRefIdeal.nD Cert.FfnHidRefIdeal.τ).loc Cert.FfnHidRefIdeal.main_arg3))).2.1 = (fun _ => 1#1)
    ∧ (Cert.Pre_finite_hid.fn (F := Ideal) (m ((c.tc : Thread Cert.FfnHidRefIdeal.nD Cert.FfnHidRefIdeal.τ).loc Cert.FfnHidRefIdeal.main_arg0)) (m ((c.tc : Thread Cert.FfnHidRefIdeal.nD Cert.FfnHidRefIdeal.τ).loc Cert.FfnHidRefIdeal.main_arg1)) (m ((c.tc : Thread Cert.FfnHidRefIdeal.nD Cert.FfnHidRefIdeal.τ).loc Cert.FfnHidRefIdeal.main_arg2)) (m ((c.tc : Thread Cert.FfnHidRefIdeal.nD Cert.FfnHidRefIdeal.τ).loc Cert.FfnHidRefIdeal.main_arg3))).2.2 = (fun _ => 1#1)

def Pre_Nrm (m : (ℓ : Loc Cert.Nrm.nD Cert.Nrm.τ Cert.Nrm.sig) → Buf (Elt Bits) ℓ) : Prop :=
  True

def Pre_NrmIdeal (m : (ℓ : Loc Cert.NrmIdeal.nD Cert.NrmIdeal.τ Cert.NrmIdeal.sig) → Buf (Elt Ideal) ℓ) : Prop :=
  True

def Pre_NrmIdeal_finite_nrm [hPre_finite_nrm : Cert.Pre_finite_nrm.Facts] (m : (ℓ : Loc Cert.NrmIdeal.nD Cert.NrmIdeal.τ Cert.NrmIdeal.sig) → Buf (Elt Ideal) ℓ) : Prop :=
  ∀ c : Dev Cert.NrmIdeal.nD,
    (Cert.Pre_finite_nrm.fn (F := Ideal) (m ((c.tc : Thread Cert.NrmIdeal.nD Cert.NrmIdeal.τ).loc Cert.NrmIdeal.main_arg0)) (m ((c.tc : Thread Cert.NrmIdeal.nD Cert.NrmIdeal.τ).loc Cert.NrmIdeal.main_arg1)) (m ((c.tc : Thread Cert.NrmIdeal.nD Cert.NrmIdeal.τ).loc Cert.NrmIdeal.main_arg2)) (m ((c.tc : Thread Cert.NrmIdeal.nD Cert.NrmIdeal.τ).loc Cert.NrmIdeal.main_arg3)) (m ((c.tc : Thread Cert.NrmIdeal.nD Cert.NrmIdeal.τ).loc Cert.NrmIdeal.main_arg4))).1 = (fun _ => 1#1)
    ∧ (Cert.Pre_finite_nrm.fn (F := Ideal) (m ((c.tc : Thread Cert.NrmIdeal.nD Cert.NrmIdeal.τ).loc Cert.NrmIdeal.main_arg0)) (m ((c.tc : Thread Cert.NrmIdeal.nD Cert.NrmIdeal.τ).loc Cert.NrmIdeal.main_arg1)) (m ((c.tc : Thread Cert.NrmIdeal.nD Cert.NrmIdeal.τ).loc Cert.NrmIdeal.main_arg2)) (m ((c.tc : Thread Cert.NrmIdeal.nD Cert.NrmIdeal.τ).loc Cert.NrmIdeal.main_arg3)) (m ((c.tc : Thread Cert.NrmIdeal.nD Cert.NrmIdeal.τ).loc Cert.NrmIdeal.main_arg4))).2.1 = (fun _ => 1#1)
    ∧ (Cert.Pre_finite_nrm.fn (F := Ideal) (m ((c.tc : Thread Cert.NrmIdeal.nD Cert.NrmIdeal.τ).loc Cert.NrmIdeal.main_arg0)) (m ((c.tc : Thread Cert.NrmIdeal.nD Cert.NrmIdeal.τ).loc Cert.NrmIdeal.main_arg1)) (m ((c.tc : Thread Cert.NrmIdeal.nD Cert.NrmIdeal.τ).loc Cert.NrmIdeal.main_arg2)) (m ((c.tc : Thread Cert.NrmIdeal.nD Cert.NrmIdeal.τ).loc Cert.NrmIdeal.main_arg3)) (m ((c.tc : Thread Cert.NrmIdeal.nD Cert.NrmIdeal.τ).loc Cert.NrmIdeal.main_arg4))).2.2.1 = (fun _ => 1#1)
    ∧ (Cert.Pre_finite_nrm.fn (F := Ideal) (m ((c.tc : Thread Cert.NrmIdeal.nD Cert.NrmIdeal.τ).loc Cert.NrmIdeal.main_arg0)) (m ((c.tc : Thread Cert.NrmIdeal.nD Cert.NrmIdeal.τ).loc Cert.NrmIdeal.main_arg1)) (m ((c.tc : Thread Cert.NrmIdeal.nD Cert.NrmIdeal.τ).loc Cert.NrmIdeal.main_arg2)) (m ((c.tc : Thread Cert.NrmIdeal.nD Cert.NrmIdeal.τ).loc Cert.NrmIdeal.main_arg3)) (m ((c.tc : Thread Cert.NrmIdeal.nD Cert.NrmIdeal.τ).loc Cert.NrmIdeal.main_arg4))).2.2.2.1 = (fun _ => 1#1)
    ∧ (Cert.Pre_finite_nrm.fn (F := Ideal) (m ((c.tc : Thread Cert.NrmIdeal.nD Cert.NrmIdeal.τ).loc Cert.NrmIdeal.main_arg0)) (m ((c.tc : Thread Cert.NrmIdeal.nD Cert.NrmIdeal.τ).loc Cert.NrmIdeal.main_arg1)) (m ((c.tc : Thread Cert.NrmIdeal.nD Cert.NrmIdeal.τ).loc Cert.NrmIdeal.main_arg2)) (m ((c.tc : Thread Cert.NrmIdeal.nD Cert.NrmIdeal.τ).loc Cert.NrmIdeal.main_arg3)) (m ((c.tc : Thread Cert.NrmIdeal.nD Cert.NrmIdeal.τ).loc Cert.NrmIdeal.main_arg4))).2.2.2.2 = (fun _ => 1#1)

def Pre_NrmRefIdeal (m : (ℓ : Loc Cert.NrmRefIdeal.nD Cert.NrmRefIdeal.τ Cert.NrmRefIdeal.sig) → Buf (Elt Ideal) ℓ) : Prop :=
  True

def Pre_NrmRefIdeal_finite_nrm [hPre_finite_nrm : Cert.Pre_finite_nrm.Facts] (m : (ℓ : Loc Cert.NrmRefIdeal.nD Cert.NrmRefIdeal.τ Cert.NrmRefIdeal.sig) → Buf (Elt Ideal) ℓ) : Prop :=
  ∀ c : Dev Cert.NrmRefIdeal.nD,
    (Cert.Pre_finite_nrm.fn (F := Ideal) (m ((c.tc : Thread Cert.NrmRefIdeal.nD Cert.NrmRefIdeal.τ).loc Cert.NrmRefIdeal.main_arg0)) (m ((c.tc : Thread Cert.NrmRefIdeal.nD Cert.NrmRefIdeal.τ).loc Cert.NrmRefIdeal.main_arg1)) (m ((c.tc : Thread Cert.NrmRefIdeal.nD Cert.NrmRefIdeal.τ).loc Cert.NrmRefIdeal.main_arg2)) (m ((c.tc : Thread Cert.NrmRefIdeal.nD Cert.NrmRefIdeal.τ).loc Cert.NrmRefIdeal.main_arg3)) (m ((c.tc : Thread Cert.NrmRefIdeal.nD Cert.NrmRefIdeal.τ).loc Cert.NrmRefIdeal.main_arg4))).1 = (fun _ => 1#1)
    ∧ (Cert.Pre_finite_nrm.fn (F := Ideal) (m ((c.tc : Thread Cert.NrmRefIdeal.nD Cert.NrmRefIdeal.τ).loc Cert.NrmRefIdeal.main_arg0)) (m ((c.tc : Thread Cert.NrmRefIdeal.nD Cert.NrmRefIdeal.τ).loc Cert.NrmRefIdeal.main_arg1)) (m ((c.tc : Thread Cert.NrmRefIdeal.nD Cert.NrmRefIdeal.τ).loc Cert.NrmRefIdeal.main_arg2)) (m ((c.tc : Thread Cert.NrmRefIdeal.nD Cert.NrmRefIdeal.τ).loc Cert.NrmRefIdeal.main_arg3)) (m ((c.tc : Thread Cert.NrmRefIdeal.nD Cert.NrmRefIdeal.τ).loc Cert.NrmRefIdeal.main_arg4))).2.1 = (fun _ => 1#1)
    ∧ (Cert.Pre_finite_nrm.fn (F := Ideal) (m ((c.tc : Thread Cert.NrmRefIdeal.nD Cert.NrmRefIdeal.τ).loc Cert.NrmRefIdeal.main_arg0)) (m ((c.tc : Thread Cert.NrmRefIdeal.nD Cert.NrmRefIdeal.τ).loc Cert.NrmRefIdeal.main_arg1)) (m ((c.tc : Thread Cert.NrmRefIdeal.nD Cert.NrmRefIdeal.τ).loc Cert.NrmRefIdeal.main_arg2)) (m ((c.tc : Thread Cert.NrmRefIdeal.nD Cert.NrmRefIdeal.τ).loc Cert.NrmRefIdeal.main_arg3)) (m ((c.tc : Thread Cert.NrmRefIdeal.nD Cert.NrmRefIdeal.τ).loc Cert.NrmRefIdeal.main_arg4))).2.2.1 = (fun _ => 1#1)
    ∧ (Cert.Pre_finite_nrm.fn (F := Ideal) (m ((c.tc : Thread Cert.NrmRefIdeal.nD Cert.NrmRefIdeal.τ).loc Cert.NrmRefIdeal.main_arg0)) (m ((c.tc : Thread Cert.NrmRefIdeal.nD Cert.NrmRefIdeal.τ).loc Cert.NrmRefIdeal.main_arg1)) (m ((c.tc : Thread Cert.NrmRefIdeal.nD Cert.NrmRefIdeal.τ).loc Cert.NrmRefIdeal.main_arg2)) (m ((c.tc : Thread Cert.NrmRefIdeal.nD Cert.NrmRefIdeal.τ).loc Cert.NrmRefIdeal.main_arg3)) (m ((c.tc : Thread Cert.NrmRefIdeal.nD Cert.NrmRefIdeal.τ).loc Cert.NrmRefIdeal.main_arg4))).2.2.2.1 = (fun _ => 1#1)
    ∧ (Cert.Pre_finite_nrm.fn (F := Ideal) (m ((c.tc : Thread Cert.NrmRefIdeal.nD Cert.NrmRefIdeal.τ).loc Cert.NrmRefIdeal.main_arg0)) (m ((c.tc : Thread Cert.NrmRefIdeal.nD Cert.NrmRefIdeal.τ).loc Cert.NrmRefIdeal.main_arg1)) (m ((c.tc : Thread Cert.NrmRefIdeal.nD Cert.NrmRefIdeal.τ).loc Cert.NrmRefIdeal.main_arg2)) (m ((c.tc : Thread Cert.NrmRefIdeal.nD Cert.NrmRefIdeal.τ).loc Cert.NrmRefIdeal.main_arg3)) (m ((c.tc : Thread Cert.NrmRefIdeal.nD Cert.NrmRefIdeal.τ).loc Cert.NrmRefIdeal.main_arg4))).2.2.2.2 = (fun _ => 1#1)

def Pre_Dwin (m : (ℓ : Loc Cert.Dwin.nD Cert.Dwin.τ Cert.Dwin.sig) → Buf (Elt Bits) ℓ) : Prop :=
  True

def Pre_DwinIdeal (m : (ℓ : Loc Cert.DwinIdeal.nD Cert.DwinIdeal.τ Cert.DwinIdeal.sig) → Buf (Elt Ideal) ℓ) : Prop :=
  True

def Pre_DwinRefIdeal (m : (ℓ : Loc Cert.DwinRefIdeal.nD Cert.DwinRefIdeal.τ Cert.DwinRefIdeal.sig) → Buf (Elt Ideal) ℓ) : Prop :=
  True

def Pre_Dwout (m : (ℓ : Loc Cert.Dwout.nD Cert.Dwout.τ Cert.Dwout.sig) → Buf (Elt Bits) ℓ) : Prop :=
  True

def Pre_DwoutIdeal (m : (ℓ : Loc Cert.DwoutIdeal.nD Cert.DwoutIdeal.τ Cert.DwoutIdeal.sig) → Buf (Elt Ideal) ℓ) : Prop :=
  True

def Pre_DwoutRefIdeal (m : (ℓ : Loc Cert.DwoutRefIdeal.nD Cert.DwoutRefIdeal.τ Cert.DwoutRefIdeal.sig) → Buf (Elt Ideal) ℓ) : Prop :=
  True

def Pre_FfnOut (m : (ℓ : Loc Cert.FfnOut.nD Cert.FfnOut.τ Cert.FfnOut.sig) → Buf (Elt Bits) ℓ) : Prop :=
  True

def Pre_FfnOutIdeal (m : (ℓ : Loc Cert.FfnOutIdeal.nD Cert.FfnOutIdeal.τ Cert.FfnOutIdeal.sig) → Buf (Elt Ideal) ℓ) : Prop :=
  True

def Pre_FfnOutRefIdeal (m : (ℓ : Loc Cert.FfnOutRefIdeal.nD Cert.FfnOutRefIdeal.τ Cert.FfnOutRefIdeal.sig) → Buf (Elt Ideal) ℓ) : Prop :=
  True

def Pre_AttDo (m : (ℓ : Loc Cert.AttDo.nD Cert.AttDo.τ Cert.AttDo.sig) → Buf (Elt Bits) ℓ) : Prop :=
  True

def Pre_AttDoIdeal (m : (ℓ : Loc Cert.AttDoIdeal.nD Cert.AttDoIdeal.τ Cert.AttDoIdeal.sig) → Buf (Elt Ideal) ℓ) : Prop :=
  True

def Pre_AttDoRefIdeal (m : (ℓ : Loc Cert.AttDoRefIdeal.nD Cert.AttDoRefIdeal.τ Cert.AttDoRefIdeal.sig) → Buf (Elt Ideal) ℓ) : Prop :=
  True

def Pre_Dwqkv (m : (ℓ : Loc Cert.Dwqkv.nD Cert.Dwqkv.τ Cert.Dwqkv.sig) → Buf (Elt Bits) ℓ) : Prop :=
  True

def Pre_DwqkvIdeal (m : (ℓ : Loc Cert.DwqkvIdeal.nD Cert.DwqkvIdeal.τ Cert.DwqkvIdeal.sig) → Buf (Elt Ideal) ℓ) : Prop :=
  True

def Pre_DwqkvRefIdeal (m : (ℓ : Loc Cert.DwqkvRefIdeal.nD Cert.DwqkvRefIdeal.τ Cert.DwqkvRefIdeal.sig) → Buf (Elt Ideal) ℓ) : Prop :=
  True

def Pre_AttO (m : (ℓ : Loc Cert.AttO.nD Cert.AttO.τ Cert.AttO.sig) → Buf (Elt Bits) ℓ) : Prop :=
  True

def Pre_AttOIdeal (m : (ℓ : Loc Cert.AttOIdeal.nD Cert.AttOIdeal.τ Cert.AttOIdeal.sig) → Buf (Elt Ideal) ℓ) : Prop :=
  True

def Pre_AttORefIdeal (m : (ℓ : Loc Cert.AttORefIdeal.nD Cert.AttORefIdeal.τ Cert.AttORefIdeal.sig) → Buf (Elt Ideal) ℓ) : Prop :=
  True

def Pre_HybO (m : (ℓ : Loc Cert.HybO.nD Cert.HybO.τ Cert.HybO.sig) → Buf (Elt Bits) ℓ) : Prop :=
  True

def Pre_HybOIdeal (m : (ℓ : Loc Cert.HybOIdeal.nD Cert.HybOIdeal.τ Cert.HybOIdeal.sig) → Buf (Elt Ideal) ℓ) : Prop :=
  True

def Pre_HybORefIdeal (m : (ℓ : Loc Cert.HybORefIdeal.nD Cert.HybORefIdeal.τ Cert.HybORefIdeal.sig) → Buf (Elt Ideal) ℓ) : Prop :=
  True

def Pre_FfnIn (m : (ℓ : Loc Cert.FfnIn.nD Cert.FfnIn.τ Cert.FfnIn.sig) → Buf (Elt Bits) ℓ) : Prop :=
  True

def Pre_FfnInIdeal (m : (ℓ : Loc Cert.FfnInIdeal.nD Cert.FfnInIdeal.τ Cert.FfnInIdeal.sig) → Buf (Elt Ideal) ℓ) : Prop :=
  True

def Pre_FfnInRefIdeal (m : (ℓ : Loc Cert.FfnInRefIdeal.nD Cert.FfnInRefIdeal.τ Cert.FfnInRefIdeal.sig) → Buf (Elt Ideal) ℓ) : Prop :=
  True

def quiescent_Attn [hAttn : Cert.Attn.Facts] : Prop :=
  ∀ (m : (ℓ : Loc Cert.Attn.nD Cert.Attn.τ Cert.Attn.sig) → Buf (Elt Bits) ℓ) (g : Dev Cert.Attn.nD → PrngReg), Pre_Attn m →
    θ_run (Cert.Attn.defs (F := Bits)) (onTc (τ := Cert.Attn.τ) (Cert.Attn.main (F := Bits))) ⟨m, fun _ => 0, g⟩ (fun r => (∀ c : Dev Cert.Attn.nD,
      r.2.mem ((c.tc : Thread Cert.Attn.nD Cert.Attn.τ).loc Cert.Attn.main_arg0) = m ((c.tc : Thread Cert.Attn.nD Cert.Attn.τ).loc Cert.Attn.main_arg0)
      ∧ r.2.mem ((c.tc : Thread Cert.Attn.nD Cert.Attn.τ).loc Cert.Attn.main_arg1) = m ((c.tc : Thread Cert.Attn.nD Cert.Attn.τ).loc Cert.Attn.main_arg1)
      ∧ r.2.mem ((c.tc : Thread Cert.Attn.nD Cert.Attn.τ).loc Cert.Attn.main_arg2) = m ((c.tc : Thread Cert.Attn.nD Cert.Attn.τ).loc Cert.Attn.main_arg2)
      ∧ r.2.mem ((c.tc : Thread Cert.Attn.nD Cert.Attn.τ).loc Cert.Attn.main_arg3) = m ((c.tc : Thread Cert.Attn.nD Cert.Attn.τ).loc Cert.Attn.main_arg3)
      ∧ r.2.mem ((c.tc : Thread Cert.Attn.nD Cert.Attn.τ).loc Cert.Attn.main_arg4) = m ((c.tc : Thread Cert.Attn.nD Cert.Attn.τ).loc Cert.Attn.main_arg4))
      ∧ r.2.sem = fun _ => 0)

def quiescent_AttnIdeal [hAttnIdeal : Cert.AttnIdeal.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
      ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3)
      ∧ r.2.mem ((c.tc : Thread Cert.AttnIdeal.nD Cert.AttnIdeal.τ).loc Cert.AttnIdeal.main_arg4) = m ((c.tc : Thread Cert.AttnIdeal.nD Cert.AttnIdeal.τ).loc Cert.AttnIdeal.main_arg4))
      ∧ r.2.sem = fun _ => 0)

def quiescent_AttnIdeal_pre_finite_att [hAttnIdeal : Cert.AttnIdeal.Facts] [hPre_finite_att : Cert.Pre_finite_att.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal_finite_att m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
      ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3)
      ∧ r.2.mem ((c.tc : Thread Cert.AttnIdeal.nD Cert.AttnIdeal.τ).loc Cert.AttnIdeal.main_arg4) = m ((c.tc : Thread Cert.AttnIdeal.nD Cert.AttnIdeal.τ).loc Cert.AttnIdeal.main_arg4))
      ∧ r.2.sem = fun _ => 0)

def quiescent_AttnRefIdeal [hAttnRefIdeal : Cert.AttnRefIdeal.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2)
      ∧ r.2.mem ((c.tc : Thread Cert.AttnRefIdeal.nD Cert.AttnRefIdeal.τ).loc Cert.AttnRefIdeal.main_arg3) = m ((c.tc : Thread Cert.AttnRefIdeal.nD Cert.AttnRefIdeal.τ).loc Cert.AttnRefIdeal.main_arg3)
      ∧ r.2.mem ((c.tc : Thread Cert.AttnRefIdeal.nD Cert.AttnRefIdeal.τ).loc Cert.AttnRefIdeal.main_arg4) = m ((c.tc : Thread Cert.AttnRefIdeal.nD Cert.AttnRefIdeal.τ).loc Cert.AttnRefIdeal.main_arg4))
      ∧ r.2.sem = fun _ => 0)

def quiescent_AttnRefIdeal_pre_finite_att [hAttnRefIdeal : Cert.AttnRefIdeal.Facts] [hPre_finite_att : Cert.Pre_finite_att.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal_finite_att m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2)
      ∧ r.2.mem ((c.tc : Thread Cert.AttnRefIdeal.nD Cert.AttnRefIdeal.τ).loc Cert.AttnRefIdeal.main_arg3) = m ((c.tc : Thread Cert.AttnRefIdeal.nD Cert.AttnRefIdeal.τ).loc Cert.AttnRefIdeal.main_arg3)
      ∧ r.2.mem ((c.tc : Thread Cert.AttnRefIdeal.nD Cert.AttnRefIdeal.τ).loc Cert.AttnRefIdeal.main_arg4) = m ((c.tc : Thread Cert.AttnRefIdeal.nD Cert.AttnRefIdeal.τ).loc Cert.AttnRefIdeal.main_arg4))
      ∧ r.2.sem = fun _ => 0)

def quiescent_FfnHid [hFfnHid : Cert.FfnHid.Facts] : Prop :=
  ∀ (m : (ℓ : Loc Cert.FfnHid.nD Cert.FfnHid.τ Cert.FfnHid.sig) → Buf (Elt Bits) ℓ) (g : Dev Cert.FfnHid.nD → PrngReg), Pre_FfnHid m →
    θ_run (Cert.FfnHid.defs (F := Bits)) (onTc (τ := Cert.FfnHid.τ) (Cert.FfnHid.main (F := Bits))) ⟨m, fun _ => 0, g⟩ (fun r => (∀ c : Dev Cert.FfnHid.nD,
      r.2.mem ((c.tc : Thread Cert.FfnHid.nD Cert.FfnHid.τ).loc Cert.FfnHid.main_arg0) = m ((c.tc : Thread Cert.FfnHid.nD Cert.FfnHid.τ).loc Cert.FfnHid.main_arg0)
      ∧ r.2.mem ((c.tc : Thread Cert.FfnHid.nD Cert.FfnHid.τ).loc Cert.FfnHid.main_arg1) = m ((c.tc : Thread Cert.FfnHid.nD Cert.FfnHid.τ).loc Cert.FfnHid.main_arg1)
      ∧ r.2.mem ((c.tc : Thread Cert.FfnHid.nD Cert.FfnHid.τ).loc Cert.FfnHid.main_arg2) = m ((c.tc : Thread Cert.FfnHid.nD Cert.FfnHid.τ).loc Cert.FfnHid.main_arg2)
      ∧ r.2.mem ((c.tc : Thread Cert.FfnHid.nD Cert.FfnHid.τ).loc Cert.FfnHid.main_arg3) = m ((c.tc : Thread Cert.FfnHid.nD Cert.FfnHid.τ).loc Cert.FfnHid.main_arg3))
      ∧ r.2.sem = fun _ => 0)

def quiescent_FfnHidIdeal [hFfnHidIdeal : Cert.FfnHidIdeal.Facts] : Prop :=
  ∀ (m : (ℓ : Loc Cert.FfnHidIdeal.nD Cert.FfnHidIdeal.τ Cert.FfnHidIdeal.sig) → Buf (Elt Ideal) ℓ) (g : Dev Cert.FfnHidIdeal.nD → PrngReg), Pre_FfnHidIdeal m →
    θ_run (Cert.FfnHidIdeal.defs (F := Ideal)) (onTc (τ := Cert.FfnHidIdeal.τ) (Cert.FfnHidIdeal.main (F := Ideal))) ⟨m, fun _ => 0, g⟩ (fun r => (∀ c : Dev Cert.FfnHidIdeal.nD,
      r.2.mem ((c.tc : Thread Cert.FfnHidIdeal.nD Cert.FfnHidIdeal.τ).loc Cert.FfnHidIdeal.main_arg0) = m ((c.tc : Thread Cert.FfnHidIdeal.nD Cert.FfnHidIdeal.τ).loc Cert.FfnHidIdeal.main_arg0)
      ∧ r.2.mem ((c.tc : Thread Cert.FfnHidIdeal.nD Cert.FfnHidIdeal.τ).loc Cert.FfnHidIdeal.main_arg1) = m ((c.tc : Thread Cert.FfnHidIdeal.nD Cert.FfnHidIdeal.τ).loc Cert.FfnHidIdeal.main_arg1)
      ∧ r.2.mem ((c.tc : Thread Cert.FfnHidIdeal.nD Cert.FfnHidIdeal.τ).loc Cert.FfnHidIdeal.main_arg2) = m ((c.tc : Thread Cert.FfnHidIdeal.nD Cert.FfnHidIdeal.τ).loc Cert.FfnHidIdeal.main_arg2)
      ∧ r.2.mem ((c.tc : Thread Cert.FfnHidIdeal.nD Cert.FfnHidIdeal.τ).loc Cert.FfnHidIdeal.main_arg3) = m ((c.tc : Thread Cert.FfnHidIdeal.nD Cert.FfnHidIdeal.τ).loc Cert.FfnHidIdeal.main_arg3))
      ∧ r.2.sem = fun _ => 0)

def quiescent_FfnHidIdeal_pre_finite_hid [hFfnHidIdeal : Cert.FfnHidIdeal.Facts] [hPre_finite_hid : Cert.Pre_finite_hid.Facts] : Prop :=
  ∀ (m : (ℓ : Loc Cert.FfnHidIdeal.nD Cert.FfnHidIdeal.τ Cert.FfnHidIdeal.sig) → Buf (Elt Ideal) ℓ) (g : Dev Cert.FfnHidIdeal.nD → PrngReg), Pre_FfnHidIdeal_finite_hid m →
    θ_run (Cert.FfnHidIdeal.defs (F := Ideal)) (onTc (τ := Cert.FfnHidIdeal.τ) (Cert.FfnHidIdeal.main (F := Ideal))) ⟨m, fun _ => 0, g⟩ (fun r => (∀ c : Dev Cert.FfnHidIdeal.nD,
      r.2.mem ((c.tc : Thread Cert.FfnHidIdeal.nD Cert.FfnHidIdeal.τ).loc Cert.FfnHidIdeal.main_arg0) = m ((c.tc : Thread Cert.FfnHidIdeal.nD Cert.FfnHidIdeal.τ).loc Cert.FfnHidIdeal.main_arg0)
      ∧ r.2.mem ((c.tc : Thread Cert.FfnHidIdeal.nD Cert.FfnHidIdeal.τ).loc Cert.FfnHidIdeal.main_arg1) = m ((c.tc : Thread Cert.FfnHidIdeal.nD Cert.FfnHidIdeal.τ).loc Cert.FfnHidIdeal.main_arg1)
      ∧ r.2.mem ((c.tc : Thread Cert.FfnHidIdeal.nD Cert.FfnHidIdeal.τ).loc Cert.FfnHidIdeal.main_arg2) = m ((c.tc : Thread Cert.FfnHidIdeal.nD Cert.FfnHidIdeal.τ).loc Cert.FfnHidIdeal.main_arg2)
      ∧ r.2.mem ((c.tc : Thread Cert.FfnHidIdeal.nD Cert.FfnHidIdeal.τ).loc Cert.FfnHidIdeal.main_arg3) = m ((c.tc : Thread Cert.FfnHidIdeal.nD Cert.FfnHidIdeal.τ).loc Cert.FfnHidIdeal.main_arg3))
      ∧ r.2.sem = fun _ => 0)

def quiescent_FfnHidRefIdeal [hFfnHidRefIdeal : Cert.FfnHidRefIdeal.Facts] : Prop :=
  ∀ (m : (ℓ : Loc Cert.FfnHidRefIdeal.nD Cert.FfnHidRefIdeal.τ Cert.FfnHidRefIdeal.sig) → Buf (Elt Ideal) ℓ) (g : Dev Cert.FfnHidRefIdeal.nD → PrngReg), Pre_FfnHidRefIdeal m →
    θ_run (Cert.FfnHidRefIdeal.defs (F := Ideal)) (onTc (τ := Cert.FfnHidRefIdeal.τ) (Cert.FfnHidRefIdeal.main (F := Ideal))) ⟨m, fun _ => 0, g⟩ (fun r => (∀ c : Dev Cert.FfnHidRefIdeal.nD,
      r.2.mem ((c.tc : Thread Cert.FfnHidRefIdeal.nD Cert.FfnHidRefIdeal.τ).loc Cert.FfnHidRefIdeal.main_arg0) = m ((c.tc : Thread Cert.FfnHidRefIdeal.nD Cert.FfnHidRefIdeal.τ).loc Cert.FfnHidRefIdeal.main_arg0)
      ∧ r.2.mem ((c.tc : Thread Cert.FfnHidRefIdeal.nD Cert.FfnHidRefIdeal.τ).loc Cert.FfnHidRefIdeal.main_arg1) = m ((c.tc : Thread Cert.FfnHidRefIdeal.nD Cert.FfnHidRefIdeal.τ).loc Cert.FfnHidRefIdeal.main_arg1)
      ∧ r.2.mem ((c.tc : Thread Cert.FfnHidRefIdeal.nD Cert.FfnHidRefIdeal.τ).loc Cert.FfnHidRefIdeal.main_arg2) = m ((c.tc : Thread Cert.FfnHidRefIdeal.nD Cert.FfnHidRefIdeal.τ).loc Cert.FfnHidRefIdeal.main_arg2)
      ∧ r.2.mem ((c.tc : Thread Cert.FfnHidRefIdeal.nD Cert.FfnHidRefIdeal.τ).loc Cert.FfnHidRefIdeal.main_arg3) = m ((c.tc : Thread Cert.FfnHidRefIdeal.nD Cert.FfnHidRefIdeal.τ).loc Cert.FfnHidRefIdeal.main_arg3))
      ∧ r.2.sem = fun _ => 0)

def quiescent_FfnHidRefIdeal_pre_finite_hid [hFfnHidRefIdeal : Cert.FfnHidRefIdeal.Facts] [hPre_finite_hid : Cert.Pre_finite_hid.Facts] : Prop :=
  ∀ (m : (ℓ : Loc Cert.FfnHidRefIdeal.nD Cert.FfnHidRefIdeal.τ Cert.FfnHidRefIdeal.sig) → Buf (Elt Ideal) ℓ) (g : Dev Cert.FfnHidRefIdeal.nD → PrngReg), Pre_FfnHidRefIdeal_finite_hid m →
    θ_run (Cert.FfnHidRefIdeal.defs (F := Ideal)) (onTc (τ := Cert.FfnHidRefIdeal.τ) (Cert.FfnHidRefIdeal.main (F := Ideal))) ⟨m, fun _ => 0, g⟩ (fun r => (∀ c : Dev Cert.FfnHidRefIdeal.nD,
      r.2.mem ((c.tc : Thread Cert.FfnHidRefIdeal.nD Cert.FfnHidRefIdeal.τ).loc Cert.FfnHidRefIdeal.main_arg0) = m ((c.tc : Thread Cert.FfnHidRefIdeal.nD Cert.FfnHidRefIdeal.τ).loc Cert.FfnHidRefIdeal.main_arg0)
      ∧ r.2.mem ((c.tc : Thread Cert.FfnHidRefIdeal.nD Cert.FfnHidRefIdeal.τ).loc Cert.FfnHidRefIdeal.main_arg1) = m ((c.tc : Thread Cert.FfnHidRefIdeal.nD Cert.FfnHidRefIdeal.τ).loc Cert.FfnHidRefIdeal.main_arg1)
      ∧ r.2.mem ((c.tc : Thread Cert.FfnHidRefIdeal.nD Cert.FfnHidRefIdeal.τ).loc Cert.FfnHidRefIdeal.main_arg2) = m ((c.tc : Thread Cert.FfnHidRefIdeal.nD Cert.FfnHidRefIdeal.τ).loc Cert.FfnHidRefIdeal.main_arg2)
      ∧ r.2.mem ((c.tc : Thread Cert.FfnHidRefIdeal.nD Cert.FfnHidRefIdeal.τ).loc Cert.FfnHidRefIdeal.main_arg3) = m ((c.tc : Thread Cert.FfnHidRefIdeal.nD Cert.FfnHidRefIdeal.τ).loc Cert.FfnHidRefIdeal.main_arg3))
      ∧ r.2.sem = fun _ => 0)

def quiescent_Nrm [hNrm : Cert.Nrm.Facts] : Prop :=
  ∀ (m : (ℓ : Loc Cert.Nrm.nD Cert.Nrm.τ Cert.Nrm.sig) → Buf (Elt Bits) ℓ) (g : Dev Cert.Nrm.nD → PrngReg), Pre_Nrm m →
    θ_run (Cert.Nrm.defs (F := Bits)) (onTc (τ := Cert.Nrm.τ) (Cert.Nrm.main (F := Bits))) ⟨m, fun _ => 0, g⟩ (fun r => (∀ c : Dev Cert.Nrm.nD,
      r.2.mem ((c.tc : Thread Cert.Nrm.nD Cert.Nrm.τ).loc Cert.Nrm.main_arg0) = m ((c.tc : Thread Cert.Nrm.nD Cert.Nrm.τ).loc Cert.Nrm.main_arg0)
      ∧ r.2.mem ((c.tc : Thread Cert.Nrm.nD Cert.Nrm.τ).loc Cert.Nrm.main_arg1) = m ((c.tc : Thread Cert.Nrm.nD Cert.Nrm.τ).loc Cert.Nrm.main_arg1)
      ∧ r.2.mem ((c.tc : Thread Cert.Nrm.nD Cert.Nrm.τ).loc Cert.Nrm.main_arg2) = m ((c.tc : Thread Cert.Nrm.nD Cert.Nrm.τ).loc Cert.Nrm.main_arg2)
      ∧ r.2.mem ((c.tc : Thread Cert.Nrm.nD Cert.Nrm.τ).loc Cert.Nrm.main_arg3) = m ((c.tc : Thread Cert.Nrm.nD Cert.Nrm.τ).loc Cert.Nrm.main_arg3)
      ∧ r.2.mem ((c.tc : Thread Cert.Nrm.nD Cert.Nrm.τ).loc Cert.Nrm.main_arg4) = m ((c.tc : Thread Cert.Nrm.nD Cert.Nrm.τ).loc Cert.Nrm.main_arg4))
      ∧ r.2.sem = fun _ => 0)

def quiescent_NrmIdeal [hNrmIdeal : Cert.NrmIdeal.Facts] : Prop :=
  ∀ (m : (ℓ : Loc Cert.NrmIdeal.nD Cert.NrmIdeal.τ Cert.NrmIdeal.sig) → Buf (Elt Ideal) ℓ) (g : Dev Cert.NrmIdeal.nD → PrngReg), Pre_NrmIdeal m →
    θ_run (Cert.NrmIdeal.defs (F := Ideal)) (onTc (τ := Cert.NrmIdeal.τ) (Cert.NrmIdeal.main (F := Ideal))) ⟨m, fun _ => 0, g⟩ (fun r => (∀ c : Dev Cert.NrmIdeal.nD,
      r.2.mem ((c.tc : Thread Cert.NrmIdeal.nD Cert.NrmIdeal.τ).loc Cert.NrmIdeal.main_arg0) = m ((c.tc : Thread Cert.NrmIdeal.nD Cert.NrmIdeal.τ).loc Cert.NrmIdeal.main_arg0)
      ∧ r.2.mem ((c.tc : Thread Cert.NrmIdeal.nD Cert.NrmIdeal.τ).loc Cert.NrmIdeal.main_arg1) = m ((c.tc : Thread Cert.NrmIdeal.nD Cert.NrmIdeal.τ).loc Cert.NrmIdeal.main_arg1)
      ∧ r.2.mem ((c.tc : Thread Cert.NrmIdeal.nD Cert.NrmIdeal.τ).loc Cert.NrmIdeal.main_arg2) = m ((c.tc : Thread Cert.NrmIdeal.nD Cert.NrmIdeal.τ).loc Cert.NrmIdeal.main_arg2)
      ∧ r.2.mem ((c.tc : Thread Cert.NrmIdeal.nD Cert.NrmIdeal.τ).loc Cert.NrmIdeal.main_arg3) = m ((c.tc : Thread Cert.NrmIdeal.nD Cert.NrmIdeal.τ).loc Cert.NrmIdeal.main_arg3)
      ∧ r.2.mem ((c.tc : Thread Cert.NrmIdeal.nD Cert.NrmIdeal.τ).loc Cert.NrmIdeal.main_arg4) = m ((c.tc : Thread Cert.NrmIdeal.nD Cert.NrmIdeal.τ).loc Cert.NrmIdeal.main_arg4))
      ∧ r.2.sem = fun _ => 0)

def quiescent_NrmIdeal_pre_finite_nrm [hNrmIdeal : Cert.NrmIdeal.Facts] [hPre_finite_nrm : Cert.Pre_finite_nrm.Facts] : Prop :=
  ∀ (m : (ℓ : Loc Cert.NrmIdeal.nD Cert.NrmIdeal.τ Cert.NrmIdeal.sig) → Buf (Elt Ideal) ℓ) (g : Dev Cert.NrmIdeal.nD → PrngReg), Pre_NrmIdeal_finite_nrm m →
    θ_run (Cert.NrmIdeal.defs (F := Ideal)) (onTc (τ := Cert.NrmIdeal.τ) (Cert.NrmIdeal.main (F := Ideal))) ⟨m, fun _ => 0, g⟩ (fun r => (∀ c : Dev Cert.NrmIdeal.nD,
      r.2.mem ((c.tc : Thread Cert.NrmIdeal.nD Cert.NrmIdeal.τ).loc Cert.NrmIdeal.main_arg0) = m ((c.tc : Thread Cert.NrmIdeal.nD Cert.NrmIdeal.τ).loc Cert.NrmIdeal.main_arg0)
      ∧ r.2.mem ((c.tc : Thread Cert.NrmIdeal.nD Cert.NrmIdeal.τ).loc Cert.NrmIdeal.main_arg1) = m ((c.tc : Thread Cert.NrmIdeal.nD Cert.NrmIdeal.τ).loc Cert.NrmIdeal.main_arg1)
      ∧ r.2.mem ((c.tc : Thread Cert.NrmIdeal.nD Cert.NrmIdeal.τ).loc Cert.NrmIdeal.main_arg2) = m ((c.tc : Thread Cert.NrmIdeal.nD Cert.NrmIdeal.τ).loc Cert.NrmIdeal.main_arg2)
      ∧ r.2.mem ((c.tc : Thread Cert.NrmIdeal.nD Cert.NrmIdeal.τ).loc Cert.NrmIdeal.main_arg3) = m ((c.tc : Thread Cert.NrmIdeal.nD Cert.NrmIdeal.τ).loc Cert.NrmIdeal.main_arg3)
      ∧ r.2.mem ((c.tc : Thread Cert.NrmIdeal.nD Cert.NrmIdeal.τ).loc Cert.NrmIdeal.main_arg4) = m ((c.tc : Thread Cert.NrmIdeal.nD Cert.NrmIdeal.τ).loc Cert.NrmIdeal.main_arg4))
      ∧ r.2.sem = fun _ => 0)

def quiescent_NrmRefIdeal [hNrmRefIdeal : Cert.NrmRefIdeal.Facts] : Prop :=
  ∀ (m : (ℓ : Loc Cert.NrmRefIdeal.nD Cert.NrmRefIdeal.τ Cert.NrmRefIdeal.sig) → Buf (Elt Ideal) ℓ) (g : Dev Cert.NrmRefIdeal.nD → PrngReg), Pre_NrmRefIdeal m →
    θ_run (Cert.NrmRefIdeal.defs (F := Ideal)) (onTc (τ := Cert.NrmRefIdeal.τ) (Cert.NrmRefIdeal.main (F := Ideal))) ⟨m, fun _ => 0, g⟩ (fun r => (∀ c : Dev Cert.NrmRefIdeal.nD,
      r.2.mem ((c.tc : Thread Cert.NrmRefIdeal.nD Cert.NrmRefIdeal.τ).loc Cert.NrmRefIdeal.main_arg0) = m ((c.tc : Thread Cert.NrmRefIdeal.nD Cert.NrmRefIdeal.τ).loc Cert.NrmRefIdeal.main_arg0)
      ∧ r.2.mem ((c.tc : Thread Cert.NrmRefIdeal.nD Cert.NrmRefIdeal.τ).loc Cert.NrmRefIdeal.main_arg1) = m ((c.tc : Thread Cert.NrmRefIdeal.nD Cert.NrmRefIdeal.τ).loc Cert.NrmRefIdeal.main_arg1)
      ∧ r.2.mem ((c.tc : Thread Cert.NrmRefIdeal.nD Cert.NrmRefIdeal.τ).loc Cert.NrmRefIdeal.main_arg2) = m ((c.tc : Thread Cert.NrmRefIdeal.nD Cert.NrmRefIdeal.τ).loc Cert.NrmRefIdeal.main_arg2)
      ∧ r.2.mem ((c.tc : Thread Cert.NrmRefIdeal.nD Cert.NrmRefIdeal.τ).loc Cert.NrmRefIdeal.main_arg3) = m ((c.tc : Thread Cert.NrmRefIdeal.nD Cert.NrmRefIdeal.τ).loc Cert.NrmRefIdeal.main_arg3)
      ∧ r.2.mem ((c.tc : Thread Cert.NrmRefIdeal.nD Cert.NrmRefIdeal.τ).loc Cert.NrmRefIdeal.main_arg4) = m ((c.tc : Thread Cert.NrmRefIdeal.nD Cert.NrmRefIdeal.τ).loc Cert.NrmRefIdeal.main_arg4))
      ∧ r.2.sem = fun _ => 0)

def quiescent_NrmRefIdeal_pre_finite_nrm [hNrmRefIdeal : Cert.NrmRefIdeal.Facts] [hPre_finite_nrm : Cert.Pre_finite_nrm.Facts] : Prop :=
  ∀ (m : (ℓ : Loc Cert.NrmRefIdeal.nD Cert.NrmRefIdeal.τ Cert.NrmRefIdeal.sig) → Buf (Elt Ideal) ℓ) (g : Dev Cert.NrmRefIdeal.nD → PrngReg), Pre_NrmRefIdeal_finite_nrm m →
    θ_run (Cert.NrmRefIdeal.defs (F := Ideal)) (onTc (τ := Cert.NrmRefIdeal.τ) (Cert.NrmRefIdeal.main (F := Ideal))) ⟨m, fun _ => 0, g⟩ (fun r => (∀ c : Dev Cert.NrmRefIdeal.nD,
      r.2.mem ((c.tc : Thread Cert.NrmRefIdeal.nD Cert.NrmRefIdeal.τ).loc Cert.NrmRefIdeal.main_arg0) = m ((c.tc : Thread Cert.NrmRefIdeal.nD Cert.NrmRefIdeal.τ).loc Cert.NrmRefIdeal.main_arg0)
      ∧ r.2.mem ((c.tc : Thread Cert.NrmRefIdeal.nD Cert.NrmRefIdeal.τ).loc Cert.NrmRefIdeal.main_arg1) = m ((c.tc : Thread Cert.NrmRefIdeal.nD Cert.NrmRefIdeal.τ).loc Cert.NrmRefIdeal.main_arg1)
      ∧ r.2.mem ((c.tc : Thread Cert.NrmRefIdeal.nD Cert.NrmRefIdeal.τ).loc Cert.NrmRefIdeal.main_arg2) = m ((c.tc : Thread Cert.NrmRefIdeal.nD Cert.NrmRefIdeal.τ).loc Cert.NrmRefIdeal.main_arg2)
      ∧ r.2.mem ((c.tc : Thread Cert.NrmRefIdeal.nD Cert.NrmRefIdeal.τ).loc Cert.NrmRefIdeal.main_arg3) = m ((c.tc : Thread Cert.NrmRefIdeal.nD Cert.NrmRefIdeal.τ).loc Cert.NrmRefIdeal.main_arg3)
      ∧ r.2.mem ((c.tc : Thread Cert.NrmRefIdeal.nD Cert.NrmRefIdeal.τ).loc Cert.NrmRefIdeal.main_arg4) = m ((c.tc : Thread Cert.NrmRefIdeal.nD Cert.NrmRefIdeal.τ).loc Cert.NrmRefIdeal.main_arg4))
      ∧ r.2.sem = fun _ => 0)

def quiescent_Dwin [hDwin : Cert.Dwin.Facts] : Prop :=
  ∀ (m : (ℓ : Loc Cert.Dwin.nD Cert.Dwin.τ Cert.Dwin.sig) → Buf (Elt Bits) ℓ) (g : Dev Cert.Dwin.nD → PrngReg), Pre_Dwin m →
    θ_run (Cert.Dwin.defs (F := Bits)) (onTc (τ := Cert.Dwin.τ) (Cert.Dwin.main (F := Bits))) ⟨m, fun _ => 0, g⟩ (fun r => (∀ c : Dev Cert.Dwin.nD,
      r.2.mem ((c.tc : Thread Cert.Dwin.nD Cert.Dwin.τ).loc Cert.Dwin.main_arg0) = m ((c.tc : Thread Cert.Dwin.nD Cert.Dwin.τ).loc Cert.Dwin.main_arg0)
      ∧ r.2.mem ((c.tc : Thread Cert.Dwin.nD Cert.Dwin.τ).loc Cert.Dwin.main_arg1) = m ((c.tc : Thread Cert.Dwin.nD Cert.Dwin.τ).loc Cert.Dwin.main_arg1))
      ∧ r.2.sem = fun _ => 0)

def quiescent_DwinIdeal [hDwinIdeal : Cert.DwinIdeal.Facts] : Prop :=
  ∀ (m : (ℓ : Loc Cert.DwinIdeal.nD Cert.DwinIdeal.τ Cert.DwinIdeal.sig) → Buf (Elt Ideal) ℓ) (g : Dev Cert.DwinIdeal.nD → PrngReg), Pre_DwinIdeal m →
    θ_run (Cert.DwinIdeal.defs (F := Ideal)) (onTc (τ := Cert.DwinIdeal.τ) (Cert.DwinIdeal.main (F := Ideal))) ⟨m, fun _ => 0, g⟩ (fun r => (∀ c : Dev Cert.DwinIdeal.nD,
      r.2.mem ((c.tc : Thread Cert.DwinIdeal.nD Cert.DwinIdeal.τ).loc Cert.DwinIdeal.main_arg0) = m ((c.tc : Thread Cert.DwinIdeal.nD Cert.DwinIdeal.τ).loc Cert.DwinIdeal.main_arg0)
      ∧ r.2.mem ((c.tc : Thread Cert.DwinIdeal.nD Cert.DwinIdeal.τ).loc Cert.DwinIdeal.main_arg1) = m ((c.tc : Thread Cert.DwinIdeal.nD Cert.DwinIdeal.τ).loc Cert.DwinIdeal.main_arg1))
      ∧ r.2.sem = fun _ => 0)

def quiescent_DwinRefIdeal [hDwinRefIdeal : Cert.DwinRefIdeal.Facts] : Prop :=
  ∀ (m : (ℓ : Loc Cert.DwinRefIdeal.nD Cert.DwinRefIdeal.τ Cert.DwinRefIdeal.sig) → Buf (Elt Ideal) ℓ) (g : Dev Cert.DwinRefIdeal.nD → PrngReg), Pre_DwinRefIdeal m →
    θ_run (Cert.DwinRefIdeal.defs (F := Ideal)) (onTc (τ := Cert.DwinRefIdeal.τ) (Cert.DwinRefIdeal.main (F := Ideal))) ⟨m, fun _ => 0, g⟩ (fun r => (∀ c : Dev Cert.DwinRefIdeal.nD,
      r.2.mem ((c.tc : Thread Cert.DwinRefIdeal.nD Cert.DwinRefIdeal.τ).loc Cert.DwinRefIdeal.main_arg0) = m ((c.tc : Thread Cert.DwinRefIdeal.nD Cert.DwinRefIdeal.τ).loc Cert.DwinRefIdeal.main_arg0)
      ∧ r.2.mem ((c.tc : Thread Cert.DwinRefIdeal.nD Cert.DwinRefIdeal.τ).loc Cert.DwinRefIdeal.main_arg1) = m ((c.tc : Thread Cert.DwinRefIdeal.nD Cert.DwinRefIdeal.τ).loc Cert.DwinRefIdeal.main_arg1))
      ∧ r.2.sem = fun _ => 0)

def quiescent_Dwout [hDwout : Cert.Dwout.Facts] : Prop :=
  ∀ (m : (ℓ : Loc Cert.Dwout.nD Cert.Dwout.τ Cert.Dwout.sig) → Buf (Elt Bits) ℓ) (g : Dev Cert.Dwout.nD → PrngReg), Pre_Dwout m →
    θ_run (Cert.Dwout.defs (F := Bits)) (onTc (τ := Cert.Dwout.τ) (Cert.Dwout.main (F := Bits))) ⟨m, fun _ => 0, g⟩ (fun r => (∀ c : Dev Cert.Dwout.nD,
      r.2.mem ((c.tc : Thread Cert.Dwout.nD Cert.Dwout.τ).loc Cert.Dwout.main_arg0) = m ((c.tc : Thread Cert.Dwout.nD Cert.Dwout.τ).loc Cert.Dwout.main_arg0)
      ∧ r.2.mem ((c.tc : Thread Cert.Dwout.nD Cert.Dwout.τ).loc Cert.Dwout.main_arg1) = m ((c.tc : Thread Cert.Dwout.nD Cert.Dwout.τ).loc Cert.Dwout.main_arg1))
      ∧ r.2.sem = fun _ => 0)

def quiescent_DwoutIdeal [hDwoutIdeal : Cert.DwoutIdeal.Facts] : Prop :=
  ∀ (m : (ℓ : Loc Cert.DwoutIdeal.nD Cert.DwoutIdeal.τ Cert.DwoutIdeal.sig) → Buf (Elt Ideal) ℓ) (g : Dev Cert.DwoutIdeal.nD → PrngReg), Pre_DwoutIdeal m →
    θ_run (Cert.DwoutIdeal.defs (F := Ideal)) (onTc (τ := Cert.DwoutIdeal.τ) (Cert.DwoutIdeal.main (F := Ideal))) ⟨m, fun _ => 0, g⟩ (fun r => (∀ c : Dev Cert.DwoutIdeal.nD,
      r.2.mem ((c.tc : Thread Cert.DwoutIdeal.nD Cert.DwoutIdeal.τ).loc Cert.DwoutIdeal.main_arg0) = m ((c.tc : Thread Cert.DwoutIdeal.nD Cert.DwoutIdeal.τ).loc Cert.DwoutIdeal.main_arg0)
      ∧ r.2.mem ((c.tc : Thread Cert.DwoutIdeal.nD Cert.DwoutIdeal.τ).loc Cert.DwoutIdeal.main_arg1) = m ((c.tc : Thread Cert.DwoutIdeal.nD Cert.DwoutIdeal.τ).loc Cert.DwoutIdeal.main_arg1))
      ∧ r.2.sem = fun _ => 0)

def quiescent_DwoutRefIdeal [hDwoutRefIdeal : Cert.DwoutRefIdeal.Facts] : Prop :=
  ∀ (m : (ℓ : Loc Cert.DwoutRefIdeal.nD Cert.DwoutRefIdeal.τ Cert.DwoutRefIdeal.sig) → Buf (Elt Ideal) ℓ) (g : Dev Cert.DwoutRefIdeal.nD → PrngReg), Pre_DwoutRefIdeal m →
    θ_run (Cert.DwoutRefIdeal.defs (F := Ideal)) (onTc (τ := Cert.DwoutRefIdeal.τ) (Cert.DwoutRefIdeal.main (F := Ideal))) ⟨m, fun _ => 0, g⟩ (fun r => (∀ c : Dev Cert.DwoutRefIdeal.nD,
      r.2.mem ((c.tc : Thread Cert.DwoutRefIdeal.nD Cert.DwoutRefIdeal.τ).loc Cert.DwoutRefIdeal.main_arg0) = m ((c.tc : Thread Cert.DwoutRefIdeal.nD Cert.DwoutRefIdeal.τ).loc Cert.DwoutRefIdeal.main_arg0)
      ∧ r.2.mem ((c.tc : Thread Cert.DwoutRefIdeal.nD Cert.DwoutRefIdeal.τ).loc Cert.DwoutRefIdeal.main_arg1) = m ((c.tc : Thread Cert.DwoutRefIdeal.nD Cert.DwoutRefIdeal.τ).loc Cert.DwoutRefIdeal.main_arg1))
      ∧ r.2.sem = fun _ => 0)

def quiescent_FfnOut [hFfnOut : Cert.FfnOut.Facts] : Prop :=
  ∀ (m : (ℓ : Loc Cert.FfnOut.nD Cert.FfnOut.τ Cert.FfnOut.sig) → Buf (Elt Bits) ℓ) (g : Dev Cert.FfnOut.nD → PrngReg), Pre_FfnOut m →
    θ_run (Cert.FfnOut.defs (F := Bits)) (onTc (τ := Cert.FfnOut.τ) (Cert.FfnOut.main (F := Bits))) ⟨m, fun _ => 0, g⟩ (fun r => (∀ c : Dev Cert.FfnOut.nD,
      r.2.mem ((c.tc : Thread Cert.FfnOut.nD Cert.FfnOut.τ).loc Cert.FfnOut.main_arg0) = m ((c.tc : Thread Cert.FfnOut.nD Cert.FfnOut.τ).loc Cert.FfnOut.main_arg0)
      ∧ r.2.mem ((c.tc : Thread Cert.FfnOut.nD Cert.FfnOut.τ).loc Cert.FfnOut.main_arg1) = m ((c.tc : Thread Cert.FfnOut.nD Cert.FfnOut.τ).loc Cert.FfnOut.main_arg1)
      ∧ r.2.mem ((c.tc : Thread Cert.FfnOut.nD Cert.FfnOut.τ).loc Cert.FfnOut.main_arg2) = m ((c.tc : Thread Cert.FfnOut.nD Cert.FfnOut.τ).loc Cert.FfnOut.main_arg2))
      ∧ r.2.sem = fun _ => 0)

def quiescent_FfnOutIdeal [hFfnOutIdeal : Cert.FfnOutIdeal.Facts] : Prop :=
  ∀ (m : (ℓ : Loc Cert.FfnOutIdeal.nD Cert.FfnOutIdeal.τ Cert.FfnOutIdeal.sig) → Buf (Elt Ideal) ℓ) (g : Dev Cert.FfnOutIdeal.nD → PrngReg), Pre_FfnOutIdeal m →
    θ_run (Cert.FfnOutIdeal.defs (F := Ideal)) (onTc (τ := Cert.FfnOutIdeal.τ) (Cert.FfnOutIdeal.main (F := Ideal))) ⟨m, fun _ => 0, g⟩ (fun r => (∀ c : Dev Cert.FfnOutIdeal.nD,
      r.2.mem ((c.tc : Thread Cert.FfnOutIdeal.nD Cert.FfnOutIdeal.τ).loc Cert.FfnOutIdeal.main_arg0) = m ((c.tc : Thread Cert.FfnOutIdeal.nD Cert.FfnOutIdeal.τ).loc Cert.FfnOutIdeal.main_arg0)
      ∧ r.2.mem ((c.tc : Thread Cert.FfnOutIdeal.nD Cert.FfnOutIdeal.τ).loc Cert.FfnOutIdeal.main_arg1) = m ((c.tc : Thread Cert.FfnOutIdeal.nD Cert.FfnOutIdeal.τ).loc Cert.FfnOutIdeal.main_arg1)
      ∧ r.2.mem ((c.tc : Thread Cert.FfnOutIdeal.nD Cert.FfnOutIdeal.τ).loc Cert.FfnOutIdeal.main_arg2) = m ((c.tc : Thread Cert.FfnOutIdeal.nD Cert.FfnOutIdeal.τ).loc Cert.FfnOutIdeal.main_arg2))
      ∧ r.2.sem = fun _ => 0)

def quiescent_FfnOutRefIdeal [hFfnOutRefIdeal : Cert.FfnOutRefIdeal.Facts] : Prop :=
  ∀ (m : (ℓ : Loc Cert.FfnOutRefIdeal.nD Cert.FfnOutRefIdeal.τ Cert.FfnOutRefIdeal.sig) → Buf (Elt Ideal) ℓ) (g : Dev Cert.FfnOutRefIdeal.nD → PrngReg), Pre_FfnOutRefIdeal m →
    θ_run (Cert.FfnOutRefIdeal.defs (F := Ideal)) (onTc (τ := Cert.FfnOutRefIdeal.τ) (Cert.FfnOutRefIdeal.main (F := Ideal))) ⟨m, fun _ => 0, g⟩ (fun r => (∀ c : Dev Cert.FfnOutRefIdeal.nD,
      r.2.mem ((c.tc : Thread Cert.FfnOutRefIdeal.nD Cert.FfnOutRefIdeal.τ).loc Cert.FfnOutRefIdeal.main_arg0) = m ((c.tc : Thread Cert.FfnOutRefIdeal.nD Cert.FfnOutRefIdeal.τ).loc Cert.FfnOutRefIdeal.main_arg0)
      ∧ r.2.mem ((c.tc : Thread Cert.FfnOutRefIdeal.nD Cert.FfnOutRefIdeal.τ).loc Cert.FfnOutRefIdeal.main_arg1) = m ((c.tc : Thread Cert.FfnOutRefIdeal.nD Cert.FfnOutRefIdeal.τ).loc Cert.FfnOutRefIdeal.main_arg1)
      ∧ r.2.mem ((c.tc : Thread Cert.FfnOutRefIdeal.nD Cert.FfnOutRefIdeal.τ).loc Cert.FfnOutRefIdeal.main_arg2) = m ((c.tc : Thread Cert.FfnOutRefIdeal.nD Cert.FfnOutRefIdeal.τ).loc Cert.FfnOutRefIdeal.main_arg2))
      ∧ r.2.sem = fun _ => 0)

def quiescent_AttDo [hAttDo : Cert.AttDo.Facts] : Prop :=
  ∀ (m : (ℓ : Loc Cert.AttDo.nD Cert.AttDo.τ Cert.AttDo.sig) → Buf (Elt Bits) ℓ) (g : Dev Cert.AttDo.nD → PrngReg), Pre_AttDo m →
    θ_run (Cert.AttDo.defs (F := Bits)) (onTc (τ := Cert.AttDo.τ) (Cert.AttDo.main (F := Bits))) ⟨m, fun _ => 0, g⟩ (fun r => (∀ c : Dev Cert.AttDo.nD,
      r.2.mem ((c.tc : Thread Cert.AttDo.nD Cert.AttDo.τ).loc Cert.AttDo.main_arg0) = m ((c.tc : Thread Cert.AttDo.nD Cert.AttDo.τ).loc Cert.AttDo.main_arg0)
      ∧ r.2.mem ((c.tc : Thread Cert.AttDo.nD Cert.AttDo.τ).loc Cert.AttDo.main_arg1) = m ((c.tc : Thread Cert.AttDo.nD Cert.AttDo.τ).loc Cert.AttDo.main_arg1))
      ∧ r.2.sem = fun _ => 0)

def quiescent_AttDoIdeal [hAttDoIdeal : Cert.AttDoIdeal.Facts] : Prop :=
  ∀ (m : (ℓ : Loc Cert.AttDoIdeal.nD Cert.AttDoIdeal.τ Cert.AttDoIdeal.sig) → Buf (Elt Ideal) ℓ) (g : Dev Cert.AttDoIdeal.nD → PrngReg), Pre_AttDoIdeal m →
    θ_run (Cert.AttDoIdeal.defs (F := Ideal)) (onTc (τ := Cert.AttDoIdeal.τ) (Cert.AttDoIdeal.main (F := Ideal))) ⟨m, fun _ => 0, g⟩ (fun r => (∀ c : Dev Cert.AttDoIdeal.nD,
      r.2.mem ((c.tc : Thread Cert.AttDoIdeal.nD Cert.AttDoIdeal.τ).loc Cert.AttDoIdeal.main_arg0) = m ((c.tc : Thread Cert.AttDoIdeal.nD Cert.AttDoIdeal.τ).loc Cert.AttDoIdeal.main_arg0)
      ∧ r.2.mem ((c.tc : Thread Cert.AttDoIdeal.nD Cert.AttDoIdeal.τ).loc Cert.AttDoIdeal.main_arg1) = m ((c.tc : Thread Cert.AttDoIdeal.nD Cert.AttDoIdeal.τ).loc Cert.AttDoIdeal.main_arg1))
      ∧ r.2.sem = fun _ => 0)

def quiescent_AttDoRefIdeal [hAttDoRefIdeal : Cert.AttDoRefIdeal.Facts] : Prop :=
  ∀ (m : (ℓ : Loc Cert.AttDoRefIdeal.nD Cert.AttDoRefIdeal.τ Cert.AttDoRefIdeal.sig) → Buf (Elt Ideal) ℓ) (g : Dev Cert.AttDoRefIdeal.nD → PrngReg), Pre_AttDoRefIdeal m →
    θ_run (Cert.AttDoRefIdeal.defs (F := Ideal)) (onTc (τ := Cert.AttDoRefIdeal.τ) (Cert.AttDoRefIdeal.main (F := Ideal))) ⟨m, fun _ => 0, g⟩ (fun r => (∀ c : Dev Cert.AttDoRefIdeal.nD,
      r.2.mem ((c.tc : Thread Cert.AttDoRefIdeal.nD Cert.AttDoRefIdeal.τ).loc Cert.AttDoRefIdeal.main_arg0) = m ((c.tc : Thread Cert.AttDoRefIdeal.nD Cert.AttDoRefIdeal.τ).loc Cert.AttDoRefIdeal.main_arg0)
      ∧ r.2.mem ((c.tc : Thread Cert.AttDoRefIdeal.nD Cert.AttDoRefIdeal.τ).loc Cert.AttDoRefIdeal.main_arg1) = m ((c.tc : Thread Cert.AttDoRefIdeal.nD Cert.AttDoRefIdeal.τ).loc Cert.AttDoRefIdeal.main_arg1))
      ∧ r.2.sem = fun _ => 0)

def quiescent_Dwqkv [hDwqkv : Cert.Dwqkv.Facts] : Prop :=
  ∀ (m : (ℓ : Loc Cert.Dwqkv.nD Cert.Dwqkv.τ Cert.Dwqkv.sig) → Buf (Elt Bits) ℓ) (g : Dev Cert.Dwqkv.nD → PrngReg), Pre_Dwqkv m →
    θ_run (Cert.Dwqkv.defs (F := Bits)) (onTc (τ := Cert.Dwqkv.τ) (Cert.Dwqkv.main (F := Bits))) ⟨m, fun _ => 0, g⟩ (fun r => (∀ c : Dev Cert.Dwqkv.nD,
      r.2.mem ((c.tc : Thread Cert.Dwqkv.nD Cert.Dwqkv.τ).loc Cert.Dwqkv.main_arg0) = m ((c.tc : Thread Cert.Dwqkv.nD Cert.Dwqkv.τ).loc Cert.Dwqkv.main_arg0)
      ∧ r.2.mem ((c.tc : Thread Cert.Dwqkv.nD Cert.Dwqkv.τ).loc Cert.Dwqkv.main_arg1) = m ((c.tc : Thread Cert.Dwqkv.nD Cert.Dwqkv.τ).loc Cert.Dwqkv.main_arg1))
      ∧ r.2.sem = fun _ => 0)

def quiescent_DwqkvIdeal [hDwqkvIdeal : Cert.DwqkvIdeal.Facts] : Prop :=
  ∀ (m : (ℓ : Loc Cert.DwqkvIdeal.nD Cert.DwqkvIdeal.τ Cert.DwqkvIdeal.sig) → Buf (Elt Ideal) ℓ) (g : Dev Cert.DwqkvIdeal.nD → PrngReg), Pre_DwqkvIdeal m →
    θ_run (Cert.DwqkvIdeal.defs (F := Ideal)) (onTc (τ := Cert.DwqkvIdeal.τ) (Cert.DwqkvIdeal.main (F := Ideal))) ⟨m, fun _ => 0, g⟩ (fun r => (∀ c : Dev Cert.DwqkvIdeal.nD,
      r.2.mem ((c.tc : Thread Cert.DwqkvIdeal.nD Cert.DwqkvIdeal.τ).loc Cert.DwqkvIdeal.main_arg0) = m ((c.tc : Thread Cert.DwqkvIdeal.nD Cert.DwqkvIdeal.τ).loc Cert.DwqkvIdeal.main_arg0)
      ∧ r.2.mem ((c.tc : Thread Cert.DwqkvIdeal.nD Cert.DwqkvIdeal.τ).loc Cert.DwqkvIdeal.main_arg1) = m ((c.tc : Thread Cert.DwqkvIdeal.nD Cert.DwqkvIdeal.τ).loc Cert.DwqkvIdeal.main_arg1))
      ∧ r.2.sem = fun _ => 0)

def quiescent_DwqkvRefIdeal [hDwqkvRefIdeal : Cert.DwqkvRefIdeal.Facts] : Prop :=
  ∀ (m : (ℓ : Loc Cert.DwqkvRefIdeal.nD Cert.DwqkvRefIdeal.τ Cert.DwqkvRefIdeal.sig) → Buf (Elt Ideal) ℓ) (g : Dev Cert.DwqkvRefIdeal.nD → PrngReg), Pre_DwqkvRefIdeal m →
    θ_run (Cert.DwqkvRefIdeal.defs (F := Ideal)) (onTc (τ := Cert.DwqkvRefIdeal.τ) (Cert.DwqkvRefIdeal.main (F := Ideal))) ⟨m, fun _ => 0, g⟩ (fun r => (∀ c : Dev Cert.DwqkvRefIdeal.nD,
      r.2.mem ((c.tc : Thread Cert.DwqkvRefIdeal.nD Cert.DwqkvRefIdeal.τ).loc Cert.DwqkvRefIdeal.main_arg0) = m ((c.tc : Thread Cert.DwqkvRefIdeal.nD Cert.DwqkvRefIdeal.τ).loc Cert.DwqkvRefIdeal.main_arg0)
      ∧ r.2.mem ((c.tc : Thread Cert.DwqkvRefIdeal.nD Cert.DwqkvRefIdeal.τ).loc Cert.DwqkvRefIdeal.main_arg1) = m ((c.tc : Thread Cert.DwqkvRefIdeal.nD Cert.DwqkvRefIdeal.τ).loc Cert.DwqkvRefIdeal.main_arg1))
      ∧ r.2.sem = fun _ => 0)

def quiescent_AttO [hAttO : Cert.AttO.Facts] : Prop :=
  ∀ (m : (ℓ : Loc Cert.AttO.nD Cert.AttO.τ Cert.AttO.sig) → Buf (Elt Bits) ℓ) (g : Dev Cert.AttO.nD → PrngReg), Pre_AttO m →
    θ_run (Cert.AttO.defs (F := Bits)) (onTc (τ := Cert.AttO.τ) (Cert.AttO.main (F := Bits))) ⟨m, fun _ => 0, g⟩ (fun r => (∀ c : Dev Cert.AttO.nD,
      r.2.mem ((c.tc : Thread Cert.AttO.nD Cert.AttO.τ).loc Cert.AttO.main_arg0) = m ((c.tc : Thread Cert.AttO.nD Cert.AttO.τ).loc Cert.AttO.main_arg0)
      ∧ r.2.mem ((c.tc : Thread Cert.AttO.nD Cert.AttO.τ).loc Cert.AttO.main_arg1) = m ((c.tc : Thread Cert.AttO.nD Cert.AttO.τ).loc Cert.AttO.main_arg1)
      ∧ r.2.mem ((c.tc : Thread Cert.AttO.nD Cert.AttO.τ).loc Cert.AttO.main_arg2) = m ((c.tc : Thread Cert.AttO.nD Cert.AttO.τ).loc Cert.AttO.main_arg2)
      ∧ r.2.mem ((c.tc : Thread Cert.AttO.nD Cert.AttO.τ).loc Cert.AttO.main_arg3) = m ((c.tc : Thread Cert.AttO.nD Cert.AttO.τ).loc Cert.AttO.main_arg3))
      ∧ r.2.sem = fun _ => 0)

def quiescent_AttOIdeal [hAttOIdeal : Cert.AttOIdeal.Facts] : Prop :=
  ∀ (m : (ℓ : Loc Cert.AttOIdeal.nD Cert.AttOIdeal.τ Cert.AttOIdeal.sig) → Buf (Elt Ideal) ℓ) (g : Dev Cert.AttOIdeal.nD → PrngReg), Pre_AttOIdeal m →
    θ_run (Cert.AttOIdeal.defs (F := Ideal)) (onTc (τ := Cert.AttOIdeal.τ) (Cert.AttOIdeal.main (F := Ideal))) ⟨m, fun _ => 0, g⟩ (fun r => (∀ c : Dev Cert.AttOIdeal.nD,
      r.2.mem ((c.tc : Thread Cert.AttOIdeal.nD Cert.AttOIdeal.τ).loc Cert.AttOIdeal.main_arg0) = m ((c.tc : Thread Cert.AttOIdeal.nD Cert.AttOIdeal.τ).loc Cert.AttOIdeal.main_arg0)
      ∧ r.2.mem ((c.tc : Thread Cert.AttOIdeal.nD Cert.AttOIdeal.τ).loc Cert.AttOIdeal.main_arg1) = m ((c.tc : Thread Cert.AttOIdeal.nD Cert.AttOIdeal.τ).loc Cert.AttOIdeal.main_arg1)
      ∧ r.2.mem ((c.tc : Thread Cert.AttOIdeal.nD Cert.AttOIdeal.τ).loc Cert.AttOIdeal.main_arg2) = m ((c.tc : Thread Cert.AttOIdeal.nD Cert.AttOIdeal.τ).loc Cert.AttOIdeal.main_arg2)
      ∧ r.2.mem ((c.tc : Thread Cert.AttOIdeal.nD Cert.AttOIdeal.τ).loc Cert.AttOIdeal.main_arg3) = m ((c.tc : Thread Cert.AttOIdeal.nD Cert.AttOIdeal.τ).loc Cert.AttOIdeal.main_arg3))
      ∧ r.2.sem = fun _ => 0)

def quiescent_AttORefIdeal [hAttORefIdeal : Cert.AttORefIdeal.Facts] : Prop :=
  ∀ (m : (ℓ : Loc Cert.AttORefIdeal.nD Cert.AttORefIdeal.τ Cert.AttORefIdeal.sig) → Buf (Elt Ideal) ℓ) (g : Dev Cert.AttORefIdeal.nD → PrngReg), Pre_AttORefIdeal m →
    θ_run (Cert.AttORefIdeal.defs (F := Ideal)) (onTc (τ := Cert.AttORefIdeal.τ) (Cert.AttORefIdeal.main (F := Ideal))) ⟨m, fun _ => 0, g⟩ (fun r => (∀ c : Dev Cert.AttORefIdeal.nD,
      r.2.mem ((c.tc : Thread Cert.AttORefIdeal.nD Cert.AttORefIdeal.τ).loc Cert.AttORefIdeal.main_arg0) = m ((c.tc : Thread Cert.AttORefIdeal.nD Cert.AttORefIdeal.τ).loc Cert.AttORefIdeal.main_arg0)
      ∧ r.2.mem ((c.tc : Thread Cert.AttORefIdeal.nD Cert.AttORefIdeal.τ).loc Cert.AttORefIdeal.main_arg1) = m ((c.tc : Thread Cert.AttORefIdeal.nD Cert.AttORefIdeal.τ).loc Cert.AttORefIdeal.main_arg1)
      ∧ r.2.mem ((c.tc : Thread Cert.AttORefIdeal.nD Cert.AttORefIdeal.τ).loc Cert.AttORefIdeal.main_arg2) = m ((c.tc : Thread Cert.AttORefIdeal.nD Cert.AttORefIdeal.τ).loc Cert.AttORefIdeal.main_arg2)
      ∧ r.2.mem ((c.tc : Thread Cert.AttORefIdeal.nD Cert.AttORefIdeal.τ).loc Cert.AttORefIdeal.main_arg3) = m ((c.tc : Thread Cert.AttORefIdeal.nD Cert.AttORefIdeal.τ).loc Cert.AttORefIdeal.main_arg3))
      ∧ r.2.sem = fun _ => 0)

def quiescent_HybO [hHybO : Cert.HybO.Facts] : Prop :=
  ∀ (m : (ℓ : Loc Cert.HybO.nD Cert.HybO.τ Cert.HybO.sig) → Buf (Elt Bits) ℓ) (g : Dev Cert.HybO.nD → PrngReg), Pre_HybO m →
    θ_run (Cert.HybO.defs (F := Bits)) (onTc (τ := Cert.HybO.τ) (Cert.HybO.main (F := Bits))) ⟨m, fun _ => 0, g⟩ (fun r => (∀ c : Dev Cert.HybO.nD,
      r.2.mem ((c.tc : Thread Cert.HybO.nD Cert.HybO.τ).loc Cert.HybO.main_arg0) = m ((c.tc : Thread Cert.HybO.nD Cert.HybO.τ).loc Cert.HybO.main_arg0)
      ∧ r.2.mem ((c.tc : Thread Cert.HybO.nD Cert.HybO.τ).loc Cert.HybO.main_arg1) = m ((c.tc : Thread Cert.HybO.nD Cert.HybO.τ).loc Cert.HybO.main_arg1)
      ∧ r.2.mem ((c.tc : Thread Cert.HybO.nD Cert.HybO.τ).loc Cert.HybO.main_arg2) = m ((c.tc : Thread Cert.HybO.nD Cert.HybO.τ).loc Cert.HybO.main_arg2))
      ∧ r.2.sem = fun _ => 0)

def quiescent_HybOIdeal [hHybOIdeal : Cert.HybOIdeal.Facts] : Prop :=
  ∀ (m : (ℓ : Loc Cert.HybOIdeal.nD Cert.HybOIdeal.τ Cert.HybOIdeal.sig) → Buf (Elt Ideal) ℓ) (g : Dev Cert.HybOIdeal.nD → PrngReg), Pre_HybOIdeal m →
    θ_run (Cert.HybOIdeal.defs (F := Ideal)) (onTc (τ := Cert.HybOIdeal.τ) (Cert.HybOIdeal.main (F := Ideal))) ⟨m, fun _ => 0, g⟩ (fun r => (∀ c : Dev Cert.HybOIdeal.nD,
      r.2.mem ((c.tc : Thread Cert.HybOIdeal.nD Cert.HybOIdeal.τ).loc Cert.HybOIdeal.main_arg0) = m ((c.tc : Thread Cert.HybOIdeal.nD Cert.HybOIdeal.τ).loc Cert.HybOIdeal.main_arg0)
      ∧ r.2.mem ((c.tc : Thread Cert.HybOIdeal.nD Cert.HybOIdeal.τ).loc Cert.HybOIdeal.main_arg1) = m ((c.tc : Thread Cert.HybOIdeal.nD Cert.HybOIdeal.τ).loc Cert.HybOIdeal.main_arg1)
      ∧ r.2.mem ((c.tc : Thread Cert.HybOIdeal.nD Cert.HybOIdeal.τ).loc Cert.HybOIdeal.main_arg2) = m ((c.tc : Thread Cert.HybOIdeal.nD Cert.HybOIdeal.τ).loc Cert.HybOIdeal.main_arg2))
      ∧ r.2.sem = fun _ => 0)

def quiescent_HybORefIdeal [hHybORefIdeal : Cert.HybORefIdeal.Facts] : Prop :=
  ∀ (m : (ℓ : Loc Cert.HybORefIdeal.nD Cert.HybORefIdeal.τ Cert.HybORefIdeal.sig) → Buf (Elt Ideal) ℓ) (g : Dev Cert.HybORefIdeal.nD → PrngReg), Pre_HybORefIdeal m →
    θ_run (Cert.HybORefIdeal.defs (F := Ideal)) (onTc (τ := Cert.HybORefIdeal.τ) (Cert.HybORefIdeal.main (F := Ideal))) ⟨m, fun _ => 0, g⟩ (fun r => (∀ c : Dev Cert.HybORefIdeal.nD,
      r.2.mem ((c.tc : Thread Cert.HybORefIdeal.nD Cert.HybORefIdeal.τ).loc Cert.HybORefIdeal.main_arg0) = m ((c.tc : Thread Cert.HybORefIdeal.nD Cert.HybORefIdeal.τ).loc Cert.HybORefIdeal.main_arg0)
      ∧ r.2.mem ((c.tc : Thread Cert.HybORefIdeal.nD Cert.HybORefIdeal.τ).loc Cert.HybORefIdeal.main_arg1) = m ((c.tc : Thread Cert.HybORefIdeal.nD Cert.HybORefIdeal.τ).loc Cert.HybORefIdeal.main_arg1)
      ∧ r.2.mem ((c.tc : Thread Cert.HybORefIdeal.nD Cert.HybORefIdeal.τ).loc Cert.HybORefIdeal.main_arg2) = m ((c.tc : Thread Cert.HybORefIdeal.nD Cert.HybORefIdeal.τ).loc Cert.HybORefIdeal.main_arg2))
      ∧ r.2.sem = fun _ => 0)

def quiescent_FfnIn [hFfnIn : Cert.FfnIn.Facts] : Prop :=
  ∀ (m : (ℓ : Loc Cert.FfnIn.nD Cert.FfnIn.τ Cert.FfnIn.sig) → Buf (Elt Bits) ℓ) (g : Dev Cert.FfnIn.nD → PrngReg), Pre_FfnIn m →
    θ_run (Cert.FfnIn.defs (F := Bits)) (onTc (τ := Cert.FfnIn.τ) (Cert.FfnIn.main (F := Bits))) ⟨m, fun _ => 0, g⟩ (fun r => (∀ c : Dev Cert.FfnIn.nD,
      r.2.mem ((c.tc : Thread Cert.FfnIn.nD Cert.FfnIn.τ).loc Cert.FfnIn.main_arg0) = m ((c.tc : Thread Cert.FfnIn.nD Cert.FfnIn.τ).loc Cert.FfnIn.main_arg0)
      ∧ r.2.mem ((c.tc : Thread Cert.FfnIn.nD Cert.FfnIn.τ).loc Cert.FfnIn.main_arg1) = m ((c.tc : Thread Cert.FfnIn.nD Cert.FfnIn.τ).loc Cert.FfnIn.main_arg1)
      ∧ r.2.mem ((c.tc : Thread Cert.FfnIn.nD Cert.FfnIn.τ).loc Cert.FfnIn.main_arg2) = m ((c.tc : Thread Cert.FfnIn.nD Cert.FfnIn.τ).loc Cert.FfnIn.main_arg2))
      ∧ r.2.sem = fun _ => 0)

def quiescent_FfnInIdeal [hFfnInIdeal : Cert.FfnInIdeal.Facts] : Prop :=
  ∀ (m : (ℓ : Loc Cert.FfnInIdeal.nD Cert.FfnInIdeal.τ Cert.FfnInIdeal.sig) → Buf (Elt Ideal) ℓ) (g : Dev Cert.FfnInIdeal.nD → PrngReg), Pre_FfnInIdeal m →
    θ_run (Cert.FfnInIdeal.defs (F := Ideal)) (onTc (τ := Cert.FfnInIdeal.τ) (Cert.FfnInIdeal.main (F := Ideal))) ⟨m, fun _ => 0, g⟩ (fun r => (∀ c : Dev Cert.FfnInIdeal.nD,
      r.2.mem ((c.tc : Thread Cert.FfnInIdeal.nD Cert.FfnInIdeal.τ).loc Cert.FfnInIdeal.main_arg0) = m ((c.tc : Thread Cert.FfnInIdeal.nD Cert.FfnInIdeal.τ).loc Cert.FfnInIdeal.main_arg0)
      ∧ r.2.mem ((c.tc : Thread Cert.FfnInIdeal.nD Cert.FfnInIdeal.τ).loc Cert.FfnInIdeal.main_arg1) = m ((c.tc : Thread Cert.FfnInIdeal.nD Cert.FfnInIdeal.τ).loc Cert.FfnInIdeal.main_arg1)
      ∧ r.2.mem ((c.tc : Thread Cert.FfnInIdeal.nD Cert.FfnInIdeal.τ).loc Cert.FfnInIdeal.main_arg2) = m ((c.tc : Thread Cert.FfnInIdeal.nD Cert.FfnInIdeal.τ).loc Cert.FfnInIdeal.main_arg2))
      ∧ r.2.sem = fun _ => 0)

def quiescent_FfnInRefIdeal [hFfnInRefIdeal : Cert.FfnInRefIdeal.Facts] : Prop :=
  ∀ (m : (ℓ : Loc Cert.FfnInRefIdeal.nD Cert.FfnInRefIdeal.τ Cert.FfnInRefIdeal.sig) → Buf (Elt Ideal) ℓ) (g : Dev Cert.FfnInRefIdeal.nD → PrngReg), Pre_FfnInRefIdeal m →
    θ_run (Cert.FfnInRefIdeal.defs (F := Ideal)) (onTc (τ := Cert.FfnInRefIdeal.τ) (Cert.FfnInRefIdeal.main (F := Ideal))) ⟨m, fun _ => 0, g⟩ (fun r => (∀ c : Dev Cert.FfnInRefIdeal.nD,
      r.2.mem ((c.tc : Thread Cert.FfnInRefIdeal.nD Cert.FfnInRefIdeal.τ).loc Cert.FfnInRefIdeal.main_arg0) = m ((c.tc : Thread Cert.FfnInRefIdeal.nD Cert.FfnInRefIdeal.τ).loc Cert.FfnInRefIdeal.main_arg0)
      ∧ r.2.mem ((c.tc : Thread Cert.FfnInRefIdeal.nD Cert.FfnInRefIdeal.τ).loc Cert.FfnInRefIdeal.main_arg1) = m ((c.tc : Thread Cert.FfnInRefIdeal.nD Cert.FfnInRefIdeal.τ).loc Cert.FfnInRefIdeal.main_arg1)
      ∧ r.2.mem ((c.tc : Thread Cert.FfnInRefIdeal.nD Cert.FfnInRefIdeal.τ).loc Cert.FfnInRefIdeal.main_arg2) = m ((c.tc : Thread Cert.FfnInRefIdeal.nD Cert.FfnInRefIdeal.τ).loc Cert.FfnInRefIdeal.main_arg2))
      ∧ r.2.sem = fun _ => 0)

def preserves_Attn_AttnIdeal : Prop :=
  IdealRules.named_const.Statement Cert.AttnIdeal.κ "mask" .f32 0xF149F2CA#32 ⊥

def algebraic_AttnIdeal_AttnRefIdeal_pre_finite_att [hAttnIdeal : Cert.AttnIdeal.Facts] [hAttnRefIdeal : Cert.AttnRefIdeal.Facts] [hPre_finite_att : Cert.Pre_finite_att.Facts] : Prop :=
  ∀ (m : (ℓ : Loc Cert.AttnIdeal.nD Cert.AttnIdeal.τ Cert.AttnIdeal.sig) → Buf (Elt Ideal) ℓ) (g : Dev Cert.AttnIdeal.nD → PrngReg)
    (m' : (ℓ : Loc Cert.AttnRefIdeal.nD Cert.AttnRefIdeal.τ Cert.AttnRefIdeal.sig) → Buf (Elt Ideal) ℓ) (g' : Dev Cert.AttnRefIdeal.nD → PrngReg), Pre_AttnIdeal_finite_att m →
    (∀ c : Dev Cert.AttnIdeal.nD,
      m' ((c.tc : Thread Cert.AttnRefIdeal.nD Cert.AttnRefIdeal.τ).loc Cert.AttnRefIdeal.main_arg0) = m ((c.tc : Thread Cert.AttnIdeal.nD Cert.AttnIdeal.τ).loc Cert.AttnIdeal.main_arg0)
      ∧ m' ((c.tc : Thread Cert.AttnRefIdeal.nD Cert.AttnRefIdeal.τ).loc Cert.AttnRefIdeal.main_arg1) = m ((c.tc : Thread Cert.AttnIdeal.nD Cert.AttnIdeal.τ).loc Cert.AttnIdeal.main_arg1)
      ∧ m' ((c.tc : Thread Cert.AttnRefIdeal.nD Cert.AttnRefIdeal.τ).loc Cert.AttnRefIdeal.main_arg2) = m ((c.tc : Thread Cert.AttnIdeal.nD Cert.AttnIdeal.τ).loc Cert.AttnIdeal.main_arg2)
      ∧ m' ((c.tc : Thread Cert.AttnRefIdeal.nD Cert.AttnRefIdeal.τ).loc Cert.AttnRefIdeal.main_arg3) = m ((c.tc : Thread Cert.AttnIdeal.nD Cert.AttnIdeal.τ).loc Cert.AttnIdeal.main_arg3)
      ∧ m' ((c.tc : Thread Cert.AttnRefIdeal.nD Cert.AttnRefIdeal.τ).loc Cert.AttnRefIdeal.main_arg4) = m ((c.tc : Thread Cert.AttnIdeal.nD Cert.AttnIdeal.τ).loc Cert.AttnIdeal.main_arg4)) →
    ∃ (v0 : (c : Dev Cert.AttnIdeal.nD) → Buf (Elt Ideal) ((c.tc : Thread Cert.AttnIdeal.nD Cert.AttnIdeal.τ).loc Cert.AttnIdeal.main_v83_0)) (v1 : (c : Dev Cert.AttnIdeal.nD) → Buf (Elt Ideal) ((c.tc : Thread Cert.AttnIdeal.nD Cert.AttnIdeal.τ).loc Cert.AttnIdeal.main_v83_1)) (v2 : (c : Dev Cert.AttnIdeal.nD) → Buf (Elt Ideal) ((c.tc : Thread Cert.AttnIdeal.nD Cert.AttnIdeal.τ).loc Cert.AttnIdeal.main_v83_2)) (v3 : (c : Dev Cert.AttnIdeal.nD) → Buf (Elt Ideal) ((c.tc : Thread Cert.AttnIdeal.nD Cert.AttnIdeal.τ).loc Cert.AttnIdeal.main_v83_3)) (v4 : (c : Dev Cert.AttnIdeal.nD) → Buf (Elt Ideal) ((c.tc : Thread Cert.AttnIdeal.nD Cert.AttnIdeal.τ).loc Cert.AttnIdeal.main_v83_4)) (v5 : (c : Dev Cert.AttnIdeal.nD) → Buf (Elt Ideal) ((c.tc : Thread Cert.AttnIdeal.nD Cert.AttnIdeal.τ).loc Cert.AttnIdeal.main_v83_5)),
      θ_run (Cert.AttnIdeal.defs (F := Ideal)) (onTc (τ := Cert.AttnIdeal.τ) (Cert.AttnIdeal.main (F := Ideal))) ⟨m, fun _ => 0, g⟩ (fun r => ∀ c : Dev Cert.AttnIdeal.nD,
          r.2.mem ((c.tc : Thread Cert.AttnIdeal.nD Cert.AttnIdeal.τ).loc Cert.AttnIdeal.main_v83_0) = v0 c
          ∧ r.2.mem ((c.tc : Thread Cert.AttnIdeal.nD Cert.AttnIdeal.τ).loc Cert.AttnIdeal.main_v83_1) = v1 c
          ∧ r.2.mem ((c.tc : Thread Cert.AttnIdeal.nD Cert.AttnIdeal.τ).loc Cert.AttnIdeal.main_v83_2) = v2 c
          ∧ r.2.mem ((c.tc : Thread Cert.AttnIdeal.nD Cert.AttnIdeal.τ).loc Cert.AttnIdeal.main_v83_3) = v3 c
          ∧ r.2.mem ((c.tc : Thread Cert.AttnIdeal.nD Cert.AttnIdeal.τ).loc Cert.AttnIdeal.main_v83_4) = v4 c
          ∧ r.2.mem ((c.tc : Thread Cert.AttnIdeal.nD Cert.AttnIdeal.τ).loc Cert.AttnIdeal.main_v83_5) = v5 c
          ∧ r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
          ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
          ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
          ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3)
          ∧ r.2.mem ((c.tc : Thread Cert.AttnIdeal.nD Cert.AttnIdeal.τ).loc Cert.AttnIdeal.main_arg4) = m ((c.tc : Thread Cert.AttnIdeal.nD Cert.AttnIdeal.τ).loc Cert.AttnIdeal.main_arg4))
      ∧ θ_run (Cert.AttnRefIdeal.defs (F := Ideal)) (onTc (τ := Cert.AttnRefIdeal.τ) (Cert.AttnRefIdeal.main (F := Ideal))) ⟨m', fun _ => 0, g'⟩ (fun r => ∀ c : Dev Cert.AttnRefIdeal.nD,
          r.2.mem ((c.tc : Thread Cert.AttnRefIdeal.nD Cert.AttnRefIdeal.τ).loc Cert.AttnRefIdeal.main_v145) = v0 c
          ∧ r.2.mem ((c.tc : Thread Cert.AttnRefIdeal.nD Cert.AttnRefIdeal.τ).loc Cert.AttnRefIdeal.main_v147) = v1 c
          ∧ r.2.mem ((c.tc : Thread Cert.AttnRefIdeal.nD Cert.AttnRefIdeal.τ).loc Cert.AttnRefIdeal.main_v149) = v2 c
          ∧ r.2.mem ((c.tc : Thread Cert.AttnRefIdeal.nD Cert.AttnRefIdeal.τ).loc Cert.AttnRefIdeal.main_v151) = v3 c
          ∧ r.2.mem ((c.tc : Thread Cert.AttnRefIdeal.nD Cert.AttnRefIdeal.τ).loc Cert.AttnRefIdeal.main_v153) = v4 c
          ∧ r.2.mem ((c.tc : Thread Cert.AttnRefIdeal.nD Cert.AttnRefIdeal.τ).loc Cert.AttnRefIdeal.main_v155) = v5 c
          ∧ r.2.mem ((c.tc : Thread Cert.AttnRefIdeal.nD Cert.AttnRefIdeal.τ).loc Cert.AttnRefIdeal.main_arg0) = m' ((c.tc : Thread Cert.AttnRefIdeal.nD Cert.AttnRefIdeal.τ).loc Cert.AttnRefIdeal.main_arg0)
          ∧ r.2.mem ((c.tc : Thread Cert.AttnRefIdeal.nD Cert.AttnRefIdeal.τ).loc Cert.AttnRefIdeal.main_arg1) = m' ((c.tc : Thread Cert.AttnRefIdeal.nD Cert.AttnRefIdeal.τ).loc Cert.AttnRefIdeal.main_arg1)
          ∧ r.2.mem ((c.tc : Thread Cert.AttnRefIdeal.nD Cert.AttnRefIdeal.τ).loc Cert.AttnRefIdeal.main_arg2) = m' ((c.tc : Thread Cert.AttnRefIdeal.nD Cert.AttnRefIdeal.τ).loc Cert.AttnRefIdeal.main_arg2)
          ∧ r.2.mem ((c.tc : Thread Cert.AttnRefIdeal.nD Cert.AttnRefIdeal.τ).loc Cert.AttnRefIdeal.main_arg3) = m' ((c.tc : Thread Cert.AttnRefIdeal.nD Cert.AttnRefIdeal.τ).loc Cert.AttnRefIdeal.main_arg3)
          ∧ r.2.mem ((c.tc : Thread Cert.AttnRefIdeal.nD Cert.AttnRefIdeal.τ).loc Cert.AttnRefIdeal.main_arg4) = m' ((c.tc : Thread Cert.AttnRefIdeal.nD Cert.AttnRefIdeal.τ).loc Cert.AttnRefIdeal.main_arg4))

def preserves_FfnHid_FfnHidIdeal : Prop :=
  True

def algebraic_FfnHidIdeal_FfnHidRefIdeal_pre_finite_hid [hFfnHidIdeal : Cert.FfnHidIdeal.Facts] [hFfnHidRefIdeal : Cert.FfnHidRefIdeal.Facts] [hPre_finite_hid : Cert.Pre_finite_hid.Facts] : Prop :=
  ∀ (m : (ℓ : Loc Cert.FfnHidIdeal.nD Cert.FfnHidIdeal.τ Cert.FfnHidIdeal.sig) → Buf (Elt Ideal) ℓ) (g : Dev Cert.FfnHidIdeal.nD → PrngReg)
    (m' : (ℓ : Loc Cert.FfnHidRefIdeal.nD Cert.FfnHidRefIdeal.τ Cert.FfnHidRefIdeal.sig) → Buf (Elt Ideal) ℓ) (g' : Dev Cert.FfnHidRefIdeal.nD → PrngReg), Pre_FfnHidIdeal_finite_hid m →
    (∀ c : Dev Cert.FfnHidIdeal.nD,
      m' ((c.tc : Thread Cert.FfnHidRefIdeal.nD Cert.FfnHidRefIdeal.τ).loc Cert.FfnHidRefIdeal.main_arg0) = m ((c.tc : Thread Cert.FfnHidIdeal.nD Cert.FfnHidIdeal.τ).loc Cert.FfnHidIdeal.main_arg0)
      ∧ m' ((c.tc : Thread Cert.FfnHidRefIdeal.nD Cert.FfnHidRefIdeal.τ).loc Cert.FfnHidRefIdeal.main_arg1) = m ((c.tc : Thread Cert.FfnHidIdeal.nD Cert.FfnHidIdeal.τ).loc Cert.FfnHidIdeal.main_arg1)
      ∧ m' ((c.tc : Thread Cert.FfnHidRefIdeal.nD Cert.FfnHidRefIdeal.τ).loc Cert.FfnHidRefIdeal.main_arg2) = m ((c.tc : Thread Cert.FfnHidIdeal.nD Cert.FfnHidIdeal.τ).loc Cert.FfnHidIdeal.main_arg2)
      ∧ m' ((c.tc : Thread Cert.FfnHidRefIdeal.nD Cert.FfnHidRefIdeal.τ).loc Cert.FfnHidRefIdeal.main_arg3) = m ((c.tc : Thread Cert.FfnHidIdeal.nD Cert.FfnHidIdeal.τ).loc Cert.FfnHidIdeal.main_arg3)) →
    ∃ (v0 : (c : Dev Cert.FfnHidIdeal.nD) → Buf (Elt Ideal) ((c.tc : Thread Cert.FfnHidIdeal.nD Cert.FfnHidIdeal.τ).loc Cert.FfnHidIdeal.main_v0)),
      θ_run (Cert.FfnHidIdeal.defs (F := Ideal)) (onTc (τ := Cert.FfnHidIdeal.τ) (Cert.FfnHidIdeal.main (F := Ideal))) ⟨m, fun _ => 0, g⟩ (fun r => ∀ c : Dev Cert.FfnHidIdeal.nD,
          r.2.mem ((c.tc : Thread Cert.FfnHidIdeal.nD Cert.FfnHidIdeal.τ).loc Cert.FfnHidIdeal.main_v0) = v0 c
          ∧ r.2.mem ((c.tc : Thread Cert.FfnHidIdeal.nD Cert.FfnHidIdeal.τ).loc Cert.FfnHidIdeal.main_arg0) = m ((c.tc : Thread Cert.FfnHidIdeal.nD Cert.FfnHidIdeal.τ).loc Cert.FfnHidIdeal.main_arg0)
          ∧ r.2.mem ((c.tc : Thread Cert.FfnHidIdeal.nD Cert.FfnHidIdeal.τ).loc Cert.FfnHidIdeal.main_arg1) = m ((c.tc : Thread Cert.FfnHidIdeal.nD Cert.FfnHidIdeal.τ).loc Cert.FfnHidIdeal.main_arg1)
          ∧ r.2.mem ((c.tc : Thread Cert.FfnHidIdeal.nD Cert.FfnHidIdeal.τ).loc Cert.FfnHidIdeal.main_arg2) = m ((c.tc : Thread Cert.FfnHidIdeal.nD Cert.FfnHidIdeal.τ).loc Cert.FfnHidIdeal.main_arg2)
          ∧ r.2.mem ((c.tc : Thread Cert.FfnHidIdeal.nD Cert.FfnHidIdeal.τ).loc Cert.FfnHidIdeal.main_arg3) = m ((c.tc : Thread Cert.FfnHidIdeal.nD Cert.FfnHidIdeal.τ).loc Cert.FfnHidIdeal.main_arg3))
      ∧ θ_run (Cert.FfnHidRefIdeal.defs (F := Ideal)) (onTc (τ := Cert.FfnHidRefIdeal.τ) (Cert.FfnHidRefIdeal.main (F := Ideal))) ⟨m', fun _ => 0, g'⟩ (fun r => ∀ c : Dev Cert.FfnHidRefIdeal.nD,
          r.2.mem ((c.tc : Thread Cert.FfnHidRefIdeal.nD Cert.FfnHidRefIdeal.τ).loc Cert.FfnHidRefIdeal.main_v28) = v0 c
          ∧ r.2.mem ((c.tc : Thread Cert.FfnHidRefIdeal.nD Cert.FfnHidRefIdeal.τ).loc Cert.FfnHidRefIdeal.main_arg0) = m' ((c.tc : Thread Cert.FfnHidRefIdeal.nD Cert.FfnHidRefIdeal.τ).loc Cert.FfnHidRefIdeal.main_arg0)
          ∧ r.2.mem ((c.tc : Thread Cert.FfnHidRefIdeal.nD Cert.FfnHidRefIdeal.τ).loc Cert.FfnHidRefIdeal.main_arg1) = m' ((c.tc : Thread Cert.FfnHidRefIdeal.nD Cert.FfnHidRefIdeal.τ).loc Cert.FfnHidRefIdeal.main_arg1)
          ∧ r.2.mem ((c.tc : Thread Cert.FfnHidRefIdeal.nD Cert.FfnHidRefIdeal.τ).loc Cert.FfnHidRefIdeal.main_arg2) = m' ((c.tc : Thread Cert.FfnHidRefIdeal.nD Cert.FfnHidRefIdeal.τ).loc Cert.FfnHidRefIdeal.main_arg2)
          ∧ r.2.mem ((c.tc : Thread Cert.FfnHidRefIdeal.nD Cert.FfnHidRefIdeal.τ).loc Cert.FfnHidRefIdeal.main_arg3) = m' ((c.tc : Thread Cert.FfnHidRefIdeal.nD Cert.FfnHidRefIdeal.τ).loc Cert.FfnHidRefIdeal.main_arg3))

def preserves_Nrm_NrmIdeal : Prop :=
  True

def algebraic_NrmIdeal_NrmRefIdeal_pre_finite_nrm [hNrmIdeal : Cert.NrmIdeal.Facts] [hNrmRefIdeal : Cert.NrmRefIdeal.Facts] [hPre_finite_nrm : Cert.Pre_finite_nrm.Facts] : Prop :=
  ∀ (m : (ℓ : Loc Cert.NrmIdeal.nD Cert.NrmIdeal.τ Cert.NrmIdeal.sig) → Buf (Elt Ideal) ℓ) (g : Dev Cert.NrmIdeal.nD → PrngReg)
    (m' : (ℓ : Loc Cert.NrmRefIdeal.nD Cert.NrmRefIdeal.τ Cert.NrmRefIdeal.sig) → Buf (Elt Ideal) ℓ) (g' : Dev Cert.NrmRefIdeal.nD → PrngReg), Pre_NrmIdeal_finite_nrm m →
    (∀ c : Dev Cert.NrmIdeal.nD,
      m' ((c.tc : Thread Cert.NrmRefIdeal.nD Cert.NrmRefIdeal.τ).loc Cert.NrmRefIdeal.main_arg0) = m ((c.tc : Thread Cert.NrmIdeal.nD Cert.NrmIdeal.τ).loc Cert.NrmIdeal.main_arg0)
      ∧ m' ((c.tc : Thread Cert.NrmRefIdeal.nD Cert.NrmRefIdeal.τ).loc Cert.NrmRefIdeal.main_arg1) = m ((c.tc : Thread Cert.NrmIdeal.nD Cert.NrmIdeal.τ).loc Cert.NrmIdeal.main_arg1)
      ∧ m' ((c.tc : Thread Cert.NrmRefIdeal.nD Cert.NrmRefIdeal.τ).loc Cert.NrmRefIdeal.main_arg2) = m ((c.tc : Thread Cert.NrmIdeal.nD Cert.NrmIdeal.τ).loc Cert.NrmIdeal.main_arg2)
      ∧ m' ((c.tc : Thread Cert.NrmRefIdeal.nD Cert.NrmRefIdeal.τ).loc Cert.NrmRefIdeal.main_arg3) = m ((c.tc : Thread Cert.NrmIdeal.nD Cert.NrmIdeal.τ).loc Cert.NrmIdeal.main_arg3)
      ∧ m' ((c.tc : Thread Cert.NrmRefIdeal.nD Cert.NrmRefIdeal.τ).loc Cert.NrmRefIdeal.main_arg4) = m ((c.tc : Thread Cert.NrmIdeal.nD Cert.NrmIdeal.τ).loc Cert.NrmIdeal.main_arg4)) →
    ∃ (v0 : (c : Dev Cert.NrmIdeal.nD) → Buf (Elt Ideal) ((c.tc : Thread Cert.NrmIdeal.nD Cert.NrmIdeal.τ).loc Cert.NrmIdeal.main_v3_0)) (v1 : (c : Dev Cert.NrmIdeal.nD) → Buf (Elt Ideal) ((c.tc : Thread Cert.NrmIdeal.nD Cert.NrmIdeal.τ).loc Cert.NrmIdeal.main_v3_1)),
      θ_run (Cert.NrmIdeal.defs (F := Ideal)) (onTc (τ := Cert.NrmIdeal.τ) (Cert.NrmIdeal.main (F := Ideal))) ⟨m, fun _ => 0, g⟩ (fun r => ∀ c : Dev Cert.NrmIdeal.nD,
          r.2.mem ((c.tc : Thread Cert.NrmIdeal.nD Cert.NrmIdeal.τ).loc Cert.NrmIdeal.main_v3_0) = v0 c
          ∧ r.2.mem ((c.tc : Thread Cert.NrmIdeal.nD Cert.NrmIdeal.τ).loc Cert.NrmIdeal.main_v3_1) = v1 c
          ∧ r.2.mem ((c.tc : Thread Cert.NrmIdeal.nD Cert.NrmIdeal.τ).loc Cert.NrmIdeal.main_arg0) = m ((c.tc : Thread Cert.NrmIdeal.nD Cert.NrmIdeal.τ).loc Cert.NrmIdeal.main_arg0)
          ∧ r.2.mem ((c.tc : Thread Cert.NrmIdeal.nD Cert.NrmIdeal.τ).loc Cert.NrmIdeal.main_arg1) = m ((c.tc : Thread Cert.NrmIdeal.nD Cert.NrmIdeal.τ).loc Cert.NrmIdeal.main_arg1)
          ∧ r.2.mem ((c.tc : Thread Cert.NrmIdeal.nD Cert.NrmIdeal.τ).loc Cert.NrmIdeal.main_arg2) = m ((c.tc : Thread Cert.NrmIdeal.nD Cert.NrmIdeal.τ).loc Cert.NrmIdeal.main_arg2)
          ∧ r.2.mem ((c.tc : Thread Cert.NrmIdeal.nD Cert.NrmIdeal.τ).loc Cert.NrmIdeal.main_arg3) = m ((c.tc : Thread Cert.NrmIdeal.nD Cert.NrmIdeal.τ).loc Cert.NrmIdeal.main_arg3)
          ∧ r.2.mem ((c.tc : Thread Cert.NrmIdeal.nD Cert.NrmIdeal.τ).loc Cert.NrmIdeal.main_arg4) = m ((c.tc : Thread Cert.NrmIdeal.nD Cert.NrmIdeal.τ).loc Cert.NrmIdeal.main_arg4))
      ∧ θ_run (Cert.NrmRefIdeal.defs (F := Ideal)) (onTc (τ := Cert.NrmRefIdeal.τ) (Cert.NrmRefIdeal.main (F := Ideal))) ⟨m', fun _ => 0, g'⟩ (fun r => ∀ c : Dev Cert.NrmRefIdeal.nD,
          r.2.mem ((c.tc : Thread Cert.NrmRefIdeal.nD Cert.NrmRefIdeal.τ).loc Cert.NrmRefIdeal.main_v43) = v0 c
          ∧ r.2.mem ((c.tc : Thread Cert.NrmRefIdeal.nD Cert.NrmRefIdeal.τ).loc Cert.NrmRefIdeal.main_v44) = v1 c
          ∧ r.2.mem ((c.tc : Thread Cert.NrmRefIdeal.nD Cert.NrmRefIdeal.τ).loc Cert.NrmRefIdeal.main_arg0) = m' ((c.tc : Thread Cert.NrmRefIdeal.nD Cert.NrmRefIdeal.τ).loc Cert.NrmRefIdeal.main_arg0)
          ∧ r.2.mem ((c.tc : Thread Cert.NrmRefIdeal.nD Cert.NrmRefIdeal.τ).loc Cert.NrmRefIdeal.main_arg1) = m' ((c.tc : Thread Cert.NrmRefIdeal.nD Cert.NrmRefIdeal.τ).loc Cert.NrmRefIdeal.main_arg1)
          ∧ r.2.mem ((c.tc : Thread Cert.NrmRefIdeal.nD Cert.NrmRefIdeal.τ).loc Cert.NrmRefIdeal.main_arg2) = m' ((c.tc : Thread Cert.NrmRefIdeal.nD Cert.NrmRefIdeal.τ).loc Cert.NrmRefIdeal.main_arg2)
          ∧ r.2.mem ((c.tc : Thread Cert.NrmRefIdeal.nD Cert.NrmRefIdeal.τ).loc Cert.NrmRefIdeal.main_arg3) = m' ((c.tc : Thread Cert.NrmRefIdeal.nD Cert.NrmRefIdeal.τ).loc Cert.NrmRefIdeal.main_arg3)
          ∧ r.2.mem ((c.tc : Thread Cert.NrmRefIdeal.nD Cert.NrmRefIdeal.τ).loc Cert.NrmRefIdeal.main_arg4) = m' ((c.tc : Thread Cert.NrmRefIdeal.nD Cert.NrmRefIdeal.τ).loc Cert.NrmRefIdeal.main_arg4))

def preserves_Dwin_DwinIdeal : Prop :=
  True

def algebraic_DwinIdeal_DwinRefIdeal [hDwinIdeal : Cert.DwinIdeal.Facts] [hDwinRefIdeal : Cert.DwinRefIdeal.Facts] : Prop :=
  ∀ (m : (ℓ : Loc Cert.DwinIdeal.nD Cert.DwinIdeal.τ Cert.DwinIdeal.sig) → Buf (Elt Ideal) ℓ) (g : Dev Cert.DwinIdeal.nD → PrngReg)
    (m' : (ℓ : Loc Cert.DwinRefIdeal.nD Cert.DwinRefIdeal.τ Cert.DwinRefIdeal.sig) → Buf (Elt Ideal) ℓ) (g' : Dev Cert.DwinRefIdeal.nD → PrngReg), Pre_DwinIdeal m →
    (∀ c : Dev Cert.DwinIdeal.nD,
      m' ((c.tc : Thread Cert.DwinRefIdeal.nD Cert.DwinRefIdeal.τ).loc Cert.DwinRefIdeal.main_arg0) = m ((c.tc : Thread Cert.DwinIdeal.nD Cert.DwinIdeal.τ).loc Cert.DwinIdeal.main_arg0)
      ∧ m' ((c.tc : Thread Cert.DwinRefIdeal.nD Cert.DwinRefIdeal.τ).loc Cert.DwinRefIdeal.main_arg1) = m ((c.tc : Thread Cert.DwinIdeal.nD Cert.DwinIdeal.τ).loc Cert.DwinIdeal.main_arg1)) →
    ∃ (v0 : (c : Dev Cert.DwinIdeal.nD) → Buf (Elt Ideal) ((c.tc : Thread Cert.DwinIdeal.nD Cert.DwinIdeal.τ).loc Cert.DwinIdeal.main_v1)),
      θ_run (Cert.DwinIdeal.defs (F := Ideal)) (onTc (τ := Cert.DwinIdeal.τ) (Cert.DwinIdeal.main (F := Ideal))) ⟨m, fun _ => 0, g⟩ (fun r => ∀ c : Dev Cert.DwinIdeal.nD,
          r.2.mem ((c.tc : Thread Cert.DwinIdeal.nD Cert.DwinIdeal.τ).loc Cert.DwinIdeal.main_v1) = v0 c
          ∧ r.2.mem ((c.tc : Thread Cert.DwinIdeal.nD Cert.DwinIdeal.τ).loc Cert.DwinIdeal.main_arg0) = m ((c.tc : Thread Cert.DwinIdeal.nD Cert.DwinIdeal.τ).loc Cert.DwinIdeal.main_arg0)
          ∧ r.2.mem ((c.tc : Thread Cert.DwinIdeal.nD Cert.DwinIdeal.τ).loc Cert.DwinIdeal.main_arg1) = m ((c.tc : Thread Cert.DwinIdeal.nD Cert.DwinIdeal.τ).loc Cert.DwinIdeal.main_arg1))
      ∧ θ_run (Cert.DwinRefIdeal.defs (F := Ideal)) (onTc (τ := Cert.DwinRefIdeal.τ) (Cert.DwinRefIdeal.main (F := Ideal))) ⟨m', fun _ => 0, g'⟩ (fun r => ∀ c : Dev Cert.DwinRefIdeal.nD,
          r.2.mem ((c.tc : Thread Cert.DwinRefIdeal.nD Cert.DwinRefIdeal.τ).loc Cert.DwinRefIdeal.main_v11) = v0 c
          ∧ r.2.mem ((c.tc : Thread Cert.DwinRefIdeal.nD Cert.DwinRefIdeal.τ).loc Cert.DwinRefIdeal.main_arg0) = m' ((c.tc : Thread Cert.DwinRefIdeal.nD Cert.DwinRefIdeal.τ).loc Cert.DwinRefIdeal.main_arg0)
          ∧ r.2.mem ((c.tc : Thread Cert.DwinRefIdeal.nD Cert.DwinRefIdeal.τ).loc Cert.DwinRefIdeal.main_arg1) = m' ((c.tc : Thread Cert.DwinRefIdeal.nD Cert.DwinRefIdeal.τ).loc Cert.DwinRefIdeal.main_arg1))

def preserves_Dwout_DwoutIdeal : Prop :=
  True

def algebraic_DwoutIdeal_DwoutRefIdeal [hDwoutIdeal : Cert.DwoutIdeal.Facts] [hDwoutRefIdeal : Cert.DwoutRefIdeal.Facts] : Prop :=
  ∀ (m : (ℓ : Loc Cert.DwoutIdeal.nD Cert.DwoutIdeal.τ Cert.DwoutIdeal.sig) → Buf (Elt Ideal) ℓ) (g : Dev Cert.DwoutIdeal.nD → PrngReg)
    (m' : (ℓ : Loc Cert.DwoutRefIdeal.nD Cert.DwoutRefIdeal.τ Cert.DwoutRefIdeal.sig) → Buf (Elt Ideal) ℓ) (g' : Dev Cert.DwoutRefIdeal.nD → PrngReg), Pre_DwoutIdeal m →
    (∀ c : Dev Cert.DwoutIdeal.nD,
      m' ((c.tc : Thread Cert.DwoutRefIdeal.nD Cert.DwoutRefIdeal.τ).loc Cert.DwoutRefIdeal.main_arg0) = m ((c.tc : Thread Cert.DwoutIdeal.nD Cert.DwoutIdeal.τ).loc Cert.DwoutIdeal.main_arg0)
      ∧ m' ((c.tc : Thread Cert.DwoutRefIdeal.nD Cert.DwoutRefIdeal.τ).loc Cert.DwoutRefIdeal.main_arg1) = m ((c.tc : Thread Cert.DwoutIdeal.nD Cert.DwoutIdeal.τ).loc Cert.DwoutIdeal.main_arg1)) →
    ∃ (v0 : (c : Dev Cert.DwoutIdeal.nD) → Buf (Elt Ideal) ((c.tc : Thread Cert.DwoutIdeal.nD Cert.DwoutIdeal.τ).loc Cert.DwoutIdeal.main_v1)),
      θ_run (Cert.DwoutIdeal.defs (F := Ideal)) (onTc (τ := Cert.DwoutIdeal.τ) (Cert.DwoutIdeal.main (F := Ideal))) ⟨m, fun _ => 0, g⟩ (fun r => ∀ c : Dev Cert.DwoutIdeal.nD,
          r.2.mem ((c.tc : Thread Cert.DwoutIdeal.nD Cert.DwoutIdeal.τ).loc Cert.DwoutIdeal.main_v1) = v0 c
          ∧ r.2.mem ((c.tc : Thread Cert.DwoutIdeal.nD Cert.DwoutIdeal.τ).loc Cert.DwoutIdeal.main_arg0) = m ((c.tc : Thread Cert.DwoutIdeal.nD Cert.DwoutIdeal.τ).loc Cert.DwoutIdeal.main_arg0)
          ∧ r.2.mem ((c.tc : Thread Cert.DwoutIdeal.nD Cert.DwoutIdeal.τ).loc Cert.DwoutIdeal.main_arg1) = m ((c.tc : Thread Cert.DwoutIdeal.nD Cert.DwoutIdeal.τ).loc Cert.DwoutIdeal.main_arg1))
      ∧ θ_run (Cert.DwoutRefIdeal.defs (F := Ideal)) (onTc (τ := Cert.DwoutRefIdeal.τ) (Cert.DwoutRefIdeal.main (F := Ideal))) ⟨m', fun _ => 0, g'⟩ (fun r => ∀ c : Dev Cert.DwoutRefIdeal.nD,
          r.2.mem ((c.tc : Thread Cert.DwoutRefIdeal.nD Cert.DwoutRefIdeal.τ).loc Cert.DwoutRefIdeal.main_v10) = v0 c
          ∧ r.2.mem ((c.tc : Thread Cert.DwoutRefIdeal.nD Cert.DwoutRefIdeal.τ).loc Cert.DwoutRefIdeal.main_arg0) = m' ((c.tc : Thread Cert.DwoutRefIdeal.nD Cert.DwoutRefIdeal.τ).loc Cert.DwoutRefIdeal.main_arg0)
          ∧ r.2.mem ((c.tc : Thread Cert.DwoutRefIdeal.nD Cert.DwoutRefIdeal.τ).loc Cert.DwoutRefIdeal.main_arg1) = m' ((c.tc : Thread Cert.DwoutRefIdeal.nD Cert.DwoutRefIdeal.τ).loc Cert.DwoutRefIdeal.main_arg1))

def preserves_FfnOut_FfnOutIdeal : Prop :=
  True

def algebraic_FfnOutIdeal_FfnOutRefIdeal [hFfnOutIdeal : Cert.FfnOutIdeal.Facts] [hFfnOutRefIdeal : Cert.FfnOutRefIdeal.Facts] : Prop :=
  ∀ (m : (ℓ : Loc Cert.FfnOutIdeal.nD Cert.FfnOutIdeal.τ Cert.FfnOutIdeal.sig) → Buf (Elt Ideal) ℓ) (g : Dev Cert.FfnOutIdeal.nD → PrngReg)
    (m' : (ℓ : Loc Cert.FfnOutRefIdeal.nD Cert.FfnOutRefIdeal.τ Cert.FfnOutRefIdeal.sig) → Buf (Elt Ideal) ℓ) (g' : Dev Cert.FfnOutRefIdeal.nD → PrngReg), Pre_FfnOutIdeal m →
    (∀ c : Dev Cert.FfnOutIdeal.nD,
      m' ((c.tc : Thread Cert.FfnOutRefIdeal.nD Cert.FfnOutRefIdeal.τ).loc Cert.FfnOutRefIdeal.main_arg0) = m ((c.tc : Thread Cert.FfnOutIdeal.nD Cert.FfnOutIdeal.τ).loc Cert.FfnOutIdeal.main_arg0)
      ∧ m' ((c.tc : Thread Cert.FfnOutRefIdeal.nD Cert.FfnOutRefIdeal.τ).loc Cert.FfnOutRefIdeal.main_arg1) = m ((c.tc : Thread Cert.FfnOutIdeal.nD Cert.FfnOutIdeal.τ).loc Cert.FfnOutIdeal.main_arg1)
      ∧ m' ((c.tc : Thread Cert.FfnOutRefIdeal.nD Cert.FfnOutRefIdeal.τ).loc Cert.FfnOutRefIdeal.main_arg2) = m ((c.tc : Thread Cert.FfnOutIdeal.nD Cert.FfnOutIdeal.τ).loc Cert.FfnOutIdeal.main_arg2)) →
    ∃ (v0 : (c : Dev Cert.FfnOutIdeal.nD) → Buf (Elt Ideal) ((c.tc : Thread Cert.FfnOutIdeal.nD Cert.FfnOutIdeal.τ).loc Cert.FfnOutIdeal.main_v0)),
      θ_run (Cert.FfnOutIdeal.defs (F := Ideal)) (onTc (τ := Cert.FfnOutIdeal.τ) (Cert.FfnOutIdeal.main (F := Ideal))) ⟨m, fun _ => 0, g⟩ (fun r => ∀ c : Dev Cert.FfnOutIdeal.nD,
          r.2.mem ((c.tc : Thread Cert.FfnOutIdeal.nD Cert.FfnOutIdeal.τ).loc Cert.FfnOutIdeal.main_v0) = v0 c
          ∧ r.2.mem ((c.tc : Thread Cert.FfnOutIdeal.nD Cert.FfnOutIdeal.τ).loc Cert.FfnOutIdeal.main_arg0) = m ((c.tc : Thread Cert.FfnOutIdeal.nD Cert.FfnOutIdeal.τ).loc Cert.FfnOutIdeal.main_arg0)
          ∧ r.2.mem ((c.tc : Thread Cert.FfnOutIdeal.nD Cert.FfnOutIdeal.τ).loc Cert.FfnOutIdeal.main_arg1) = m ((c.tc : Thread Cert.FfnOutIdeal.nD Cert.FfnOutIdeal.τ).loc Cert.FfnOutIdeal.main_arg1)
          ∧ r.2.mem ((c.tc : Thread Cert.FfnOutIdeal.nD Cert.FfnOutIdeal.τ).loc Cert.FfnOutIdeal.main_arg2) = m ((c.tc : Thread Cert.FfnOutIdeal.nD Cert.FfnOutIdeal.τ).loc Cert.FfnOutIdeal.main_arg2))
      ∧ θ_run (Cert.FfnOutRefIdeal.defs (F := Ideal)) (onTc (τ := Cert.FfnOutRefIdeal.τ) (Cert.FfnOutRefIdeal.main (F := Ideal))) ⟨m', fun _ => 0, g'⟩ (fun r => ∀ c : Dev Cert.FfnOutRefIdeal.nD,
          r.2.mem ((c.tc : Thread Cert.FfnOutRefIdeal.nD Cert.FfnOutRefIdeal.τ).loc Cert.FfnOutRefIdeal.main_v5) = v0 c
          ∧ r.2.mem ((c.tc : Thread Cert.FfnOutRefIdeal.nD Cert.FfnOutRefIdeal.τ).loc Cert.FfnOutRefIdeal.main_arg0) = m' ((c.tc : Thread Cert.FfnOutRefIdeal.nD Cert.FfnOutRefIdeal.τ).loc Cert.FfnOutRefIdeal.main_arg0)
          ∧ r.2.mem ((c.tc : Thread Cert.FfnOutRefIdeal.nD Cert.FfnOutRefIdeal.τ).loc Cert.FfnOutRefIdeal.main_arg1) = m' ((c.tc : Thread Cert.FfnOutRefIdeal.nD Cert.FfnOutRefIdeal.τ).loc Cert.FfnOutRefIdeal.main_arg1)
          ∧ r.2.mem ((c.tc : Thread Cert.FfnOutRefIdeal.nD Cert.FfnOutRefIdeal.τ).loc Cert.FfnOutRefIdeal.main_arg2) = m' ((c.tc : Thread Cert.FfnOutRefIdeal.nD Cert.FfnOutRefIdeal.τ).loc Cert.FfnOutRefIdeal.main_arg2))

def preserves_AttDo_AttDoIdeal : Prop :=
  True

def algebraic_AttDoIdeal_AttDoRefIdeal [hAttDoIdeal : Cert.AttDoIdeal.Facts] [hAttDoRefIdeal : Cert.AttDoRefIdeal.Facts] : Prop :=
  ∀ (m : (ℓ : Loc Cert.AttDoIdeal.nD Cert.AttDoIdeal.τ Cert.AttDoIdeal.sig) → Buf (Elt Ideal) ℓ) (g : Dev Cert.AttDoIdeal.nD → PrngReg)
    (m' : (ℓ : Loc Cert.AttDoRefIdeal.nD Cert.AttDoRefIdeal.τ Cert.AttDoRefIdeal.sig) → Buf (Elt Ideal) ℓ) (g' : Dev Cert.AttDoRefIdeal.nD → PrngReg), Pre_AttDoIdeal m →
    (∀ c : Dev Cert.AttDoIdeal.nD,
      m' ((c.tc : Thread Cert.AttDoRefIdeal.nD Cert.AttDoRefIdeal.τ).loc Cert.AttDoRefIdeal.main_arg0) = m ((c.tc : Thread Cert.AttDoIdeal.nD Cert.AttDoIdeal.τ).loc Cert.AttDoIdeal.main_arg0)
      ∧ m' ((c.tc : Thread Cert.AttDoRefIdeal.nD Cert.AttDoRefIdeal.τ).loc Cert.AttDoRefIdeal.main_arg1) = m ((c.tc : Thread Cert.AttDoIdeal.nD Cert.AttDoIdeal.τ).loc Cert.AttDoIdeal.main_arg1)) →
    ∃ (v0 : (c : Dev Cert.AttDoIdeal.nD) → Buf (Elt Ideal) ((c.tc : Thread Cert.AttDoIdeal.nD Cert.AttDoIdeal.τ).loc Cert.AttDoIdeal.main_v0)),
      θ_run (Cert.AttDoIdeal.defs (F := Ideal)) (onTc (τ := Cert.AttDoIdeal.τ) (Cert.AttDoIdeal.main (F := Ideal))) ⟨m, fun _ => 0, g⟩ (fun r => ∀ c : Dev Cert.AttDoIdeal.nD,
          r.2.mem ((c.tc : Thread Cert.AttDoIdeal.nD Cert.AttDoIdeal.τ).loc Cert.AttDoIdeal.main_v0) = v0 c
          ∧ r.2.mem ((c.tc : Thread Cert.AttDoIdeal.nD Cert.AttDoIdeal.τ).loc Cert.AttDoIdeal.main_arg0) = m ((c.tc : Thread Cert.AttDoIdeal.nD Cert.AttDoIdeal.τ).loc Cert.AttDoIdeal.main_arg0)
          ∧ r.2.mem ((c.tc : Thread Cert.AttDoIdeal.nD Cert.AttDoIdeal.τ).loc Cert.AttDoIdeal.main_arg1) = m ((c.tc : Thread Cert.AttDoIdeal.nD Cert.AttDoIdeal.τ).loc Cert.AttDoIdeal.main_arg1))
      ∧ θ_run (Cert.AttDoRefIdeal.defs (F := Ideal)) (onTc (τ := Cert.AttDoRefIdeal.τ) (Cert.AttDoRefIdeal.main (F := Ideal))) ⟨m', fun _ => 0, g'⟩ (fun r => ∀ c : Dev Cert.AttDoRefIdeal.nD,
          r.2.mem ((c.tc : Thread Cert.AttDoRefIdeal.nD Cert.AttDoRefIdeal.τ).loc Cert.AttDoRefIdeal.main_v3) = v0 c
          ∧ r.2.mem ((c.tc : Thread Cert.AttDoRefIdeal.nD Cert.AttDoRefIdeal.τ).loc Cert.AttDoRefIdeal.main_arg0) = m' ((c.tc : Thread Cert.AttDoRefIdeal.nD Cert.AttDoRefIdeal.τ).loc Cert.AttDoRefIdeal.main_arg0)
          ∧ r.2.mem ((c.tc : Thread Cert.AttDoRefIdeal.nD Cert.AttDoRefIdeal.τ).loc Cert.AttDoRefIdeal.main_arg1) = m' ((c.tc : Thread Cert.AttDoRefIdeal.nD Cert.AttDoRefIdeal.τ).loc Cert.AttDoRefIdeal.main_arg1))

def preserves_Dwqkv_DwqkvIdeal : Prop :=
  True

def algebraic_DwqkvIdeal_DwqkvRefIdeal [hDwqkvIdeal : Cert.DwqkvIdeal.Facts] [hDwqkvRefIdeal : Cert.DwqkvRefIdeal.Facts] : Prop :=
  ∀ (m : (ℓ : Loc Cert.DwqkvIdeal.nD Cert.DwqkvIdeal.τ Cert.DwqkvIdeal.sig) → Buf (Elt Ideal) ℓ) (g : Dev Cert.DwqkvIdeal.nD → PrngReg)
    (m' : (ℓ : Loc Cert.DwqkvRefIdeal.nD Cert.DwqkvRefIdeal.τ Cert.DwqkvRefIdeal.sig) → Buf (Elt Ideal) ℓ) (g' : Dev Cert.DwqkvRefIdeal.nD → PrngReg), Pre_DwqkvIdeal m →
    (∀ c : Dev Cert.DwqkvIdeal.nD,
      m' ((c.tc : Thread Cert.DwqkvRefIdeal.nD Cert.DwqkvRefIdeal.τ).loc Cert.DwqkvRefIdeal.main_arg0) = m ((c.tc : Thread Cert.DwqkvIdeal.nD Cert.DwqkvIdeal.τ).loc Cert.DwqkvIdeal.main_arg0)
      ∧ m' ((c.tc : Thread Cert.DwqkvRefIdeal.nD Cert.DwqkvRefIdeal.τ).loc Cert.DwqkvRefIdeal.main_arg1) = m ((c.tc : Thread Cert.DwqkvIdeal.nD Cert.DwqkvIdeal.τ).loc Cert.DwqkvIdeal.main_arg1)) →
    ∃ (v0 : (c : Dev Cert.DwqkvIdeal.nD) → Buf (Elt Ideal) ((c.tc : Thread Cert.DwqkvIdeal.nD Cert.DwqkvIdeal.τ).loc Cert.DwqkvIdeal.main_v1)),
      θ_run (Cert.DwqkvIdeal.defs (F := Ideal)) (onTc (τ := Cert.DwqkvIdeal.τ) (Cert.DwqkvIdeal.main (F := Ideal))) ⟨m, fun _ => 0, g⟩ (fun r => ∀ c : Dev Cert.DwqkvIdeal.nD,
          r.2.mem ((c.tc : Thread Cert.DwqkvIdeal.nD Cert.DwqkvIdeal.τ).loc Cert.DwqkvIdeal.main_v1) = v0 c
          ∧ r.2.mem ((c.tc : Thread Cert.DwqkvIdeal.nD Cert.DwqkvIdeal.τ).loc Cert.DwqkvIdeal.main_arg0) = m ((c.tc : Thread Cert.DwqkvIdeal.nD Cert.DwqkvIdeal.τ).loc Cert.DwqkvIdeal.main_arg0)
          ∧ r.2.mem ((c.tc : Thread Cert.DwqkvIdeal.nD Cert.DwqkvIdeal.τ).loc Cert.DwqkvIdeal.main_arg1) = m ((c.tc : Thread Cert.DwqkvIdeal.nD Cert.DwqkvIdeal.τ).loc Cert.DwqkvIdeal.main_arg1))
      ∧ θ_run (Cert.DwqkvRefIdeal.defs (F := Ideal)) (onTc (τ := Cert.DwqkvRefIdeal.τ) (Cert.DwqkvRefIdeal.main (F := Ideal))) ⟨m', fun _ => 0, g'⟩ (fun r => ∀ c : Dev Cert.DwqkvRefIdeal.nD,
          r.2.mem ((c.tc : Thread Cert.DwqkvRefIdeal.nD Cert.DwqkvRefIdeal.τ).loc Cert.DwqkvRefIdeal.main_v8) = v0 c
          ∧ r.2.mem ((c.tc : Thread Cert.DwqkvRefIdeal.nD Cert.DwqkvRefIdeal.τ).loc Cert.DwqkvRefIdeal.main_arg0) = m' ((c.tc : Thread Cert.DwqkvRefIdeal.nD Cert.DwqkvRefIdeal.τ).loc Cert.DwqkvRefIdeal.main_arg0)
          ∧ r.2.mem ((c.tc : Thread Cert.DwqkvRefIdeal.nD Cert.DwqkvRefIdeal.τ).loc Cert.DwqkvRefIdeal.main_arg1) = m' ((c.tc : Thread Cert.DwqkvRefIdeal.nD Cert.DwqkvRefIdeal.τ).loc Cert.DwqkvRefIdeal.main_arg1))

def preserves_AttO_AttOIdeal : Prop :=
  True

def algebraic_AttOIdeal_AttORefIdeal [hAttOIdeal : Cert.AttOIdeal.Facts] [hAttORefIdeal : Cert.AttORefIdeal.Facts] : Prop :=
  ∀ (m : (ℓ : Loc Cert.AttOIdeal.nD Cert.AttOIdeal.τ Cert.AttOIdeal.sig) → Buf (Elt Ideal) ℓ) (g : Dev Cert.AttOIdeal.nD → PrngReg)
    (m' : (ℓ : Loc Cert.AttORefIdeal.nD Cert.AttORefIdeal.τ Cert.AttORefIdeal.sig) → Buf (Elt Ideal) ℓ) (g' : Dev Cert.AttORefIdeal.nD → PrngReg), Pre_AttOIdeal m →
    (∀ c : Dev Cert.AttOIdeal.nD,
      m' ((c.tc : Thread Cert.AttORefIdeal.nD Cert.AttORefIdeal.τ).loc Cert.AttORefIdeal.main_arg0) = m ((c.tc : Thread Cert.AttOIdeal.nD Cert.AttOIdeal.τ).loc Cert.AttOIdeal.main_arg0)
      ∧ m' ((c.tc : Thread Cert.AttORefIdeal.nD Cert.AttORefIdeal.τ).loc Cert.AttORefIdeal.main_arg1) = m ((c.tc : Thread Cert.AttOIdeal.nD Cert.AttOIdeal.τ).loc Cert.AttOIdeal.main_arg1)
      ∧ m' ((c.tc : Thread Cert.AttORefIdeal.nD Cert.AttORefIdeal.τ).loc Cert.AttORefIdeal.main_arg2) = m ((c.tc : Thread Cert.AttOIdeal.nD Cert.AttOIdeal.τ).loc Cert.AttOIdeal.main_arg2)
      ∧ m' ((c.tc : Thread Cert.AttORefIdeal.nD Cert.AttORefIdeal.τ).loc Cert.AttORefIdeal.main_arg3) = m ((c.tc : Thread Cert.AttOIdeal.nD Cert.AttOIdeal.τ).loc Cert.AttOIdeal.main_arg3)) →
    ∃ (v0 : (c : Dev Cert.AttOIdeal.nD) → Buf (Elt Ideal) ((c.tc : Thread Cert.AttOIdeal.nD Cert.AttOIdeal.τ).loc Cert.AttOIdeal.main_v1)),
      θ_run (Cert.AttOIdeal.defs (F := Ideal)) (onTc (τ := Cert.AttOIdeal.τ) (Cert.AttOIdeal.main (F := Ideal))) ⟨m, fun _ => 0, g⟩ (fun r => ∀ c : Dev Cert.AttOIdeal.nD,
          r.2.mem ((c.tc : Thread Cert.AttOIdeal.nD Cert.AttOIdeal.τ).loc Cert.AttOIdeal.main_v1) = v0 c
          ∧ r.2.mem ((c.tc : Thread Cert.AttOIdeal.nD Cert.AttOIdeal.τ).loc Cert.AttOIdeal.main_arg0) = m ((c.tc : Thread Cert.AttOIdeal.nD Cert.AttOIdeal.τ).loc Cert.AttOIdeal.main_arg0)
          ∧ r.2.mem ((c.tc : Thread Cert.AttOIdeal.nD Cert.AttOIdeal.τ).loc Cert.AttOIdeal.main_arg1) = m ((c.tc : Thread Cert.AttOIdeal.nD Cert.AttOIdeal.τ).loc Cert.AttOIdeal.main_arg1)
          ∧ r.2.mem ((c.tc : Thread Cert.AttOIdeal.nD Cert.AttOIdeal.τ).loc Cert.AttOIdeal.main_arg2) = m ((c.tc : Thread Cert.AttOIdeal.nD Cert.AttOIdeal.τ).loc Cert.AttOIdeal.main_arg2)
          ∧ r.2.mem ((c.tc : Thread Cert.AttOIdeal.nD Cert.AttOIdeal.τ).loc Cert.AttOIdeal.main_arg3) = m ((c.tc : Thread Cert.AttOIdeal.nD Cert.AttOIdeal.τ).loc Cert.AttOIdeal.main_arg3))
      ∧ θ_run (Cert.AttORefIdeal.defs (F := Ideal)) (onTc (τ := Cert.AttORefIdeal.τ) (Cert.AttORefIdeal.main (F := Ideal))) ⟨m', fun _ => 0, g'⟩ (fun r => ∀ c : Dev Cert.AttORefIdeal.nD,
          r.2.mem ((c.tc : Thread Cert.AttORefIdeal.nD Cert.AttORefIdeal.τ).loc Cert.AttORefIdeal.main_v6) = v0 c
          ∧ r.2.mem ((c.tc : Thread Cert.AttORefIdeal.nD Cert.AttORefIdeal.τ).loc Cert.AttORefIdeal.main_arg0) = m' ((c.tc : Thread Cert.AttORefIdeal.nD Cert.AttORefIdeal.τ).loc Cert.AttORefIdeal.main_arg0)
          ∧ r.2.mem ((c.tc : Thread Cert.AttORefIdeal.nD Cert.AttORefIdeal.τ).loc Cert.AttORefIdeal.main_arg1) = m' ((c.tc : Thread Cert.AttORefIdeal.nD Cert.AttORefIdeal.τ).loc Cert.AttORefIdeal.main_arg1)
          ∧ r.2.mem ((c.tc : Thread Cert.AttORefIdeal.nD Cert.AttORefIdeal.τ).loc Cert.AttORefIdeal.main_arg2) = m' ((c.tc : Thread Cert.AttORefIdeal.nD Cert.AttORefIdeal.τ).loc Cert.AttORefIdeal.main_arg2)
          ∧ r.2.mem ((c.tc : Thread Cert.AttORefIdeal.nD Cert.AttORefIdeal.τ).loc Cert.AttORefIdeal.main_arg3) = m' ((c.tc : Thread Cert.AttORefIdeal.nD Cert.AttORefIdeal.τ).loc Cert.AttORefIdeal.main_arg3))

def preserves_HybO_HybOIdeal : Prop :=
  True

def algebraic_HybOIdeal_HybORefIdeal [hHybOIdeal : Cert.HybOIdeal.Facts] [hHybORefIdeal : Cert.HybORefIdeal.Facts] : Prop :=
  ∀ (m : (ℓ : Loc Cert.HybOIdeal.nD Cert.HybOIdeal.τ Cert.HybOIdeal.sig) → Buf (Elt Ideal) ℓ) (g : Dev Cert.HybOIdeal.nD → PrngReg)
    (m' : (ℓ : Loc Cert.HybORefIdeal.nD Cert.HybORefIdeal.τ Cert.HybORefIdeal.sig) → Buf (Elt Ideal) ℓ) (g' : Dev Cert.HybORefIdeal.nD → PrngReg), Pre_HybOIdeal m →
    (∀ c : Dev Cert.HybOIdeal.nD,
      m' ((c.tc : Thread Cert.HybORefIdeal.nD Cert.HybORefIdeal.τ).loc Cert.HybORefIdeal.main_arg0) = m ((c.tc : Thread Cert.HybOIdeal.nD Cert.HybOIdeal.τ).loc Cert.HybOIdeal.main_arg0)
      ∧ m' ((c.tc : Thread Cert.HybORefIdeal.nD Cert.HybORefIdeal.τ).loc Cert.HybORefIdeal.main_arg1) = m ((c.tc : Thread Cert.HybOIdeal.nD Cert.HybOIdeal.τ).loc Cert.HybOIdeal.main_arg1)
      ∧ m' ((c.tc : Thread Cert.HybORefIdeal.nD Cert.HybORefIdeal.τ).loc Cert.HybORefIdeal.main_arg2) = m ((c.tc : Thread Cert.HybOIdeal.nD Cert.HybOIdeal.τ).loc Cert.HybOIdeal.main_arg2)) →
    ∃ (v0 : (c : Dev Cert.HybOIdeal.nD) → Buf (Elt Ideal) ((c.tc : Thread Cert.HybOIdeal.nD Cert.HybOIdeal.τ).loc Cert.HybOIdeal.main_v0)),
      θ_run (Cert.HybOIdeal.defs (F := Ideal)) (onTc (τ := Cert.HybOIdeal.τ) (Cert.HybOIdeal.main (F := Ideal))) ⟨m, fun _ => 0, g⟩ (fun r => ∀ c : Dev Cert.HybOIdeal.nD,
          r.2.mem ((c.tc : Thread Cert.HybOIdeal.nD Cert.HybOIdeal.τ).loc Cert.HybOIdeal.main_v0) = v0 c
          ∧ r.2.mem ((c.tc : Thread Cert.HybOIdeal.nD Cert.HybOIdeal.τ).loc Cert.HybOIdeal.main_arg0) = m ((c.tc : Thread Cert.HybOIdeal.nD Cert.HybOIdeal.τ).loc Cert.HybOIdeal.main_arg0)
          ∧ r.2.mem ((c.tc : Thread Cert.HybOIdeal.nD Cert.HybOIdeal.τ).loc Cert.HybOIdeal.main_arg1) = m ((c.tc : Thread Cert.HybOIdeal.nD Cert.HybOIdeal.τ).loc Cert.HybOIdeal.main_arg1)
          ∧ r.2.mem ((c.tc : Thread Cert.HybOIdeal.nD Cert.HybOIdeal.τ).loc Cert.HybOIdeal.main_arg2) = m ((c.tc : Thread Cert.HybOIdeal.nD Cert.HybOIdeal.τ).loc Cert.HybOIdeal.main_arg2))
      ∧ θ_run (Cert.HybORefIdeal.defs (F := Ideal)) (onTc (τ := Cert.HybORefIdeal.τ) (Cert.HybORefIdeal.main (F := Ideal))) ⟨m', fun _ => 0, g'⟩ (fun r => ∀ c : Dev Cert.HybORefIdeal.nD,
          r.2.mem ((c.tc : Thread Cert.HybORefIdeal.nD Cert.HybORefIdeal.τ).loc Cert.HybORefIdeal.main_v3) = v0 c
          ∧ r.2.mem ((c.tc : Thread Cert.HybORefIdeal.nD Cert.HybORefIdeal.τ).loc Cert.HybORefIdeal.main_arg0) = m' ((c.tc : Thread Cert.HybORefIdeal.nD Cert.HybORefIdeal.τ).loc Cert.HybORefIdeal.main_arg0)
          ∧ r.2.mem ((c.tc : Thread Cert.HybORefIdeal.nD Cert.HybORefIdeal.τ).loc Cert.HybORefIdeal.main_arg1) = m' ((c.tc : Thread Cert.HybORefIdeal.nD Cert.HybORefIdeal.τ).loc Cert.HybORefIdeal.main_arg1)
          ∧ r.2.mem ((c.tc : Thread Cert.HybORefIdeal.nD Cert.HybORefIdeal.τ).loc Cert.HybORefIdeal.main_arg2) = m' ((c.tc : Thread Cert.HybORefIdeal.nD Cert.HybORefIdeal.τ).loc Cert.HybORefIdeal.main_arg2))

def preserves_FfnIn_FfnInIdeal : Prop :=
  True

def algebraic_FfnInIdeal_FfnInRefIdeal [hFfnInIdeal : Cert.FfnInIdeal.Facts] [hFfnInRefIdeal : Cert.FfnInRefIdeal.Facts] : Prop :=
  ∀ (m : (ℓ : Loc Cert.FfnInIdeal.nD Cert.FfnInIdeal.τ Cert.FfnInIdeal.sig) → Buf (Elt Ideal) ℓ) (g : Dev Cert.FfnInIdeal.nD → PrngReg)
    (m' : (ℓ : Loc Cert.FfnInRefIdeal.nD Cert.FfnInRefIdeal.τ Cert.FfnInRefIdeal.sig) → Buf (Elt Ideal) ℓ) (g' : Dev Cert.FfnInRefIdeal.nD → PrngReg), Pre_FfnInIdeal m →
    (∀ c : Dev Cert.FfnInIdeal.nD,
      m' ((c.tc : Thread Cert.FfnInRefIdeal.nD Cert.FfnInRefIdeal.τ).loc Cert.FfnInRefIdeal.main_arg0) = m ((c.tc : Thread Cert.FfnInIdeal.nD Cert.FfnInIdeal.τ).loc Cert.FfnInIdeal.main_arg0)
      ∧ m' ((c.tc : Thread Cert.FfnInRefIdeal.nD Cert.FfnInRefIdeal.τ).loc Cert.FfnInRefIdeal.main_arg1) = m ((c.tc : Thread Cert.FfnInIdeal.nD Cert.FfnInIdeal.τ).loc Cert.FfnInIdeal.main_arg1)
      ∧ m' ((c.tc : Thread Cert.FfnInRefIdeal.nD Cert.FfnInRefIdeal.τ).loc Cert.FfnInRefIdeal.main_arg2) = m ((c.tc : Thread Cert.FfnInIdeal.nD Cert.FfnInIdeal.τ).loc Cert.FfnInIdeal.main_arg2)) →
    ∃ (v0 : (c : Dev Cert.FfnInIdeal.nD) → Buf (Elt Ideal) ((c.tc : Thread Cert.FfnInIdeal.nD Cert.FfnInIdeal.τ).loc Cert.FfnInIdeal.main_v3_0)) (v1 : (c : Dev Cert.FfnInIdeal.nD) → Buf (Elt Ideal) ((c.tc : Thread Cert.FfnInIdeal.nD Cert.FfnInIdeal.τ).loc Cert.FfnInIdeal.main_v3_1)) (v2 : (c : Dev Cert.FfnInIdeal.nD) → Buf (Elt Ideal) ((c.tc : Thread Cert.FfnInIdeal.nD Cert.FfnInIdeal.τ).loc Cert.FfnInIdeal.main_v3_2)),
      θ_run (Cert.FfnInIdeal.defs (F := Ideal)) (onTc (τ := Cert.FfnInIdeal.τ) (Cert.FfnInIdeal.main (F := Ideal))) ⟨m, fun _ => 0, g⟩ (fun r => ∀ c : Dev Cert.FfnInIdeal.nD,
          r.2.mem ((c.tc : Thread Cert.FfnInIdeal.nD Cert.FfnInIdeal.τ).loc Cert.FfnInIdeal.main_v3_0) = v0 c
          ∧ r.2.mem ((c.tc : Thread Cert.FfnInIdeal.nD Cert.FfnInIdeal.τ).loc Cert.FfnInIdeal.main_v3_1) = v1 c
          ∧ r.2.mem ((c.tc : Thread Cert.FfnInIdeal.nD Cert.FfnInIdeal.τ).loc Cert.FfnInIdeal.main_v3_2) = v2 c
          ∧ r.2.mem ((c.tc : Thread Cert.FfnInIdeal.nD Cert.FfnInIdeal.τ).loc Cert.FfnInIdeal.main_arg0) = m ((c.tc : Thread Cert.FfnInIdeal.nD Cert.FfnInIdeal.τ).loc Cert.FfnInIdeal.main_arg0)
          ∧ r.2.mem ((c.tc : Thread Cert.FfnInIdeal.nD Cert.FfnInIdeal.τ).loc Cert.FfnInIdeal.main_arg1) = m ((c.tc : Thread Cert.FfnInIdeal.nD Cert.FfnInIdeal.τ).loc Cert.FfnInIdeal.main_arg1)
          ∧ r.2.mem ((c.tc : Thread Cert.FfnInIdeal.nD Cert.FfnInIdeal.τ).loc Cert.FfnInIdeal.main_arg2) = m ((c.tc : Thread Cert.FfnInIdeal.nD Cert.FfnInIdeal.τ).loc Cert.FfnInIdeal.main_arg2))
      ∧ θ_run (Cert.FfnInRefIdeal.defs (F := Ideal)) (onTc (τ := Cert.FfnInRefIdeal.τ) (Cert.FfnInRefIdeal.main (F := Ideal))) ⟨m', fun _ => 0, g'⟩ (fun r => ∀ c : Dev Cert.FfnInRefIdeal.nD,
          r.2.mem ((c.tc : Thread Cert.FfnInRefIdeal.nD Cert.FfnInRefIdeal.τ).loc Cert.FfnInRefIdeal.main_v20) = v0 c
          ∧ r.2.mem ((c.tc : Thread Cert.FfnInRefIdeal.nD Cert.FfnInRefIdeal.τ).loc Cert.FfnInRefIdeal.main_v21) = v1 c
          ∧ r.2.mem ((c.tc : Thread Cert.FfnInRefIdeal.nD Cert.FfnInRefIdeal.τ).loc Cert.FfnInRefIdeal.main_v24) = v2 c
          ∧ r.2.mem ((c.tc : Thread Cert.FfnInRefIdeal.nD Cert.FfnInRefIdeal.τ).loc Cert.FfnInRefIdeal.main_arg0) = m' ((c.tc : Thread Cert.FfnInRefIdeal.nD Cert.FfnInRefIdeal.τ).loc Cert.FfnInRefIdeal.main_arg0)
          ∧ r.2.mem ((c.tc : Thread Cert.FfnInRefIdeal.nD Cert.FfnInRefIdeal.τ).loc Cert.FfnInRefIdeal.main_arg1) = m' ((c.tc : Thread Cert.FfnInRefIdeal.nD Cert.FfnInRefIdeal.τ).loc Cert.FfnInRefIdeal.main_arg1)
          ∧ r.2.mem ((c.tc : Thread Cert.FfnInRefIdeal.nD Cert.FfnInRefIdeal.τ).loc Cert.FfnInRefIdeal.main_arg2) = m' ((c.tc : Thread Cert.FfnInRefIdeal.nD Cert.FfnInRefIdeal.τ).loc Cert.FfnInRefIdeal.main_arg2))

def Claim : Prop :=
  ∃ (hAttn : Cert.Attn.Facts) (hAttnIdeal : Cert.AttnIdeal.Facts) (hAttnRefIdeal : Cert.AttnRefIdeal.Facts) (hFfnHid : Cert.FfnHid.Facts) (hFfnHidIdeal : Cert.FfnHidIdeal.Facts) (hFfnHidRefIdeal : Cert.FfnHidRefIdeal.Facts) (hNrm : Cert.Nrm.Facts) (hNrmIdeal : Cert.NrmIdeal.Facts) (hNrmRefIdeal : Cert.NrmRefIdeal.Facts) (hDwin : Cert.Dwin.Facts) (hDwinIdeal : Cert.DwinIdeal.Facts) (hDwinRefIdeal : Cert.DwinRefIdeal.Facts) (hDwout : Cert.Dwout.Facts) (hDwoutIdeal : Cert.DwoutIdeal.Facts) (hDwoutRefIdeal : Cert.DwoutRefIdeal.Facts) (hFfnOut : Cert.FfnOut.Facts) (hFfnOutIdeal : Cert.FfnOutIdeal.Facts) (hFfnOutRefIdeal : Cert.FfnOutRefIdeal.Facts) (hAttDo : Cert.AttDo.Facts) (hAttDoIdeal : Cert.AttDoIdeal.Facts) (hAttDoRefIdeal : Cert.AttDoRefIdeal.Facts) (hDwqkv : Cert.Dwqkv.Facts) (hDwqkvIdeal : Cert.DwqkvIdeal.Facts) (hDwqkvRefIdeal : Cert.DwqkvRefIdeal.Facts) (hAttO : Cert.AttO.Facts) (hAttOIdeal : Cert.AttOIdeal.Facts) (hAttORefIdeal : Cert.AttORefIdeal.Facts) (hHybO : Cert.HybO.Facts) (hHybOIdeal : Cert.HybOIdeal.Facts) (hHybORefIdeal : Cert.HybORefIdeal.Facts) (hFfnIn : Cert.FfnIn.Facts) (hFfnInIdeal : Cert.FfnInIdeal.Facts) (hFfnInRefIdeal : Cert.FfnInRefIdeal.Facts) (hPre_finite_att : Cert.Pre_finite_att.Facts) (hPre_finite_hid : Cert.Pre_finite_hid.Facts) (hPre_finite_nrm : Cert.Pre_finite_nrm.Facts),
    quiescent_Attn (hAttn := hAttn)
    ∧ quiescent_AttnIdeal (hAttnIdeal := hAttnIdeal)
    ∧ quiescent_AttnIdeal_pre_finite_att (hAttnIdeal := hAttnIdeal) (hPre_finite_att := hPre_finite_att)
    ∧ quiescent_AttnRefIdeal (hAttnRefIdeal := hAttnRefIdeal)
    ∧ quiescent_AttnRefIdeal_pre_finite_att (hAttnRefIdeal := hAttnRefIdeal) (hPre_finite_att := hPre_finite_att)
    ∧ quiescent_FfnHid (hFfnHid := hFfnHid)
    ∧ quiescent_FfnHidIdeal (hFfnHidIdeal := hFfnHidIdeal)
    ∧ quiescent_FfnHidIdeal_pre_finite_hid (hFfnHidIdeal := hFfnHidIdeal) (hPre_finite_hid := hPre_finite_hid)
    ∧ quiescent_FfnHidRefIdeal (hFfnHidRefIdeal := hFfnHidRefIdeal)
    ∧ quiescent_FfnHidRefIdeal_pre_finite_hid (hFfnHidRefIdeal := hFfnHidRefIdeal) (hPre_finite_hid := hPre_finite_hid)
    ∧ quiescent_Nrm (hNrm := hNrm)
    ∧ quiescent_NrmIdeal (hNrmIdeal := hNrmIdeal)
    ∧ quiescent_NrmIdeal_pre_finite_nrm (hNrmIdeal := hNrmIdeal) (hPre_finite_nrm := hPre_finite_nrm)
    ∧ quiescent_NrmRefIdeal (hNrmRefIdeal := hNrmRefIdeal)
    ∧ quiescent_NrmRefIdeal_pre_finite_nrm (hNrmRefIdeal := hNrmRefIdeal) (hPre_finite_nrm := hPre_finite_nrm)
    ∧ quiescent_Dwin (hDwin := hDwin)
    ∧ quiescent_DwinIdeal (hDwinIdeal := hDwinIdeal)
    ∧ quiescent_DwinRefIdeal (hDwinRefIdeal := hDwinRefIdeal)
    ∧ quiescent_Dwout (hDwout := hDwout)
    ∧ quiescent_DwoutIdeal (hDwoutIdeal := hDwoutIdeal)
    ∧ quiescent_DwoutRefIdeal (hDwoutRefIdeal := hDwoutRefIdeal)
    ∧ quiescent_FfnOut (hFfnOut := hFfnOut)
    ∧ quiescent_FfnOutIdeal (hFfnOutIdeal := hFfnOutIdeal)
    ∧ quiescent_FfnOutRefIdeal (hFfnOutRefIdeal := hFfnOutRefIdeal)
    ∧ quiescent_AttDo (hAttDo := hAttDo)
    ∧ quiescent_AttDoIdeal (hAttDoIdeal := hAttDoIdeal)
    ∧ quiescent_AttDoRefIdeal (hAttDoRefIdeal := hAttDoRefIdeal)
    ∧ quiescent_Dwqkv (hDwqkv := hDwqkv)
    ∧ quiescent_DwqkvIdeal (hDwqkvIdeal := hDwqkvIdeal)
    ∧ quiescent_DwqkvRefIdeal (hDwqkvRefIdeal := hDwqkvRefIdeal)
    ∧ quiescent_AttO (hAttO := hAttO)
    ∧ quiescent_AttOIdeal (hAttOIdeal := hAttOIdeal)
    ∧ quiescent_AttORefIdeal (hAttORefIdeal := hAttORefIdeal)
    ∧ quiescent_HybO (hHybO := hHybO)
    ∧ quiescent_HybOIdeal (hHybOIdeal := hHybOIdeal)
    ∧ quiescent_HybORefIdeal (hHybORefIdeal := hHybORefIdeal)
    ∧ quiescent_FfnIn (hFfnIn := hFfnIn)
    ∧ quiescent_FfnInIdeal (hFfnInIdeal := hFfnInIdeal)
    ∧ quiescent_FfnInRefIdeal (hFfnInRefIdeal := hFfnInRefIdeal)
    ∧ preserves_Attn_AttnIdeal
    ∧ algebraic_AttnIdeal_AttnRefIdeal_pre_finite_att (hAttnIdeal := hAttnIdeal) (hAttnRefIdeal := hAttnRefIdeal) (hPre_finite_att := hPre_finite_att)
    ∧ preserves_FfnHid_FfnHidIdeal
    ∧ algebraic_FfnHidIdeal_FfnHidRefIdeal_pre_finite_hid (hFfnHidIdeal := hFfnHidIdeal) (hFfnHidRefIdeal := hFfnHidRefIdeal) (hPre_finite_hid := hPre_finite_hid)
    ∧ preserves_Nrm_NrmIdeal
    ∧ algebraic_NrmIdeal_NrmRefIdeal_pre_finite_nrm (hNrmIdeal := hNrmIdeal) (hNrmRefIdeal := hNrmRefIdeal) (hPre_finite_nrm := hPre_finite_nrm)
    ∧ preserves_Dwin_DwinIdeal
    ∧ algebraic_DwinIdeal_DwinRefIdeal (hDwinIdeal := hDwinIdeal) (hDwinRefIdeal := hDwinRefIdeal)
    ∧ preserves_Dwout_DwoutIdeal
    ∧ algebraic_DwoutIdeal_DwoutRefIdeal (hDwoutIdeal := hDwoutIdeal) (hDwoutRefIdeal := hDwoutRefIdeal)
    ∧ preserves_FfnOut_FfnOutIdeal
    ∧ algebraic_FfnOutIdeal_FfnOutRefIdeal (hFfnOutIdeal := hFfnOutIdeal) (hFfnOutRefIdeal := hFfnOutRefIdeal)
    ∧ preserves_AttDo_AttDoIdeal
    ∧ algebraic_AttDoIdeal_AttDoRefIdeal (hAttDoIdeal := hAttDoIdeal) (hAttDoRefIdeal := hAttDoRefIdeal)
    ∧ preserves_Dwqkv_DwqkvIdeal
    ∧ algebraic_DwqkvIdeal_DwqkvRefIdeal (hDwqkvIdeal := hDwqkvIdeal) (hDwqkvRefIdeal := hDwqkvRefIdeal)
    ∧ preserves_AttO_AttOIdeal
    ∧ algebraic_AttOIdeal_AttORefIdeal (hAttOIdeal := hAttOIdeal) (hAttORefIdeal := hAttORefIdeal)
    ∧ preserves_HybO_HybOIdeal
    ∧ algebraic_HybOIdeal_HybORefIdeal (hHybOIdeal := hHybOIdeal) (hHybORefIdeal := hHybORefIdeal)
    ∧ preserves_FfnIn_FfnInIdeal
    ∧ algebraic_FfnInIdeal_FfnInRefIdeal (hFfnInIdeal := hFfnInIdeal) (hFfnInRefIdeal := hFfnInRefIdeal)
-- ==== Pre_finite_att.lean ====
abbrev S4096x1024 : Shape := ⟨2, ![4096, 1024]⟩
abbrev S4096x256 : Shape := ⟨2, ![4096, 256]⟩
abbrev S16 : Shape := ⟨1, ![16]⟩
abbrev S_ : Shape := ⟨0, ![]⟩

class Facts : Prop where
  bitsLt_bf16_f32 : FTy.bits .bf16 < FTy.bits .f32
  bcast_S_S4096x1024 : S_.BroadcastsInDim S4096x1024 (![] : Fin 0 → Fin S4096x1024.rank)
  bcast_S_S4096x256 : S_.BroadcastsInDim S4096x256 (![] : Fin 0 → Fin S4096x256.rank)
  bcast_S_S16 : S_.BroadcastsInDim S16 (![] : Fin 0 → Fin S16.rank)

variable [Facts]

def fn {F : FTy → Type} [FloatOps F] (main_arg0 : FVec F S4096x1024 .bf16) (main_arg1 : FVec F S4096x256 .bf16) (main_arg2 : FVec F S4096x256 .bf16) (main_arg3 : FVec F S16 .f32) (main_arg4 : FVec F S4096x1024 .f32) : IVec S4096x1024 1 × IVec S4096x256 1 × IVec S4096x256 1 × IVec S16 1 × IVec S4096x1024 1 :=
  let main_v0 : FVec F S4096x1024 .f32 := (extf .f32 · bitsLt_bf16_f32) main_arg0
  let main_v1 : FVec F S4096x1024 .f32 := Host.absf main_v0
  let main_cst : FVec F S_ .f32 := constant S_ .f32 0x7F800000#32
  let main_v2 : FVec F S4096x1024 .f32 := broadcastInDim S4096x1024 ![] bcast_S_S4096x1024 main_cst
  let main_v3 : IVec S4096x1024 1 := cmpf .olt main_v1 main_v2
  let main_v4 : FVec F S4096x256 .f32 := (extf .f32 · bitsLt_bf16_f32) main_arg1
  let main_v5 : FVec F S4096x256 .f32 := Host.absf main_v4
  let main_cst_0 : FVec F S_ .f32 := constant S_ .f32 0x7F800000#32
  let main_v6 : FVec F S4096x256 .f32 := broadcastInDim S4096x256 ![] bcast_S_S4096x256 main_cst_0
  let main_v7 : IVec S4096x256 1 := cmpf .olt main_v5 main_v6
  let main_v8 : FVec F S4096x256 .f32 := (extf .f32 · bitsLt_bf16_f32) main_arg2
  let main_v9 : FVec F S4096x256 .f32 := Host.absf main_v8
  let main_cst_1 : FVec F S_ .f32 := constant S_ .f32 0x7F800000#32
  let main_v10 : FVec F S4096x256 .f32 := broadcastInDim S4096x256 ![] bcast_S_S4096x256 main_cst_1
  let main_v11 : IVec S4096x256 1 := cmpf .olt main_v9 main_v10
  let main_v12 : FVec F S16 .f32 := Host.absf main_arg3
  let main_cst_2 : FVec F S_ .f32 := constant S_ .f32 0x7F800000#32
  let main_v13 : FVec F S16 .f32 := broadcastInDim S16 ![] bcast_S_S16 main_cst_2
  let main_v14 : IVec S16 1 := cmpf .olt main_v12 main_v13
  let main_v15 : FVec F S4096x1024 .f32 := Host.absf main_arg4
  let main_cst_3 : FVec F S_ .f32 := constant S_ .f32 0x7F800000#32
  let main_v16 : FVec F S4096x1024 .f32 := broadcastInDim S4096x1024 ![] bcast_S_S4096x1024 main_cst_3
  let main_v17 : IVec S4096x1024 1 := cmpf .olt main_v15 main_v16
  (main_v3, main_v7, main_v11, main_v14, main_v17)
-- ==== Pre_finite_hid.lean ====
abbrev S4096x1024 : Shape := ⟨2, ![4096, 1024]⟩
abbrev S2816x1024 : Shape := ⟨2, ![2816, 1024]⟩
abbrev S4096x5632 : Shape := ⟨2, ![4096, 5632]⟩
abbrev S8x128 : Shape := ⟨2, ![8, 128]⟩
abbrev S_ : Shape := ⟨0, ![]⟩

class Facts : Prop where
  bcast_S_S4096x1024 : S_.BroadcastsInDim S4096x1024 (![] : Fin 0 → Fin S4096x1024.rank)
  bitsLt_bf16_f32 : FTy.bits .bf16 < FTy.bits .f32
  bcast_S_S2816x1024 : S_.BroadcastsInDim S2816x1024 (![] : Fin 0 → Fin S2816x1024.rank)
  bcast_S_S4096x5632 : S_.BroadcastsInDim S4096x5632 (![] : Fin 0 → Fin S4096x5632.rank)

variable [Facts]

def fn {F : FTy → Type} [FloatOps F] (main_arg0 : FVec F S4096x1024 .f32) (main_arg1 : FVec F S2816x1024 .bf16) (main_arg2 : FVec F S4096x5632 .bf16) (main_arg3 : FVec F S8x128 .f32) : IVec S4096x1024 1 × IVec S2816x1024 1 × IVec S4096x5632 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_v3 : FVec F S2816x1024 .f32 := (extf .f32 · bitsLt_bf16_f32) main_arg1
  let main_v4 : FVec F S2816x1024 .f32 := Host.absf main_v3
  let main_cst_0 : FVec F S_ .f32 := constant S_ .f32 0x7F800000#32
  let main_v5 : FVec F S2816x1024 .f32 := broadcastInDim S2816x1024 ![] bcast_S_S2816x1024 main_cst_0
  let main_v6 : IVec S2816x1024 1 := cmpf .olt main_v4 main_v5
  let main_v7 : FVec F S4096x5632 .f32 := (extf .f32 · bitsLt_bf16_f32) main_arg2
  let main_v8 : FVec F S4096x5632 .f32 := Host.absf main_v7
  let main_cst_1 : FVec F S_ .f32 := constant S_ .f32 0x7F800000#32
  let main_v9 : FVec F S4096x5632 .f32 := broadcastInDim S4096x5632 ![] bcast_S_S4096x5632 main_cst_1
  let main_v10 : IVec S4096x5632 1 := cmpf .olt main_v8 main_v9
  (main_v2, main_v6, main_v10)
-- ==== Pre_finite_nrm.lean ====
abbrev S4096x5632 : Shape := ⟨2, ![4096, 5632]⟩
abbrev S1024x5632 : Shape := ⟨2, ![1024, 5632]⟩
abbrev S4096x1024 : Shape := ⟨2, ![4096, 1024]⟩
abbrev S1024 : Shape := ⟨1, ![1024]⟩
abbrev S_ : Shape := ⟨0, ![]⟩

class Facts : Prop where
  bitsLt_bf16_f32 : FTy.bits .bf16 < FTy.bits .f32
  bcast_S_S4096x5632 : S_.BroadcastsInDim S4096x5632 (![] : Fin 0 → Fin S4096x5632.rank)
  bcast_S_S1024x5632 : S_.BroadcastsInDim S1024x5632 (![] : Fin 0 → Fin S1024x5632.rank)
  bcast_S_S4096x1024 : S_.BroadcastsInDim S4096x1024 (![] : Fin 0 → Fin S4096x1024.rank)
  bcast_S_S1024 : S_.BroadcastsInDim S1024 (![] : Fin 0 → Fin S1024.rank)

variable [Facts]

def fn {F : FTy → Type} [FloatOps F] (main_arg0 : FVec F S4096x5632 .bf16) (main_arg1 : FVec F S1024x5632 .bf16) (main_arg2 : FVec F S4096x1024 .f32) (main_arg3 : FVec F S1024 .f32) (main_arg4 : FVec F S4096x1024 .f32) : IVec S4096x5632 1 × IVec S1024x5632 1 × IVec S4096x1024 1 × IVec S1024 1 × IVec S4096x1024 1 :=
  let main_v0 : FVec F S4096x5632 .f32 := (extf .f32 · bitsLt_bf16_f32) main_arg0
  let main_v1 : FVec F S4096x5632 .f32 := Host.absf main_v0
  let main_cst : FVec F S_ .f32 := constant S_ .f32 0x7F800000#32
  let main_v2 : FVec F S4096x5632 .f32 := broadcastInDim S4096x5632 ![] bcast_S_S4096x5632 main_cst
  let main_v3 : IVec S4096x5632 1 := cmpf .olt main_v1 main_v2
  let main_v4 : FVec F S1024x5632 .f32 := (extf .f32 · bitsLt_bf16_f32) main_arg1
  let main_v5 : FVec F S1024x5632 .f32 := Host.absf main_v4
  let main_cst_0 : FVec F S_ .f32 := constant S_ .f32 0x7F800000#32
  let main_v6 : FVec F S1024x5632 .f32 := broadcastInDim S1024x5632 ![] bcast_S_S1024x5632 main_cst_0
  let main_v7 : IVec S1024x5632 1 := cmpf .olt main_v5 main_v6
  let main_v8 : FVec F S4096x1024 .f32 := Host.absf main_arg2
  let main_cst_1 : FVec F S_ .f32 := constant S_ .f32 0x7F800000#32
  let main_v9 : FVec F S4096x1024 .f32 := broadcastInDim S4096x1024 ![] bcast_S_S4096x1024 main_cst_1
  let main_v10 : IVec S4096x1024 1 := cmpf .olt main_v8 main_v9
  let main_v11 : FVec F S1024 .f32 := Host.absf main_arg3
  let main_cst_2 : FVec F S_ .f32 := constant S_ .f32 0x7F800000#32
  let main_v12 : FVec F S1024 .f32 := broadcastInDim S1024 ![] bcast_S_S1024 main_cst_2
  let main_v13 : IVec S1024 1 := cmpf .olt main_v11 main_v12
  let main_v14 : FVec F S4096x1024 .f32 := Host.absf main_arg4
  let main_cst_3 : FVec F S_ .f32 := constant S_ .f32 0x7F800000#32
  let main_v15 : FVec F S4096x1024 .f32 := broadcastInDim S4096x1024 ![] bcast_S_S4096x1024 main_cst_3
  let main_v16 : IVec S4096x1024 1 := cmpf .olt main_v14 main_v15
  (main_v3, main_v7, main_v10, main_v13, main_v16)
-- ==== Attn.lean ====
abbrev S4096x1024 : Shape := ⟨2, ![4096, 1024]⟩
abbrev S4096x256 : Shape := ⟨2, ![4096, 256]⟩
abbrev S16 : Shape := ⟨1, ![16]⟩
abbrev S4096x4x64 : Shape := ⟨3, ![4096, 4, 64]⟩
abbrev S_ : Shape := ⟨0, ![]⟩
abbrev S4224x4x64 : Shape := ⟨3, ![4224, 4, 64]⟩
abbrev S33x128x4x64 : Shape := ⟨4, ![33, 128, 4, 64]⟩
abbrev S32x128x4x64 : Shape := ⟨4, ![32, 128, 4, 64]⟩
abbrev S32x256x4x64 : Shape := ⟨4, ![32, 256, 4, 64]⟩
abbrev S32x128x4x4x64 : Shape := ⟨5, ![32, 128, 4, 4, 64]⟩
abbrev S32x4x256x128x4 : Shape := ⟨5, ![32, 4, 256, 128, 4]⟩
abbrev S32x4x4x128x256 : Shape := ⟨5, ![32, 4, 4, 128, 256]⟩
abbrev S32 : Shape := ⟨1, ![32]⟩
abbrev S32x1x1 : Shape := ⟨3, ![32, 1, 1]⟩
abbrev S128 : Shape := ⟨1, ![128]⟩
abbrev S1x128x1 : Shape := ⟨3, ![1, 128, 1]⟩
abbrev S32x128x1 : Shape := ⟨3, ![32, 128, 1]⟩
abbrev S256 : Shape := ⟨1, ![256]⟩
abbrev S1x1x256 : Shape := ⟨3, ![1, 1, 256]⟩
abbrev S32x1x256 : Shape := ⟨3, ![32, 1, 256]⟩
abbrev S32x128x256 : Shape := ⟨3, ![32, 128, 256]⟩
abbrev S32x1x1x128x256 : Shape := ⟨5, ![32, 1, 1, 128, 256]⟩
abbrev S4x4 : Shape := ⟨2, ![4, 4]⟩
abbrev S1x4x4x1x1 : Shape := ⟨5, ![1, 4, 4, 1, 1]⟩
abbrev S32x4x4x128 : Shape := ⟨4, ![32, 4, 4, 128]⟩
abbrev S32x4x4x128x1 : Shape := ⟨5, ![32, 4, 4, 128, 1]⟩
abbrev S32x4x64x4x128 : Shape := ⟨5, ![32, 4, 64, 4, 128]⟩
abbrev S32x16x128 : Shape := ⟨3, ![32, 16, 128]⟩
abbrev S32x128x16 : Shape := ⟨3, ![32, 128, 16]⟩
abbrev S4096x16 : Shape := ⟨2, ![4096, 16]⟩
abbrev S4096x128 : Shape := ⟨2, ![4096, 128]⟩
abbrev S1x16 : Shape := ⟨2, ![1, 16]⟩
abbrev S1x128 : Shape := ⟨2, ![1, 128]⟩
abbrev S128x1024 : Shape := ⟨2, ![128, 1024]⟩
abbrev S128x256 : Shape := ⟨2, ![128, 256]⟩
abbrev S128x128 : Shape := ⟨2, ![128, 128]⟩
abbrev S512x256 : Shape := ⟨2, ![512, 256]⟩
abbrev S256x256 : Shape := ⟨2, ![256, 256]⟩
abbrev S1024x16 : Shape := ⟨2, ![1024, 16]⟩
abbrev S128x16 : Shape := ⟨2, ![128, 16]⟩
abbrev S256x128 : Shape := ⟨2, ![256, 128]⟩
abbrev S512x128 : Shape := ⟨2, ![512, 128]⟩
abbrev S128x1 : Shape := ⟨2, ![128, 1]⟩
abbrev S512x1 : Shape := ⟨2, ![512, 1]⟩
abbrev S1x1 : Shape := ⟨2, ![1, 1]⟩
abbrev S1 : Shape := ⟨1, ![1]⟩

abbrev nBuf : Space → Nat
  | .hbm => 115
  | .vmem => 28
  | .smem => 0
  | _ => 0

abbrev bufTy : (tb : Table) → Fin (tcTables nBuf tb) → BufTy
  | .hbm, ⟨0, _⟩ => ⟨S4096x1024, .bf16⟩
  | .hbm, ⟨1, _⟩ => ⟨S4096x256, .bf16⟩
  | .hbm, ⟨2, _⟩ => ⟨S4096x256, .bf16⟩
  | .hbm, ⟨3, _⟩ => ⟨S16, .f32⟩
  | .hbm, ⟨4, _⟩ => ⟨S4096x1024, .f32⟩
  | .hbm, ⟨5, _⟩ => ⟨S4096x1024, .f32⟩
  | .hbm, ⟨6, _⟩ => ⟨S4096x256, .f32⟩
  | .hbm, ⟨7, _⟩ => ⟨S4096x4x64, .f32⟩
  | .hbm, ⟨8, _⟩ => ⟨S_, .i32⟩
  | .hbm, ⟨9, _⟩ => ⟨S_, .f32⟩
  | .hbm, ⟨10, _⟩ => ⟨S4224x4x64, .f32⟩
  | .hbm, ⟨11, _⟩ => ⟨S33x128x4x64, .f32⟩
  | .hbm, ⟨12, _⟩ => ⟨S32x128x4x64, .f32⟩
  | .hbm, ⟨13, _⟩ => ⟨S32x128x4x64, .f32⟩
  | .hbm, ⟨14, _⟩ => ⟨S32x256x4x64, .f32⟩
  | .hbm, ⟨15, _⟩ => ⟨S4096x256, .f32⟩
  | .hbm, ⟨16, _⟩ => ⟨S4096x4x64, .f32⟩
  | .hbm, ⟨17, _⟩ => ⟨S_, .i32⟩
  | .hbm, ⟨18, _⟩ => ⟨S_, .f32⟩
  | .hbm, ⟨19, _⟩ => ⟨S4224x4x64, .f32⟩
  | .hbm, ⟨20, _⟩ => ⟨S33x128x4x64, .f32⟩
  | .hbm, ⟨21, _⟩ => ⟨S32x128x4x64, .f32⟩
  | .hbm, ⟨22, _⟩ => ⟨S32x128x4x64, .f32⟩
  | .hbm, ⟨23, _⟩ => ⟨S32x256x4x64, .f32⟩
  | .hbm, ⟨24, _⟩ => ⟨S32x128x4x4x64, .f32⟩
  | .hbm, ⟨25, _⟩ => ⟨S32x4x256x128x4, .f32⟩
  | .hbm, ⟨26, _⟩ => ⟨S32x4x4x128x256, .f32⟩
  | .hbm, ⟨27, _⟩ => ⟨S_, .f32⟩
  | .hbm, ⟨28, _⟩ => ⟨S32x4x4x128x256, .f32⟩
  | .hbm, ⟨29, _⟩ => ⟨S32x4x4x128x256, .f32⟩
  | .hbm, ⟨30, _⟩ => ⟨S32, .i32⟩
  | .hbm, ⟨31, _⟩ => ⟨S32x1x1, .i32⟩
  | .hbm, ⟨32, _⟩ => ⟨S_, .i32⟩
  | .hbm, ⟨33, _⟩ => ⟨S32x1x1, .i32⟩
  | .hbm, ⟨34, _⟩ => ⟨S32x1x1, .i32⟩
  | .hbm, ⟨35, _⟩ => ⟨S128, .i32⟩
  | .hbm, ⟨36, _⟩ => ⟨S1x128x1, .i32⟩
  | .hbm, ⟨37, _⟩ => ⟨S32x128x1, .i32⟩
  | .hbm, ⟨38, _⟩ => ⟨S32x128x1, .i32⟩
  | .hbm, ⟨39, _⟩ => ⟨S32x128x1, .i32⟩
  | .hbm, ⟨40, _⟩ => ⟨S32, .i32⟩
  | .hbm, ⟨41, _⟩ => ⟨S32x1x1, .i32⟩
  | .hbm, ⟨42, _⟩ => ⟨S_, .i32⟩
  | .hbm, ⟨43, _⟩ => ⟨S32x1x1, .i32⟩
  | .hbm, ⟨44, _⟩ => ⟨S32x1x1, .i32⟩
  | .hbm, ⟨45, _⟩ => ⟨S_, .i32⟩
  | .hbm, ⟨46, _⟩ => ⟨S32x1x1, .i32⟩
  | .hbm, ⟨47, _⟩ => ⟨S32x1x1, .i32⟩
  | .hbm, ⟨48, _⟩ => ⟨S256, .i32⟩
  | .hbm, ⟨49, _⟩ => ⟨S1x1x256, .i32⟩
  | .hbm, ⟨50, _⟩ => ⟨S32x1x256, .i32⟩
  | .hbm, ⟨51, _⟩ => ⟨S32x1x256, .i32⟩
  | .hbm, ⟨52, _⟩ => ⟨S32x1x256, .i32⟩
  | .hbm, ⟨53, _⟩ => ⟨S32x128x256, .i32⟩
  | .hbm, ⟨54, _⟩ => ⟨S32x128x256, .i32⟩
  | .hbm, ⟨55, _⟩ => ⟨S32x128x256, .i32⟩
  | .hbm, ⟨56, _⟩ => ⟨S_, .i32⟩
  | .hbm, ⟨57, _⟩ => ⟨S32x1x256, .i32⟩
  | .hbm, ⟨58, _⟩ => ⟨S32x1x256, .i1⟩
  | .hbm, ⟨59, _⟩ => ⟨S_, .i32⟩
  | .hbm, ⟨60, _⟩ => ⟨S32x128x256, .i32⟩
  | .hbm, ⟨61, _⟩ => ⟨S32x128x256, .i1⟩
  | .hbm, ⟨62, _⟩ => ⟨S32x128x256, .i1⟩
  | .hbm, ⟨63, _⟩ => ⟨S32x128x256, .i1⟩
  | .hbm, ⟨64, _⟩ => ⟨S_, .i32⟩
  | .hbm, ⟨65, _⟩ => ⟨S32x128x256, .i32⟩
  | .hbm, ⟨66, _⟩ => ⟨S32x128x256, .i1⟩
  | .hbm, ⟨67, _⟩ => ⟨S32x128x256, .i1⟩
  | .hbm, ⟨68, _⟩ => ⟨S32x1x1x128x256, .i1⟩
  | .hbm, ⟨69, _⟩ => ⟨S_, .f32⟩
  | .hbm, ⟨70, _⟩ => ⟨S_, .f32⟩
  | .hbm, ⟨71, _⟩ => ⟨S32x4x4x128x256, .i1⟩
  | .hbm, ⟨72, _⟩ => ⟨S32x4x4x128x256, .f32⟩
  | .hbm, ⟨73, _⟩ => ⟨S32x4x4x128x256, .f32⟩
  | .hbm, ⟨74, _⟩ => ⟨S4x4, .f32⟩
  | .hbm, ⟨75, _⟩ => ⟨S1x4x4x1x1, .f32⟩
  | .hbm, ⟨76, _⟩ => ⟨S_, .f32⟩
  | .hbm, ⟨77, _⟩ => ⟨S32x4x4x128, .f32⟩
  | .hbm, ⟨78, _⟩ => ⟨S32x4x4x128x1, .f32⟩
  | .hbm, ⟨79, _⟩ => ⟨S32x4x4x128x1, .f32⟩
  | .hbm, ⟨80, _⟩ => ⟨S32x4x4x128x1, .f32⟩
  | .hbm, ⟨81, _⟩ => ⟨S32x4x4x128x256, .f32⟩
  | .hbm, ⟨82, _⟩ => ⟨S32x4x4x128x256, .f32⟩
  | .hbm, ⟨83, _⟩ => ⟨S32x4x4x128x256, .f32⟩
  | .hbm, ⟨84, _⟩ => ⟨S_, .f32⟩
  | .hbm, ⟨85, _⟩ => ⟨S32x4x4x128, .f32⟩
  | .hbm, ⟨86, _⟩ => ⟨S32x4x4x128x1, .f32⟩
  | .hbm, ⟨87, _⟩ => ⟨S32x4x4x128x1, .f32⟩
  | .hbm, ⟨88, _⟩ => ⟨S32x4x4x128x1, .f32⟩
  | .hbm, ⟨89, _⟩ => ⟨S32x4x4x128x1, .f32⟩
  | .hbm, ⟨90, _⟩ => ⟨S32x4x4x128x1, .f32⟩
  | .hbm, ⟨91, _⟩ => ⟨S32x4x4x128x256, .f32⟩
  | .hbm, ⟨92, _⟩ => ⟨S32x4x4x128x256, .f32⟩
  | .hbm, ⟨93, _⟩ => ⟨S32x4x64x4x128, .f32⟩
  | .hbm, ⟨94, _⟩ => ⟨S32x128x4x4x64, .f32⟩
  | .hbm, ⟨95, _⟩ => ⟨S4096x1024, .f32⟩
  | .hbm, ⟨96, _⟩ => ⟨S32x4x4x128x1, .f32⟩
  | .hbm, ⟨97, _⟩ => ⟨S32x4x4x128x1, .f32⟩
  | .hbm, ⟨98, _⟩ => ⟨S32x16x128, .f32⟩
  | .hbm, ⟨99, _⟩ => ⟨S32x128x16, .f32⟩
  | .hbm, ⟨100, _⟩ => ⟨S4096x16, .f32⟩
  | .hbm, ⟨101, _⟩ => ⟨S4096x1024, .bf16⟩
  | .hbm, ⟨102, _⟩ => ⟨S_, .i32⟩
  | .hbm, ⟨103, _⟩ => ⟨S_, .f32⟩
  | .hbm, ⟨104, _⟩ => ⟨S4096x128, .f32⟩
  | .hbm, ⟨105, _⟩ => ⟨S1x16, .f32⟩
  | .hbm, ⟨106, _⟩ => ⟨S_, .i32⟩
  | .hbm, ⟨107, _⟩ => ⟨S_, .f32⟩
  | .hbm, ⟨108, _⟩ => ⟨S1x128, .f32⟩
  | .hbm, ⟨109, _⟩ => ⟨S4096x1024, .f32⟩
  | .hbm, ⟨110, _⟩ => ⟨S4096x256, .f32⟩
  | .hbm, ⟨111, _⟩ => ⟨S4096x256, .f32⟩
  | .hbm, ⟨112, _⟩ => ⟨S4096x256, .f32⟩
  | .hbm, ⟨113, _⟩ => ⟨S4096x256, .f32⟩
  | .hbm, ⟨114, _⟩ => ⟨S1x128, .f32⟩
  | .local _ .vmem, ⟨0, _⟩ => ⟨S128x1024, .bf16⟩
  | .local _ .vmem, ⟨1, _⟩ => ⟨S128x1024, .bf16⟩
  | .local _ .vmem, ⟨2, _⟩ => ⟨S128x256, .bf16⟩
  | .local _ .vmem, ⟨3, _⟩ => ⟨S128x256, .bf16⟩
  | .local _ .vmem, ⟨4, _⟩ => ⟨S128x256, .bf16⟩
  | .local _ .vmem, ⟨5, _⟩ => ⟨S128x256, .bf16⟩
  | .local _ .vmem, ⟨6, _⟩ => ⟨S128x256, .bf16⟩
  | .local _ .vmem, ⟨7, _⟩ => ⟨S128x256, .bf16⟩
  | .local _ .vmem, ⟨8, _⟩ => ⟨S128x256, .bf16⟩
  | .local _ .vmem, ⟨9, _⟩ => ⟨S128x256, .bf16⟩
  | .local _ .vmem, ⟨10, _⟩ => ⟨S128x1024, .bf16⟩
  | .local _ .vmem, ⟨11, _⟩ => ⟨S128x1024, .bf16⟩
  | .local _ .vmem, ⟨12, _⟩ => ⟨S128x1024, .f32⟩
  | .local _ .vmem, ⟨13, _⟩ => ⟨S128x1024, .f32⟩
  | .local _ .vmem, ⟨14, _⟩ => ⟨S128x128, .f32⟩
  | .local _ .vmem, ⟨15, _⟩ => ⟨S128x128, .f32⟩
  | .local _ .vmem, ⟨16, _⟩ => ⟨S1x128, .f32⟩
  | .local _ .vmem, ⟨17, _⟩ => ⟨S128x1024, .f32⟩
  | .local _ .vmem, ⟨18, _⟩ => ⟨S128x1024, .f32⟩
  | .local _ .vmem, ⟨19, _⟩ => ⟨S128x256, .f32⟩
  | .local _ .vmem, ⟨20, _⟩ => ⟨S128x256, .f32⟩
  | .local _ .vmem, ⟨21, _⟩ => ⟨S128x256, .f32⟩
  | .local _ .vmem, ⟨22, _⟩ => ⟨S128x256, .f32⟩
  | .local _ .vmem, ⟨23, _⟩ => ⟨S128x256, .f32⟩
  | .local _ .vmem, ⟨24, _⟩ => ⟨S128x256, .f32⟩
  | .local _ .vmem, ⟨25, _⟩ => ⟨S128x256, .f32⟩
  | .local _ .vmem, ⟨26, _⟩ => ⟨S128x256, .f32⟩
  | .local _ .vmem, ⟨27, _⟩ => ⟨S1x128, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_c : Ref sig .tc := ⟨.hbm, 8, rfl⟩
abbrev main_call0_v0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_c_0 : Ref sig .tc := ⟨.hbm, 17, rfl⟩
abbrev main_call1_v0 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_c_1 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_c_2 : Ref sig .tc := ⟨.hbm, 42, rfl⟩
abbrev main_v31 : Ref sig .tc := ⟨.hbm, 43, rfl⟩
abbrev main_v32 : Ref sig .tc := ⟨.hbm, 44, rfl⟩
abbrev main_c_3 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_c_4 : Ref sig .tc := ⟨.hbm, 56, rfl⟩
abbrev main_v43 : Ref sig .tc := ⟨.hbm, 57, rfl⟩
abbrev main_v44 : Ref sig .tc := ⟨.hbm, 58, rfl⟩
abbrev main_c_5 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_c_6 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_cst_7 : Ref sig .tc := ⟨.hbm, 69, rfl⟩
abbrev main_call2_v0 : Ref sig .tc := ⟨.hbm, 70, rfl⟩
abbrev main_call2_v1 : Ref sig .tc := ⟨.hbm, 71, rfl⟩
abbrev main_call2_v2 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_cst_8 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_cst_9 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩
abbrev main_v72 : Ref sig .tc := ⟨.hbm, 94, rfl⟩
abbrev main_v73 : Ref sig .tc := ⟨.hbm, 95, rfl⟩
abbrev main_v74 : Ref sig .tc := ⟨.hbm, 96, rfl⟩
abbrev main_v75 : Ref sig .tc := ⟨.hbm, 97, rfl⟩
abbrev main_v76 : Ref sig .tc := ⟨.hbm, 98, rfl⟩
abbrev main_v77 : Ref sig .tc := ⟨.hbm, 99, rfl⟩
abbrev main_v78 : Ref sig .tc := ⟨.hbm, 100, rfl⟩
abbrev main_v79 : Ref sig .tc := ⟨.hbm, 101, rfl⟩
abbrev main_c_10 : Ref sig .tc := ⟨.hbm, 102, rfl⟩
abbrev main_call3_v0 : Ref sig .tc := ⟨.hbm, 103, rfl⟩
abbrev main_v80 : Ref sig .tc := ⟨.hbm, 104, rfl⟩
abbrev main_v81 : Ref sig .tc := ⟨.hbm, 105, rfl⟩
abbrev main_c_11 : Ref sig .tc := ⟨.hbm, 106, rfl⟩
abbrev main_call4_v0 : Ref sig .tc := ⟨.hbm, 107, rfl⟩
abbrev main_v82 : Ref sig .tc := ⟨.hbm, 108, rfl⟩
abbrev main_v83_0 : Ref sig .tc := ⟨.hbm, 109, rfl⟩
abbrev main_v83_1 : Ref sig .tc := ⟨.hbm, 110, rfl⟩
abbrev main_v83_2 : Ref sig .tc := ⟨.hbm, 111, rfl⟩
abbrev main_v83_3 : Ref sig .tc := ⟨.hbm, 112, rfl⟩
abbrev main_v83_4 : Ref sig .tc := ⟨.hbm, 113, rfl⟩
abbrev main_v83_5 : Ref sig .tc := ⟨.hbm, 114, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_stg10_1 : Ref sig .tc := ⟨.vmem, 20, rfl⟩
abbrev cc0_stg11_0 : Ref sig .tc := ⟨.vmem, 21, rfl⟩
abbrev cc0_stg11_1 : Ref sig .tc := ⟨.vmem, 22, rfl⟩
abbrev cc0_stg12_0 : Ref sig .tc := ⟨.vmem, 23, rfl⟩
abbrev cc0_stg12_1 : Ref sig .tc := ⟨.vmem, 24, rfl⟩
abbrev cc0_stg13_0 : Ref sig .tc := ⟨.vmem, 25, rfl⟩
abbrev cc0_stg13_1 : Ref sig .tc := ⟨.vmem, 26, rfl⟩
abbrev cc0_stg14_0 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem9_0 : DmaSem sig := 17
abbrev cc0_sem9_1 : DmaSem sig := 18
abbrev cc0_sem10_0 : DmaSem sig := 19
abbrev cc0_sem10_1 : DmaSem sig := 20
abbrev cc0_sem11_0 : DmaSem sig := 21
abbrev cc0_sem11_1 : DmaSem sig := 22
abbrev cc0_sem12_0 : DmaSem sig := 23
abbrev cc0_sem12_1 : DmaSem sig := 24
abbrev cc0_sem13_0 : DmaSem sig := 25
abbrev cc0_sem13_1 : DmaSem sig := 26
abbrev cc0_sem14_0 : DmaSem sig := 27

abbrev nD : Nat := 1
abbrev τ : Topo := Topo.v7x

variable {F : FTy → Type} [FloatOps F]

abbrev grid0 : Pipeline.Grid := ⟨1, ![32], ![false]⟩

def k0_cond1 (i : grid0.Coords) : BitVec 1 :=
  let arg0 : BitVec 32 := BitVec.ofNat 32 (i 0).val
  let c0_i32_355 : BitVec 32 := 0#32
  let v863 : BitVec 1 := Scalar.cmpi .eq arg0 c0_i32_355
  let v864 : BitVec 32 := Scalar.extui v863
  let c0_i32_356 : BitVec 32 := 0#32
  let v865 : BitVec 1 := Scalar.cmpi .ne v864 c0_i32_356
  v865

def k0_cond2 (i : grid0.Coords) : BitVec 1 :=
  let arg0 : BitVec 32 := BitVec.ofNat 32 (i 0).val
  let c0_i32_357 : BitVec 32 := 0#32
  let v866 : BitVec 1 := Scalar.cmpi .sgt arg0 c0_i32_357
  let v867 : BitVec 32 := Scalar.extui v866
  let c0_i32_358 : BitVec 32 := 0#32
  let v868 : BitVec 1 := Scalar.cmpi .ne v867 c0_i32_358
  v868

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S128x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S128x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S128x256 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S128x256 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S128x256 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S128x256 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 1 → Memref sig .tc .vmem S1x128 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]
-- ==== AttnIdeal.lean ====
variable {F : FTy → Type} [FloatOps F] [Named F]
def κ : String → Option EReal := fun
  | "mask" => some ⊥
  | _ => none
-- ==== AttnRefIdeal.lean ====
abbrev S4096x1024 : Shape := ⟨2, ![4096, 1024]⟩
abbrev S4096x256 : Shape := ⟨2, ![4096, 256]⟩
abbrev S16 : Shape := ⟨1, ![16]⟩
abbrev S4096x4x64 : Shape := ⟨3, ![4096, 4, 64]⟩
abbrev S_ : Shape := ⟨0, ![]⟩
abbrev S4224x4x64 : Shape := ⟨3, ![4224, 4, 64]⟩
abbrev S33x128x4x64 : Shape := ⟨4, ![33, 128, 4, 64]⟩
abbrev S32x128x4x64 : Shape := ⟨4, ![32, 128, 4, 64]⟩
abbrev S32x256x4x64 : Shape := ⟨4, ![32, 256, 4, 64]⟩
abbrev S32x128x4x4x64 : Shape := ⟨5, ![32, 128, 4, 4, 64]⟩
abbrev S32x4x256x128x4 : Shape := ⟨5, ![32, 4, 256, 128, 4]⟩
abbrev S32x4x4x128x256 : Shape := ⟨5, ![32, 4, 4, 128, 256]⟩
abbrev S32 : Shape := ⟨1, ![32]⟩
abbrev S32x1x1 : Shape := ⟨3, ![32, 1, 1]⟩
abbrev S128 : Shape := ⟨1, ![128]⟩
abbrev S1x128x1 : Shape := ⟨3, ![1, 128, 1]⟩
abbrev S32x128x1 : Shape := ⟨3, ![32, 128, 1]⟩
abbrev S256 : Shape := ⟨1, ![256]⟩
abbrev S1x1x256 : Shape := ⟨3, ![1, 1, 256]⟩
abbrev S32x1x256 : Shape := ⟨3, ![32, 1, 256]⟩
abbrev S32x128x256 : Shape := ⟨3, ![32, 128, 256]⟩
abbrev S32x1x1x128x256 : Shape := ⟨5, ![32, 1, 1, 128, 256]⟩
abbrev S4x4 : Shape := ⟨2, ![4, 4]⟩
abbrev S1x4x4x1x1 : Shape := ⟨5, ![1, 4, 4, 1, 1]⟩
abbrev S32x4x4x128 : Shape := ⟨4, ![32, 4, 4, 128]⟩
abbrev S32x4x4x128x1 : Shape := ⟨5, ![32, 4, 4, 128, 1]⟩
abbrev S32x4x64x4x128 : Shape := ⟨5, ![32, 4, 64, 4, 128]⟩
abbrev S32x4x64x256 : Shape := ⟨4, ![32, 4, 64, 256]⟩
abbrev S4x4x1 : Shape := ⟨3, ![4, 4, 1]⟩
abbrev S32x4x128x4x64 : Shape := ⟨5, ![32, 4, 128, 4, 64]⟩
abbrev S32x4x256x64 : Shape := ⟨4, ![32, 4, 256, 64]⟩
abbrev S1x16 : Shape := ⟨2, ![1, 16]⟩
abbrev S1x128 : Shape := ⟨2, ![1, 128]⟩

abbrev nBuf : Space → Nat
  | .hbm => 200
  | .vmem => 0
  | .smem => 0
  | _ => 0

abbrev hbmTy0_0 (i : Nat) : BufTy := match i % 128 with
  | 0 => ⟨S4096x1024, .bf16⟩
  | 1 => ⟨S4096x256, .bf16⟩
  | 2 => ⟨S4096x256, .bf16⟩
  | 3 => ⟨S16, .f32⟩
  | 4 => ⟨S4096x1024, .f32⟩
  | 5 => ⟨S4096x1024, .f32⟩
  | 6 => ⟨S4096x256, .f32⟩
  | 7 => ⟨S4096x4x64, .f32⟩
  | 8 => ⟨S_, .i32⟩
  | 9 => ⟨S_, .f32⟩
  | 10 => ⟨S4224x4x64, .f32⟩
  | 11 => ⟨S33x128x4x64, .f32⟩
  | 12 => ⟨S32x128x4x64, .f32⟩
  | 13 => ⟨S32x128x4x64, .f32⟩
  | 14 => ⟨S32x256x4x64, .f32⟩
  | 15 => ⟨S4096x256, .f32⟩
  | 16 => ⟨S4096x4x64, .f32⟩
  | 17 => ⟨S_, .i32⟩
  | 18 => ⟨S_, .f32⟩
  | 19 => ⟨S4224x4x64, .f32⟩
  | 20 => ⟨S33x128x4x64, .f32⟩
  | 21 => ⟨S32x128x4x64, .f32⟩
  | 22 => ⟨S32x128x4x64, .f32⟩
  | 23 => ⟨S32x256x4x64, .f32⟩
  | 24 => ⟨S32x128x4x4x64, .f32⟩
  | 25 => ⟨S32x4x256x128x4, .f32⟩
  | 26 => ⟨S32x4x4x128x256, .f32⟩
  | 27 => ⟨S_, .f32⟩
  | 28 => ⟨S32x4x4x128x256, .f32⟩
  | 29 => ⟨S32x4x4x128x256, .f32⟩
  | 30 => ⟨S32, .i32⟩
  | 31 => ⟨S32x1x1, .i32⟩
  | 32 => ⟨S_, .i32⟩
  | 33 => ⟨S32x1x1, .i32⟩
  | 34 => ⟨S32x1x1, .i32⟩
  | 35 => ⟨S128, .i32⟩
  | 36 => ⟨S1x128x1, .i32⟩
  | 37 => ⟨S32x128x1, .i32⟩
  | 38 => ⟨S32x128x1, .i32⟩
  | 39 => ⟨S32x128x1, .i32⟩
  | 40 => ⟨S32, .i32⟩
  | 41 => ⟨S32x1x1, .i32⟩
  | 42 => ⟨S_, .i32⟩
  | 43 => ⟨S32x1x1, .i32⟩
  | 44 => ⟨S32x1x1, .i32⟩
  | 45 => ⟨S_, .i32⟩
  | 46 => ⟨S32x1x1, .i32⟩
  | 47 => ⟨S32x1x1, .i32⟩
  | 48 => ⟨S256, .i32⟩
  | 49 => ⟨S1x1x256, .i32⟩
  | 50 => ⟨S32x1x256, .i32⟩
  | 51 => ⟨S32x1x256, .i32⟩
  | 52 => ⟨S32x1x256, .i32⟩
  | 53 => ⟨S32x128x256, .i32⟩
  | 54 => ⟨S32x128x256, .i32⟩
  | 55 => ⟨S32x128x256, .i32⟩
  | 56 => ⟨S_, .i32⟩
  | 57 => ⟨S32x1x256, .i32⟩
  | 58 => ⟨S32x1x256, .i1⟩
  | 59 => ⟨S_, .i32⟩
  | 60 => ⟨S32x128x256, .i32⟩
  | 61 => ⟨S32x128x256, .i1⟩
  | 62 => ⟨S32x128x256, .i1⟩
  | 63 => ⟨S32x128x256, .i1⟩
  | 64 => ⟨S_, .i32⟩
  | 65 => ⟨S32x128x256, .i32⟩
  | 66 => ⟨S32x128x256, .i1⟩
  | 67 => ⟨S32x128x256, .i1⟩
  | 68 => ⟨S32x1x1x128x256, .i1⟩
  | 69 => ⟨S_, .f32⟩
  | 70 => ⟨S_, .f32⟩
  | 71 => ⟨S32x4x4x128x256, .i1⟩
  | 72 => ⟨S32x4x4x128x256, .f32⟩
  | 73 => ⟨S32x4x4x128x256, .f32⟩
  | 74 => ⟨S_, .f32⟩
  | 75 => ⟨S32x4x4x128x256, .f32⟩
  | 76 => ⟨S4x4, .f32⟩
  | 77 => ⟨S1x4x4x1x1, .f32⟩
  | 78 => ⟨S_, .f32⟩
  | 79 => ⟨S32x4x4x128, .f32⟩
  | 80 => ⟨S32x4x4x128x1, .f32⟩
  | 81 => ⟨S32x4x4x128x256, .f32⟩
  | 82 => ⟨S32x4x4x128x256, .i1⟩
  | 83 => ⟨S32x4x4x128x256, .f32⟩
  | 84 => ⟨S_, .f32⟩
  | 85 => ⟨S32x4x4x128, .f32⟩
  | 86 => ⟨S32x4x4x128x1, .f32⟩
  | 87 => ⟨S32x4x4x128x1, .f32⟩
  | 88 => ⟨S32x4x4x128x1, .f32⟩
  | 89 => ⟨S32x4x4x128x1, .f32⟩
  | 90 => ⟨S32x4x4x128x1, .i1⟩
  | 91 => ⟨S32x4x4x128x1, .f32⟩
  | 92 => ⟨S32x4x4x128x1, .i1⟩
  | 93 => ⟨S_, .f32⟩
  | 94 => ⟨S32x4x4x128x1, .f32⟩
  | 95 => ⟨S_, .f32⟩
  | 96 => ⟨S32x4x4x128x1, .f32⟩
  | 97 => ⟨S_, .f32⟩
  | 98 => ⟨S32x4x4x128x1, .f32⟩
  | 99 => ⟨S32x4x4x128x1, .f32⟩
  | 100 => ⟨S32x4x4x128x1, .f32⟩
  | 101 => ⟨S32x4x4x128x1, .f32⟩
  | 102 => ⟨S32x4x4x128x1, .i1⟩
  | 103 => ⟨S32x4x4x128x1, .f32⟩
  | 104 => ⟨S32x4x4x128x1, .i1⟩
  | 105 => ⟨S_, .f32⟩
  | 106 => ⟨S32x4x4x128x1, .f32⟩
  | 107 => ⟨S_, .f32⟩
  | 108 => ⟨S32x4x4x128x1, .f32⟩
  | 109 => ⟨S_, .f32⟩
  | 110 => ⟨S32x4x4x128x1, .f32⟩
  | 111 => ⟨S32x4x4x128x1, .f32⟩
  | 112 => ⟨S32x4x4x128x1, .f32⟩
  | 113 => ⟨S32x4x4x128x256, .f32⟩
  | 114 => ⟨S32x4x4x128x256, .f32⟩
  | 115 => ⟨S32x4x4x128x256, .f32⟩
  | 116 => ⟨S_, .f32⟩
  | 117 => ⟨S32x4x4x128, .f32⟩
  | 118 => ⟨S32x4x4x128x1, .f32⟩
  | 119 => ⟨S32x4x4x128x1, .f32⟩
  | 120 => ⟨S32x4x4x128x1, .f32⟩
  | 121 => ⟨S32x4x4x128x1, .f32⟩
  | 122 => ⟨S32x4x4x128x1, .f32⟩
  | 123 => ⟨S32x4x4x128x256, .f32⟩
  | 124 => ⟨S32x4x4x128x256, .f32⟩
  | 125 => ⟨S32x4x4x128x1, .f32⟩
  | 126 => ⟨S_, .f32⟩
  | 127 => ⟨S32x4x4x128x1, .f32⟩
  | _ => ⟨S4096x1024, .bf16⟩

abbrev hbmTy0_1 (i : Nat) : BufTy := match i % 128 with
  | 0 => ⟨S32x4x4x128x1, .f32⟩
  | 1 => ⟨S32x4x64x4x128, .f32⟩
  | 2 => ⟨S32x128x4x4x64, .f32⟩
  | 3 => ⟨S4096x1024, .f32⟩
  | 4 => ⟨S32x128x4x4x64, .f32⟩
  | 5 => ⟨S32x4x64x4x128, .f32⟩
  | 6 => ⟨S32x4x4x128x256, .f32⟩
  | 7 => ⟨S32x4x64x256, .f32⟩
  | 8 => ⟨S32x256x4x64, .f32⟩
  | 9 => ⟨S32x4x4x128x256, .f32⟩
  | 10 => ⟨S32x4x4x128x256, .f32⟩
  | 11 => ⟨S32x4x4x128x256, .f32⟩
  | 12 => ⟨S_, .f32⟩
  | 13 => ⟨S32x4x4x128, .f32⟩
  | 14 => ⟨S32x4x4x128x1, .f32⟩
  | 15 => ⟨S32x4x4x128x1, .f32⟩
  | 16 => ⟨S32x4x4x128x256, .f32⟩
  | 17 => ⟨S32x4x4x128x256, .f32⟩
  | 18 => ⟨S32x4x4x128x1, .f32⟩
  | 19 => ⟨S_, .f32⟩
  | 20 => ⟨S4x4x1, .f32⟩
  | 21 => ⟨S1x4x4x1x1, .f32⟩
  | 22 => ⟨S32x4x4x128x1, .f32⟩
  | 23 => ⟨S_, .f32⟩
  | 24 => ⟨S32x4x4x128, .f32⟩
  | 25 => ⟨S32x4x4x128x256, .f32⟩
  | 26 => ⟨S32x4x4x128x256, .f32⟩
  | 27 => ⟨S32x4x4x128x256, .f32⟩
  | 28 => ⟨S32x4x4x128x256, .f32⟩
  | 29 => ⟨S_, .f32⟩
  | 30 => ⟨S32x4x4x128, .f32⟩
  | 31 => ⟨S32x4x4x128x1, .f32⟩
  | 32 => ⟨S32x4x4x128x1, .f32⟩
  | 33 => ⟨S32x4x4x128x1, .f32⟩
  | 34 => ⟨S_, .f32⟩
  | 35 => ⟨S4x4x1, .f32⟩
  | 36 => ⟨S1x4x4x1x1, .f32⟩
  | 37 => ⟨S1x4x4x1x1, .f32⟩
  | 38 => ⟨S32x4x4x128x1, .f32⟩
  | 39 => ⟨S_, .f32⟩
  | 40 => ⟨S32x4x4x128, .f32⟩
  | 41 => ⟨S32x4x4x128, .f32⟩
  | 42 => ⟨S32x4x4x128x256, .f32⟩
  | 43 => ⟨S32x4x4x128x256, .f32⟩
  | 44 => ⟨S32x4x4x128x256, .f32⟩
  | 45 => ⟨S_, .f32⟩
  | 46 => ⟨S4x4, .f32⟩
  | 47 => ⟨S16, .f32⟩
  | 48 => ⟨S_, .f32⟩
  | 49 => ⟨S32x4x4x128x256, .f32⟩
  | 50 => ⟨S32x4x4x128x256, .f32⟩
  | 51 => ⟨S_, .f32⟩
  | 52 => ⟨S32x4x4x128x256, .f32⟩
  | 53 => ⟨S32x4x4x128x256, .f32⟩
  | 54 => ⟨S32x4x256x128x4, .f32⟩
  | 55 => ⟨S32x4x128x4x64, .f32⟩
  | 56 => ⟨S32x128x4x4x64, .f32⟩
  | 57 => ⟨S32x4x256x64, .f32⟩
  | 58 => ⟨S32x256x4x64, .f32⟩
  | 59 => ⟨S4096x1024, .f32⟩
  | 60 => ⟨S32x128x4x64, .f32⟩
  | 61 => ⟨S4096x256, .f32⟩
  | 62 => ⟨S32x128x4x64, .f32⟩
  | 63 => ⟨S4096x256, .f32⟩
  | 64 => ⟨S32x128x4x64, .f32⟩
  | 65 => ⟨S4096x256, .f32⟩
  | 66 => ⟨S32x128x4x64, .f32⟩
  | 67 => ⟨S4096x256, .f32⟩
  | 68 => ⟨S1x16, .f32⟩
  | 69 => ⟨S_, .i32⟩
  | 70 => ⟨S_, .f32⟩
  | 71 => ⟨S1x128, .f32⟩
  | _ => ⟨S4096x1024, .bf16⟩

abbrev hbmTy (i : Nat) : BufTy := match i / 128 with
  | 0 => hbmTy0_0 i
  | 1 => hbmTy0_1 i
  | _ => ⟨S4096x1024, .bf16⟩

abbrev bufTy : (tb : Table) → Fin (tcTables nBuf tb) → BufTy
  | .hbm, ⟨i, _⟩ => hbmTy i
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_c : Ref sig .tc := ⟨.hbm, 8, rfl⟩
abbrev main_call0_v0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_c_0 : Ref sig .tc := ⟨.hbm, 17, rfl⟩
abbrev main_call1_v0 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_c_1 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_c_2 : Ref sig .tc := ⟨.hbm, 42, rfl⟩
abbrev main_v31 : Ref sig .tc := ⟨.hbm, 43, rfl⟩
abbrev main_v32 : Ref sig .tc := ⟨.hbm, 44, rfl⟩
abbrev main_c_3 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_c_4 : Ref sig .tc := ⟨.hbm, 56, rfl⟩
abbrev main_v43 : Ref sig .tc := ⟨.hbm, 57, rfl⟩
abbrev main_v44 : Ref sig .tc := ⟨.hbm, 58, rfl⟩
abbrev main_c_5 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_c_6 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_cst_7 : Ref sig .tc := ⟨.hbm, 69, rfl⟩
abbrev main_call2_v0 : Ref sig .tc := ⟨.hbm, 70, rfl⟩
abbrev main_v53_1 : Ref sig .tc := ⟨.hbm, 71, rfl⟩
abbrev main_call2_v2 : Ref sig .tc := ⟨.hbm, 72, rfl⟩
abbrev main_v53_0 : Ref sig .tc := ⟨.hbm, 73, rfl⟩
abbrev main_call2_cst : Ref sig .tc := ⟨.hbm, 74, rfl⟩
abbrev main_v53_2 : Ref sig .tc := ⟨.hbm, 75, rfl⟩
abbrev main_v54 : Ref sig .tc := ⟨.hbm, 76, rfl⟩
abbrev main_v55 : Ref sig .tc := ⟨.hbm, 77, rfl⟩
abbrev main_cst_8 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_cst_9 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_cst_10 : Ref sig .tc := ⟨.hbm, 93, rfl⟩
abbrev main_v69 : Ref sig .tc := ⟨.hbm, 94, rfl⟩
abbrev main_cst_11 : Ref sig .tc := ⟨.hbm, 95, rfl⟩
abbrev main_v70 : Ref sig .tc := ⟨.hbm, 96, rfl⟩
abbrev main_cst_12 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩
abbrev main_cst_13 : Ref sig .tc := ⟨.hbm, 105, rfl⟩
abbrev main_v78 : Ref sig .tc := ⟨.hbm, 106, rfl⟩
abbrev main_cst_14 : Ref sig .tc := ⟨.hbm, 107, rfl⟩
abbrev main_v79 : Ref sig .tc := ⟨.hbm, 108, rfl⟩
abbrev main_cst_15 : Ref sig .tc := ⟨.hbm, 109, rfl⟩
abbrev main_v80 : Ref sig .tc := ⟨.hbm, 110, rfl⟩
abbrev main_v81 : Ref sig .tc := ⟨.hbm, 111, rfl⟩
abbrev main_v82 : Ref sig .tc := ⟨.hbm, 112, rfl⟩
abbrev main_v83 : Ref sig .tc := ⟨.hbm, 113, rfl⟩
abbrev main_v84 : Ref sig .tc := ⟨.hbm, 114, rfl⟩
abbrev main_v85 : Ref sig .tc := ⟨.hbm, 115, rfl⟩
abbrev main_cst_16 : Ref sig .tc := ⟨.hbm, 116, rfl⟩
abbrev main_v86 : Ref sig .tc := ⟨.hbm, 117, rfl⟩
abbrev main_v87 : Ref sig .tc := ⟨.hbm, 118, rfl⟩
abbrev main_v88 : Ref sig .tc := ⟨.hbm, 119, rfl⟩
abbrev main_v89 : Ref sig .tc := ⟨.hbm, 120, rfl⟩
abbrev main_v90 : Ref sig .tc := ⟨.hbm, 121, rfl⟩
abbrev main_v91 : Ref sig .tc := ⟨.hbm, 122, rfl⟩
abbrev main_v92 : Ref sig .tc := ⟨.hbm, 123, rfl⟩
abbrev main_v93 : Ref sig .tc := ⟨.hbm, 124, rfl⟩
abbrev main_v94 : Ref sig .tc := ⟨.hbm, 125, rfl⟩
abbrev main_cst_17 : Ref sig .tc := ⟨.hbm, 126, rfl⟩
abbrev main_v95 : Ref sig .tc := ⟨.hbm, 127, rfl⟩
abbrev main_v96 : Ref sig .tc := ⟨.hbm, 128, rfl⟩
abbrev main_v97 : Ref sig .tc := ⟨.hbm, 129, rfl⟩
abbrev main_v98 : Ref sig .tc := ⟨.hbm, 130, rfl⟩
abbrev main_v99 : Ref sig .tc := ⟨.hbm, 131, rfl⟩
abbrev main_v100 : Ref sig .tc := ⟨.hbm, 132, rfl⟩
abbrev main_v101 : Ref sig .tc := ⟨.hbm, 133, rfl⟩
abbrev main_v102 : Ref sig .tc := ⟨.hbm, 134, rfl⟩
abbrev main_v103 : Ref sig .tc := ⟨.hbm, 135, rfl⟩
abbrev main_v104 : Ref sig .tc := ⟨.hbm, 136, rfl⟩
abbrev main_v105 : Ref sig .tc := ⟨.hbm, 137, rfl⟩
abbrev main_v106 : Ref sig .tc := ⟨.hbm, 138, rfl⟩
abbrev main_v107 : Ref sig .tc := ⟨.hbm, 139, rfl⟩
abbrev main_cst_18 : Ref sig .tc := ⟨.hbm, 140, rfl⟩
abbrev main_v108 : Ref sig .tc := ⟨.hbm, 141, rfl⟩
abbrev main_v109 : Ref sig .tc := ⟨.hbm, 142, rfl⟩
abbrev main_v110 : Ref sig .tc := ⟨.hbm, 143, rfl⟩
abbrev main_v111 : Ref sig .tc := ⟨.hbm, 144, rfl⟩
abbrev main_v112 : Ref sig .tc := ⟨.hbm, 145, rfl⟩
abbrev main_v113 : Ref sig .tc := ⟨.hbm, 146, rfl⟩
abbrev main_cst_19 : Ref sig .tc := ⟨.hbm, 147, rfl⟩
abbrev main_v114 : Ref sig .tc := ⟨.hbm, 148, rfl⟩
abbrev main_v115 : Ref sig .tc := ⟨.hbm, 149, rfl⟩
abbrev main_v116 : Ref sig .tc := ⟨.hbm, 150, rfl⟩
abbrev main_cst_20 : Ref sig .tc := ⟨.hbm, 151, rfl⟩
abbrev main_v117 : Ref sig .tc := ⟨.hbm, 152, rfl⟩
abbrev main_v118 : Ref sig .tc := ⟨.hbm, 153, rfl⟩
abbrev main_v119 : Ref sig .tc := ⟨.hbm, 154, rfl⟩
abbrev main_v120 : Ref sig .tc := ⟨.hbm, 155, rfl⟩
abbrev main_v121 : Ref sig .tc := ⟨.hbm, 156, rfl⟩
abbrev main_cst_21 : Ref sig .tc := ⟨.hbm, 157, rfl⟩
abbrev main_v122 : Ref sig .tc := ⟨.hbm, 158, rfl⟩
abbrev main_v123 : Ref sig .tc := ⟨.hbm, 159, rfl⟩
abbrev main_v124 : Ref sig .tc := ⟨.hbm, 160, rfl⟩
abbrev main_v125 : Ref sig .tc := ⟨.hbm, 161, rfl⟩
abbrev main_cst_22 : Ref sig .tc := ⟨.hbm, 162, rfl⟩
abbrev main_v126 : Ref sig .tc := ⟨.hbm, 163, rfl⟩
abbrev main_v127 : Ref sig .tc := ⟨.hbm, 164, rfl⟩
abbrev main_v128 : Ref sig .tc := ⟨.hbm, 165, rfl⟩
abbrev main_v129 : Ref sig .tc := ⟨.hbm, 166, rfl⟩
abbrev main_cst_23 : Ref sig .tc := ⟨.hbm, 167, rfl⟩
abbrev main_v130 : Ref sig .tc := ⟨.hbm, 168, rfl⟩
abbrev main_v131 : Ref sig .tc := ⟨.hbm, 169, rfl⟩
abbrev main_v132 : Ref sig .tc := ⟨.hbm, 170, rfl⟩
abbrev main_v133 : Ref sig .tc := ⟨.hbm, 171, rfl⟩
abbrev main_v134 : Ref sig .tc := ⟨.hbm, 172, rfl⟩
abbrev main_cst_24 : Ref sig .tc := ⟨.hbm, 173, rfl⟩
abbrev main_v135 : Ref sig .tc := ⟨.hbm, 174, rfl⟩
abbrev main_v136 : Ref sig .tc := ⟨.hbm, 175, rfl⟩
abbrev main_call3_cst : Ref sig .tc := ⟨.hbm, 176, rfl⟩
abbrev main_call3_v0 : Ref sig .tc := ⟨.hbm, 177, rfl⟩
abbrev main_v137 : Ref sig .tc := ⟨.hbm, 178, rfl⟩
abbrev main_cst_25 : Ref sig .tc := ⟨.hbm, 179, rfl⟩
abbrev main_v138 : Ref sig .tc := ⟨.hbm, 180, rfl⟩
abbrev main_v139 : Ref sig .tc := ⟨.hbm, 181, rfl⟩
abbrev main_v140 : Ref sig .tc := ⟨.hbm, 182, rfl⟩
abbrev main_v141 : Ref sig .tc := ⟨.hbm, 183, rfl⟩
abbrev main_v142 : Ref sig .tc := ⟨.hbm, 184, rfl⟩
abbrev main_v143 : Ref sig .tc := ⟨.hbm, 185, rfl⟩
abbrev main_v144 : Ref sig .tc := ⟨.hbm, 186, rfl⟩
abbrev main_v145 : Ref sig .tc := ⟨.hbm, 187, rfl⟩
abbrev main_v146 : Ref sig .tc := ⟨.hbm, 188, rfl⟩
abbrev main_v147 : Ref sig .tc := ⟨.hbm, 189, rfl⟩
abbrev main_v148 : Ref sig .tc := ⟨.hbm, 190, rfl⟩
abbrev main_v149 : Ref sig .tc := ⟨.hbm, 191, rfl⟩
abbrev main_v150 : Ref sig .tc := ⟨.hbm, 192, rfl⟩
abbrev main_v151 : Ref sig .tc := ⟨.hbm, 193, rfl⟩
abbrev main_v152 : Ref sig .tc := ⟨.hbm, 194, rfl⟩
abbrev main_v153 : Ref sig .tc := ⟨.hbm, 195, rfl⟩
abbrev main_v154 : Ref sig .tc := ⟨.hbm, 196, rfl⟩
abbrev main_c_26 : Ref sig .tc := ⟨.hbm, 197, rfl⟩
abbrev main_call4_v0 : Ref sig .tc := ⟨.hbm, 198, rfl⟩
abbrev main_v155 : Ref sig .tc := ⟨.hbm, 199, rfl⟩

abbrev nD : Nat := 1
abbrev τ : Topo := Topo.v7x

variable {F : FTy → Type} [FloatOps F]
-- ==== FfnHid.lean ====
abbrev S4096x1024 : Shape := ⟨2, ![4096, 1024]⟩
abbrev S2816x1024 : Shape := ⟨2, ![2816, 1024]⟩
abbrev S4096x5632 : Shape := ⟨2, ![4096, 5632]⟩
abbrev S8x128 : Shape := ⟨2, ![8, 128]⟩
abbrev S1024x1024 : Shape := ⟨2, ![1024, 1024]⟩
abbrev S1408x1024 : Shape := ⟨2, ![1408, 1024]⟩
abbrev S1024x2816 : Shape := ⟨2, ![1024, 2816]⟩
abbrev S1024x1408 : Shape := ⟨2, ![1024, 1408]⟩

abbrev nBuf : Space → Nat
  | .hbm => 5
  | .vmem => 8
  | .smem => 0
  | _ => 0

abbrev bufTy : (tb : Table) → Fin (tcTables nBuf tb) → BufTy
  | .hbm, ⟨0, _⟩ => ⟨S4096x1024, .f32⟩
  | .hbm, ⟨1, _⟩ => ⟨S2816x1024, .bf16⟩
  | .hbm, ⟨2, _⟩ => ⟨S4096x5632, .bf16⟩
  | .hbm, ⟨3, _⟩ => ⟨S8x128, .f32⟩
  | .hbm, ⟨4, _⟩ => ⟨S4096x5632, .bf16⟩
  | .local _ .vmem, ⟨0, _⟩ => ⟨S1024x1024, .f32⟩
  | .local _ .vmem, ⟨1, _⟩ => ⟨S1024x1024, .f32⟩
  | .local _ .vmem, ⟨2, _⟩ => ⟨S1408x1024, .bf16⟩
  | .local _ .vmem, ⟨3, _⟩ => ⟨S1408x1024, .bf16⟩
  | .local _ .vmem, ⟨4, _⟩ => ⟨S1024x2816, .bf16⟩
  | .local _ .vmem, ⟨5, _⟩ => ⟨S1024x2816, .bf16⟩
  | .local _ .vmem, ⟨6, _⟩ => ⟨S1024x2816, .bf16⟩
  | .local _ .vmem, ⟨7, _⟩ => ⟨S1024x2816, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![4, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x2816 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x2816 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== FfnHidRefIdeal.lean ====
abbrev S4096x1024 : Shape := ⟨2, ![4096, 1024]⟩
abbrev S2816x1024 : Shape := ⟨2, ![2816, 1024]⟩
abbrev S4096x5632 : Shape := ⟨2, ![4096, 5632]⟩
abbrev S8x128 : Shape := ⟨2, ![8, 128]⟩
abbrev S4096x2x2x1408 : Shape := ⟨4, ![4096, 2, 2, 1408]⟩
abbrev S4096x2x1x1408 : Shape := ⟨4, ![4096, 2, 1, 1408]⟩
abbrev S4096x2x1408 : Shape := ⟨3, ![4096, 2, 1408]⟩
abbrev S4096x2816 : Shape := ⟨2, ![4096, 2816]⟩
abbrev S_ : Shape := ⟨0, ![]⟩

abbrev nBuf : Space → Nat
  | .hbm => 52
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S2816x1024, .bf16⟩
  | .hbm, ⟨2, _⟩ => ⟨S4096x5632, .bf16⟩
  | .hbm, ⟨3, _⟩ => ⟨S8x128, .f32⟩
  | .hbm, ⟨4, _⟩ => ⟨S2816x1024, .f32⟩
  | .hbm, ⟨5, _⟩ => ⟨S4096x5632, .f32⟩
  | .hbm, ⟨6, _⟩ => ⟨S4096x2x2x1408, .f32⟩
  | .hbm, ⟨7, _⟩ => ⟨S4096x2x1x1408, .f32⟩
  | .hbm, ⟨8, _⟩ => ⟨S4096x2x1408, .f32⟩
  | .hbm, ⟨9, _⟩ => ⟨S4096x2816, .f32⟩
  | .hbm, ⟨10, _⟩ => ⟨S4096x2x1x1408, .f32⟩
  | .hbm, ⟨11, _⟩ => ⟨S4096x2x1408, .f32⟩
  | .hbm, ⟨12, _⟩ => ⟨S4096x2816, .f32⟩
  | .hbm, ⟨13, _⟩ => ⟨S4096x2816, .f32⟩
  | .hbm, ⟨14, _⟩ => ⟨S4096x2816, .f32⟩
  | .hbm, ⟨15, _⟩ => ⟨S_, .f32⟩
  | .hbm, ⟨16, _⟩ => ⟨S4096x2816, .f32⟩
  | .hbm, ⟨17, _⟩ => ⟨S4096x2816, .f32⟩
  | .hbm, ⟨18, _⟩ => ⟨S_, .f32⟩
  | .hbm, ⟨19, _⟩ => ⟨S4096x2816, .f32⟩
  | .hbm, ⟨20, _⟩ => ⟨S4096x2816, .f32⟩
  | .hbm, ⟨21, _⟩ => ⟨S_, .f32⟩
  | .hbm, ⟨22, _⟩ => ⟨S4096x2816, .f32⟩
  | .hbm, ⟨23, _⟩ => ⟨S4096x2816, .f32⟩
  | .hbm, ⟨24, _⟩ => ⟨S4096x2816, .f32⟩
  | .hbm, ⟨25, _⟩ => ⟨S4096x2816, .f32⟩
  | .hbm, ⟨26, _⟩ => ⟨S4096x2816, .f32⟩
  | .hbm, ⟨27, _⟩ => ⟨S4096x1024, .f32⟩
  | .hbm, ⟨28, _⟩ => ⟨S_, .f32⟩
  | .hbm, ⟨29, _⟩ => ⟨S4096x1024, .f32⟩
  | .hbm, ⟨30, _⟩ => ⟨S4096x1024, .f32⟩
  | .hbm, ⟨31, _⟩ => ⟨S_, .f32⟩
  | .hbm, ⟨32, _⟩ => ⟨S4096x1024, .f32⟩
  | .hbm, ⟨33, _⟩ => ⟨S4096x1024, .f32⟩
  | .hbm, ⟨34, _⟩ => ⟨S4096x2816, .f32⟩
  | .hbm, ⟨35, _⟩ => ⟨S4096x2816, .f32⟩
  | .hbm, ⟨36, _⟩ => ⟨S4096x2816, .f32⟩
  | .hbm, ⟨37, _⟩ => ⟨S4096x2816, .f32⟩
  | .hbm, ⟨38, _⟩ => ⟨S4096x2816, .f32⟩
  | .hbm, ⟨39, _⟩ => ⟨S4096x2816, .f32⟩
  | .hbm, ⟨40, _⟩ => ⟨S4096x2816, .f32⟩
  | .hbm, ⟨41, _⟩ => ⟨S4096x2x1408, .f32⟩
  | .hbm, ⟨42, _⟩ => ⟨S4096x2x1x1408, .f32⟩
  | .hbm, ⟨43, _⟩ => ⟨S_, .f32⟩
  | .hbm, ⟨44, _⟩ => ⟨S4096x2x2x1408, .f32⟩
  | .hbm, ⟨45, _⟩ => ⟨S4096x2x1408, .f32⟩
  | .hbm, ⟨46, _⟩ => ⟨S4096x2x1x1408, .f32⟩
  | .hbm, ⟨47, _⟩ => ⟨S_, .f32⟩
  | .hbm, ⟨48, _⟩ => ⟨S4096x2x2x1408, .f32⟩
  | .hbm, ⟨49, _⟩ => ⟨S4096x2x2x1408, .f32⟩
  | .hbm, ⟨50, _⟩ => ⟨S4096x5632, .f32⟩
  | .hbm, ⟨51, _⟩ => ⟨S4096x5632, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_call0_v0 : Ref sig .tc := ⟨.hbm, 13, rfl⟩
abbrev main_call0_v1 : Ref sig .tc := ⟨.hbm, 14, rfl⟩
abbrev main_call0_cst : Ref sig .tc := ⟨.hbm, 15, rfl⟩
abbrev main_call0_v2 : Ref sig .tc := ⟨.hbm, 16, rfl⟩
abbrev main_call0_v3 : Ref sig .tc := ⟨.hbm, 17, rfl⟩
abbrev main_call0_cst_0 : Ref sig .tc := ⟨.hbm, 18, rfl⟩
abbrev main_call0_v4 : Ref sig .tc := ⟨.hbm, 19, rfl⟩
abbrev main_v9_2 : Ref sig .tc := ⟨.hbm, 20, rfl⟩
abbrev main_call0_cst_1 : Ref sig .tc := ⟨.hbm, 21, rfl⟩
abbrev main_call0_v6 : Ref sig .tc := ⟨.hbm, 22, rfl⟩
abbrev main_call0_v7 : Ref sig .tc := ⟨.hbm, 23, rfl⟩
abbrev main_v9_1 : Ref sig .tc := ⟨.hbm, 24, rfl⟩
abbrev main_v9_0 : Ref sig .tc := ⟨.hbm, 25, rfl⟩
abbrev main_v10 : Ref sig .tc := ⟨.hbm, 26, rfl⟩
abbrev main_v11 : Ref sig .tc := ⟨.hbm, 27, rfl⟩
abbrev main_cst : Ref sig .tc := ⟨.hbm, 28, rfl⟩
abbrev main_v12 : Ref sig .tc := ⟨.hbm, 29, rfl⟩
abbrev main_v13 : Ref sig .tc := ⟨.hbm, 30, rfl⟩
abbrev main_cst_0 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_call1_v0 : Ref sig .tc := ⟨.hbm, 37, rfl⟩
abbrev main_call1_v1 : Ref sig .tc := ⟨.hbm, 38, rfl⟩
abbrev main_call1_v2 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_cst_1 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_cst_2 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩

abbrev nD : Nat := 1
abbrev τ : Topo := Topo.v7x

variable {F : FTy → Type} [FloatOps F]
-- ==== Nrm.lean ====
abbrev S4096x5632 : Shape := ⟨2, ![4096, 5632]⟩
abbrev S1024x5632 : Shape := ⟨2, ![1024, 5632]⟩
abbrev S4096x1024 : Shape := ⟨2, ![4096, 1024]⟩
abbrev S1024 : Shape := ⟨1, ![1024]⟩
abbrev S1024x4x1408 : Shape := ⟨3, ![1024, 4, 1408]⟩
abbrev S4x1024x1408 : Shape := ⟨3, ![4, 1024, 1408]⟩
abbrev S1x1024 : Shape := ⟨2, ![1, 1024]⟩
abbrev S1024x1408 : Shape := ⟨2, ![1024, 1408]⟩
abbrev S1x1024x1408 : Shape := ⟨3, ![1, 1024, 1408]⟩
abbrev S1024x1024 : Shape := ⟨2, ![1024, 1024]⟩
abbrev S1024x1 : Shape := ⟨2, ![1024, 1]⟩

abbrev nBuf : Space → Nat
  | .hbm => 10
  | .vmem => 13
  | .smem => 0
  | _ => 0

abbrev bufTy : (tb : Table) → Fin (tcTables nBuf tb) → BufTy
  | .hbm, ⟨0, _⟩ => ⟨S4096x5632, .bf16⟩
  | .hbm, ⟨1, _⟩ => ⟨S1024x5632, .bf16⟩
  | .hbm, ⟨2, _⟩ => ⟨S4096x1024, .f32⟩
  | .hbm, ⟨3, _⟩ => ⟨S1024, .f32⟩
  | .hbm, ⟨4, _⟩ => ⟨S4096x1024, .f32⟩
  | .hbm, ⟨5, _⟩ => ⟨S1024x4x1408, .bf16⟩
  | .hbm, ⟨6, _⟩ => ⟨S4x1024x1408, .bf16⟩
  | .hbm, ⟨7, _⟩ => ⟨S1x1024, .f32⟩
  | .hbm, ⟨8, _⟩ => ⟨S4096x1024, .f32⟩
  | .hbm, ⟨9, _⟩ => ⟨S1x1024, .f32⟩
  | .local _ .vmem, ⟨0, _⟩ => ⟨S1024x1408, .bf16⟩
  | .local _ .vmem, ⟨1, _⟩ => ⟨S1024x1408, .bf16⟩
  | .local _ .vmem, ⟨2, _⟩ => ⟨S1x1024x1408, .bf16⟩
  | .local _ .vmem, ⟨3, _⟩ => ⟨S1x1024x1408, .bf16⟩
  | .local _ .vmem, ⟨4, _⟩ => ⟨S1024x1024, .f32⟩
  | .local _ .vmem, ⟨5, _⟩ => ⟨S1024x1024, .f32⟩
  | .local _ .vmem, ⟨6, _⟩ => ⟨S1x1024, .f32⟩
  | .local _ .vmem, ⟨7, _⟩ => ⟨S1024x1024, .f32⟩
  | .local _ .vmem, ⟨8, _⟩ => ⟨S1024x1024, .f32⟩
  | .local _ .vmem, ⟨9, _⟩ => ⟨S1024x1024, .f32⟩
  | .local _ .vmem, ⟨10, _⟩ => ⟨S1024x1024, .f32⟩
  | .local _ .vmem, ⟨11, _⟩ => ⟨S1x1024, .f32⟩
  | .local _ .vmem, ⟨12, _⟩ => ⟨S1024x1024, .f32⟩
  | _, _ => ⟨S4096x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11

abbrev nD : Nat := 1
abbrev τ : Topo := Topo.v7x

variable {F : FTy → Type} [FloatOps F]

abbrev grid0 : Pipeline.Grid := ⟨2, ![4, 4], ![false, false]⟩

def k0_cond2 (i : grid0.Coords) : BitVec 1 :=
  let arg1 : BitVec 32 := BitVec.ofNat 32 (i 1).val
  let c3_i32 : BitVec 32 := 3#32
  let v12 : BitVec 1 := Scalar.cmpi .eq arg1 c3_i32
  let v13 : BitVec 32 := Scalar.extui v12
  let c0_i32_9 : BitVec 32 := 0#32
  let v14 : BitVec 1 := Scalar.cmpi .ne v13 c0_i32_9
  v14

def k0_cond3 (i : grid0.Coords) : BitVec 1 :=
  let arg0 : BitVec 32 := BitVec.ofNat 32 (i 0).val
  let c0_i32_26 : BitVec 32 := 0#32
  let v47 : BitVec 1 := Scalar.cmpi .eq arg0 c0_i32_26
  let v48 : BitVec 32 := Scalar.extui v47
  let c0_i32_27 : BitVec 32 := 0#32
  let v49 : BitVec 1 := Scalar.cmpi .ne v48 c0_i32_27
  v49

def k0_cond4 (i : grid0.Coords) : BitVec 1 :=
  let arg0 : BitVec 32 := BitVec.ofNat 32 (i 0).val
  let c0_i32_28 : BitVec 32 := 0#32
  let v50 : BitVec 1 := Scalar.cmpi .sgt arg0 c0_i32_28
  let v51 : BitVec 32 := Scalar.extui v50
  let c0_i32_29 : BitVec 32 := 0#32
  let v52 : BitVec 1 := Scalar.cmpi .ne v51 c0_i32_29
  v52

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 3 → Nat :=
  let arg0 : BitVec 32 := BitVec.ofNat 32 (i 0).val
  let arg1 : BitVec 32 := BitVec.ofNat 32 (i 1).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg1 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c2_i32_3 : BitVec 32 := 2#32
  let v10 : BitVec 32 := Scalar.muli v9 c2_i32_3
  let c2_i32_4 : BitVec 32 := 2#32
  let v11 : BitVec 32 := Scalar.divsi arg1 c2_i32_4
  let c0_i32_5 : BitVec 32 := 0#32
  let v12 : BitVec 1 := Scalar.cmpi .sgt arg1 c0_i32_5
  let v13 : BitVec 32 := Scalar.extui v12
  let c0_i32_6 : BitVec 32 := 0#32
  let v14 : BitVec 1 := Scalar.cmpi .slt arg1 c0_i32_6
  let v15 : BitVec 32 := Scalar.extui v14
  let v16 : BitVec 32 := Scalar.subi v13 v15
  let c0_i32_7 : BitVec 32 := 0#32
  let v17 : BitVec 1 := Scalar.cmpi .sgt c2_i32_4 c0_i32_7
  let v18 : BitVec 32 := Scalar.extui v17
  let c0_i32_8 : BitVec 32 := 0#32
  let v19 : BitVec 1 := Scalar.cmpi .slt c2_i32_4 c0_i32_8
  let v20 : BitVec 32 := Scalar.extui v19
  let v21 : BitVec 32 := Scalar.subi v18 v20
  let v22 : BitVec 1 := Scalar.cmpi .ne v16 v21
  let v23 : BitVec 32 := Scalar.remsi arg1 c2_i32_4
  let c0_i32_9 : BitVec 32 := 0#32
  let v24 : BitVec 1 := Scalar.cmpi .ne v23 c0_i32_9
  let v25 : BitVec 1 := Scalar.andi v22 v24
  let c1_i32_10 : BitVec 32 := 1#32
  let v26 : BitVec 32 := Scalar.subi v11 c1_i32_10
  let v27 : BitVec 32 := Scalar.select v25 v26 v11
  let v28 : BitVec 32 := Scalar.addi v10 v27
  let c0_i32_11 : BitVec 32 := 0#32
  let c0_i32_12 : BitVec 32 := 0#32
  let c0_i32_13 : BitVec 32 := 0#32
  ![v28.toNat, c0_i32_11.toNat, c0_i32_12.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]
-- ==== NrmRefIdeal.lean ====
abbrev S4096x5632 : Shape := ⟨2, ![4096, 5632]⟩
abbrev S1024x5632 : Shape := ⟨2, ![1024, 5632]⟩
abbrev S4096x1024 : Shape := ⟨2, ![4096, 1024]⟩
abbrev S1024 : Shape := ⟨1, ![1024]⟩
abbrev S4096x2x2x1408 : Shape := ⟨4, ![4096, 2, 2, 1408]⟩
abbrev S_ : Shape := ⟨0, ![]⟩
abbrev S4096 : Shape := ⟨1, ![4096]⟩
abbrev S4096x1 : Shape := ⟨2, ![4096, 1]⟩
abbrev S1x1024 : Shape := ⟨2, ![1, 1024]⟩

abbrev nBuf : Space → Nat
  | .hbm => 59
  | .vmem => 0
  | .smem => 0
  | _ => 0

abbrev bufTy : (tb : Table) → Fin (tcTables nBuf tb) → BufTy
  | .hbm, ⟨0, _⟩ => ⟨S4096x5632, .bf16⟩
  | .hbm, ⟨1, _⟩ => ⟨S1024x5632, .bf16⟩
  | .hbm, ⟨2, _⟩ => ⟨S4096x1024, .f32⟩
  | .hbm, ⟨3, _⟩ => ⟨S1024, .f32⟩
  | .hbm, ⟨4, _⟩ => ⟨S4096x1024, .f32⟩
  | .hbm, ⟨5, _⟩ => ⟨S4096x5632, .f32⟩
  | .hbm, ⟨6, _⟩ => ⟨S4096x2x2x1408, .f32⟩
  | .hbm, ⟨7, _⟩ => ⟨S4096x2x2x1408, .f32⟩
  | .hbm, ⟨8, _⟩ => ⟨S4096x5632, .f32⟩
  | .hbm, ⟨9, _⟩ => ⟨S1024x5632, .f32⟩
  | .hbm, ⟨10, _⟩ => ⟨S4096x1024, .f32⟩
  | .hbm, ⟨11, _⟩ => ⟨S_, .f32⟩
  | .hbm, ⟨12, _⟩ => ⟨S4096, .f32⟩
  | .hbm, ⟨13, _⟩ => ⟨S4096x1, .f32⟩
  | .hbm, ⟨14, _⟩ => ⟨S_, .f32⟩
  | .hbm, ⟨15, _⟩ => ⟨S4096x1, .f32⟩
  | .hbm, ⟨16, _⟩ => ⟨S4096x1, .f32⟩
  | .hbm, ⟨17, _⟩ => ⟨S_, .f32⟩
  | .hbm, ⟨18, _⟩ => ⟨S4096x1, .f32⟩
  | .hbm, ⟨19, _⟩ => ⟨S4096x1, .f32⟩
  | .hbm, ⟨20, _⟩ => ⟨S4096x1, .f32⟩
  | .hbm, ⟨21, _⟩ => ⟨S4096x1, .f32⟩
  | .hbm, ⟨22, _⟩ => ⟨S_, .f32⟩
  | .hbm, ⟨23, _⟩ => ⟨S4096x1, .f32⟩
  | .hbm, ⟨24, _⟩ => ⟨S4096x1, .f32⟩
  | .hbm, ⟨25, _⟩ => ⟨S4096x1024, .f32⟩
  | .hbm, ⟨26, _⟩ => ⟨S4096x1024, .f32⟩
  | .hbm, ⟨27, _⟩ => ⟨S1x1024, .f32⟩
  | .hbm, ⟨28, _⟩ => ⟨S4096x1024, .f32⟩
  | .hbm, ⟨29, _⟩ => ⟨S4096x1024, .f32⟩
  | .hbm, ⟨30, _⟩ => ⟨S4096x5632, .f32⟩
  | .hbm, ⟨31, _⟩ => ⟨S4096x1024, .f32⟩
  | .hbm, ⟨32, _⟩ => ⟨S4096x1024, .f32⟩
  | .hbm, ⟨33, _⟩ => ⟨S_, .f32⟩
  | .hbm, ⟨34, _⟩ => ⟨S1024, .f32⟩
  | .hbm, ⟨35, _⟩ => ⟨S1x1024, .f32⟩
  | .hbm, ⟨36, _⟩ => ⟨S4096x1024, .f32⟩
  | .hbm, ⟨37, _⟩ => ⟨S4096x1024, .f32⟩
  | .hbm, ⟨38, _⟩ => ⟨S_, .f32⟩
  | .hbm, ⟨39, _⟩ => ⟨S1024, .f32⟩
  | .hbm, ⟨40, _⟩ => ⟨S4096x1024, .f32⟩
  | .hbm, ⟨41, _⟩ => ⟨S_, .f32⟩
  | .hbm, ⟨42, _⟩ => ⟨S4096, .f32⟩
  | .hbm, ⟨43, _⟩ => ⟨S4096x1, .f32⟩
  | .hbm, ⟨44, _⟩ => ⟨S4096x1024, .f32⟩
  | .hbm, ⟨45, _⟩ => ⟨S4096x1024, .f32⟩
  | .hbm, ⟨46, _⟩ => ⟨S4096x1024, .f32⟩
  | .hbm, ⟨47, _⟩ => ⟨S4096x1, .f32⟩
  | .hbm, ⟨48, _⟩ => ⟨S_, .f32⟩
  | .hbm, ⟨49, _⟩ => ⟨S4096x1, .f32⟩
  | .hbm, ⟨50, _⟩ => ⟨S4096x1, .f32⟩
  | .hbm, ⟨51, _⟩ => ⟨S_, .f32⟩
  | .hbm, ⟨52, _⟩ => ⟨S4096, .f32⟩
  | .hbm, ⟨53, _⟩ => ⟨S4096x1024, .f32⟩
  | .hbm, ⟨54, _⟩ => ⟨S4096x1024, .f32⟩
  | .hbm, ⟨55, _⟩ => ⟨S4096x1024, .f32⟩
  | .hbm, ⟨56, _⟩ => ⟨S4096x1024, .f32⟩
  | .hbm, ⟨57, _⟩ => ⟨S4096x1024, .f32⟩
  | .hbm, ⟨58, _⟩ => ⟨S1x1024, .f32⟩
  | _, _ => ⟨S4096x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_v7 : Ref sig .tc := ⟨.hbm, 13, rfl⟩
abbrev main_cst_0 : Ref sig .tc := ⟨.hbm, 14, rfl⟩
abbrev main_v8 : Ref sig .tc := ⟨.hbm, 15, rfl⟩
abbrev main_v9 : Ref sig .tc := ⟨.hbm, 16, rfl⟩
abbrev main_cst_1 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_2 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_cst_3 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_cst_4 : Ref sig .tc := ⟨.hbm, 38, rfl⟩
abbrev main_v28 : Ref sig .tc := ⟨.hbm, 39, rfl⟩
abbrev main_v29 : Ref sig .tc := ⟨.hbm, 40, rfl⟩
abbrev main_cst_5 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_cst_6 : Ref sig .tc := ⟨.hbm, 48, rfl⟩
abbrev main_v36 : Ref sig .tc := ⟨.hbm, 49, rfl⟩
abbrev main_v37 : Ref sig .tc := ⟨.hbm, 50, rfl⟩
abbrev main_cst_7 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩

abbrev nD : Nat := 1
abbrev τ : Topo := Topo.v7x

variable {F : FTy → Type} [FloatOps F]
-- ==== Dwin.lean ====
abbrev S4096x1024 : Shape := ⟨2, ![4096, 1024]⟩
abbrev S4096x5632 : Shape := ⟨2, ![4096, 5632]⟩
abbrev S_ : Shape := ⟨0, ![]⟩
abbrev S4x1024x1408 : Shape := ⟨3, ![4, 1024, 1408]⟩
abbrev S2048x1024 : Shape := ⟨2, ![2048, 1024]⟩
abbrev S2048x1408 : Shape := ⟨2, ![2048, 1408]⟩
abbrev S1x1024x1408 : Shape := ⟨3, ![1, 1024, 1408]⟩
abbrev S1024x1408 : Shape := ⟨2, ![1024, 1408]⟩

abbrev nBuf : Space → Nat
  | .hbm => 5
  | .vmem => 7
  | .smem => 0
  | _ => 0

abbrev bufTy : (tb : Table) → Fin (tcTables nBuf tb) → BufTy
  | .hbm, ⟨0, _⟩ => ⟨S4096x1024, .bf16⟩
  | .hbm, ⟨1, _⟩ => ⟨S4096x5632, .bf16⟩
  | .hbm, ⟨2, _⟩ => ⟨S_, .bf16⟩
  | .hbm, ⟨3, _⟩ => ⟨S4x1024x1408, .bf16⟩
  | .hbm, ⟨4, _⟩ => ⟨S4x1024x1408, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1408, .bf16⟩
  | .local _ .vmem, ⟨3, _⟩ => ⟨S2048x1408, .bf16⟩
  | .local _ .vmem, ⟨4, _⟩ => ⟨S1x1024x1408, .bf16⟩
  | .local _ .vmem, ⟨5, _⟩ => ⟨S1x1024x1408, .bf16⟩
  | .local _ .vmem, ⟨6, _⟩ => ⟨S1024x1408, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 4, 2], ![false, false, false]⟩

def k0_cond2 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg1 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c2_i32_3 : BitVec 32 := 2#32
  let v10 : BitVec 32 := Scalar.muli v9 c2_i32_3
  let c2_i32_4 : BitVec 32 := 2#32
  let v11 : BitVec 32 := Scalar.divsi arg1 c2_i32_4
  let c0_i32_5 : BitVec 32 := 0#32
  let v12 : BitVec 1 := Scalar.cmpi .sgt arg1 c0_i32_5
  let v13 : BitVec 32 := Scalar.extui v12
  let c0_i32_6 : BitVec 32 := 0#32
  let v14 : BitVec 1 := Scalar.cmpi .slt arg1 c0_i32_6
  let v15 : BitVec 32 := Scalar.extui v14
  let v16 : BitVec 32 := Scalar.subi v13 v15
  let c0_i32_7 : BitVec 32 := 0#32
  let v17 : BitVec 1 := Scalar.cmpi .sgt c2_i32_4 c0_i32_7
  let v18 : BitVec 32 := Scalar.extui v17
  let c0_i32_8 : BitVec 32 := 0#32
  let v19 : BitVec 1 := Scalar.cmpi .slt c2_i32_4 c0_i32_8
  let v20 : BitVec 32 := Scalar.extui v19
  let v21 : BitVec 32 := Scalar.subi v18 v20
  let v22 : BitVec 1 := Scalar.cmpi .ne v16 v21
  let v23 : BitVec 32 := Scalar.remsi arg1 c2_i32_4
  let c0_i32_9 : BitVec 32 := 0#32
  let v24 : BitVec 1 := Scalar.cmpi .ne v23 c0_i32_9
  let v25 : BitVec 1 := Scalar.andi v22 v24
  let c1_i32_10 : BitVec 32 := 1#32
  let v26 : BitVec 32 := Scalar.subi v11 c1_i32_10
  let v27 : BitVec 32 := Scalar.select v25 v26 v11
  let v28 : BitVec 32 := Scalar.addi v10 v27
  let c0_i32_11 : BitVec 32 := 0#32
  let v29 : BitVec 32 := Scalar.addi c0_i32_11 arg0
  let c0_i32_12 : BitVec 32 := 0#32
  let c0_i32_13 : BitVec 32 := 0#32
  ![v28.toNat, v29.toNat, c0_i32_12.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DwinRefIdeal.lean ====
abbrev S4096x1024 : Shape := ⟨2, ![4096, 1024]⟩
abbrev S4096x5632 : Shape := ⟨2, ![4096, 5632]⟩
abbrev S4096x2x2x1408 : Shape := ⟨4, ![4096, 2, 2, 1408]⟩
abbrev S_ : Shape := ⟨0, ![]⟩
abbrev S1024x5632 : Shape := ⟨2, ![1024, 5632]⟩
abbrev S5632x1024 : Shape := ⟨2, ![5632, 1024]⟩
abbrev S1024x4x1408 : Shape := ⟨3, ![1024, 4, 1408]⟩
abbrev S4x1024x1408 : Shape := ⟨3, ![4, 1024, 1408]⟩

abbrev nBuf : Space → Nat
  | .hbm => 15
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x5632, .bf16⟩
  | .hbm, ⟨2, _⟩ => ⟨S4096x5632, .f32⟩
  | .hbm, ⟨3, _⟩ => ⟨S4096x2x2x1408, .f32⟩
  | .hbm, ⟨4, _⟩ => ⟨S4096x2x2x1408, .f32⟩
  | .hbm, ⟨5, _⟩ => ⟨S4096x5632, .f32⟩
  | .hbm, ⟨6, _⟩ => ⟨S_, .f32⟩
  | .hbm, ⟨7, _⟩ => ⟨S1024x5632, .f32⟩
  | .hbm, ⟨8, _⟩ => ⟨S4096x1024, .f32⟩
  | .hbm, ⟨9, _⟩ => ⟨S4096x5632, .f32⟩
  | .hbm, ⟨10, _⟩ => ⟨S5632x1024, .f32⟩
  | .hbm, ⟨11, _⟩ => ⟨S1024x5632, .f32⟩
  | .hbm, ⟨12, _⟩ => ⟨S1024x4x1408, .f32⟩
  | .hbm, ⟨13, _⟩ => ⟨S4x1024x1408, .f32⟩
  | .hbm, ⟨14, _⟩ => ⟨S4x1024x1408, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩

abbrev nD : Nat := 1
abbrev τ : Topo := Topo.v7x

variable {F : FTy → Type} [FloatOps F]
-- ==== Dwout.lean ====
abbrev S4096x2816 : Shape := ⟨2, ![4096, 2816]⟩
abbrev S4096x1024 : Shape := ⟨2, ![4096, 1024]⟩
abbrev S_ : Shape := ⟨0, ![]⟩
abbrev S4x704x1024 : Shape := ⟨3, ![4, 704, 1024]⟩
abbrev S2048x1408 : Shape := ⟨2, ![2048, 1408]⟩
abbrev S2048x1024 : Shape := ⟨2, ![2048, 1024]⟩
abbrev S2x704x1024 : Shape := ⟨3, ![2, 704, 1024]⟩
abbrev S1408x1024 : Shape := ⟨2, ![1408, 1024]⟩

abbrev nBuf : Space → Nat
  | .hbm => 5
  | .vmem => 7
  | .smem => 0
  | _ => 0

abbrev bufTy : (tb : Table) → Fin (tcTables nBuf tb) → BufTy
  | .hbm, ⟨0, _⟩ => ⟨S4096x2816, .bf16⟩
  | .hbm, ⟨1, _⟩ => ⟨S4096x1024, .f32⟩
  | .hbm, ⟨2, _⟩ => ⟨S_, .bf16⟩
  | .hbm, ⟨3, _⟩ => ⟨S4x704x1024, .bf16⟩
  | .hbm, ⟨4, _⟩ => ⟨S4x704x1024, .bf16⟩
  | .local _ .vmem, ⟨0, _⟩ => ⟨S2048x1408, .bf16⟩
  | .local _ .vmem, ⟨1, _⟩ => ⟨S2048x1408, .bf16⟩
  | .local _ .vmem, ⟨2, _⟩ => ⟨S2048x1024, .f32⟩
  | .local _ .vmem, ⟨3, _⟩ => ⟨S2048x1024, .f32⟩
  | .local _ .vmem, ⟨4, _⟩ => ⟨S2x704x1024, .bf16⟩
  | .local _ .vmem, ⟨5, _⟩ => ⟨S2x704x1024, .bf16⟩
  | .local _ .vmem, ⟨6, _⟩ => ⟨S1408x1024, .f32⟩
  | _, _ => ⟨S4096x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 2], ![false, false, false]⟩

def k0_cond2 (i : grid0.Coords) : BitVec 1 :=
  let arg2 : BitVec 32 := BitVec.ofNat 32 (i 2).val
  let c1_i32 : BitVec 32 := 1#32
  let v12 : BitVec 1 := Scalar.cmpi .eq arg2 c1_i32
  let v13 : BitVec 32 := Scalar.extui v12
  let c0_i32_8 : BitVec 32 := 0#32
  let v14 : BitVec 1 := Scalar.cmpi .ne v13 c0_i32_8
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat, arg1.toNat]

abbrev stage0_0 : Fin 2 → Memref sig .tc .vmem S2048x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2x704x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DwoutRefIdeal.lean ====
abbrev S4096x2816 : Shape := ⟨2, ![4096, 2816]⟩
abbrev S4096x1024 : Shape := ⟨2, ![4096, 1024]⟩
abbrev S_ : Shape := ⟨0, ![]⟩
abbrev S2816x1024 : Shape := ⟨2, ![2816, 1024]⟩
abbrev S1024x2816 : Shape := ⟨2, ![1024, 2816]⟩
abbrev S4x704x1024 : Shape := ⟨3, ![4, 704, 1024]⟩

abbrev nBuf : Space → Nat
  | .hbm => 16
  | .vmem => 0
  | .smem => 0
  | _ => 0

abbrev bufTy : (tb : Table) → Fin (tcTables nBuf tb) → BufTy
  | .hbm, ⟨0, _⟩ => ⟨S4096x2816, .bf16⟩
  | .hbm, ⟨1, _⟩ => ⟨S4096x1024, .f32⟩
  | .hbm, ⟨2, _⟩ => ⟨S_, .f32⟩
  | .hbm, ⟨3, _⟩ => ⟨S2816x1024, .f32⟩
  | .hbm, ⟨4, _⟩ => ⟨S4096x2816, .f32⟩
  | .hbm, ⟨5, _⟩ => ⟨S4096x1024, .f32⟩
  | .hbm, ⟨6, _⟩ => ⟨S_, .f32⟩
  | .hbm, ⟨7, _⟩ => ⟨S4096x1024, .f32⟩
  | .hbm, ⟨8, _⟩ => ⟨S4096x1024, .f32⟩
  | .hbm, ⟨9, _⟩ => ⟨S_, .f32⟩
  | .hbm, ⟨10, _⟩ => ⟨S4096x1024, .f32⟩
  | .hbm, ⟨11, _⟩ => ⟨S4096x1024, .f32⟩
  | .hbm, ⟨12, _⟩ => ⟨S1024x2816, .f32⟩
  | .hbm, ⟨13, _⟩ => ⟨S2816x1024, .f32⟩
  | .hbm, ⟨14, _⟩ => ⟨S4x704x1024, .f32⟩
  | .hbm, ⟨15, _⟩ => ⟨S4x704x1024, .bf16⟩
  | _, _ => ⟨S4096x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩

abbrev nD : Nat := 1
abbrev τ : Topo := Topo.v7x

variable {F : FTy → Type} [FloatOps F]
-- ==== FfnOut.lean ====
abbrev S4096x2816 : Shape := ⟨2, ![4096, 2816]⟩
abbrev S2816x1024 : Shape := ⟨2, ![2816, 1024]⟩
abbrev S4096x1024 : Shape := ⟨2, ![4096, 1024]⟩
abbrev S1024x2816 : Shape := ⟨2, ![1024, 2816]⟩
abbrev S1024x1024 : Shape := ⟨2, ![1024, 1024]⟩

abbrev nBuf : Space → Nat
  | .hbm => 4
  | .vmem => 8
  | .smem => 0
  | _ => 0

abbrev bufTy : (tb : Table) → Fin (tcTables nBuf tb) → BufTy
  | .hbm, ⟨0, _⟩ => ⟨S4096x2816, .bf16⟩
  | .hbm, ⟨1, _⟩ => ⟨S2816x1024, .bf16⟩
  | .hbm, ⟨2, _⟩ => ⟨S4096x1024, .f32⟩
  | .hbm, ⟨3, _⟩ => ⟨S4096x1024, .f32⟩
  | .local _ .vmem, ⟨0, _⟩ => ⟨S1024x2816, .bf16⟩
  | .local _ .vmem, ⟨1, _⟩ => ⟨S1024x2816, .bf16⟩
  | .local _ .vmem, ⟨2, _⟩ => ⟨S2816x1024, .bf16⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | _, _ => ⟨S4096x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== FfnOutRefIdeal.lean ====
abbrev S4096x2816 : Shape := ⟨2, ![4096, 2816]⟩
abbrev S2816x1024 : Shape := ⟨2, ![2816, 1024]⟩
abbrev S4096x1024 : Shape := ⟨2, ![4096, 1024]⟩
abbrev S_ : Shape := ⟨0, ![]⟩

abbrev nBuf : Space → Nat
  | .hbm => 10
  | .vmem => 0
  | .smem => 0
  | _ => 0

abbrev bufTy : (tb : Table) → Fin (tcTables nBuf tb) → BufTy
  | .hbm, ⟨0, _⟩ => ⟨S4096x2816, .bf16⟩
  | .hbm, ⟨1, _⟩ => ⟨S2816x1024, .bf16⟩
  | .hbm, ⟨2, _⟩ => ⟨S4096x1024, .f32⟩
  | .hbm, ⟨3, _⟩ => ⟨S4096x2816, .f32⟩
  | .hbm, ⟨4, _⟩ => ⟨S2816x1024, .f32⟩
  | .hbm, ⟨5, _⟩ => ⟨S4096x1024, .f32⟩
  | .hbm, ⟨6, _⟩ => ⟨S_, .f32⟩
  | .hbm, ⟨7, _⟩ => ⟨S4096x1024, .f32⟩
  | .hbm, ⟨8, _⟩ => ⟨S4096x1024, .f32⟩
  | .hbm, ⟨9, _⟩ => ⟨S4096x1024, .f32⟩
  | _, _ => ⟨S4096x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩

abbrev nD : Nat := 1
abbrev τ : Topo := Topo.v7x

variable {F : FTy → Type} [FloatOps F]
-- ==== AttDo.lean ====
abbrev S4096x1024 : Shape := ⟨2, ![4096, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .f32⟩
  | .hbm, ⟨1, _⟩ => ⟨S1024x1024, .bf16⟩
  | .hbm, ⟨2, _⟩ => ⟨S4096x1024, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== AttDoRefIdeal.lean ====
abbrev S4096x1024 : Shape := ⟨2, ![4096, 1024]⟩
abbrev S1024x1024 : Shape := ⟨2, ![1024, 1024]⟩
abbrev S_ : Shape := ⟨0, ![]⟩

abbrev nBuf : Space → Nat
  | .hbm => 7
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x1024, .bf16⟩
  | .hbm, ⟨2, _⟩ => ⟨S_, .f32⟩
  | .hbm, ⟨3, _⟩ => ⟨S4096x1024, .f32⟩
  | .hbm, ⟨4, _⟩ => ⟨S1024x1024, .f32⟩
  | .hbm, ⟨5, _⟩ => ⟨S4096x1024, .f32⟩
  | .hbm, ⟨6, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Dwqkv.lean ====
abbrev S4096x1024 : Shape := ⟨2, ![4096, 1024]⟩
abbrev S4096x1536 : Shape := ⟨2, ![4096, 1536]⟩
abbrev S_ : Shape := ⟨0, ![]⟩
abbrev S4x1024x384 : Shape := ⟨3, ![4, 1024, 384]⟩
abbrev S2048x1024 : Shape := ⟨2, ![2048, 1024]⟩
abbrev S2048x384 : Shape := ⟨2, ![2048, 384]⟩
abbrev S1x1024x384 : Shape := ⟨3, ![1, 1024, 384]⟩
abbrev S1024x384 : Shape := ⟨2, ![1024, 384]⟩

abbrev nBuf : Space → Nat
  | .hbm => 5
  | .vmem => 7
  | .smem => 0
  | _ => 0

abbrev bufTy : (tb : Table) → Fin (tcTables nBuf tb) → BufTy
  | .hbm, ⟨0, _⟩ => ⟨S4096x1024, .bf16⟩
  | .hbm, ⟨1, _⟩ => ⟨S4096x1536, .bf16⟩
  | .hbm, ⟨2, _⟩ => ⟨S_, .bf16⟩
  | .hbm, ⟨3, _⟩ => ⟨S4x1024x384, .bf16⟩
  | .hbm, ⟨4, _⟩ => ⟨S4x1024x384, .bf16⟩
  | .local _ .vmem, ⟨0, _⟩ => ⟨S2048x1024, .bf16⟩
  | .local _ .vmem, ⟨1, _⟩ => ⟨S2048x1024, .bf16⟩
  | .local _ .vmem, ⟨2, _⟩ => ⟨S2048x384, .bf16⟩
  | .local _ .vmem, ⟨3, _⟩ => ⟨S2048x384, .bf16⟩
  | .local _ .vmem, ⟨4, _⟩ => ⟨S1x1024x384, .bf16⟩
  | .local _ .vmem, ⟨5, _⟩ => ⟨S1x1024x384, .bf16⟩
  | .local _ .vmem, ⟨6, _⟩ => ⟨S1024x384, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 4, 2], ![false, false, false]⟩

def k0_cond2 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg0
  let c0_i32_0 : BitVec 32 := 0#32
  let c0_i32_1 : BitVec 32 := 0#32
  ![arg1.toNat, v0.toNat, c0_i32_0.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x384 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x384 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DwqkvRefIdeal.lean ====
abbrev S4096x1024 : Shape := ⟨2, ![4096, 1024]⟩
abbrev S4096x1536 : Shape := ⟨2, ![4096, 1536]⟩
abbrev S_ : Shape := ⟨0, ![]⟩
abbrev S1024x1536 : Shape := ⟨2, ![1024, 1536]⟩
abbrev S1536x1024 : Shape := ⟨2, ![1536, 1024]⟩
abbrev S1024x4x384 : Shape := ⟨3, ![1024, 4, 384]⟩
abbrev S4x1024x384 : Shape := ⟨3, ![4, 1024, 384]⟩

abbrev nBuf : Space → Nat
  | .hbm => 12
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x1536, .bf16⟩
  | .hbm, ⟨2, _⟩ => ⟨S_, .f32⟩
  | .hbm, ⟨3, _⟩ => ⟨S1024x1536, .f32⟩
  | .hbm, ⟨4, _⟩ => ⟨S4096x1024, .f32⟩
  | .hbm, ⟨5, _⟩ => ⟨S4096x1536, .f32⟩
  | .hbm, ⟨6, _⟩ => ⟨S4096x1536, .f32⟩
  | .hbm, ⟨7, _⟩ => ⟨S1536x1024, .f32⟩
  | .hbm, ⟨8, _⟩ => ⟨S1024x1536, .f32⟩
  | .hbm, ⟨9, _⟩ => ⟨S1024x4x384, .f32⟩
  | .hbm, ⟨10, _⟩ => ⟨S4x1024x384, .f32⟩
  | .hbm, ⟨11, _⟩ => ⟨S4x1024x384, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== AttO.lean ====
abbrev S4096x1024 : Shape := ⟨2, ![4096, 1024]⟩
abbrev S1024x1024 : Shape := ⟨2, ![1024, 1024]⟩
abbrev S1024 : Shape := ⟨1, ![1024]⟩
abbrev S1x1024 : Shape := ⟨2, ![1, 1024]⟩

abbrev nBuf : Space → Nat
  | .hbm => 6
  | .vmem => 9
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S1024, .f32⟩
  | .hbm, ⟨3, _⟩ => ⟨S4096x1024, .f32⟩
  | .hbm, ⟨4, _⟩ => ⟨S1x1024, .f32⟩
  | .hbm, ⟨5, _⟩ => ⟨S4096x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1x1024, .f32⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]
-- ==== AttORefIdeal.lean ====
abbrev S4096x1024 : Shape := ⟨2, ![4096, 1024]⟩
abbrev S1024x1024 : Shape := ⟨2, ![1024, 1024]⟩
abbrev S1024 : Shape := ⟨1, ![1024]⟩
abbrev S1x1024 : Shape := ⟨2, ![1, 1024]⟩

abbrev nBuf : Space → Nat
  | .hbm => 11
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S1024, .f32⟩
  | .hbm, ⟨3, _⟩ => ⟨S4096x1024, .f32⟩
  | .hbm, ⟨4, _⟩ => ⟨S4096x1024, .f32⟩
  | .hbm, ⟨5, _⟩ => ⟨S1024x1024, .f32⟩
  | .hbm, ⟨6, _⟩ => ⟨S4096x1024, .f32⟩
  | .hbm, ⟨7, _⟩ => ⟨S1x1024, .f32⟩
  | .hbm, ⟨8, _⟩ => ⟨S4096x1024, .f32⟩
  | .hbm, ⟨9, _⟩ => ⟨S4096x1024, .f32⟩
  | .hbm, ⟨10, _⟩ => ⟨S4096x1024, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩

abbrev nD : Nat := 1
abbrev τ : Topo := Topo.v7x

variable {F : FTy → Type} [FloatOps F]
-- ==== HybO.lean ====
abbrev S4096x1024 : Shape := ⟨2, ![4096, 1024]⟩
abbrev S1024x1024 : Shape := ⟨2, ![1024, 1024]⟩

abbrev nBuf : Space → Nat
  | .hbm => 4
  | .vmem => 8
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .f32⟩
  | .hbm, ⟨3, _⟩ => ⟨S4096x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== HybORefIdeal.lean ====
abbrev S4096x1024 : Shape := ⟨2, ![4096, 1024]⟩
abbrev S1024x1024 : Shape := ⟨2, ![1024, 1024]⟩

abbrev nBuf : Space → Nat
  | .hbm => 7
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .f32⟩
  | .hbm, ⟨3, _⟩ => ⟨S4096x1024, .f32⟩
  | .hbm, ⟨4, _⟩ => ⟨S1024x1024, .f32⟩
  | .hbm, ⟨5, _⟩ => ⟨S4096x1024, .f32⟩
  | .hbm, ⟨6, _⟩ => ⟨S4096x1024, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== FfnIn.lean ====
abbrev S4096x1024 : Shape := ⟨2, ![4096, 1024]⟩
abbrev S1024 : Shape := ⟨1, ![1024]⟩
abbrev S1024x5632 : Shape := ⟨2, ![1024, 5632]⟩
abbrev S1x1024 : Shape := ⟨2, ![1, 1024]⟩
abbrev S1024x4x1408 : Shape := ⟨3, ![1024, 4, 1408]⟩
abbrev S4x1024x1408 : Shape := ⟨3, ![4, 1024, 1408]⟩
abbrev S4096x5632 : Shape := ⟨2, ![4096, 5632]⟩
abbrev S4096x2816 : Shape := ⟨2, ![4096, 2816]⟩
abbrev S1024x1024 : Shape := ⟨2, ![1024, 1024]⟩
abbrev S1x1024x1408 : Shape := ⟨3, ![1, 1024, 1408]⟩
abbrev S1024x2816 : Shape := ⟨2, ![1024, 2816]⟩
abbrev S1024x1408 : Shape := ⟨2, ![1024, 1408]⟩
abbrev S1024x1 : Shape := ⟨2, ![1024, 1]⟩

abbrev nBuf : Space → Nat
  | .hbm => 9
  | .vmem => 13
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024x5632, .bf16⟩
  | .hbm, ⟨3, _⟩ => ⟨S1x1024, .f32⟩
  | .hbm, ⟨4, _⟩ => ⟨S1024x4x1408, .bf16⟩
  | .hbm, ⟨5, _⟩ => ⟨S4x1024x1408, .bf16⟩
  | .hbm, ⟨6, _⟩ => ⟨S4096x1024, .bf16⟩
  | .hbm, ⟨7, _⟩ => ⟨S4096x5632, .bf16⟩
  | .hbm, ⟨8, _⟩ => ⟨S4096x2816, .bf16⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1x1024x1408, .bf16⟩
  | .local _ .vmem, ⟨4, _⟩ => ⟨S1x1024x1408, .bf16⟩
  | .local _ .vmem, ⟨5, _⟩ => ⟨S1x1024x1408, .bf16⟩
  | .local _ .vmem, ⟨6, _⟩ => ⟨S1x1024x1408, .bf16⟩
  | .local _ .vmem, ⟨7, _⟩ => ⟨S1024x1024, .bf16⟩
  | .local _ .vmem, ⟨8, _⟩ => ⟨S1024x1024, .bf16⟩
  | .local _ .vmem, ⟨9, _⟩ => ⟨S1024x2816, .bf16⟩
  | .local _ .vmem, ⟨10, _⟩ => ⟨S1024x2816, .bf16⟩
  | .local _ .vmem, ⟨11, _⟩ => ⟨S1024x1408, .bf16⟩
  | .local _ .vmem, ⟨12, _⟩ => ⟨S1024x1408, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3_0 : Ref sig .tc := ⟨.hbm, 6, rfl⟩
abbrev main_v3_1 : Ref sig .tc := ⟨.hbm, 7, rfl⟩
abbrev main_v3_2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨2, ![4, 2], ![false, false]⟩

def k0_cond1 (i : grid0.Coords) : BitVec 1 :=
  let arg1 : BitVec 32 := BitVec.ofNat 32 (i 1).val
  let c0_i32 : BitVec 32 := 0#32
  let v16 : BitVec 1 := Scalar.cmpi .eq arg1 c0_i32
  let v17 : BitVec 32 := Scalar.extui v16
  let c0_i32_5 : BitVec 32 := 0#32
  let v18 : BitVec 1 := Scalar.cmpi .ne v17 c0_i32_5
  v18

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.addi c2_i32 arg1
  let c0_i32 : BitVec 32 := 0#32
  let c0_i32_0 : BitVec 32 := 0#32
  let c0_i32_1 : BitVec 32 := 0#32
  ![v0.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x1024x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1024x2816 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1024x1408 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== FfnInRefIdeal.lean ====
abbrev S4096x1024 : Shape := ⟨2, ![4096, 1024]⟩
abbrev S1024 : Shape := ⟨1, ![1024]⟩
abbrev S1024x5632 : Shape := ⟨2, ![1024, 5632]⟩
abbrev S_ : Shape := ⟨0, ![]⟩
abbrev S4096 : Shape := ⟨1, ![4096]⟩
abbrev S4096x1 : Shape := ⟨2, ![4096, 1]⟩
abbrev S1x1024 : Shape := ⟨2, ![1, 1024]⟩
abbrev S4096x5632 : Shape := ⟨2, ![4096, 5632]⟩
abbrev S4096x2816 : Shape := ⟨2, ![4096, 2816]⟩
abbrev S4096x2x2x1408 : Shape := ⟨4, ![4096, 2, 2, 1408]⟩

abbrev nBuf : Space → Nat
  | .hbm => 39
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024x5632, .bf16⟩
  | .hbm, ⟨3, _⟩ => ⟨S4096x1024, .f32⟩
  | .hbm, ⟨4, _⟩ => ⟨S_, .f32⟩
  | .hbm, ⟨5, _⟩ => ⟨S4096, .f32⟩
  | .hbm, ⟨6, _⟩ => ⟨S4096x1, .f32⟩
  | .hbm, ⟨7, _⟩ => ⟨S_, .f32⟩
  | .hbm, ⟨8, _⟩ => ⟨S4096x1, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S4096x1, .f32⟩
  | .hbm, ⟨14, _⟩ => ⟨S4096x1024, .f32⟩
  | .hbm, ⟨15, _⟩ => ⟨S4096x1024, .f32⟩
  | .hbm, ⟨16, _⟩ => ⟨S1x1024, .f32⟩
  | .hbm, ⟨17, _⟩ => ⟨S4096x1024, .f32⟩
  | .hbm, ⟨18, _⟩ => ⟨S4096x1024, .f32⟩
  | .hbm, ⟨19, _⟩ => ⟨S1024x5632, .f32⟩
  | .hbm, ⟨20, _⟩ => ⟨S4096x5632, .f32⟩
  | .hbm, ⟨21, _⟩ => ⟨S4096x2816, .f32⟩
  | .hbm, ⟨22, _⟩ => ⟨S4096x2816, .f32⟩
  | .hbm, ⟨23, _⟩ => ⟨S4096x2x2x1408, .f32⟩
  | .hbm, ⟨24, _⟩ => ⟨S4096x2x2x1408, .f32⟩
  | .hbm, ⟨25, _⟩ => ⟨S4096x5632, .f32⟩
  | .hbm, ⟨26, _⟩ => ⟨S4096x1024, .bf16⟩
  | .hbm, ⟨27, _⟩ => ⟨S4096x5632, .bf16⟩
  | .hbm, ⟨28, _⟩ => ⟨S4096x2816, .f32⟩
  | .hbm, ⟨29, _⟩ => ⟨S4096x2816, .f32⟩
  | .hbm, ⟨30, _⟩ => ⟨S_, .f32⟩
  | .hbm, ⟨31, _⟩ => ⟨S4096x2816, .f32⟩
  | .hbm, ⟨32, _⟩ => ⟨S4096x2816, .f32⟩
  | .hbm, ⟨33, _⟩ => ⟨S_, .f32⟩
  | .hbm, ⟨34, _⟩ => ⟨S4096x2816, .f32⟩
  | .hbm, ⟨35, _⟩ => ⟨S4096x2816, .f32⟩
  | .hbm, ⟨36, _⟩ => ⟨S4096x2816, .f32⟩
  | .hbm, ⟨37, _⟩ => ⟨S4096x2816, .f32⟩
  | .hbm, ⟨38, _⟩ => ⟨S4096x2816, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_call0_v0 : Ref sig .tc := ⟨.hbm, 28, rfl⟩
abbrev main_call0_v1 : Ref sig .tc := ⟨.hbm, 29, rfl⟩
abbrev main_call0_cst : Ref sig .tc := ⟨.hbm, 30, rfl⟩
abbrev main_call0_v2 : Ref sig .tc := ⟨.hbm, 31, rfl⟩
abbrev main_call0_v3 : Ref sig .tc := ⟨.hbm, 32, rfl⟩
abbrev main_call0_cst_0 : Ref sig .tc := ⟨.hbm, 33, rfl⟩
abbrev main_call0_v4 : Ref sig .tc := ⟨.hbm, 34, rfl⟩
abbrev main_call0_v5 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== Proof.Reals.lean ====
/-
  Extended reals that are real numbers: the facts shared by every value proof of this certificate. A finiteness
  precondition gives a real number at each index; sums, products, exponentials and quotients of real numbers are then
  real numbers, and an equation between them is an equation of real numbers.
-/
module

public import Idealize.ShloMosaic.Lib.Pipeline.ValueKit
public import Idealize.ShloMosaic.Lib.Pointwise.Tactic
public import Idealize.ShloMosaic.Lib.IdealHost
public import Idealize.ShloMosaic.PureOps.Ideal.Laws
public import Mathlib.Analysis.SpecialFunctions.Trigonometric.DerivHyp

@[expose] public section

noncomputable section

namespace Cert.Reals

open Idealize.ShloMosaic

/-- The pattern `0x3F000000` is one half. -/
theorem half : Ideal.ofBits .f32 0x3F000000#32 = ((1 / 2 : ℝ) : EReal) := by
  simp [Ideal.ofBits, Ideal.ieee, -EReal.coe_mul]; norm_num

/-- The pattern `0x7F800000` is infinity. -/
theorem infty : Ideal.ofBits .f32 0x7F800000#32 = ⊤ := by
  simp [Ideal.ofBits, Ideal.ieee]

/-- An element whose absolute value compares below infinity is a real number. -/
theorem real_of_lt {x : EReal} (h : Ideal.cmp .olt (max x (-x)) (Ideal.ofBits .f32 0x7F800000#32) = 1#1) : ∃ r : ℝ, x = r := by
  rw [infty] at h
  induction x using EReal.rec with
  | bot => exfalso; revert h; simp [Ideal.cmp]
  | top => exfalso; revert h; simp [Ideal.cmp]
  | coe r => exact ⟨r, rfl⟩

/-- A finite sum of real numbers, read among the extended reals. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The logistic function through the hyperbolic tangent of half its argument. -/
theorem sigmoid_tanh (a : ℝ) : 1 / 2 * Real.tanh (1 / 2 * a) + 1 / 2 = (1 + Real.exp (-a))⁻¹ := by
  have h : Real.exp (-a) = Real.exp (-(1 / 2 * a)) * Real.exp (-(1 / 2 * a)) := by rw [← Real.exp_add]; congr 1; ring
  have h1 : Real.exp (1 / 2 * a) * Real.exp (-(1 / 2 * a)) = 1 := by rw [← Real.exp_add]; simp
  have p1 := Real.exp_pos (1 / 2 * a)
  have p2 := Real.exp_pos (-(1 / 2 * a))
  rw [Real.tanh_eq_sinh_div_cosh, Real.sinh_eq, Real.cosh_eq, h]
  generalize Real.exp (1 / 2 * a) = u at *
  generalize Real.exp (-(1 / 2 * a)) = v at *
  field_simp
  nlinarith

end Cert.Reals

end
-- ==== Proof.AttMath.lean ====
/-
  The gradient of one block of the banded attention over the real numbers. A block has 128 query rows, 16 heads of 64
  lanes, and the 256 key rows of the block before it and of itself; four heads share one key head. The functions below
  read the block's arrays by row and column; `ok` says which keys a query sees.
-/
module

public import proofs.«01_k».proof.Proof.Reals

@[expose] public section

noncomputable section

namespace Cert.AttMath

open Idealize.ShloMosaic Cert.Reals

/-- Query row `r` of block `n` sees key row `s`: a window of 128 keys ending at the query itself, and no key before
    the sequence's first. -/
def ok (n r s : ℕ) : Prop := r < s ∧ s ≤ r + 128 ∧ (128 ≤ s ∨ 0 < n)

instance (n r s : ℕ) : Decidable (ok n r s) := by unfold ok; infer_instance

/-- Four heads stacked along the rows, each moved to the lanes of its key head; the other lanes are zero. -/
def stk (kh : ℕ) (f : ℕ → ℕ → ℝ) (a l : ℕ) : ℝ := if l / 64 = kh then f (a % 128) (64 * (a / 128) + l % 64) else 0

/-- The rows of block `n`. -/
def sh (n : ℕ) (f : ℕ → ℕ → ℝ) (r c : ℕ) : ℝ := f (128 * n + r) c

/-- The rows of the block before block `n`, then of block `n`. The first block stands before itself. -/
def pair (n : ℕ) (f : ℕ → ℕ → ℝ) (s c : ℕ) : ℝ := if s < 128 then f (128 * (n - 1) + s) c else f (128 * n + (s - 128)) c

section block

variable (n : ℕ) (q g o : ℕ → ℕ → ℝ) (lse : ℕ → ℕ → ℝ) (k v : ℕ → ℕ → ℝ) (sink : ℕ → ℝ)

/-- The scaled logit of head `h`. -/
def logit (h r s : ℕ) : ℝ := (∑ d : Fin 64, q r (64 * h + d) * k s (64 * (h / 4) + d)) * (1 / 8)

/-- The probability, from the saved logarithm of the row's denominator. -/
def prob (h r s : ℕ) : ℝ := if ok n r s then Real.exp (logit q k h r s - lse r h) else 0

/-- The gradient of the probability. -/
def dprob (h r s : ℕ) : ℝ := ∑ d : Fin 64, g r (64 * h + d) * v s (64 * (h / 4) + d)

/-- The row's product of the output with its gradient. -/
def delta (h r : ℕ) : ℝ := ∑ d : Fin 64, g r (64 * h + d) * o r (64 * h + d)

/-- The gradient of the unscaled logit. -/
def dlogit (h r s : ℕ) : ℝ := prob n q lse k h r s * (dprob g v h r s - delta g o h r) * (1 / 8)

/-- The gradient of the queries. -/
def dquery (r c : ℕ) : ℝ := ∑ s : Fin 256, dlogit n q g o lse k v (c / 64) r s * k s (64 * (c / 256) + c % 64)

/-- A key column's sum over the four heads of its key head and the rows of the block. -/
def dcol (p : ℕ → ℕ → ℕ → ℝ) (f : ℕ → ℕ → ℝ) (s c : ℕ) : ℝ :=
  ∑ t : Fin 4, ∑ r : Fin 128, p (4 * (c / 64) + t) r s * f r (64 * (4 * (c / 64) + t) + c % 64)

/-- The gradient of the keys. -/
def dkey (s c : ℕ) : ℝ := dcol (dlogit n q g o lse k v) q s c

/-- The gradient of the values. -/
def dvalue (s c : ℕ) : ℝ := dcol (prob n q lse k) g s c

/-- The block's part of the gradient of the sink logit, without its sign. -/
def dsink (h : ℕ) : ℝ := ∑ r : Fin 128, Real.exp (sink h - lse r h) * delta g o h r

end block

/-- A sum over 128 lanes, one half after the other. -/
theorem sum128 (f : ℕ → ℝ) : ∑ l : Fin 128, f l = ∑ d : Fin 64, f d + ∑ d : Fin 64, f (64 + d) :=
  Fin.sum_univ_add (a := 64) (b := 64) (fun l => f l)

/-- A sum over the lanes of a stacked row keeps the lanes of the key head. -/
theorem sum_stk (kh : ℕ) (hk : kh < 2) (f : ℕ → ℕ → ℝ) (a : ℕ) (x : ℕ → ℝ) :
    ∑ l : Fin 128, stk kh f a l * x l = ∑ d : Fin 64, f (a % 128) (64 * (a / 128) + d) * x (64 * kh + d) := by
  rw [sum128 (fun l => stk kh f a l * x l), ← Finset.sum_add_distrib]
  refine Finset.sum_congr rfl fun d _ => ?_
  have hd := d.isLt
  unfold stk
  have e0 : (d : ℕ) / 64 = 0 := by omega
  have e1 : (64 + (d : ℕ)) / 64 = 1 := by omega
  have e2 : (d : ℕ) % 64 = d := by omega
  have e3 : (64 + (d : ℕ)) % 64 = d := by omega
  rw [e0, e1, e2, e3]
  rcases (by omega : kh = 0 ∨ kh = 1) with rfl | rfl
  · simp
  · simp

/-- A sum over the stacked rows, head by head. -/
theorem sum512 (f : ℕ → ℝ) : ∑ a : Fin 512, f a = ∑ t : Fin 4, ∑ r : Fin 128, f (128 * t + r) := by
  rw [← Fintype.sum_prod_type' (f := fun (t : Fin 4) (r : Fin 128) => f (128 * t + r)),
    ← (finProdFinEquiv (m := 4) (n := 128)).sum_comp]
  refine Finset.sum_congr rfl fun x _ => congrArg f ?_
  simp [finProdFinEquiv]; omega

/-- A sum over 1024 lanes that keeps one head's. -/
theorem sum_head (f : ℕ → ℝ) (h : ℕ) (hh : h < 16) :
    ∑ c : Fin 1024, f c * (if c.val / 64 = h then 1 else 0) = ∑ d : Fin 64, f (64 * h + d) := by
  have e : ∑ c : Fin 1024, f c * (if c.val / 64 = h then 1 else 0)
      = ∑ t : Fin 16, ∑ d : Fin 64, f (64 * t.val + d) * (if t.val = h then 1 else 0) := by
    rw [← Fintype.sum_prod_type' (f := fun (t : Fin 16) (d : Fin 64) => f (64 * t.val + d) * (if t.val = h then 1 else 0)),
      ← (finProdFinEquiv (m := 16) (n := 64)).sum_comp]
    refine Finset.sum_congr rfl fun x _ => ?_
    have h2 := x.2.isLt
    have e1 : (finProdFinEquiv (m := 16) (n := 64) x).val = 64 * x.1.val + x.2.val := by simp [finProdFinEquiv]; omega
    rw [e1, (by omega : (64 * x.1.val + x.2.val) / 64 = x.1.val)]
  rw [e, Finset.sum_eq_single (⟨h, hh⟩ : Fin 16)]
  · simp
  · intro t _ ht
    have : t.val ≠ h := fun e => ht (Fin.ext e)
    simp [this]
  · simp

/-- Four lanes' numbers subtracted from a row that holds the lanes before them. -/
theorem sub_four (S : ℕ → ℝ) (b l : ℕ) :
    (if l < b then -S l else 0) - S b * (if l = b then 1 else 0) - S (b + 1) * (if l = b + 1 then 1 else 0)
        - S (b + 2) * (if l = b + 2 then 1 else 0) - S (b + 3) * (if l = b + 3 then 1 else 0)
      = if l < b + 4 then -S l else 0 := by
  rcases (by omega : l < b ∨ l = b ∨ l = b + 1 ∨ l = b + 2 ∨ l = b + 3 ∨ b + 4 ≤ l) with h | h | h | h | h | h
  · have : l < b + 4 ∧ l ≠ b ∧ l ≠ b + 1 ∧ l ≠ b + 2 ∧ l ≠ b + 3 := by omega
    simp [h, this]
  all_goals first
    | (subst h; simp; done)
    | (have : ¬ l < b + 4 ∧ ¬ l < b ∧ l ≠ b ∧ l ≠ b + 1 ∧ l ≠ b + 2 ∧ l ≠ b + 3 := by omega
       simp [this])

end Cert.AttMath

end
-- ==== Proof.AttCore.lean ====
/-
  What the arrays inside the attention gradient's kernel hold, said once for all four key heads, and the sums and
  exponentials over such arrays.
-/
module

public import proofs.«01_k».proof.Proof.Gen.AttnIdeal.Value
public import proofs.«01_k».proof.Proof.AttMath
public import Idealize.ShloMosaic.Lib.Pipeline.ValueKit
public import Idealize.ShloMosaic.Lib.Pointwise.Tactic

@[expose] public section

set_option maxRecDepth 16384

noncomputable section

open Idealize.ShloMosaic Idealize.ShloMosaic.TcCoe Idealize.SL.Sem

namespace Cert.AttnIdeal.Block

open Cert.AttnIdeal Cert.AttnIdeal.Gen Cert.AttMath Cert.Reals

/-- A bit that says a proposition. -/
abbrev bit (p : Prop) [Decidable p] : BitVec 1 := if p then 1#1 else 0#1

theorem select_bit {α : Type} (p : Prop) [Decidable p] (x y : α) : Scalar.select (bit p) x y = if p then x else y := by
  unfold bit; split_ifs <;> rfl

/-- The pattern `0x3E000000` is one eighth. -/
theorem eighth : Ideal.ofBits .f32 0x3E000000#32 = ((1 / 8 : ℝ) : EReal) := by
  simp [Ideal.ofBits, Ideal.ieee, -EReal.coe_mul]; norm_num

/-- The four heads of key head `j`, stacked on the lanes of that key head. -/
def IsStk (j : ℕ) (f : ℕ → ℕ → ℝ) (x : S512x128.Idx → EReal) : Prop :=
  ∀ (a : Fin 512) (l : Fin 128), x (ix2 a l) = (stk (j % 2) (fun r c => f r (256 * j + c)) a l : ℝ)

/-- The pair of key heads that holds key head `j`. -/
def IsKeys (j : ℕ) (k : ℕ → ℕ → ℝ) (x : S256x128.Idx → EReal) : Prop :=
  ∀ (s : Fin 256) (l : Fin 128), x (ix2 s l) = (k s (128 * (j / 2) + l.val) : ℝ)

/-- A number of every row of the four heads of key head `j`. -/
def IsRows (j : ℕ) (w : ℕ → ℕ → ℝ) (x : S512x1.Idx → EReal) : Prop :=
  ∀ a : Fin 512, x (ix2 a 0) = (w (a.val % 128) (4 * j + a.val / 128) : ℝ)

/-- A number of every row of the four heads and every key. -/
def IsPairs (j : ℕ) (p : ℕ → ℕ → ℕ → ℝ) (x : S512x256.Idx → EReal) : Prop :=
  ∀ (a : Fin 512) (s : Fin 256), x (ix2 a s) = (p (4 * j + a.val / 128) (a.val % 128) s : ℝ)

/-- Product of a stacked row with a key row. -/
theorem core_nt {j : ℕ} {q k : ℕ → ℕ → ℝ} {x : S512x128.Idx → EReal} {y : S256x128.Idx → EReal}
    (hx : IsStk j q x) (hy : IsKeys j k y) (hj : j < 4) (a : Fin 512) (s : Fin 256) :
    ∑ l : Fin 128, x (ix2 a l) * y (ix2 s l)
      = ((∑ d : Fin 64, q (a.val % 128) (64 * (4 * j + a.val / 128) + d.val)
          * k s (64 * ((4 * j + a.val / 128) / 4) + d.val) : ℝ) : EReal) := by
  have ha := a.isLt
  have e : ∀ l : Fin 128, x (ix2 a l) * y (ix2 s l)
      = ((stk (j % 2) (fun r c => q r (256 * j + c)) a l * (fun l => k s (128 * (j / 2) + l)) l : ℝ) : EReal) := fun l => by
    rw [hx, hy, EReal.coe_mul]
  rw [Finset.sum_congr rfl fun l _ => e l, ← coe_sum, sum_stk _ (by omega) (fun r c => q r (256 * j + c)) a (fun l => k s (128 * (j / 2) + l))]
  refine congrArg _ (Finset.sum_congr rfl fun d _ => congrArg₂ (· * ·) (congrArg (q _) ?_) (congrArg (k _) ?_)) <;> omega

/-- The probabilities from the saved denominators. -/
theorem core_prob {j n : ℕ} {q k lse : ℕ → ℕ → ℝ} {m : S512x256.Idx → BitVec 1} {x : S512x128.Idx → EReal}
    {y : S256x128.Idx → EReal} {w : S512x1.Idx → EReal}
    (hm : ∀ (a : Fin 512) (s : Fin 256), m (ix2 a s) = bit (ok n (a.val % 128) s.val))
    (hx : IsStk j q x) (hy : IsKeys j k y) (hw : IsRows j lse w) (hj : j < 4) (a : Fin 512) (s : Fin 256) :
    Ideal.exp (Scalar.select (m (ix2 a s)) ((∑ l : Fin 128, x (ix2 a l) * y (ix2 s l)) * Ideal.ofBits .f32 0x3E000000#32)
        (Named.named (F := Ideal) (φ := .f32) κ "mask" 0xF149F2CA#32) - w (ix2 a 0))
      = (prob n q lse k (4 * j + a.val / 128) (a.val % 128) s : ℝ) := by
  rw [core_nt hx hy hj, hm, select_bit, hw, eighth, IdealRules.named_const.ideal_named_scalar _ _ _ _ rfl]
  unfold prob logit
  split_ifs
  · rw [← EReal.coe_mul, ← EReal.coe_sub, Ideal.exp_coe]
  · rw [EReal.bot_sub]; rfl

/-- The gradient of the logits. -/
theorem core_dlogit {j n : ℕ} {q g o k v lse : ℕ → ℕ → ℝ} {p : S512x256.Idx → EReal} {x : S512x128.Idx → EReal}
    {y : S256x128.Idx → EReal} {w : S512x1.Idx → EReal}
    (hp : IsPairs j (prob n q lse k) p) (hx : IsStk j g x) (hy : IsKeys j v y) (hw : IsRows j (fun r h => delta g o h r) w)
    (hj : j < 4) (a : Fin 512) (s : Fin 256) :
    p (ix2 a s) * ((∑ l : Fin 128, x (ix2 a l) * y (ix2 s l)) - w (ix2 a 0)) * Ideal.ofBits .f32 0x3E000000#32
      = (dlogit n q g o lse k v (4 * j + a.val / 128) (a.val % 128) s : ℝ) := by
  rw [core_nt hx hy hj, hp, hw, eighth]
  unfold dlogit dprob
  push_cast
  rfl

/-- Product of the stacked rows' numbers with the keys. -/
theorem core_nn {j : ℕ} {p : ℕ → ℕ → ℕ → ℝ} {k : ℕ → ℕ → ℝ} {x : S512x256.Idx → EReal} {y : S256x128.Idx → EReal}
    (hx : IsPairs j p x) (hy : IsKeys j k y) (a : Fin 512) (l : Fin 128) :
    ∑ s : Fin 256, x (ix2 a s) * y (ix2 s l)
      = ((∑ s : Fin 256, p (4 * j + a.val / 128) (a.val % 128) s * k s (128 * (j / 2) + l.val) : ℝ) : EReal) := by
  rw [coe_sum]
  exact Finset.sum_congr rfl fun s _ => by rw [hx, hy, EReal.coe_mul]

/-- Product of the keys' numbers with the stacked rows: it falls on the lanes of the key head. -/
theorem core_tn {j : ℕ} {p : ℕ → ℕ → ℕ → ℝ} {q : ℕ → ℕ → ℝ} {x : S512x256.Idx → EReal} {y : S512x128.Idx → EReal}
    (hx : IsPairs j p x) (hy : IsStk j q y) (s : Fin 256) (l : Fin 128) :
    ∑ a : Fin 512, x (ix2 a s) * y (ix2 a l)
      = ((if l.val / 64 = j % 2 then ∑ t : Fin 4, ∑ r : Fin 128, p (4 * j + t.val) r s * q r (64 * (4 * j + t.val) + l.val % 64)
          else 0 : ℝ) : EReal) := by
  have e : ∀ a : Fin 512, x (ix2 a s) * y (ix2 a l)
      = (((fun a => p (4 * j + a / 128) (a % 128) s * stk (j % 2) (fun r c => q r (256 * j + c)) a l) a.val : ℝ) : EReal) := fun a => by
    rw [hx, hy, EReal.coe_mul]
  rw [Finset.sum_congr rfl fun a _ => e a, ← coe_sum, sum512 (fun a => p (4 * j + a / 128) (a % 128) s * stk (j % 2) (fun r c => q r (256 * j + c)) a l)]
  refine congrArg _ ?_
  unfold stk
  split_ifs
  · refine Finset.sum_congr rfl fun t _ => Finset.sum_congr rfl fun r _ => ?_
    have hr := r.isLt
    have e1 : (128 * t.val + r.val) / 128 = t.val := by omega
    have e2 : (128 * t.val + r.val) % 128 = r.val := by omega
    rw [e1, e2]
    exact congrArg (_ * ·) (congrArg (q _) (by omega))
  · simp

end Cert.AttnIdeal.Block

end
-- ==== Proof.AttPay.lean ====
/-
  The arrays the attention gradient's kernel forms at one grid point before its last products: the mask, the stacked
  queries and output gradients of each key head, the keys and values, the saved denominators, the row products, the
  probabilities and the gradients of the logits.
-/
module

public import proofs.«01_k».proof.Proof.Gen.AttnIdeal.Value
public import proofs.«01_k».proof.Proof.AttCore
public import Idealize.ShloMosaic.Lib.Pipeline.ValueKit
public import Idealize.ShloMosaic.Lib.Pointwise.Tactic

@[expose] public section

set_option maxRecDepth 16384

noncomputable section

open Idealize.ShloMosaic Idealize.ShloMosaic.TcCoe Idealize.SL.Sem

namespace Cert.AttnIdeal.Block

open Cert.AttnIdeal Cert.AttnIdeal.Gen Cert.AttMath Cert.Reals

/-- A choice by the lower half of the lanes. -/
theorem sel_lo {α : Type} (r l : Fin 128) (x y : α) : Scalar.select (k0_pay6 (ix2 r l)) x y = if l.val < 64 then x else y := by
  have e : k0_pay6 (ix2 r l) = if l.val < 64 then 1#1 else 0#1 := by
    unfold_payloads
    pointwise
    exact (by decide +kernel : ∀ l : Fin 128, IntOp.cmpi CmpIPredicate.slt (BitVec.ofNat 32 l.val) 64#32 = if l.val < 64 then 1#1 else 0#1) l
  rw [e]
  split_ifs <;> rfl

/-- A choice by the upper half of the lanes. -/
theorem sel_hi {α : Type} (r l : Fin 128) (x y : α) :
    Scalar.select (IntOp.xori (k0_pay6 (ix2 r l)) 1#1) x y = if l.val < 64 then y else x := by
  have e : IntOp.xori (k0_pay6 (ix2 r l)) 1#1 = if l.val < 64 then 0#1 else 1#1 := by
    unfold_payloads
    pointwise
    exact (by decide +kernel : ∀ l : Fin 128, IntOp.xori (IntOp.cmpi CmpIPredicate.slt (BitVec.ofNat 32 l.val) 64#32) 1#1
      = if l.val < 64 then 0#1 else 1#1) l
  rw [e]
  split_ifs <;> rfl

/-- The row within the block, as the kernel computes it from the stacked row. -/
theorem row_of : ∀ a : Fin 512, Scalar.select
    (IntOp.andi
      (IntOp.xori
        (IntOp.cmpi CmpIPredicate.slt
          (IntOp.remsi ArithUnit.vector (BitVec.ofNat 32 a.val) (Scalar.select (Scalar.cmpi CmpIPredicate.eq 128#32 0#32) 1#32 128#32)) 0#32)
        (Scalar.cmpi CmpIPredicate.slt (Scalar.select (Scalar.cmpi CmpIPredicate.eq 128#32 0#32) 1#32 128#32) 0#32))
      (IntOp.cmpi CmpIPredicate.ne
        (IntOp.remsi ArithUnit.vector (BitVec.ofNat 32 a.val) (Scalar.select (Scalar.cmpi CmpIPredicate.eq 128#32 0#32) 1#32 128#32)) 0#32))
    (IntOp.addi
      (IntOp.remsi ArithUnit.vector (BitVec.ofNat 32 a.val) (Scalar.select (Scalar.cmpi CmpIPredicate.eq 128#32 0#32) 1#32 128#32))
      (Scalar.select (Scalar.cmpi CmpIPredicate.eq 128#32 0#32) 1#32 128#32))
    (IntOp.remsi ArithUnit.vector (BitVec.ofNat 32 a.val) (Scalar.select (Scalar.cmpi CmpIPredicate.eq 128#32 0#32) 1#32 128#32))
    = BitVec.ofNat 32 (a.val % 128) := by decide +kernel

/-- The mask on a stacked row and a key, once the row within the block is known. -/
theorem mask_bits : ∀ (r : Fin 128) (s : Fin 256) (b : Fin 2),
    IntOp.andi (IntOp.andi (IntOp.cmpi CmpIPredicate.sgt (BitVec.ofNat 32 s.val) (BitVec.ofNat 32 r.val))
        (IntOp.cmpi CmpIPredicate.sle (BitVec.ofNat 32 s.val) (IntOp.addi (BitVec.ofNat 32 r.val) 128#32)))
      (IntOp.ori (IntOp.cmpi CmpIPredicate.sge (BitVec.ofNat 32 s.val) 128#32) (BitVec.ofNat 1 b.val))
    = bit (ok b.val r.val s.val) := by decide +kernel

/-- Whether the grid point is after the first. -/
theorem pos_bits : ∀ t : Fin 32, Scalar.cmpi CmpIPredicate.sgt (BitVec.ofNat 32 t.val) 0#32
    = BitVec.ofNat 1 (if 0 < t.val then 1 else 0) := by decide +kernel

theorem coords : ∀ t : Fin cfg0.N, (grid0.coords t 0).val = t.val :=
  (by decide +kernel : ∀ t : Fin grid0.N, (grid0.coords t 0).val = t.val)

/-- The mask. -/
theorem mask (t : Fin cfg0.N) (a : Fin 512) (s : Fin 256) :
    k0_pay5 (grid0.coords t) (ix2 a s) = bit (ok t.val (a.val % 128) s.val) := by
  unfold_payloads
  pointwise
  rw [row_of, coords, pos_bits ⟨t.val, t.isLt⟩]
  have h := mask_bits ⟨a.val % 128, by omega⟩ s (if 0 < t.val then 1 else 0)
  have e : ((if 0 < t.val then 1 else 0 : Fin 2) : Fin 2).val = if 0 < t.val then 1 else 0 := by split_ifs <;> rfl
  rw [e] at h
  refine h.trans ?_
  unfold bit ok
  have : (0 < if 0 < t.val then 1 else 0) ↔ 0 < t.val := by split_ifs <;> simp_all
  simp only [this]

/-- A tile of 128 lanes. -/
def IsTile (c : ℕ) (f : ℕ → ℕ → ℝ) (x : S128x128.Idx → EReal) : Prop := ∀ r l : Fin 128, x (ix2 r l) = (f r (c + l.val) : ℝ)

theorem stack_q0 {f : ℕ → ℕ → ℝ} {x0 x1 : Vec Ideal S128x128 .bf16} (h0 : IsTile 0 f x0) (h1 : IsTile 128 f x1) :
    IsStk 0 f (k0_pay15 (F := Ideal) k0_pay6 x0 x0 x1 x1) := by
  intro a l
  have ha := a.isLt
  have hl := l.isLt
  unfold k0_pay15
  pointwise
  unfold IsTile at h0 h1
  simp only [sel_lo, sel_hi, h0, h1]
  unfold stk
  split_ifs <;> first | omega | rfl | (refine congrArg _ (congrArg₂ f ?_ ?_) <;> omega)

theorem stack_q1 {f : ℕ → ℕ → ℝ} {x0 x1 : Vec Ideal S128x128 .bf16} (h0 : IsTile 256 f x0) (h1 : IsTile 384 f x1) :
    IsStk 1 f (k0_pay18 (F := Ideal) k0_pay6 (k0_pay16 k0_pay6 x0) (k0_pay17 k0_pay6 x0) x1 x1) := by
  intro a l
  have ha := a.isLt
  have hl := l.isLt
  unfold k0_pay18 k0_pay16 k0_pay17
  pointwise
  unfold IsTile at h0 h1
  simp only [sel_lo, sel_hi, h0, h1]
  unfold stk
  split_ifs <;> first | omega | rfl | (refine congrArg _ (congrArg₂ f ?_ ?_) <;> omega)

theorem stack_q2 {f : ℕ → ℕ → ℝ} {x0 x1 : Vec Ideal S128x128 .bf16} (h0 : IsTile 512 f x0) (h1 : IsTile 640 f x1) :
    IsStk 2 f (k0_pay19 (F := Ideal) k0_pay6 x0 x0 x1 x1) := by
  intro a l
  have ha := a.isLt
  have hl := l.isLt
  unfold k0_pay19
  pointwise
  unfold IsTile at h0 h1
  simp only [sel_lo, sel_hi, h0, h1]
  unfold stk
  split_ifs <;> first | omega | rfl | (refine congrArg _ (congrArg₂ f ?_ ?_) <;> omega)

theorem stack_q3 {f : ℕ → ℕ → ℝ} {x0 x1 : Vec Ideal S128x128 .bf16} (h0 : IsTile 768 f x0) (h1 : IsTile 896 f x1) :
    IsStk 3 f (k0_pay21 (F := Ideal) k0_pay6 (k0_pay20 k0_pay6 x0) x0 (constantI S128x128 1 1#1) x1 x1) := by
  intro a l
  have ha := a.isLt
  have hl := l.isLt
  unfold k0_pay21 k0_pay20
  pointwise
  unfold IsTile at h0 h1
  simp only [sel_lo, sel_hi, h0, h1]
  unfold stk
  split_ifs <;> first | omega | rfl | (refine congrArg _ (congrArg₂ f ?_ ?_) <;> omega)

theorem stack_g0 {f : ℕ → ℕ → ℝ} {x0 x1 : Vec Ideal S128x128 .f32} (h0 : IsTile 0 f x0) (h1 : IsTile 128 f x1) :
    IsStk 0 f (k0_pay22 (F := Ideal) k0_pay6 x0 x0 x1 x1) := by
  intro a l
  have ha := a.isLt
  have hl := l.isLt
  unfold k0_pay22
  pointwise
  unfold IsTile at h0 h1
  simp only [sel_lo, sel_hi, h0, h1]
  unfold stk
  split_ifs <;> first | omega | rfl | (refine congrArg _ (congrArg₂ f ?_ ?_) <;> omega)

theorem stack_g1 {f : ℕ → ℕ → ℝ} {x0 x1 : Vec Ideal S128x128 .f32} (h0 : IsTile 256 f x0) (h1 : IsTile 384 f x1) :
    IsStk 1 f (k0_pay24 (F := Ideal) k0_pay6 (k0_pay23 k0_pay6 x0) x0 x1 x1) := by
  intro a l
  have ha := a.isLt
  have hl := l.isLt
  unfold k0_pay24 k0_pay23
  pointwise
  unfold IsTile at h0 h1
  simp only [sel_lo, sel_hi, h0, h1]
  unfold stk
  split_ifs <;> first | omega | rfl | (refine congrArg _ (congrArg₂ f ?_ ?_) <;> omega)

theorem stack_g2 {f : ℕ → ℕ → ℝ} {x0 x1 : Vec Ideal S128x128 .f32} (h0 : IsTile 512 f x0) (h1 : IsTile 640 f x1) :
    IsStk 2 f (k0_pay25 (F := Ideal) k0_pay6 x0 x0 x1 x1) := by
  intro a l
  have ha := a.isLt
  have hl := l.isLt
  unfold k0_pay25
  pointwise
  unfold IsTile at h0 h1
  simp only [sel_lo, sel_hi, h0, h1]
  unfold stk
  split_ifs <;> first | omega | rfl | (refine congrArg _ (congrArg₂ f ?_ ?_) <;> omega)

theorem stack_g3 {f : ℕ → ℕ → ℝ} {x0 x1 : Vec Ideal S128x128 .f32} (h0 : IsTile 768 f x0) (h1 : IsTile 896 f x1) :
    IsStk 3 f (k0_pay26 (F := Ideal) k0_pay6 x0 x0 x1 x1) := by
  intro a l
  have ha := a.isLt
  have hl := l.isLt
  unfold k0_pay26
  pointwise
  unfold IsTile at h0 h1
  simp only [sel_lo, sel_hi, h0, h1]
  unfold stk
  split_ifs <;> first | omega | rfl | (refine congrArg _ (congrArg₂ f ?_ ?_) <;> omega)

/-- Two blocks of keys, the earlier first. -/
def IsBand (f : ℕ → ℕ → ℝ) (x : S256x256.Idx → EReal) : Prop := ∀ (s : Fin 256) (c : Fin 256), x (ix2 s c) = (f s c : ℝ)

theorem band_k {f : ℕ → ℕ → ℝ} {x y : Vec Ideal S128x256 .bf16} (hx : ∀ (r : Fin 128) (c : Fin 256), x (ix2 r c) = (f r c : ℝ))
    (hy : ∀ (r : Fin 128) (c : Fin 256), y (ix2 r c) = (f (128 + r.val) c : ℝ)) : IsBand f (k0_pay7 (F := Ideal) x y) := by
  intro s c
  have hs := s.isLt
  unfold k0_pay7
  pointwise
  simp only [hx, hy]
  split_ifs <;> first | rfl | (refine congrArg _ (congrArg₂ f ?_ rfl) <;> first | omega | (simp only; omega))

theorem band_v {f : ℕ → ℕ → ℝ} {x y : Vec Ideal S128x256 .bf16} (hx : ∀ (r : Fin 128) (c : Fin 256), x (ix2 r c) = (f r c : ℝ))
    (hy : ∀ (r : Fin 128) (c : Fin 256), y (ix2 r c) = (f (128 + r.val) c : ℝ)) : IsBand f (k0_pay8 (F := Ideal) x y) := by
  intro s c
  have hs := s.isLt
  unfold k0_pay8
  pointwise
  simp only [hx, hy]
  split_ifs <;> first | rfl | (refine congrArg _ (congrArg₂ f ?_ rfl) <;> first | omega | (simp only; omega))

theorem keys_k0 {f : ℕ → ℕ → ℝ} {x : FVec Ideal S256x256 .bf16} (h : IsBand f x) : IsKeys 0 f (k0_pay27 (F := Ideal) x) := by
  intro s l
  unfold k0_pay27
  pointwise
  unfold IsBand at h
  simp only [h]

theorem keys_k1 {f : ℕ → ℕ → ℝ} {x : FVec Ideal S256x256 .bf16} (h : IsBand f x) : IsKeys 1 f (k0_pay28 (F := Ideal) x) := by
  intro s l
  unfold k0_pay28
  pointwise
  unfold IsBand at h
  simp only [h]

theorem keys_k2 {f : ℕ → ℕ → ℝ} {x : FVec Ideal S256x256 .bf16} (h : IsBand f x) : IsKeys 2 f (k0_pay29 (F := Ideal) x) := by
  intro s l
  unfold k0_pay29
  pointwise
  unfold IsBand at h
  simp only [h]

theorem keys_k3 {f : ℕ → ℕ → ℝ} {x : FVec Ideal S256x256 .bf16} (h : IsBand f x) : IsKeys 3 f (k0_pay30 (F := Ideal) x) := by
  intro s l
  unfold k0_pay30
  pointwise
  unfold IsBand at h
  simp only [h]

theorem keys_v0 {f : ℕ → ℕ → ℝ} {x : FVec Ideal S256x256 .bf16} (h : IsBand f x) : IsKeys 0 f (k0_pay31 (F := Ideal) x) := by
  intro s l
  unfold k0_pay31
  pointwise
  unfold IsBand at h
  simp only [h]

theorem keys_v1 {f : ℕ → ℕ → ℝ} {x : FVec Ideal S256x256 .bf16} (h : IsBand f x) : IsKeys 1 f (k0_pay32 (F := Ideal) x) := by
  intro s l
  unfold k0_pay32
  pointwise
  unfold IsBand at h
  simp only [h]

theorem keys_v2 {f : ℕ → ℕ → ℝ} {x : FVec Ideal S256x256 .bf16} (h : IsBand f x) : IsKeys 2 f (k0_pay33 (F := Ideal) x) := by
  intro s l
  unfold k0_pay33
  pointwise
  unfold IsBand at h
  simp only [h]

theorem keys_v3 {f : ℕ → ℕ → ℝ} {x : FVec Ideal S256x256 .bf16} (h : IsBand f x) : IsKeys 3 f (k0_pay34 (F := Ideal) x) := by
  intro s l
  unfold k0_pay34
  pointwise
  unfold IsBand at h
  simp only [h]

theorem rows_lse0 {f : ℕ → ℕ → ℝ} {x0 x1 x2 x3 : Vec Ideal S128x1 .f32}
    (h0 : ∀ r : Fin 128, x0 (ix2 r 0) = (f r 0 : ℝ)) (h1 : ∀ r : Fin 128, x1 (ix2 r 0) = (f r 1 : ℝ))
    (h2 : ∀ r : Fin 128, x2 (ix2 r 0) = (f r 2 : ℝ)) (h3 : ∀ r : Fin 128, x3 (ix2 r 0) = (f r 3 : ℝ)) :
    IsRows 0 f (k0_pay35 (F := Ideal) x0 x1 x2 x3) := by
  intro a
  have ha := a.isLt
  unfold k0_pay35
  pointwise
  simp only [h0, h1, h2, h3]
  split_ifs <;> (refine congrArg _ (congrArg₂ f ?_ ?_) <;> first | omega | (simp only; omega))

theorem rows_lse1 {f : ℕ → ℕ → ℝ} {x0 x1 x2 x3 : Vec Ideal S128x1 .f32}
    (h0 : ∀ r : Fin 128, x0 (ix2 r 0) = (f r 4 : ℝ)) (h1 : ∀ r : Fin 128, x1 (ix2 r 0) = (f r 5 : ℝ))
    (h2 : ∀ r : Fin 128, x2 (ix2 r 0) = (f r 6 : ℝ)) (h3 : ∀ r : Fin 128, x3 (ix2 r 0) = (f r 7 : ℝ)) :
    IsRows 1 f (k0_pay36 (F := Ideal) x0 x1 x2 x3) := by
  intro a
  have ha := a.isLt
  unfold k0_pay36
  pointwise
  simp only [h0, h1, h2, h3]
  split_ifs <;> (refine congrArg _ (congrArg₂ f ?_ ?_) <;> first | omega | (simp only; omega))

theorem rows_lse2 {f : ℕ → ℕ → ℝ} {x0 x1 x2 x3 : Vec Ideal S128x1 .f32}
    (h0 : ∀ r : Fin 128, x0 (ix2 r 0) = (f r 8 : ℝ)) (h1 : ∀ r : Fin 128, x1 (ix2 r 0) = (f r 9 : ℝ))
    (h2 : ∀ r : Fin 128, x2 (ix2 r 0) = (f r 10 : ℝ)) (h3 : ∀ r : Fin 128, x3 (ix2 r 0) = (f r 11 : ℝ)) :
    IsRows 2 f (k0_pay37 (F := Ideal) x0 x1 x2 x3) := by
  intro a
  have ha := a.isLt
  unfold k0_pay37
  pointwise
  simp only [h0, h1, h2, h3]
  split_ifs <;> (refine congrArg _ (congrArg₂ f ?_ ?_) <;> first | omega | (simp only; omega))

theorem rows_lse3 {f : ℕ → ℕ → ℝ} {x0 x1 x2 x3 : Vec Ideal S128x1 .f32}
    (h0 : ∀ r : Fin 128, x0 (ix2 r 0) = (f r 12 : ℝ)) (h1 : ∀ r : Fin 128, x1 (ix2 r 0) = (f r 13 : ℝ))
    (h2 : ∀ r : Fin 128, x2 (ix2 r 0) = (f r 14 : ℝ)) (h3 : ∀ r : Fin 128, x3 (ix2 r 0) = (f r 15 : ℝ)) :
    IsRows 3 f (k0_pay38 (F := Ideal) x0 x1 x2 x3) := by
  intro a
  have ha := a.isLt
  unfold k0_pay38
  pointwise
  simp only [h0, h1, h2, h3]
  split_ifs <;> (refine congrArg _ (congrArg₂ f ?_ ?_) <;> first | omega | (simp only; omega))

theorem rows_delta0 {f : ℕ → ℕ → ℝ} {x : FVec Ideal S128x16 .f32} (h : ∀ (r : Fin 128) (c : Fin 16), x (ix2 r c) = (f r c : ℝ)) :
    IsRows 0 f (k0_pay39 (F := Ideal) x) := by
  intro a
  have ha := a.isLt
  unfold k0_pay39
  pointwise
  simp only [h]
  split_ifs <;> (refine congrArg _ (congrArg₂ f ?_ ?_) <;> first | omega | (simp only; omega))

theorem rows_delta1 {f : ℕ → ℕ → ℝ} {x : FVec Ideal S128x16 .f32} (h : ∀ (r : Fin 128) (c : Fin 16), x (ix2 r c) = (f r c : ℝ)) :
    IsRows 1 f (k0_pay40 (F := Ideal) x) := by
  intro a
  have ha := a.isLt
  unfold k0_pay40
  pointwise
  simp only [h]
  split_ifs <;> (refine congrArg _ (congrArg₂ f ?_ ?_) <;> first | omega | (simp only; omega))

theorem rows_delta2 {f : ℕ → ℕ → ℝ} {x : FVec Ideal S128x16 .f32} (h : ∀ (r : Fin 128) (c : Fin 16), x (ix2 r c) = (f r c : ℝ)) :
    IsRows 2 f (k0_pay42 (F := Ideal) x (k0_pay41 x)) := by
  intro a
  have ha := a.isLt
  unfold k0_pay42 k0_pay41
  pointwise
  simp only [h]
  split_ifs <;> (refine congrArg _ (congrArg₂ f ?_ ?_) <;> first | omega | (simp only; omega))

theorem rows_delta3 {f : ℕ → ℕ → ℝ} {x : FVec Ideal S128x16 .f32} (h : ∀ (r : Fin 128) (c : Fin 16), x (ix2 r c) = (f r c : ℝ)) :
    IsRows 3 f (k0_pay43 (F := Ideal) x) := by
  intro a
  have ha := a.isLt
  unfold k0_pay43
  pointwise
  simp only [h]
  split_ifs <;> (refine congrArg _ (congrArg₂ f ?_ ?_) <;> first | omega | (simp only; omega))

theorem probs0 {n : ℕ} {q k lse : ℕ → ℕ → ℝ} {m : IVec S512x256 1} {x : FVec Ideal S512x128 .bf16} {y : FVec Ideal S256x128 .bf16}
    {w : FVec Ideal S512x1 .f32} (hm : ∀ (a : Fin 512) (s : Fin 256), m (ix2 a s) = bit (ok n (a.val % 128) s.val))
    (hx : IsStk 0 q x) (hy : IsKeys 0 k y) (hw : IsRows 0 lse w) :
    IsPairs 0 (prob n q lse k) (k0_pay44 (F := Ideal) m x y w) := by
  intro a s
  unfold k0_pay44
  pointwise
  simpa only [Nat.mul_zero, Nat.zero_add] using core_prob hm hx hy hw (by decide) a s

theorem probs1 {n : ℕ} {q k lse : ℕ → ℕ → ℝ} {m : IVec S512x256 1} {x : FVec Ideal S512x128 .bf16} {y : FVec Ideal S256x128 .bf16}
    {w : FVec Ideal S512x1 .f32} (hm : ∀ (a : Fin 512) (s : Fin 256), m (ix2 a s) = bit (ok n (a.val % 128) s.val))
    (hx : IsStk 1 q x) (hy : IsKeys 1 k y) (hw : IsRows 1 lse w) :
    IsPairs 1 (prob n q lse k) (k0_pay45 (F := Ideal) m x y w) := by
  intro a s
  unfold k0_pay45
  pointwise
  exact core_prob hm hx hy hw (by decide) a s

theorem probs2 {n : ℕ} {q k lse : ℕ → ℕ → ℝ} {m : IVec S512x256 1} {x : FVec Ideal S512x128 .bf16} {y : FVec Ideal S256x128 .bf16}
    {w : FVec Ideal S512x1 .f32} (hm : ∀ (a : Fin 512) (s : Fin 256), m (ix2 a s) = bit (ok n (a.val % 128) s.val))
    (hx : IsStk 2 q x) (hy : IsKeys 2 k y) (hw : IsRows 2 lse w) :
    IsPairs 2 (prob n q lse k) (k0_pay46 (F := Ideal) m x y w) := by
  intro a s
  unfold k0_pay46
  pointwise
  exact core_prob hm hx hy hw (by decide) a s

theorem probs3 {n : ℕ} {q k lse : ℕ → ℕ → ℝ} {m : IVec S512x256 1} {x : FVec Ideal S512x128 .bf16} {y : FVec Ideal S256x128 .bf16}
    {w : FVec Ideal S512x1 .f32} (hm : ∀ (a : Fin 512) (s : Fin 256), m (ix2 a s) = bit (ok n (a.val % 128) s.val))
    (hx : IsStk 3 q x) (hy : IsKeys 3 k y) (hw : IsRows 3 lse w) :
    IsPairs 3 (prob n q lse k) (k0_pay47 (F := Ideal) m x y w) := by
  intro a s
  unfold k0_pay47
  pointwise
  exact core_prob hm hx hy hw (by decide) a s

theorem dlogits0 {n : ℕ} {q g o k v lse : ℕ → ℕ → ℝ} {m : IVec S512x256 1} {z : FVec Ideal S512x128 .bf16}
    {x : FVec Ideal S512x128 .f32} {y0 y : FVec Ideal S256x128 .bf16} {w0 w : FVec Ideal S512x1 .f32}
    (hp : IsPairs 0 (prob n q lse k) (k0_pay44 (F := Ideal) m z y0 w0)) (hx : IsStk 0 g x)
    (hy : IsKeys 0 v y) (hw : IsRows 0 (fun r h => delta g o h r) w) :
    IsPairs 0 (dlogit n q g o lse k v) (k0_pay49 (k0_pay48 (F := Ideal) m z x y0 y w0 w) (Ideal.ofBits .f32 0x3E000000#32)) := by
  intro a s
  unfold k0_pay49 k0_pay48
  pointwise
  simpa only [Nat.mul_zero, Nat.zero_add] using core_dlogit hp hx hy hw (by decide) a s

theorem dlogits1 {n : ℕ} {q g o k v lse : ℕ → ℕ → ℝ} {x : FVec Ideal S512x128 .f32} {y : FVec Ideal S256x128 .bf16}
    {w : FVec Ideal S512x1 .f32} {p : FVec Ideal S512x256 .f32} (hp : IsPairs 1 (prob n q lse k) p) (hx : IsStk 1 g x)
    (hy : IsKeys 1 v y) (hw : IsRows 1 (fun r h => delta g o h r) w) :
    IsPairs 1 (dlogit n q g o lse k v) (k0_pay50 (F := Ideal) x y w p) := by
  intro a s
  unfold k0_pay50
  pointwise
  exact core_dlogit hp hx hy hw (by decide) a s

theorem dlogits2 {n : ℕ} {q g o k v lse : ℕ → ℕ → ℝ} {x : FVec Ideal S512x128 .f32} {y : FVec Ideal S256x128 .bf16}
    {w : FVec Ideal S512x1 .f32} {p : FVec Ideal S512x256 .f32} (hp : IsPairs 2 (prob n q lse k) p) (hx : IsStk 2 g x)
    (hy : IsKeys 2 v y) (hw : IsRows 2 (fun r h => delta g o h r) w) :
    IsPairs 2 (dlogit n q g o lse k v) (k0_pay51 (F := Ideal) x y w p) := by
  intro a s
  unfold k0_pay51
  pointwise
  exact core_dlogit hp hx hy hw (by decide) a s

theorem dlogits3 {n : ℕ} {q g o k v lse : ℕ → ℕ → ℝ} {x : FVec Ideal S512x128 .f32} {y : FVec Ideal S256x128 .bf16}
    {w : FVec Ideal S512x1 .f32} {p : FVec Ideal S512x256 .f32} (hp : IsPairs 3 (prob n q lse k) p) (hx : IsStk 3 g x)
    (hy : IsKeys 3 v y) (hw : IsRows 3 (fun r h => delta g o h r) w) :
    IsPairs 3 (dlogit n q g o lse k v) (k0_pay52 (F := Ideal) x y w p) := by
  intro a s
  unfold k0_pay52
  pointwise
  exact core_dlogit hp hx hy hw (by decide) a s

/-- The head of a lane, as the kernel computes it. -/
theorem head_of : ∀ x : Fin 1024, Scalar.select
    (IntOp.andi
      (IntOp.cmpi CmpIPredicate.ne
        (IntOp.subi (BitVec.setWidth 32 (IntOp.cmpi CmpIPredicate.sgt (BitVec.ofNat 32 x.val) 0#32))
          (BitVec.setWidth 32 (IntOp.cmpi CmpIPredicate.slt (BitVec.ofNat 32 x.val) 0#32)))
        (Scalar.subi (Scalar.extui (Scalar.cmpi CmpIPredicate.sgt 64#32 0#32))
          (Scalar.extui (Scalar.cmpi CmpIPredicate.slt 64#32 0#32))))
      (IntOp.cmpi CmpIPredicate.ne (IntOp.remsi ArithUnit.vector (BitVec.ofNat 32 x.val) 64#32) 0#32))
    (IntOp.subi (IntOp.divsi ArithUnit.vector (BitVec.ofNat 32 x.val) 64#32) 1#32)
    (IntOp.divsi ArithUnit.vector (BitVec.ofNat 32 x.val) 64#32) = BitVec.ofNat 32 (x.val / 64) := by decide +kernel

/-- Two small numbers compared for equality. -/
theorem eq_bits (n N : ℕ) (hn : n < 2 ^ 32) (hN : N < 2 ^ 32) :
    BitVec.setWidth 32 (IntOp.cmpi CmpIPredicate.eq (BitVec.ofNat 32 n) (BitVec.ofNat 32 N)) = if n = N then 1#32 else 0#32 := by
  by_cases h : n = N
  · subst h; rw [if_pos rfl]; simp [IntOp.cmpi]
  · have : (BitVec.ofNat 32 n) ≠ BitVec.ofNat 32 N := fun e => h (by
      have := congrArg BitVec.toNat e
      rwa [BitVec.toNat_ofNat, BitVec.toNat_ofNat, Nat.mod_eq_of_lt hn, Nat.mod_eq_of_lt hN] at this)
    rw [if_neg h]; simp [IntOp.cmpi, beq_eq_false_iff_ne.mpr this]

/-- The comparison as a number. -/
theorem eq_num (n N : ℕ) (hn : n < 2 ^ 32) (hN : N < 2 ^ 32) :
    FloatOps.sitofp (F := Ideal) FTy.f32 (BitVec.setWidth 32 (IntOp.cmpi CmpIPredicate.eq (BitVec.ofNat 32 n) (BitVec.ofNat 32 N)))
      = ((if n = N then 1 else 0 : ℝ) : EReal) := by
  rw [eq_bits n N hn hN]
  split_ifs
  · simp [FloatOps.sitofp]
  · simp [FloatOps.sitofp]

/-- The rows' products of the output with its gradient, head by head. -/
theorem deltas {g o : ℕ → ℕ → ℝ} {x : Vec Ideal S128x1024 .f32} {y : Vec Ideal S128x1024 .bf16}
    (hx : ∀ (r : Fin 128) (c : Fin 1024), x (ix2 r c) = (g r c : ℝ)) (hy : ∀ (r : Fin 128) (c : Fin 1024), y (ix2 r c) = (o r c : ℝ))
    (r : Fin 128) (h : Fin 16) : k0_pay9 (F := Ideal) x y (ix2 r h) = (delta g o h r : ℝ) := by
  have hh := h.isLt
  unfold k0_pay9
  pointwise
  have e : ∀ c : Fin 1024, (c.val / 64 : ℕ) < 2 ^ 32 := fun c => by omega
  simp only [head_of, fun c => eq_num (c.val / 64) h.val (e c) (by omega), hx, hy, ← EReal.coe_mul, ← EReal.coe_sub, ← coe_sum, ← EReal.coe_add]
  refine congrArg _ ?_
  simp only [sub_self, zero_mul, Finset.sum_const_zero, add_zero]
  exact sum_head (fun c => g r c * o r c) h.val (by omega)

end Cert.AttnIdeal.Block

end
-- ==== Proof.AttOut.lean ====
/-
  The tiles the attention gradient's kernel stores at one grid point: the gradient of the queries, eight tiles of two
  heads each, and the gradients of the keys and values of the two pairs of key heads.
-/
module

public import proofs.«01_k».proof.Proof.Gen.AttnIdeal.Value
public import proofs.«01_k».proof.Proof.AttPay
public import Idealize.ShloMosaic.Lib.Pipeline.ValueKit
public import Idealize.ShloMosaic.Lib.Pointwise.Tactic

@[expose] public section

set_option maxRecDepth 16384

noncomputable section

open Idealize.ShloMosaic Idealize.ShloMosaic.TcCoe Idealize.SL.Sem

namespace Cert.AttnIdeal.Block

open Cert.AttnIdeal Cert.AttnIdeal.Gen Cert.AttMath Cert.Reals

theorem query00 {p : ℕ → ℕ → ℕ → ℝ} {k : ℕ → ℕ → ℝ} {x : FVec Ideal S512x256 .f32} {y : FVec Ideal S256x128 .bf16}
    (hx : IsPairs 0 p x) (hy : IsKeys 0 k y) (r l : Fin 128) :
    k0_pay60 (F := Ideal) k0_pay6 y x (ix2 r l)
      = ((∑ s : Fin 256, p (0 + l.val / 64) r s * k s (0 + l.val % 64) : ℝ) : EReal) := by
  have hr := r.isLt
  have hl := l.isLt
  unfold k0_pay60 k0_pay59
  pointwise
  rw [sel_lo]
  split_ifs <;>
  · rw [core_nn hx hy]
    refine congrArg _ (Finset.sum_congr rfl fun s _ =>
      congrArg₂ (· * ·) (congrArg₂ (fun h r => p h r s) ?_ ?_) (congrArg (k _) ?_)) <;> first | omega | (simp only; omega)

theorem query01 {p : ℕ → ℕ → ℕ → ℝ} {k : ℕ → ℕ → ℝ} {x : FVec Ideal S512x256 .f32} {y : FVec Ideal S256x128 .bf16}
    (hx : IsPairs 0 p x) (hy : IsKeys 0 k y) (r l : Fin 128) :
    k0_pay63 (F := Ideal) k0_pay6 (k0_pay61 y x) (k0_pay62 y x) (ix2 r l)
      = ((∑ s : Fin 256, p (2 + l.val / 64) r s * k s (0 + l.val % 64) : ℝ) : EReal) := by
  have hr := r.isLt
  have hl := l.isLt
  unfold k0_pay63 k0_pay61 k0_pay62 k0_pay59
  pointwise
  rw [sel_lo]
  split_ifs <;>
  · rw [core_nn hx hy]
    refine congrArg _ (Finset.sum_congr rfl fun s _ =>
      congrArg₂ (· * ·) (congrArg₂ (fun h r => p h r s) ?_ ?_) (congrArg (k _) ?_)) <;> first | omega | (simp only; omega)

theorem query10 {p : ℕ → ℕ → ℕ → ℝ} {k : ℕ → ℕ → ℝ} {x : FVec Ideal S512x256 .f32} {y : FVec Ideal S256x128 .bf16}
    (hx : IsPairs 1 p x) (hy : IsKeys 1 k y) (r l : Fin 128) :
    k0_pay75 (F := Ideal) k0_pay6 y x (ix2 r l)
      = ((∑ s : Fin 256, p (4 + l.val / 64) r s * k s (64 + l.val % 64) : ℝ) : EReal) := by
  have hr := r.isLt
  have hl := l.isLt
  unfold k0_pay75 k0_pay74
  pointwise
  rw [sel_lo]
  split_ifs <;>
  · rw [core_nn hx hy]
    refine congrArg _ (Finset.sum_congr rfl fun s _ =>
      congrArg₂ (· * ·) (congrArg₂ (fun h r => p h r s) ?_ ?_) (congrArg (k _) ?_)) <;> first | omega | (simp only; omega)

theorem query11 {p : ℕ → ℕ → ℕ → ℝ} {k : ℕ → ℕ → ℝ} {x : FVec Ideal S512x256 .f32} {y : FVec Ideal S256x128 .bf16}
    (hx : IsPairs 1 p x) (hy : IsKeys 1 k y) (r l : Fin 128) :
    k0_pay76 (F := Ideal) k0_pay6 y x (ix2 r l)
      = ((∑ s : Fin 256, p (6 + l.val / 64) r s * k s (64 + l.val % 64) : ℝ) : EReal) := by
  have hr := r.isLt
  have hl := l.isLt
  unfold k0_pay76 k0_pay74
  pointwise
  rw [sel_lo]
  split_ifs <;>
  · rw [core_nn hx hy]
    refine congrArg _ (Finset.sum_congr rfl fun s _ =>
      congrArg₂ (· * ·) (congrArg₂ (fun h r => p h r s) ?_ ?_) (congrArg (k _) ?_)) <;> first | omega | (simp only; omega)

theorem query20 {p : ℕ → ℕ → ℕ → ℝ} {k : ℕ → ℕ → ℝ} {x : FVec Ideal S512x256 .f32} {y : FVec Ideal S256x128 .bf16}
    (hx : IsPairs 2 p x) (hy : IsKeys 2 k y) (r l : Fin 128) :
    k0_pay90 (F := Ideal) k0_pay6 y x (ix2 r l)
      = ((∑ s : Fin 256, p (8 + l.val / 64) r s * k s (128 + l.val % 64) : ℝ) : EReal) := by
  have hr := r.isLt
  have hl := l.isLt
  unfold k0_pay90 k0_pay89
  pointwise
  rw [sel_lo]
  split_ifs <;>
  · rw [core_nn hx hy]
    refine congrArg _ (Finset.sum_congr rfl fun s _ =>
      congrArg₂ (· * ·) (congrArg₂ (fun h r => p h r s) ?_ ?_) (congrArg (k _) ?_)) <;> first | omega | (simp only; omega)

theorem query21 {p : ℕ → ℕ → ℕ → ℝ} {k : ℕ → ℕ → ℝ} {x : FVec Ideal S512x256 .f32} {y : FVec Ideal S256x128 .bf16}
    (hx : IsPairs 2 p x) (hy : IsKeys 2 k y) (r l : Fin 128) :
    k0_pay91 (F := Ideal) k0_pay6 y x (ix2 r l)
      = ((∑ s : Fin 256, p (10 + l.val / 64) r s * k s (128 + l.val % 64) : ℝ) : EReal) := by
  have hr := r.isLt
  have hl := l.isLt
  unfold k0_pay91 k0_pay89
  pointwise
  rw [sel_lo]
  split_ifs <;>
  · rw [core_nn hx hy]
    refine congrArg _ (Finset.sum_congr rfl fun s _ =>
      congrArg₂ (· * ·) (congrArg₂ (fun h r => p h r s) ?_ ?_) (congrArg (k _) ?_)) <;> first | omega | (simp only; omega)

theorem query30 {p : ℕ → ℕ → ℕ → ℝ} {k : ℕ → ℕ → ℝ} {x : FVec Ideal S512x256 .f32} {y : FVec Ideal S256x128 .bf16}
    (hx : IsPairs 3 p x) (hy : IsKeys 3 k y) (r l : Fin 128) :
    k0_pay106 (F := Ideal) k0_pay6 y x (ix2 r l)
      = ((∑ s : Fin 256, p (12 + l.val / 64) r s * k s (192 + l.val % 64) : ℝ) : EReal) := by
  have hr := r.isLt
  have hl := l.isLt
  unfold k0_pay106 k0_pay105
  pointwise
  rw [sel_lo]
  split_ifs <;>
  · rw [core_nn hx hy]
    refine congrArg _ (Finset.sum_congr rfl fun s _ =>
      congrArg₂ (· * ·) (congrArg₂ (fun h r => p h r s) ?_ ?_) (congrArg (k _) ?_)) <;> first | omega | (simp only; omega)

theorem query31 {p : ℕ → ℕ → ℕ → ℝ} {k : ℕ → ℕ → ℝ} {x : FVec Ideal S512x256 .f32} {y : FVec Ideal S256x128 .bf16}
    (hx : IsPairs 3 p x) (hy : IsKeys 3 k y) (r l : Fin 128) :
    k0_pay107 (F := Ideal) k0_pay6 y x (ix2 r l)
      = ((∑ s : Fin 256, p (14 + l.val / 64) r s * k s (192 + l.val % 64) : ℝ) : EReal) := by
  have hr := r.isLt
  have hl := l.isLt
  unfold k0_pay107 k0_pay105
  pointwise
  rw [sel_lo]
  split_ifs <;>
  · rw [core_nn hx hy]
    refine congrArg _ (Finset.sum_congr rfl fun s _ =>
      congrArg₂ (· * ·) (congrArg₂ (fun h r => p h r s) ?_ ?_) (congrArg (k _) ?_)) <;> first | omega | (simp only; omega)

/-- The two key heads of a pair, each on its half of the lanes. -/
theorem core_pair {i j : ℕ} {p : ℕ → ℕ → ℕ → ℝ} {q : ℕ → ℕ → ℝ} {x0 x1 : S512x256.Idx → EReal} {y0 y1 : S512x128.Idx → EReal}
    (hx0 : IsPairs i p x0) (hy0 : IsStk i q y0) (hx1 : IsPairs j p x1) (hy1 : IsStk j q y1) (hi : i % 2 = 0) (hj : j = i + 1)
    (s : Fin 256) (l : Fin 128) (S : ℕ) (hS : S = s.val) :
    (∑ a : Fin 512, x0 (ix2 a s) * y0 (ix2 a l)) + (∑ a : Fin 512, x1 (ix2 a s) * y1 (ix2 a l))
      = (dcol p q S (64 * i + l.val) : ℝ) := by
  have hl := l.isLt
  subst hj hS
  rw [core_tn hx0 hy0, core_tn hx1 hy1, ← EReal.coe_add]
  refine congrArg _ ?_
  unfold dcol
  rcases (by omega : l.val / 64 = 0 ∨ l.val / 64 = 1) with h | h
  · rw [if_pos (by omega), if_neg (by omega), add_zero, (by omega : (64 * i + l.val) / 64 = i),
      (by omega : (64 * i + l.val) % 64 = l.val % 64)]
  · rw [if_neg (by omega), if_pos (by omega), zero_add, (by omega : (64 * i + l.val) / 64 = i + 1),
      (by omega : (64 * i + l.val) % 64 = l.val % 64)]

theorem column_k00 {p : ℕ → ℕ → ℕ → ℝ} {q : ℕ → ℕ → ℝ} {x0 x1 : FVec Ideal S512x256 .f32} {y0 y1 : FVec Ideal S512x128 .bf16}
    (hx0 : IsPairs 0 p x0) (hy0 : IsStk 0 q y0) (hx1 : IsPairs 1 p x1) (hy1 : IsStk 1 q y1) (r l : Fin 128) :
    k0_pay110 (k0_pay77 (F := Ideal) y1 x1 (k0_pay64 (k0_pay10 (Ideal.ofBits .f32 0#32)) y0 x0)) (ix2 r l) = (dcol p q (r.val) (l.val) : ℝ) := by
  have hr := r.isLt
  unfold k0_pay110 k0_pay77 k0_pay64 k0_pay10
  pointwise
  refine (core_pair hx0 hy0 hx1 hy1 (by decide) (by decide) _ _ (r.val) rfl).trans ?_
  refine congrArg _ (congrArg (dcol p q _) ?_); omega

theorem column_k01 {p : ℕ → ℕ → ℕ → ℝ} {q : ℕ → ℕ → ℝ} {x0 x1 : FVec Ideal S512x256 .f32} {y0 y1 : FVec Ideal S512x128 .bf16}
    (hx0 : IsPairs 0 p x0) (hy0 : IsStk 0 q y0) (hx1 : IsPairs 1 p x1) (hy1 : IsStk 1 q y1) (r l : Fin 128) :
    k0_pay111 (k0_pay77 (F := Ideal) y1 x1 (k0_pay64 (k0_pay10 (Ideal.ofBits .f32 0#32)) y0 x0)) (ix2 r l) = (dcol p q (128 + r.val) (l.val) : ℝ) := by
  have hr := r.isLt
  unfold k0_pay111 k0_pay77 k0_pay64 k0_pay10
  pointwise
  refine (core_pair hx0 hy0 hx1 hy1 (by decide) (by decide) _ _ (128 + r.val) rfl).trans ?_
  refine congrArg _ (congrArg (dcol p q _) ?_); omega

theorem column_k10 {p : ℕ → ℕ → ℕ → ℝ} {q : ℕ → ℕ → ℝ} {x0 x1 : FVec Ideal S512x256 .f32} {y0 y1 : FVec Ideal S512x128 .bf16}
    (hx0 : IsPairs 2 p x0) (hy0 : IsStk 2 q y0) (hx1 : IsPairs 3 p x1) (hy1 : IsStk 3 q y1) (r l : Fin 128) :
    k0_pay114 (F := Ideal) y1 x1 (k0_pay92 k0_pay11 y0 x0) (ix2 r l) = (dcol p q (r.val) (128 + l.val) : ℝ) := by
  have hr := r.isLt
  unfold k0_pay114 k0_pay108 k0_pay92 k0_pay11
  pointwise
  refine (core_pair hx0 hy0 hx1 hy1 (by decide) (by decide) _ _ (r.val) rfl).trans ?_
  refine congrArg _ (congrArg (dcol p q _) ?_); omega

theorem column_k11 {p : ℕ → ℕ → ℕ → ℝ} {q : ℕ → ℕ → ℝ} {x0 x1 : FVec Ideal S512x256 .f32} {y0 y1 : FVec Ideal S512x128 .bf16}
    (hx0 : IsPairs 2 p x0) (hy0 : IsStk 2 q y0) (hx1 : IsPairs 3 p x1) (hy1 : IsStk 3 q y1) (r l : Fin 128) :
    k0_pay1 (k0_pay108 (F := Ideal) y1 x1 (k0_pay92 k0_pay11 y0 x0)) (ix2 r l) = (dcol p q (128 + r.val) (128 + l.val) : ℝ) := by
  have hr := r.isLt
  unfold k0_pay1 k0_pay108 k0_pay92 k0_pay11
  pointwise
  refine (core_pair hx0 hy0 hx1 hy1 (by decide) (by decide) _ _ (128 + r.val) rfl).trans ?_
  refine congrArg _ (congrArg (dcol p q _) ?_); omega

theorem column_v00 {p : ℕ → ℕ → ℕ → ℝ} {q : ℕ → ℕ → ℝ} {x0 x1 : FVec Ideal S512x256 .f32} {y0 y1 : FVec Ideal S512x128 .f32}
    (hx0 : IsPairs 0 p x0) (hy0 : IsStk 0 q y0) (hx1 : IsPairs 1 p x1) (hy1 : IsStk 1 q y1) (r l : Fin 128) :
    k0_pay112 (k0_pay80 (F := Ideal) (k0_pay65 k0_pay12 y0 x0) (k0_pay78 x1) (k0_pay79 y1)) (ix2 r l) = (dcol p q (r.val) (l.val) : ℝ) := by
  have hr := r.isLt
  unfold k0_pay112 k0_pay80 k0_pay65 k0_pay12 k0_pay78 k0_pay79
  pointwise
  refine (core_pair hx0 hy0 hx1 hy1 (by decide) (by decide) _ _ (r.val) rfl).trans ?_
  refine congrArg _ (congrArg (dcol p q _) ?_); omega

theorem column_v01 {p : ℕ → ℕ → ℕ → ℝ} {q : ℕ → ℕ → ℝ} {x0 x1 : FVec Ideal S512x256 .f32} {y0 y1 : FVec Ideal S512x128 .f32}
    (hx0 : IsPairs 0 p x0) (hy0 : IsStk 0 q y0) (hx1 : IsPairs 1 p x1) (hy1 : IsStk 1 q y1) (r l : Fin 128) :
    k0_pay113 (k0_pay80 (F := Ideal) (k0_pay65 k0_pay12 y0 x0) (k0_pay78 x1) (k0_pay79 y1)) (ix2 r l) = (dcol p q (128 + r.val) (l.val) : ℝ) := by
  have hr := r.isLt
  unfold k0_pay113 k0_pay80 k0_pay65 k0_pay12 k0_pay78 k0_pay79
  pointwise
  refine (core_pair hx0 hy0 hx1 hy1 (by decide) (by decide) _ _ (128 + r.val) rfl).trans ?_
  refine congrArg _ (congrArg (dcol p q _) ?_); omega

theorem column_v10 {p : ℕ → ℕ → ℕ → ℝ} {q : ℕ → ℕ → ℝ} {x0 x1 : FVec Ideal S512x256 .f32} {y0 y1 : FVec Ideal S512x128 .f32}
    (hx0 : IsPairs 2 p x0) (hy0 : IsStk 2 q y0) (hx1 : IsPairs 3 p x1) (hy1 : IsStk 3 q y1) (r l : Fin 128) :
    k0_pay2 (k0_pay109 (F := Ideal) y1 x1 (k0_pay93 k0_pay13 y0 x0)) (ix2 r l) = (dcol p q (r.val) (128 + l.val) : ℝ) := by
  have hr := r.isLt
  unfold k0_pay2 k0_pay109 k0_pay93 k0_pay13
  pointwise
  refine (core_pair hx0 hy0 hx1 hy1 (by decide) (by decide) _ _ (r.val) rfl).trans ?_
  refine congrArg _ (congrArg (dcol p q _) ?_); omega

theorem column_v11 {p : ℕ → ℕ → ℕ → ℝ} {q : ℕ → ℕ → ℝ} {x0 x1 : FVec Ideal S512x256 .f32} {y0 y1 : FVec Ideal S512x128 .f32}
    (hx0 : IsPairs 2 p x0) (hy0 : IsStk 2 q y0) (hx1 : IsPairs 3 p x1) (hy1 : IsStk 3 q y1) (r l : Fin 128) :
    k0_pay3 (k0_pay109 (F := Ideal) y1 x1 (k0_pay93 k0_pay13 y0 x0)) (ix2 r l) = (dcol p q (128 + r.val) (128 + l.val) : ℝ) := by
  have hr := r.isLt
  unfold k0_pay3 k0_pay109 k0_pay93 k0_pay13
  pointwise
  refine (core_pair hx0 hy0 hx1 hy1 (by decide) (by decide) _ _ (128 + r.val) rfl).trans ?_
  refine congrArg _ (congrArg (dcol p q _) ?_); omega

end Cert.AttnIdeal.Block

end
-- ==== Proof.AttSink.lean ====
/-
  The gradient of the sinks at one grid point: for every head the sum over the block's rows of the sink's probability
  times the row's product of the output with its gradient, subtracted from the head's lane.
-/
module

public import proofs.«01_k».proof.Proof.Gen.AttnIdeal.Value
public import proofs.«01_k».proof.Proof.AttPay
public import Idealize.ShloMosaic.Lib.Pipeline.ValueKit
public import Idealize.ShloMosaic.Lib.Pointwise.Tactic

@[expose] public section

set_option maxRecDepth 16384

noncomputable section

open Idealize.ShloMosaic Idealize.ShloMosaic.TcCoe Idealize.SL.Sem

namespace Cert.AttnIdeal.Block

open Cert.AttnIdeal Cert.AttnIdeal.Gen Cert.AttMath Cert.Reals

/-- The head within the four of a stacked row, as the kernel computes it. -/
theorem quarter_of : ∀ a : Fin 512, Scalar.select
    (IntOp.andi
      (IntOp.cmpi CmpIPredicate.ne
        (IntOp.subi (BitVec.setWidth 32 (IntOp.cmpi CmpIPredicate.sgt (BitVec.ofNat 32 a.val) 0#32))
          (BitVec.setWidth 32 (IntOp.cmpi CmpIPredicate.slt (BitVec.ofNat 32 a.val) 0#32)))
        (Scalar.subi (Scalar.extui (Scalar.cmpi CmpIPredicate.sgt 128#32 0#32))
          (Scalar.extui (Scalar.cmpi CmpIPredicate.slt 128#32 0#32))))
      (IntOp.cmpi CmpIPredicate.ne (IntOp.remsi ArithUnit.vector (BitVec.ofNat 32 a.val) 128#32) 0#32))
    (IntOp.subi (IntOp.divsi ArithUnit.vector (BitVec.ofNat 32 a.val) 128#32) 1#32)
    (IntOp.divsi ArithUnit.vector (BitVec.ofNat 32 a.val) 128#32) = BitVec.ofNat 32 (a.val / 128) := by decide +kernel

/-- The sink's probability times the row's product. -/
theorem core_sink {j : ℕ} {g o lse : ℕ → ℕ → ℝ} {sink : ℕ → ℝ} {x y : S512x1.Idx → EReal}
    (hx : IsRows j lse x) (hy : IsRows j (fun r h => delta g o h r) y) {z0 z1 z2 z3 : EReal} (h0 : z0 = (sink (4 * j) : ℝ))
    (h1 : z1 = (sink (4 * j + 1) : ℝ)) (h2 : z2 = (sink (4 * j + 2) : ℝ)) (h3 : z3 = (sink (4 * j + 3) : ℝ)) (a : Fin 512) :
    Ideal.exp (Scalar.select (IntOp.cmpi CmpIPredicate.eq (BitVec.ofNat 32 (a.val / 128)) 0#32) z0 0
        + Scalar.select (IntOp.cmpi CmpIPredicate.eq (BitVec.ofNat 32 (a.val / 128)) 1#32) z1 0
        + Scalar.select (IntOp.cmpi CmpIPredicate.eq (BitVec.ofNat 32 (a.val / 128)) 2#32) z2 0
        + Scalar.select (IntOp.cmpi CmpIPredicate.eq (BitVec.ofNat 32 (a.val / 128)) 3#32) z3 0 - x (ix2 a 0)) * y (ix2 a 0)
      = ((fun r h => Real.exp (sink h - lse r h) * delta g o h r) (a.val % 128) (4 * j + a.val / 128) : ℝ) := by
  have ha := a.isLt
  have e : Scalar.select (IntOp.cmpi CmpIPredicate.eq (BitVec.ofNat 32 (a.val / 128)) 0#32) z0 0
        + Scalar.select (IntOp.cmpi CmpIPredicate.eq (BitVec.ofNat 32 (a.val / 128)) 1#32) z1 0
        + Scalar.select (IntOp.cmpi CmpIPredicate.eq (BitVec.ofNat 32 (a.val / 128)) 2#32) z2 0
        + Scalar.select (IntOp.cmpi CmpIPredicate.eq (BitVec.ofNat 32 (a.val / 128)) 3#32) z3 0
      = (sink (4 * j + a.val / 128) : ℝ) := by
    rcases (by omega : a.val / 128 = 0 ∨ a.val / 128 = 1 ∨ a.val / 128 = 2 ∨ a.val / 128 = 3) with h | h | h | h <;>
    · simp only [h]
      simp [IntOp.cmpi, Scalar.select, h0, h1, h2, h3]
  rw [e, hx, hy, ← EReal.coe_sub, Ideal.exp_coe, ← EReal.coe_mul]

/-- A quarter of the rows summed. -/
theorem core_quarter {j : ℕ} {w : ℕ → ℕ → ℝ} {x : S512x1.Idx → EReal} (hx : IsRows j w x) (t : ℕ) (ht : t < 4)
    (a : Fin 128 → Fin 512) (ha : ∀ r : Fin 128, (a r).val = 128 * t + r.val) :
    ∑ r : Fin 128, x (ix2 (a r) 0) = ((∑ r : Fin 128, w r (4 * j + t) : ℝ) : EReal) := by
  rw [coe_sum]
  refine Finset.sum_congr rfl fun r _ => ?_
  have hr := r.isLt
  rw [hx, ha]
  refine congrArg _ (congrArg₂ w ?_ ?_) <;> omega

theorem sinks0 {g o lse : ℕ → ℕ → ℝ} {sink : ℕ → ℝ} {x y : FVec Ideal S512x1 .f32} {z0 z1 z2 z3 : Vec Ideal S1x1 .f32}
    (hx : IsRows 0 lse x) (hy : IsRows 0 (fun r h => delta g o h r) y) (h0 : z0 (ix2 0 0) = (sink 0 : ℝ))
    (h1 : z1 (ix2 0 0) = (sink 1 : ℝ)) (h2 : z2 (ix2 0 0) = (sink 2 : ℝ)) (h3 : z3 (ix2 0 0) = (sink 3 : ℝ)) :
    IsRows 0 (fun r h => Real.exp (sink h - lse r h) * delta g o h r) (k0_pay56 (F := Ideal) x y k0_pay53 k0_pay54 k0_pay55 z0 z1 z2 z3) := by
  intro a
  unfold k0_pay56 k0_pay54 k0_pay55 k0_pay53
  pointwise
  rw [quarter_of]
  simpa only [Nat.mul_zero, Nat.zero_add] using core_sink hx hy h0 h1 h2 h3 a

theorem sinks1 {g o lse : ℕ → ℕ → ℝ} {sink : ℕ → ℝ} {x y : FVec Ideal S512x1 .f32} {z0 z1 z2 z3 : Vec Ideal S1x1 .f32}
    (hx : IsRows 1 lse x) (hy : IsRows 1 (fun r h => delta g o h r) y) (h0 : z0 (ix2 0 0) = (sink 4 : ℝ))
    (h1 : z1 (ix2 0 0) = (sink 5 : ℝ)) (h2 : z2 (ix2 0 0) = (sink 6 : ℝ)) (h3 : z3 (ix2 0 0) = (sink 7 : ℝ)) :
    IsRows 1 (fun r h => Real.exp (sink h - lse r h) * delta g o h r) (k0_pay70 (F := Ideal) x y k0_pay66 k0_pay67 k0_pay68 (Ideal.ofBits .f32 0#32) (k0_pay69 z0) z1 z2 z3) := by
  intro a
  unfold k0_pay70 k0_pay67 k0_pay68 k0_pay69 k0_pay66
  pointwise
  rw [quarter_of]
  exact core_sink hx hy h0 h1 h2 h3 a

theorem sinks2 {g o lse : ℕ → ℕ → ℝ} {sink : ℕ → ℝ} {x y : FVec Ideal S512x1 .f32} {z0 z1 z2 z3 : Vec Ideal S1x1 .f32}
    (hx : IsRows 2 lse x) (hy : IsRows 2 (fun r h => delta g o h r) y) (h0 : z0 (ix2 0 0) = (sink 8 : ℝ))
    (h1 : z1 (ix2 0 0) = (sink 9 : ℝ)) (h2 : z2 (ix2 0 0) = (sink 10 : ℝ)) (h3 : z3 (ix2 0 0) = (sink 11 : ℝ)) :
    IsRows 2 (fun r h => Real.exp (sink h - lse r h) * delta g o h r) (k0_pay85 (F := Ideal) x y k0_pay81 (k0_pay82 z0) k0_pay83 (Ideal.ofBits .f32 0#32) (k0_pay84 z1) z2 z3) := by
  intro a
  unfold k0_pay85 k0_pay82 k0_pay83 k0_pay84 k0_pay81
  pointwise
  rw [quarter_of]
  exact core_sink hx hy h0 h1 h2 h3 a

theorem sinks3 {g o lse : ℕ → ℕ → ℝ} {sink : ℕ → ℝ} {x y : FVec Ideal S512x1 .f32} {z0 z1 z2 z3 : Vec Ideal S1x1 .f32}
    (hx : IsRows 3 lse x) (hy : IsRows 3 (fun r h => delta g o h r) y) (h0 : z0 (ix2 0 0) = (sink 12 : ℝ))
    (h1 : z1 (ix2 0 0) = (sink 13 : ℝ)) (h2 : z2 (ix2 0 0) = (sink 14 : ℝ)) (h3 : z3 (ix2 0 0) = (sink 15 : ℝ)) :
    IsRows 3 (fun r h => Real.exp (sink h - lse r h) * delta g o h r) (k0_pay101 (F := Ideal) x y
      (k0_pay97 (iota Kind.tc S512x1 32 [0] iota_S512x1_d0_w32) (128#32) k0_pay94 k0_pay95 k0_pay96)
      (k0_pay98 (iota Kind.tc S512x1 32 [0] iota_S512x1_d0_w32) (128#32) k0_pay94 k0_pay95 k0_pay96 z0 z1)
      (k0_pay99 (iota Kind.tc S512x1 32 [0] iota_S512x1_d0_w32) (128#32) k0_pay94 k0_pay95 k0_pay96) (Ideal.ofBits .f32 0#32) (k0_pay100 z2) z3) := by
  intro a
  unfold k0_pay101 k0_pay98 k0_pay99 k0_pay100 k0_pay97 k0_pay94 k0_pay95 k0_pay96
  pointwise
  rw [quarter_of]
  exact core_sink hx hy h0 h1 h2 h3 a

theorem lanes0 {w : ℕ → ℕ → ℝ} (x y : FVec Ideal S512x1 .f32) (a : IVec S512x1 32) (b : IVec S512x1 1) (c : IVec S512x1 32) (z0 z1 z2 z3 : Vec Ideal S1x1 .f32) (acc : FVec Ideal S1x128 .f32)
    (hs : IsRows 0 w (k0_pay56 (F := Ideal) x y a b c z0 z1 z2 z3)) (l : Fin 128)
    (hl : acc (ix2 0 l) = ((if l.val < 0 then -(∑ r : Fin 128, w r l) else 0 : ℝ) : EReal)) :
    k0_pay58 (F := Ideal) (iota Kind.tc S1x128 32 [1] iota_S1x128_d1_w32) acc (k0_pay56 x y a b c z0 z1 z2 z3) (k0_pay57 x y a b c z0 z1 z2 z3) (ix2 0 l)
      = ((if l.val < 4 then -(∑ r : Fin 128, w r l) else 0 : ℝ) : EReal) := by
  have h := l.isLt
  unfold k0_pay58 k0_pay57
  pointwise
  rw [core_quarter hs 0 (by decide) (fun r => ⟨r.val, by omega⟩) (fun r => by simp only; omega),
    core_quarter hs 1 (by decide) (fun r => ⟨128 + r.val, by omega⟩) (fun r => rfl),
    core_quarter hs 2 (by decide) (fun r => ⟨256 + r.val, by omega⟩) (fun r => rfl),
    core_quarter hs 3 (by decide) (fun r => ⟨384 + r.val, by omega⟩) (fun r => rfl), hl,
    eq_num l.val 0 (by omega) (by decide), eq_num l.val 1 (by omega) (by decide),
    eq_num l.val 2 (by omega) (by decide), eq_num l.val 3 (by omega) (by decide)]
  simp only [← EReal.coe_mul, ← EReal.coe_sub]
  exact congrArg _ (sub_four (fun h => ∑ r : Fin 128, w r h) 0 l.val)

theorem lanes1 {w : ℕ → ℕ → ℝ} (x y : FVec Ideal S512x1 .f32) (a : IVec S512x1 32) (b : FVec Ideal S512x1 .f32) (c : IVec S512x1 1) (d : Ideal .f32) (z0 : FVec Ideal S512x1 .f32) (z1 z2 z3 : Vec Ideal S1x1 .f32) (acc : FVec Ideal S1x128 .f32)
    (hs : IsRows 1 w (k0_pay70 (F := Ideal) x y a b c d z0 z1 z2 z3)) (l : Fin 128)
    (hl : acc (ix2 0 l) = ((if l.val < 4 then -(∑ r : Fin 128, w r l) else 0 : ℝ) : EReal)) :
    k0_pay73 (F := Ideal) (iota Kind.tc S1x128 32 [1] iota_S1x128_d1_w32) (k0_pay70 x y a b c d z0 z1 z2 z3) (k0_pay71 (iota Kind.tc S1x128 32 [1] iota_S1x128_d1_w32) x y acc a b c d z0 z1 z2 z3) (k0_pay72 x y a b c d z0 z1 z2 z3) (ix2 0 l)
      = ((if l.val < 8 then -(∑ r : Fin 128, w r l) else 0 : ℝ) : EReal) := by
  have h := l.isLt
  unfold k0_pay73 k0_pay71 k0_pay72
  pointwise
  rw [core_quarter hs 0 (by decide) (fun r => ⟨r.val, by omega⟩) (fun r => by simp only; omega),
    core_quarter hs 1 (by decide) (fun r => ⟨128 + r.val, by omega⟩) (fun r => rfl),
    core_quarter hs 2 (by decide) (fun r => ⟨256 + r.val, by omega⟩) (fun r => rfl),
    core_quarter hs 3 (by decide) (fun r => ⟨384 + r.val, by omega⟩) (fun r => rfl), hl,
    eq_num l.val 4 (by omega) (by decide), eq_num l.val 5 (by omega) (by decide),
    eq_num l.val 6 (by omega) (by decide), eq_num l.val 7 (by omega) (by decide)]
  simp only [← EReal.coe_mul, ← EReal.coe_sub]
  exact congrArg _ (sub_four (fun h => ∑ r : Fin 128, w r h) 4 l.val)

theorem lanes2 {w : ℕ → ℕ → ℝ} (x y : FVec Ideal S512x1 .f32) (a : IVec S512x1 32) (b : FVec Ideal S512x1 .f32) (c : IVec S512x1 1) (d : Ideal .f32) (z0 : FVec Ideal S512x1 .f32) (z1 z2 : Vec Ideal S1x1 .f32) (acc : FVec Ideal S1x128 .f32)
    (hs : IsRows 2 w (k0_pay85 (F := Ideal) x y a b c d z0 z1 z2)) (l : Fin 128)
    (hl : acc (ix2 0 l) = ((if l.val < 8 then -(∑ r : Fin 128, w r l) else 0 : ℝ) : EReal)) :
    k0_pay88 (F := Ideal) (iota Kind.tc S1x128 32 [1] iota_S1x128_d1_w32) (k0_pay85 x y a b c d z0 z1 z2) (k0_pay86 (iota Kind.tc S1x128 32 [1] iota_S1x128_d1_w32) x y acc a b c d z0 z1 z2) (k0_pay87 x y a b c d z0 z1 z2) (ix2 0 l)
      = ((if l.val < 12 then -(∑ r : Fin 128, w r l) else 0 : ℝ) : EReal) := by
  have h := l.isLt
  unfold k0_pay88 k0_pay86 k0_pay87
  pointwise
  rw [core_quarter hs 0 (by decide) (fun r => ⟨r.val, by omega⟩) (fun r => by simp only; omega),
    core_quarter hs 1 (by decide) (fun r => ⟨128 + r.val, by omega⟩) (fun r => rfl),
    core_quarter hs 2 (by decide) (fun r => ⟨256 + r.val, by omega⟩) (fun r => rfl),
    core_quarter hs 3 (by decide) (fun r => ⟨384 + r.val, by omega⟩) (fun r => rfl), hl,
    eq_num l.val 8 (by omega) (by decide), eq_num l.val 9 (by omega) (by decide),
    eq_num l.val 10 (by omega) (by decide), eq_num l.val 11 (by omega) (by decide)]
  simp only [← EReal.coe_mul, ← EReal.coe_sub]
  exact congrArg _ (sub_four (fun h => ∑ r : Fin 128, w r h) 8 l.val)

theorem lanes3 {w : ℕ → ℕ → ℝ} (x y : FVec Ideal S512x1 .f32) (a : IVec S512x1 32) (b : FVec Ideal S512x1 .f32) (c : IVec S512x1 1) (d : Ideal .f32) (z0 : FVec Ideal S512x1 .f32) (z1 : Vec Ideal S1x1 .f32) (acc : FVec Ideal S1x128 .f32)
    (hs : IsRows 3 w (k0_pay101 (F := Ideal) x y a b c d z0 z1)) (l : Fin 128)
    (hl : acc (ix2 0 l) = ((if l.val < 12 then -(∑ r : Fin 128, w r l) else 0 : ℝ) : EReal)) :
    k0_pay104 (F := Ideal) (iota Kind.tc S1x128 32 [1] iota_S1x128_d1_w32) (k0_pay102 (iota Kind.tc S1x128 32 [1] iota_S1x128_d1_w32) x y acc a b c d z0 z1) (k0_pay103 x y a b c d z0 z1) 15#32 (ix2 0 l)
      = ((if l.val < 16 then -(∑ r : Fin 128, w r l) else 0 : ℝ) : EReal) := by
  have h := l.isLt
  unfold k0_pay104 k0_pay102 k0_pay103
  pointwise
  rw [core_quarter hs 0 (by decide) (fun r => ⟨r.val, by omega⟩) (fun r => by simp only; omega),
    core_quarter hs 1 (by decide) (fun r => ⟨128 + r.val, by omega⟩) (fun r => rfl),
    core_quarter hs 2 (by decide) (fun r => ⟨256 + r.val, by omega⟩) (fun r => rfl),
    core_quarter hs 3 (by decide) (fun r => ⟨384 + r.val, by omega⟩) (fun r => rfl), hl,
    eq_num l.val 12 (by omega) (by decide), eq_num l.val 13 (by omega) (by decide),
    eq_num l.val 14 (by omega) (by decide), eq_num l.val 15 (by omega) (by decide)]
  simp only [← EReal.coe_mul, ← EReal.coe_sub]
  exact congrArg _ (sub_four (fun h => ∑ r : Fin 128, w r h) 12 l.val)

end Cert.AttnIdeal.Block

end
-- ==== Proof.AttRead.lean ====
/-
  The attention gradient's operands, read at one grid point: the block's rows of the queries, output, output gradient and
  saved denominators, and the two blocks of keys and values; and, from them, what the arrays inside the kernel hold at
  that point.
-/
module

public import proofs.«01_k».proof.Proof.Gen.AttnIdeal.Value
public import proofs.«01_k».proof.Proof.AttOut
public import proofs.«01_k».proof.Proof.AttSink
public import Idealize.ShloMosaic.Lib.Pipeline.ValueKit
public import Idealize.ShloMosaic.Lib.Pointwise.Tactic

@[expose] public section

set_option maxRecDepth 16384

noncomputable section

open Idealize.ShloMosaic Idealize.ShloMosaic.TcCoe Idealize.SL.Sem

namespace Cert.AttnIdeal.Block

open Cert.AttnIdeal Cert.AttnIdeal.Gen Cert.AttMath Cert.Reals

variable (m : (ℓ : Loc nD τ sig) → Buf (Elt Ideal) ℓ)

/-- The windows' block indices at a point: the rows' block, the block before it (the first block at the first point), and
    the sinks' only block. -/
theorem idx : ∀ t : Fin cfg0.N, win0_0.index t = ![t.val, 0] ∧ win0_1.index t = ![t.val, 0] ∧ win0_2.index t = ![t.val - 1, 0]
    ∧ win0_3.index t = ![t.val, 0] ∧ win0_4.index t = ![t.val - 1, 0] ∧ win0_5.index t = ![t.val, 0] ∧ win0_6.index t = ![t.val, 0]
    ∧ win0_7.index t = ![t.val, 0] ∧ win0_8.index t = ![0, 0] ∧ win0_9.index t = ![t.val, 0] ∧ win0_10.index t = ![t.val, 0]
    ∧ win0_11.index t = ![t.val, 0] ∧ win0_12.index t = ![t.val, 0] ∧ win0_13.index t = ![t.val, 0] ∧ win0_14.index t = ![0, 0] :=
  (by decide +kernel : ∀ t : Fin grid0.N, win0_0.index t = ![t.val, 0] ∧ win0_1.index t = ![t.val, 0] ∧ win0_2.index t = ![t.val - 1, 0]
    ∧ win0_3.index t = ![t.val, 0] ∧ win0_4.index t = ![t.val - 1, 0] ∧ win0_5.index t = ![t.val, 0] ∧ win0_6.index t = ![t.val, 0]
    ∧ win0_7.index t = ![t.val, 0] ∧ win0_8.index t = ![0, 0] ∧ win0_9.index t = ![t.val, 0] ∧ win0_10.index t = ![t.val, 0]
    ∧ win0_11.index t = ![t.val, 0] ∧ win0_12.index t = ![t.val, 0] ∧ win0_13.index t = ![t.val, 0] ∧ win0_14.index t = ![0, 0])

/-- A wide array of real numbers. -/
def Wide (x : S4096x1024.Idx → EReal) (f : ℕ → ℕ → ℝ) : Prop := ∀ (R : Fin 4096) (C : Fin 1024), x (ix2 R C) = (f R C : ℝ)

/-- A narrow array of real numbers. -/
def Narrow (x : S4096x256.Idx → EReal) (f : ℕ → ℕ → ℝ) : Prop := ∀ (R : Fin 4096) (C : Fin 256), x (ix2 R C) = (f R C : ℝ)

/-- An array whose first sixteen columns are real numbers. -/
def Columns (x : S4096x128.Idx → EReal) (f : ℕ → ℕ → ℝ) : Prop :=
  ∀ (R : Fin 4096) (h : Fin 128), h.val < 16 → x (ix2 R h) = (f R h : ℝ)

/-- A row whose first sixteen entries are real numbers. -/
def Entries (x : S1x128.Idx → EReal) (f : ℕ → ℝ) : Prop := ∀ h : Fin 128, h.val < 16 → x (ix2 0 h) = (f h : ℝ)

/-- The operands are real numbers. -/
structure Reads (c : Dev nD) (q k v g o lse : ℕ → ℕ → ℝ) (sink : ℕ → ℝ) : Prop where
  hq : Wide (V m c main_arg0) q
  hk : Narrow (V m c main_arg1) k
  hv : Narrow (V m c main_arg2) v
  hg : Wide (V m c main_arg4) g
  ho : Wide (V m c main_v79) o
  hlse : Columns (V m c main_v80) lse
  hsink : Entries (V m c main_v82) sink

variable {m}
variable {c : Dev nD} {q k v g o lse : ℕ → ℕ → ℝ} {sink : ℕ → ℝ}

theorem lt (t : Fin cfg0.N) : t.val < 32 := t.isLt

theorem tile_q (H : Reads m c q k v g o lse sink) (t : Fin cfg0.N) (d : ℕ) (inb) :
    IsTile d (sh t.val q) (View.ld (iblk m c 0 t) (Rect.unit ![0, d] ![128, 128] inb)) := by
  intro r l
  have hd : d + 128 ≤ 1024 := inb 1
  have ht := lt t
  refine (View.ld_unit_apply_of (iblk m c 0 t) _ _ inb (ix2 r l) (ix2 r (⟨d + l.val, by omega⟩ : Fin 1024))
    (fun a => match a with | ⟨0, _⟩ => (Nat.zero_add _).symm | ⟨1, _⟩ => rfl)).trans ?_
  refine Eq.trans ?_ (H.hq ⟨128 * t.val + r.val, by omega⟩ ⟨d + l.val, by omega⟩)
  blk_ext [iblk, idx t]

theorem tile_g (H : Reads m c q k v g o lse sink) (t : Fin cfg0.N) (d : ℕ) (inb) :
    IsTile d (sh t.val g) (View.ld (iblk m c 6 t) (Rect.unit ![0, d] ![128, 128] inb)) := by
  intro r l
  have hd : d + 128 ≤ 1024 := inb 1
  have ht := lt t
  refine (View.ld_unit_apply_of (iblk m c 6 t) _ _ inb (ix2 r l) (ix2 r (⟨d + l.val, by omega⟩ : Fin 1024))
    (fun a => match a with | ⟨0, _⟩ => (Nat.zero_add _).symm | ⟨1, _⟩ => rfl)).trans ?_
  refine Eq.trans ?_ (H.hg ⟨128 * t.val + r.val, by omega⟩ ⟨d + l.val, by omega⟩)
  blk_ext [iblk, idx t]

theorem block_o (H : Reads m c q k v g o lse sink) (t : Fin cfg0.N) (r : Fin 128) (C : Fin 1024) :
    @Eq EReal (iblk m c 5 t (ix2 r C)) (sh t.val o r C : ℝ) := by
  have ht := lt t
  refine Eq.trans ?_ (H.ho ⟨128 * t.val + r.val, by omega⟩ C)
  blk_ext [iblk, idx t]

theorem block_g (H : Reads m c q k v g o lse sink) (t : Fin cfg0.N) (r : Fin 128) (C : Fin 1024) :
    @Eq EReal (iblk m c 6 t (ix2 r C)) (sh t.val g r C : ℝ) := by
  have ht := lt t
  refine Eq.trans ?_ (H.hg ⟨128 * t.val + r.val, by omega⟩ C)
  blk_ext [iblk, idx t]

theorem current_k (H : Reads m c q k v g o lse sink) (t : Fin cfg0.N) (r : Fin 128) (C : Fin 256) :
    @Eq EReal (iblk m c 1 t (ix2 r C)) (pair t.val k (128 + r.val) C : ℝ) := by
  have ht := lt t
  have e : pair t.val k (128 + r.val) C = k (128 * t.val + r.val) C := by
    unfold pair; rw [if_neg (by omega)]; exact congrArg (fun x => k x C) (by omega)
  rw [e]
  refine Eq.trans ?_ (H.hk ⟨128 * t.val + r.val, by omega⟩ C)
  blk_ext [iblk, idx t]

theorem before_k (H : Reads m c q k v g o lse sink) (t : Fin cfg0.N) (r : Fin 128) (C : Fin 256) :
    @Eq EReal (iblk m c 2 t (ix2 r C)) (pair t.val k r C : ℝ) := by
  have ht := lt t
  have e : pair t.val k r C = k (128 * (t.val - 1) + r.val) C := by
    unfold pair; rw [if_pos r.isLt]
  rw [e]
  refine Eq.trans ?_ (H.hk ⟨128 * (t.val - 1) + r.val, by omega⟩ C)
  blk_ext [iblk, idx t]

theorem current_v (H : Reads m c q k v g o lse sink) (t : Fin cfg0.N) (r : Fin 128) (C : Fin 256) :
    @Eq EReal (iblk m c 3 t (ix2 r C)) (pair t.val v (128 + r.val) C : ℝ) := by
  have ht := lt t
  have e : pair t.val v (128 + r.val) C = v (128 * t.val + r.val) C := by
    unfold pair; rw [if_neg (by omega)]; exact congrArg (fun x => v x C) (by omega)
  rw [e]
  refine Eq.trans ?_ (H.hv ⟨128 * t.val + r.val, by omega⟩ C)
  blk_ext [iblk, idx t]

theorem before_v (H : Reads m c q k v g o lse sink) (t : Fin cfg0.N) (r : Fin 128) (C : Fin 256) :
    @Eq EReal (iblk m c 4 t (ix2 r C)) (pair t.val v r C : ℝ) := by
  have ht := lt t
  have e : pair t.val v r C = v (128 * (t.val - 1) + r.val) C := by
    unfold pair; rw [if_pos r.isLt]
  rw [e]
  refine Eq.trans ?_ (H.hv ⟨128 * (t.val - 1) + r.val, by omega⟩ C)
  blk_ext [iblk, idx t]

theorem column_lse (H : Reads m c q k v g o lse sink) (t : Fin cfg0.N) (d : ℕ) (hd : d < 16) (inb) (r : Fin 128) :
    @Eq EReal (View.ld (iblk m c 7 t) (Rect.unit ![0, d] ![128, 1] inb) (ix2 r 0)) (sh t.val lse r d : ℝ) := by
  have ht := lt t
  refine (View.ld_unit_apply_of (iblk m c 7 t) _ _ inb (ix2 r 0) (ix2 r (⟨d, by omega⟩ : Fin 128))
    (fun a => match a with | ⟨0, _⟩ => (Nat.zero_add _).symm | ⟨1, _⟩ => rfl)).trans ?_
  refine Eq.trans ?_ (H.hlse ⟨128 * t.val + r.val, by omega⟩ ⟨d, by omega⟩ hd)
  blk_ext [iblk, idx t]

theorem entry_sink (H : Reads m c q k v g o lse sink) (t : Fin cfg0.N) (d : ℕ) (hd : d < 16) (inb) :
    @Eq EReal (View.ld (iblk m c 8 t) (Rect.unit ![0, d] ![1, 1] inb) (ix2 0 0)) (sink d : ℝ) := by
  refine (View.ld_unit_apply_of (iblk m c 8 t) _ _ inb (ix2 0 0) (ix2 0 (⟨d, by omega⟩ : Fin 128))
    (fun a => match a with | ⟨0, _⟩ => (Nat.zero_add _).symm | ⟨1, _⟩ => rfl)).trans ?_
  refine Eq.trans ?_ (H.hsink ⟨d, by omega⟩ hd)
  blk_ext [iblk, idx t]

theorem bk (H : Reads m c q k v g o lse sink) (t : Fin cfg0.N) :
    IsBand (pair t.val k) (k0_pay7 (F := Ideal) (iblk m c 2 t) (iblk m c 1 t)) := band_k (before_k H t) (current_k H t)

theorem bv (H : Reads m c q k v g o lse sink) (t : Fin cfg0.N) :
    IsBand (pair t.val v) (k0_pay8 (F := Ideal) (iblk m c 4 t) (iblk m c 3 t)) := band_v (before_v H t) (current_v H t)

theorem dl (H : Reads m c q k v g o lse sink) (t : Fin cfg0.N) (r : Fin 128) (h : Fin 16) :
    k0_pay9 (F := Ideal) (iblk m c 6 t) (iblk m c 5 t) (ix2 r h) = (delta (sh t.val g) (sh t.val o) h r : ℝ) :=
  deltas (block_g H t) (block_o H t) r h

theorem Q0 (H : Reads m c q k v g o lse sink) (t : Fin cfg0.N) :
    IsStk 0 (sh t.val q) (k0_pay15 k0_pay6 (View.ld (iblk m c 0 t) (Rect.unit ![0, 0] ![128, 128] inb_S128x1024_S128x128_0_0)) (View.ld (iblk m c 0 t) (Rect.unit ![0, 0] ![128, 128] inb_S128x1024_S128x128_0_0)) (View.ld (iblk m c 0 t) (Rect.unit ![0, 128] ![128, 128] inb_S128x1024_S128x128_0_128)) (View.ld (iblk m c 0 t) (Rect.unit ![0, 128] ![128, 128] inb_S128x1024_S128x128_0_128))) := stack_q0 (tile_q H t _ _) (tile_q H t _ _)

theorem G0 (H : Reads m c q k v g o lse sink) (t : Fin cfg0.N) :
    IsStk 0 (sh t.val g) (k0_pay22 k0_pay6 (View.ld (iblk m c 6 t) (Rect.unit ![0, 0] ![128, 128] inb_S128x1024_S128x128_0_0)) (View.ld (iblk m c 6 t) (Rect.unit ![0, 0] ![128, 128] inb_S128x1024_S128x128_0_0)) (View.ld (iblk m c 6 t) (Rect.unit ![0, 128] ![128, 128] inb_S128x1024_S128x128_0_128)) (View.ld (iblk m c 6 t) (Rect.unit ![0, 128] ![128, 128] inb_S128x1024_S128x128_0_128))) := stack_g0 (tile_g H t _ _) (tile_g H t _ _)

theorem L0 (H : Reads m c q k v g o lse sink) (t : Fin cfg0.N) :
    IsRows 0 (sh t.val lse) (k0_pay35 (View.ld (iblk m c 7 t) (Rect.unit ![0, 0] ![128, 1] inb_S128x128_S128x1_0_0)) (View.ld (iblk m c 7 t) (Rect.unit ![0, 1] ![128, 1] inb_S128x128_S128x1_0_1)) (View.ld (iblk m c 7 t) (Rect.unit ![0, 2] ![128, 1] inb_S128x128_S128x1_0_2)) (View.ld (iblk m c 7 t) (Rect.unit ![0, 3] ![128, 1] inb_S128x128_S128x1_0_3))) :=
  rows_lse0 (column_lse H t 0 (by decide) _) (column_lse H t 1 (by decide) _) (column_lse H t 2 (by decide) _)
    (column_lse H t 3 (by decide) _)

theorem D0 (H : Reads m c q k v g o lse sink) (t : Fin cfg0.N) :
    IsRows 0 (fun r h => delta (sh t.val g) (sh t.val o) h r) (k0_pay39 (k0_pay9 (F := Ideal) (iblk m c 6 t) (iblk m c 5 t))) := rows_delta0 (dl H t)

theorem P0 (H : Reads m c q k v g o lse sink) (t : Fin cfg0.N) :
    IsPairs 0 (prob t.val (sh t.val q) (sh t.val lse) (pair t.val k)) (k0_pay44 (k0_pay5 (grid0.coords t)) (k0_pay15 k0_pay6 (View.ld (iblk m c 0 t) (Rect.unit ![0, 0] ![128, 128] inb_S128x1024_S128x128_0_0)) (View.ld (iblk m c 0 t) (Rect.unit ![0, 0] ![128, 128] inb_S128x1024_S128x128_0_0)) (View.ld (iblk m c 0 t) (Rect.unit ![0, 128] ![128, 128] inb_S128x1024_S128x128_0_128)) (View.ld (iblk m c 0 t) (Rect.unit ![0, 128] ![128, 128] inb_S128x1024_S128x128_0_128))) (k0_pay27 (k0_pay7 (F := Ideal) (iblk m c 2 t) (iblk m c 1 t))) (k0_pay35 (View.ld (iblk m c 7 t) (Rect.unit ![0, 0] ![128, 1] inb_S128x128_S128x1_0_0)) (View.ld (iblk m c 7 t) (Rect.unit ![0, 1] ![128, 1] inb_S128x128_S128x1_0_1)) (View.ld (iblk m c 7 t) (Rect.unit ![0, 2] ![128, 1] inb_S128x128_S128x1_0_2)) (View.ld (iblk m c 7 t) (Rect.unit ![0, 3] ![128, 1] inb_S128x128_S128x1_0_3)))) :=
  probs0 (mask t) (Q0 H t) (keys_k0 (bk H t)) (L0 H t)

theorem DS0 (H : Reads m c q k v g o lse sink) (t : Fin cfg0.N) :
    IsPairs 0 (dlogit t.val (sh t.val q) (sh t.val g) (sh t.val o) (sh t.val lse) (pair t.val k) (pair t.val v)) (k0_pay49 (k0_pay48 (k0_pay5 (grid0.coords t)) (k0_pay15 k0_pay6 (View.ld (iblk m c 0 t) (Rect.unit ![0, 0] ![128, 128] inb_S128x1024_S128x128_0_0)) (View.ld (iblk m c 0 t) (Rect.unit ![0, 0] ![128, 128] inb_S128x1024_S128x128_0_0)) (View.ld (iblk m c 0 t) (Rect.unit ![0, 128] ![128, 128] inb_S128x1024_S128x128_0_128)) (View.ld (iblk m c 0 t) (Rect.unit ![0, 128] ![128, 128] inb_S128x1024_S128x128_0_128))) (k0_pay22 k0_pay6 (View.ld (iblk m c 6 t) (Rect.unit ![0, 0] ![128, 128] inb_S128x1024_S128x128_0_0)) (View.ld (iblk m c 6 t) (Rect.unit ![0, 0] ![128, 128] inb_S128x1024_S128x128_0_0)) (View.ld (iblk m c 6 t) (Rect.unit ![0, 128] ![128, 128] inb_S128x1024_S128x128_0_128)) (View.ld (iblk m c 6 t) (Rect.unit ![0, 128] ![128, 128] inb_S128x1024_S128x128_0_128))) (k0_pay27 (k0_pay7 (F := Ideal) (iblk m c 2 t) (iblk m c 1 t))) (k0_pay31 (k0_pay8 (F := Ideal) (iblk m c 4 t) (iblk m c 3 t))) (k0_pay35 (View.ld (iblk m c 7 t) (Rect.unit ![0, 0] ![128, 1] inb_S128x128_S128x1_0_0)) (View.ld (iblk m c 7 t) (Rect.unit ![0, 1] ![128, 1] inb_S128x128_S128x1_0_1)) (View.ld (iblk m c 7 t) (Rect.unit ![0, 2] ![128, 1] inb_S128x128_S128x1_0_2)) (View.ld (iblk m c 7 t) (Rect.unit ![0, 3] ![128, 1] inb_S128x128_S128x1_0_3))) (k0_pay39 (k0_pay9 (F := Ideal) (iblk m c 6 t) (iblk m c 5 t)))) (FloatOps.ofBits (F := Ideal) FTy.f32 0x3E000000#32)) :=
  dlogits0 (P0 H t) (G0 H t) (keys_v0 (bv H t)) (D0 H t)

theorem S0 (H : Reads m c q k v g o lse sink) (t : Fin cfg0.N) :
    IsRows 0 (fun r h => Real.exp (sink h - sh t.val lse r h) * delta (sh t.val g) (sh t.val o) h r) (k0_pay56 (F := Ideal) (k0_pay35 (View.ld (iblk m c 7 t) (Rect.unit ![0, 0] ![128, 1] inb_S128x128_S128x1_0_0)) (View.ld (iblk m c 7 t) (Rect.unit ![0, 1] ![128, 1] inb_S128x128_S128x1_0_1)) (View.ld (iblk m c 7 t) (Rect.unit ![0, 2] ![128, 1] inb_S128x128_S128x1_0_2)) (View.ld (iblk m c 7 t) (Rect.unit ![0, 3] ![128, 1] inb_S128x128_S128x1_0_3))) (k0_pay39 (k0_pay9 (F := Ideal) (iblk m c 6 t) (iblk m c 5 t))) k0_pay53 k0_pay54 k0_pay55 (View.ld (iblk m c 8 t) (Rect.unit ![0, 0] ![1, 1] inb_S1x128_S1x1_0_0)) (View.ld (iblk m c 8 t) (Rect.unit ![0, 1] ![1, 1] inb_S1x128_S1x1_0_1)) (View.ld (iblk m c 8 t) (Rect.unit ![0, 2] ![1, 1] inb_S1x128_S1x1_0_2)) (View.ld (iblk m c 8 t) (Rect.unit ![0, 3] ![1, 1] inb_S1x128_S1x1_0_3))) :=
  sinks0 (L0 H t) (D0 H t) (entry_sink H t 0 (by decide) _) (entry_sink H t 1 (by decide) _)
    (entry_sink H t 2 (by decide) _) (entry_sink H t 3 (by decide) _)

theorem Q1 (H : Reads m c q k v g o lse sink) (t : Fin cfg0.N) :
    IsStk 1 (sh t.val q) (k0_pay18 k0_pay6 (k0_pay16 k0_pay6 (View.ld (iblk m c 0 t) (Rect.unit ![0, 256] ![128, 128] inb_S128x1024_S128x128_0_256))) (k0_pay17 k0_pay6 (View.ld (iblk m c 0 t) (Rect.unit ![0, 256] ![128, 128] inb_S128x1024_S128x128_0_256))) (View.ld (iblk m c 0 t) (Rect.unit ![0, 384] ![128, 128] inb_S128x1024_S128x128_0_384)) (View.ld (iblk m c 0 t) (Rect.unit ![0, 384] ![128, 128] inb_S128x1024_S128x128_0_384))) := stack_q1 (tile_q H t _ _) (tile_q H t _ _)

theorem G1 (H : Reads m c q k v g o lse sink) (t : Fin cfg0.N) :
    IsStk 1 (sh t.val g) (k0_pay24 k0_pay6 (k0_pay23 k0_pay6 (View.ld (iblk m c 6 t) (Rect.unit ![0, 256] ![128, 128] inb_S128x1024_S128x128_0_256))) (View.ld (iblk m c 6 t) (Rect.unit ![0, 256] ![128, 128] inb_S128x1024_S128x128_0_256)) (View.ld (iblk m c 6 t) (Rect.unit ![0, 384] ![128, 128] inb_S128x1024_S128x128_0_384)) (View.ld (iblk m c 6 t) (Rect.unit ![0, 384] ![128, 128] inb_S128x1024_S128x128_0_384))) := stack_g1 (tile_g H t _ _) (tile_g H t _ _)

theorem L1 (H : Reads m c q k v g o lse sink) (t : Fin cfg0.N) :
    IsRows 1 (sh t.val lse) (k0_pay36 (View.ld (iblk m c 7 t) (Rect.unit ![0, 4] ![128, 1] inb_S128x128_S128x1_0_4)) (View.ld (iblk m c 7 t) (Rect.unit ![0, 5] ![128, 1] inb_S128x128_S128x1_0_5)) (View.ld (iblk m c 7 t) (Rect.unit ![0, 6] ![128, 1] inb_S128x128_S128x1_0_6)) (View.ld (iblk m c 7 t) (Rect.unit ![0, 7] ![128, 1] inb_S128x128_S128x1_0_7))) :=
  rows_lse1 (column_lse H t 4 (by decide) _) (column_lse H t 5 (by decide) _) (column_lse H t 6 (by decide) _)
    (column_lse H t 7 (by decide) _)

theorem D1 (H : Reads m c q k v g o lse sink) (t : Fin cfg0.N) :
    IsRows 1 (fun r h => delta (sh t.val g) (sh t.val o) h r) (k0_pay40 (k0_pay9 (F := Ideal) (iblk m c 6 t) (iblk m c 5 t))) := rows_delta1 (dl H t)

theorem P1 (H : Reads m c q k v g o lse sink) (t : Fin cfg0.N) :
    IsPairs 1 (prob t.val (sh t.val q) (sh t.val lse) (pair t.val k)) (k0_pay45 (k0_pay5 (grid0.coords t)) (k0_pay18 k0_pay6 (k0_pay16 k0_pay6 (View.ld (iblk m c 0 t) (Rect.unit ![0, 256] ![128, 128] inb_S128x1024_S128x128_0_256))) (k0_pay17 k0_pay6 (View.ld (iblk m c 0 t) (Rect.unit ![0, 256] ![128, 128] inb_S128x1024_S128x128_0_256))) (View.ld (iblk m c 0 t) (Rect.unit ![0, 384] ![128, 128] inb_S128x1024_S128x128_0_384)) (View.ld (iblk m c 0 t) (Rect.unit ![0, 384] ![128, 128] inb_S128x1024_S128x128_0_384))) (k0_pay28 (k0_pay7 (F := Ideal) (iblk m c 2 t) (iblk m c 1 t))) (k0_pay36 (View.ld (iblk m c 7 t) (Rect.unit ![0, 4] ![128, 1] inb_S128x128_S128x1_0_4)) (View.ld (iblk m c 7 t) (Rect.unit ![0, 5] ![128, 1] inb_S128x128_S128x1_0_5)) (View.ld (iblk m c 7 t) (Rect.unit ![0, 6] ![128, 1] inb_S128x128_S128x1_0_6)) (View.ld (iblk m c 7 t) (Rect.unit ![0, 7] ![128, 1] inb_S128x128_S128x1_0_7)))) :=
  probs1 (mask t) (Q1 H t) (keys_k1 (bk H t)) (L1 H t)

theorem DS1 (H : Reads m c q k v g o lse sink) (t : Fin cfg0.N) :
    IsPairs 1 (dlogit t.val (sh t.val q) (sh t.val g) (sh t.val o) (sh t.val lse) (pair t.val k) (pair t.val v)) (k0_pay50 (k0_pay24 k0_pay6 (k0_pay23 k0_pay6 (View.ld (iblk m c 6 t) (Rect.unit ![0, 256] ![128, 128] inb_S128x1024_S128x128_0_256))) (View.ld (iblk m c 6 t) (Rect.unit ![0, 256] ![128, 128] inb_S128x1024_S128x128_0_256)) (View.ld (iblk m c 6 t) (Rect.unit ![0, 384] ![128, 128] inb_S128x1024_S128x128_0_384)) (View.ld (iblk m c 6 t) (Rect.unit ![0, 384] ![128, 128] inb_S128x1024_S128x128_0_384))) (k0_pay32 (k0_pay8 (F := Ideal) (iblk m c 4 t) (iblk m c 3 t))) (k0_pay40 (k0_pay9 (F := Ideal) (iblk m c 6 t) (iblk m c 5 t))) (k0_pay45 (k0_pay5 (grid0.coords t)) (k0_pay18 k0_pay6 (k0_pay16 k0_pay6 (View.ld (iblk m c 0 t) (Rect.unit ![0, 256] ![128, 128] inb_S128x1024_S128x128_0_256))) (k0_pay17 k0_pay6 (View.ld (iblk m c 0 t) (Rect.unit ![0, 256] ![128, 128] inb_S128x1024_S128x128_0_256))) (View.ld (iblk m c 0 t) (Rect.unit ![0, 384] ![128, 128] inb_S128x1024_S128x128_0_384)) (View.ld (iblk m c 0 t) (Rect.unit ![0, 384] ![128, 128] inb_S128x1024_S128x128_0_384))) (k0_pay28 (k0_pay7 (F := Ideal) (iblk m c 2 t) (iblk m c 1 t))) (k0_pay36 (View.ld (iblk m c 7 t) (Rect.unit ![0, 4] ![128, 1] inb_S128x128_S128x1_0_4)) (View.ld (iblk m c 7 t) (Rect.unit ![0, 5] ![128, 1] inb_S128x128_S128x1_0_5)) (View.ld (iblk m c 7 t) (Rect.unit ![0, 6] ![128, 1] inb_S128x128_S128x1_0_6)) (View.ld (iblk m c 7 t) (Rect.unit ![0, 7] ![128, 1] inb_S128x128_S128x1_0_7))))) :=
  dlogits1 (P1 H t) (G1 H t) (keys_v1 (bv H t)) (D1 H t)

theorem S1 (H : Reads m c q k v g o lse sink) (t : Fin cfg0.N) :
    IsRows 1 (fun r h => Real.exp (sink h - sh t.val lse r h) * delta (sh t.val g) (sh t.val o) h r) (k0_pay70 (F := Ideal) (k0_pay36 (View.ld (iblk m c 7 t) (Rect.unit ![0, 4] ![128, 1] inb_S128x128_S128x1_0_4)) (View.ld (iblk m c 7 t) (Rect.unit ![0, 5] ![128, 1] inb_S128x128_S128x1_0_5)) (View.ld (iblk m c 7 t) (Rect.unit ![0, 6] ![128, 1] inb_S128x128_S128x1_0_6)) (View.ld (iblk m c 7 t) (Rect.unit ![0, 7] ![128, 1] inb_S128x128_S128x1_0_7))) (k0_pay40 (k0_pay9 (F := Ideal) (iblk m c 6 t) (iblk m c 5 t))) k0_pay66 k0_pay67 k0_pay68 (FloatOps.ofBits (F := Ideal) FTy.f32 0#32) (k0_pay69 (View.ld (iblk m c 8 t) (Rect.unit ![0, 4] ![1, 1] inb_S1x128_S1x1_0_4))) (View.ld (iblk m c 8 t) (Rect.unit ![0, 5] ![1, 1] inb_S1x128_S1x1_0_5)) (View.ld (iblk m c 8 t) (Rect.unit ![0, 6] ![1, 1] inb_S1x128_S1x1_0_6)) (View.ld (iblk m c 8 t) (Rect.unit ![0, 7] ![1, 1] inb_S1x128_S1x1_0_7))) :=
  sinks1 (L1 H t) (D1 H t) (entry_sink H t 4 (by decide) _) (entry_sink H t 5 (by decide) _)
    (entry_sink H t 6 (by decide) _) (entry_sink H t 7 (by decide) _)

theorem Q2 (H : Reads m c q k v g o lse sink) (t : Fin cfg0.N) :
    IsStk 2 (sh t.val q) (k0_pay19 k0_pay6 (View.ld (iblk m c 0 t) (Rect.unit ![0, 512] ![128, 128] inb_S128x1024_S128x128_0_512)) (View.ld (iblk m c 0 t) (Rect.unit ![0, 512] ![128, 128] inb_S128x1024_S128x128_0_512)) (View.ld (iblk m c 0 t) (Rect.unit ![0, 640] ![128, 128] inb_S128x1024_S128x128_0_640)) (View.ld (iblk m c 0 t) (Rect.unit ![0, 640] ![128, 128] inb_S128x1024_S128x128_0_640))) := stack_q2 (tile_q H t _ _) (tile_q H t _ _)

theorem G2 (H : Reads m c q k v g o lse sink) (t : Fin cfg0.N) :
    IsStk 2 (sh t.val g) (k0_pay25 k0_pay6 (View.ld (iblk m c 6 t) (Rect.unit ![0, 512] ![128, 128] inb_S128x1024_S128x128_0_512)) (View.ld (iblk m c 6 t) (Rect.unit ![0, 512] ![128, 128] inb_S128x1024_S128x128_0_512)) (View.ld (iblk m c 6 t) (Rect.unit ![0, 640] ![128, 128] inb_S128x1024_S128x128_0_640)) (View.ld (iblk m c 6 t) (Rect.unit ![0, 640] ![128, 128] inb_S128x1024_S128x128_0_640))) := stack_g2 (tile_g H t _ _) (tile_g H t _ _)

theorem L2 (H : Reads m c q k v g o lse sink) (t : Fin cfg0.N) :
    IsRows 2 (sh t.val lse) (k0_pay37 (View.ld (iblk m c 7 t) (Rect.unit ![0, 8] ![128, 1] inb_S128x128_S128x1_0_8)) (View.ld (iblk m c 7 t) (Rect.unit ![0, 9] ![128, 1] inb_S128x128_S128x1_0_9)) (View.ld (iblk m c 7 t) (Rect.unit ![0, 10] ![128, 1] inb_S128x128_S128x1_0_10)) (View.ld (iblk m c 7 t) (Rect.unit ![0, 11] ![128, 1] inb_S128x128_S128x1_0_11))) :=
  rows_lse2 (column_lse H t 8 (by decide) _) (column_lse H t 9 (by decide) _) (column_lse H t 10 (by decide) _)
    (column_lse H t 11 (by decide) _)

theorem D2 (H : Reads m c q k v g o lse sink) (t : Fin cfg0.N) :
    IsRows 2 (fun r h => delta (sh t.val g) (sh t.val o) h r) (k0_pay42 (k0_pay9 (F := Ideal) (iblk m c 6 t) (iblk m c 5 t)) (k0_pay41 (k0_pay9 (F := Ideal) (iblk m c 6 t) (iblk m c 5 t)))) := rows_delta2 (dl H t)

theorem P2 (H : Reads m c q k v g o lse sink) (t : Fin cfg0.N) :
    IsPairs 2 (prob t.val (sh t.val q) (sh t.val lse) (pair t.val k)) (k0_pay46 (k0_pay5 (grid0.coords t)) (k0_pay19 k0_pay6 (View.ld (iblk m c 0 t) (Rect.unit ![0, 512] ![128, 128] inb_S128x1024_S128x128_0_512)) (View.ld (iblk m c 0 t) (Rect.unit ![0, 512] ![128, 128] inb_S128x1024_S128x128_0_512)) (View.ld (iblk m c 0 t) (Rect.unit ![0, 640] ![128, 128] inb_S128x1024_S128x128_0_640)) (View.ld (iblk m c 0 t) (Rect.unit ![0, 640] ![128, 128] inb_S128x1024_S128x128_0_640))) (k0_pay29 (k0_pay7 (F := Ideal) (iblk m c 2 t) (iblk m c 1 t))) (k0_pay37 (View.ld (iblk m c 7 t) (Rect.unit ![0, 8] ![128, 1] inb_S128x128_S128x1_0_8)) (View.ld (iblk m c 7 t) (Rect.unit ![0, 9] ![128, 1] inb_S128x128_S128x1_0_9)) (View.ld (iblk m c 7 t) (Rect.unit ![0, 10] ![128, 1] inb_S128x128_S128x1_0_10)) (View.ld (iblk m c 7 t) (Rect.unit ![0, 11] ![128, 1] inb_S128x128_S128x1_0_11)))) :=
  probs2 (mask t) (Q2 H t) (keys_k2 (bk H t)) (L2 H t)

theorem DS2 (H : Reads m c q k v g o lse sink) (t : Fin cfg0.N) :
    IsPairs 2 (dlogit t.val (sh t.val q) (sh t.val g) (sh t.val o) (sh t.val lse) (pair t.val k) (pair t.val v)) (k0_pay51 (k0_pay25 k0_pay6 (View.ld (iblk m c 6 t) (Rect.unit ![0, 512] ![128, 128] inb_S128x1024_S128x128_0_512)) (View.ld (iblk m c 6 t) (Rect.unit ![0, 512] ![128, 128] inb_S128x1024_S128x128_0_512)) (View.ld (iblk m c 6 t) (Rect.unit ![0, 640] ![128, 128] inb_S128x1024_S128x128_0_640)) (View.ld (iblk m c 6 t) (Rect.unit ![0, 640] ![128, 128] inb_S128x1024_S128x128_0_640))) (k0_pay33 (k0_pay8 (F := Ideal) (iblk m c 4 t) (iblk m c 3 t))) (k0_pay42 (k0_pay9 (F := Ideal) (iblk m c 6 t) (iblk m c 5 t)) (k0_pay41 (k0_pay9 (F := Ideal) (iblk m c 6 t) (iblk m c 5 t)))) (k0_pay46 (k0_pay5 (grid0.coords t)) (k0_pay19 k0_pay6 (View.ld (iblk m c 0 t) (Rect.unit ![0, 512] ![128, 128] inb_S128x1024_S128x128_0_512)) (View.ld (iblk m c 0 t) (Rect.unit ![0, 512] ![128, 128] inb_S128x1024_S128x128_0_512)) (View.ld (iblk m c 0 t) (Rect.unit ![0, 640] ![128, 128] inb_S128x1024_S128x128_0_640)) (View.ld (iblk m c 0 t) (Rect.unit ![0, 640] ![128, 128] inb_S128x1024_S128x128_0_640))) (k0_pay29 (k0_pay7 (F := Ideal) (iblk m c 2 t) (iblk m c 1 t))) (k0_pay37 (View.ld (iblk m c 7 t) (Rect.unit ![0, 8] ![128, 1] inb_S128x128_S128x1_0_8)) (View.ld (iblk m c 7 t) (Rect.unit ![0, 9] ![128, 1] inb_S128x128_S128x1_0_9)) (View.ld (iblk m c 7 t) (Rect.unit ![0, 10] ![128, 1] inb_S128x128_S128x1_0_10)) (View.ld (iblk m c 7 t) (Rect.unit ![0, 11] ![128, 1] inb_S128x128_S128x1_0_11))))) :=
  dlogits2 (P2 H t) (G2 H t) (keys_v2 (bv H t)) (D2 H t)

theorem S2 (H : Reads m c q k v g o lse sink) (t : Fin cfg0.N) :
    IsRows 2 (fun r h => Real.exp (sink h - sh t.val lse r h) * delta (sh t.val g) (sh t.val o) h r) (k0_pay85 (F := Ideal) (k0_pay37 (View.ld (iblk m c 7 t) (Rect.unit ![0, 8] ![128, 1] inb_S128x128_S128x1_0_8)) (View.ld (iblk m c 7 t) (Rect.unit ![0, 9] ![128, 1] inb_S128x128_S128x1_0_9)) (View.ld (iblk m c 7 t) (Rect.unit ![0, 10] ![128, 1] inb_S128x128_S128x1_0_10)) (View.ld (iblk m c 7 t) (Rect.unit ![0, 11] ![128, 1] inb_S128x128_S128x1_0_11))) (k0_pay42 (k0_pay9 (F := Ideal) (iblk m c 6 t) (iblk m c 5 t)) (k0_pay41 (k0_pay9 (F := Ideal) (iblk m c 6 t) (iblk m c 5 t)))) k0_pay81 (k0_pay82 (View.ld (iblk m c 8 t) (Rect.unit ![0, 8] ![1, 1] inb_S1x128_S1x1_0_8))) k0_pay83 (FloatOps.ofBits (F := Ideal) FTy.f32 0#32) (k0_pay84 (View.ld (iblk m c 8 t) (Rect.unit ![0, 9] ![1, 1] inb_S1x128_S1x1_0_9))) (View.ld (iblk m c 8 t) (Rect.unit ![0, 10] ![1, 1] inb_S1x128_S1x1_0_10)) (View.ld (iblk m c 8 t) (Rect.unit ![0, 11] ![1, 1] inb_S1x128_S1x1_0_11))) :=
  sinks2 (L2 H t) (D2 H t) (entry_sink H t 8 (by decide) _) (entry_sink H t 9 (by decide) _)
    (entry_sink H t 10 (by decide) _) (entry_sink H t 11 (by decide) _)

theorem Q3 (H : Reads m c q k v g o lse sink) (t : Fin cfg0.N) :
    IsStk 3 (sh t.val q) (k0_pay21 k0_pay6 (k0_pay20 k0_pay6 (View.ld (iblk m c 0 t) (Rect.unit ![0, 768] ![128, 128] inb_S128x1024_S128x128_0_768))) (View.ld (iblk m c 0 t) (Rect.unit ![0, 768] ![128, 128] inb_S128x1024_S128x128_0_768)) (constantI S128x128 1 1#1) (View.ld (iblk m c 0 t) (Rect.unit ![0, 896] ![128, 128] inb_S128x1024_S128x128_0_896)) (View.ld (iblk m c 0 t) (Rect.unit ![0, 896] ![128, 128] inb_S128x1024_S128x128_0_896))) := stack_q3 (tile_q H t _ _) (tile_q H t _ _)

theorem G3 (H : Reads m c q k v g o lse sink) (t : Fin cfg0.N) :
    IsStk 3 (sh t.val g) (k0_pay26 k0_pay6 (View.ld (iblk m c 6 t) (Rect.unit ![0, 768] ![128, 128] inb_S128x1024_S128x128_0_768)) (View.ld (iblk m c 6 t) (Rect.unit ![0, 768] ![128, 128] inb_S128x1024_S128x128_0_768)) (View.ld (iblk m c 6 t) (Rect.unit ![0, 896] ![128, 128] inb_S128x1024_S128x128_0_896)) (View.ld (iblk m c 6 t) (Rect.unit ![0, 896] ![128, 128] inb_S128x1024_S128x128_0_896))) := stack_g3 (tile_g H t _ _) (tile_g H t _ _)

theorem L3 (H : Reads m c q k v g o lse sink) (t : Fin cfg0.N) :
    IsRows 3 (sh t.val lse) (k0_pay38 (View.ld (iblk m c 7 t) (Rect.unit ![0, 12] ![128, 1] inb_S128x128_S128x1_0_12)) (View.ld (iblk m c 7 t) (Rect.unit ![0, 13] ![128, 1] inb_S128x128_S128x1_0_13)) (View.ld (iblk m c 7 t) (Rect.unit ![0, 14] ![128, 1] inb_S128x128_S128x1_0_14)) (View.ld (iblk m c 7 t) (Rect.unit ![0, 15] ![128, 1] inb_S128x128_S128x1_0_15))) :=
  rows_lse3 (column_lse H t 12 (by decide) _) (column_lse H t 13 (by decide) _) (column_lse H t 14 (by decide) _)
    (column_lse H t 15 (by decide) _)

theorem D3 (H : Reads m c q k v g o lse sink) (t : Fin cfg0.N) :
    IsRows 3 (fun r h => delta (sh t.val g) (sh t.val o) h r) (k0_pay43 (k0_pay9 (F := Ideal) (iblk m c 6 t) (iblk m c 5 t))) := rows_delta3 (dl H t)

theorem P3 (H : Reads m c q k v g o lse sink) (t : Fin cfg0.N) :
    IsPairs 3 (prob t.val (sh t.val q) (sh t.val lse) (pair t.val k)) (k0_pay47 (k0_pay5 (grid0.coords t)) (k0_pay21 k0_pay6 (k0_pay20 k0_pay6 (View.ld (iblk m c 0 t) (Rect.unit ![0, 768] ![128, 128] inb_S128x1024_S128x128_0_768))) (View.ld (iblk m c 0 t) (Rect.unit ![0, 768] ![128, 128] inb_S128x1024_S128x128_0_768)) (constantI S128x128 1 1#1) (View.ld (iblk m c 0 t) (Rect.unit ![0, 896] ![128, 128] inb_S128x1024_S128x128_0_896)) (View.ld (iblk m c 0 t) (Rect.unit ![0, 896] ![128, 128] inb_S128x1024_S128x128_0_896))) (k0_pay30 (k0_pay7 (F := Ideal) (iblk m c 2 t) (iblk m c 1 t))) (k0_pay38 (View.ld (iblk m c 7 t) (Rect.unit ![0, 12] ![128, 1] inb_S128x128_S128x1_0_12)) (View.ld (iblk m c 7 t) (Rect.unit ![0, 13] ![128, 1] inb_S128x128_S128x1_0_13)) (View.ld (iblk m c 7 t) (Rect.unit ![0, 14] ![128, 1] inb_S128x128_S128x1_0_14)) (View.ld (iblk m c 7 t) (Rect.unit ![0, 15] ![128, 1] inb_S128x128_S128x1_0_15)))) :=
  probs3 (mask t) (Q3 H t) (keys_k3 (bk H t)) (L3 H t)

theorem DS3 (H : Reads m c q k v g o lse sink) (t : Fin cfg0.N) :
    IsPairs 3 (dlogit t.val (sh t.val q) (sh t.val g) (sh t.val o) (sh t.val lse) (pair t.val k) (pair t.val v)) (k0_pay52 (k0_pay26 k0_pay6 (View.ld (iblk m c 6 t) (Rect.unit ![0, 768] ![128, 128] inb_S128x1024_S128x128_0_768)) (View.ld (iblk m c 6 t) (Rect.unit ![0, 768] ![128, 128] inb_S128x1024_S128x128_0_768)) (View.ld (iblk m c 6 t) (Rect.unit ![0, 896] ![128, 128] inb_S128x1024_S128x128_0_896)) (View.ld (iblk m c 6 t) (Rect.unit ![0, 896] ![128, 128] inb_S128x1024_S128x128_0_896))) (k0_pay34 (k0_pay8 (F := Ideal) (iblk m c 4 t) (iblk m c 3 t))) (k0_pay43 (k0_pay9 (F := Ideal) (iblk m c 6 t) (iblk m c 5 t))) (k0_pay47 (k0_pay5 (grid0.coords t)) (k0_pay21 k0_pay6 (k0_pay20 k0_pay6 (View.ld (iblk m c 0 t) (Rect.unit ![0, 768] ![128, 128] inb_S128x1024_S128x128_0_768))) (View.ld (iblk m c 0 t) (Rect.unit ![0, 768] ![128, 128] inb_S128x1024_S128x128_0_768)) (constantI S128x128 1 1#1) (View.ld (iblk m c 0 t) (Rect.unit ![0, 896] ![128, 128] inb_S128x1024_S128x128_0_896)) (View.ld (iblk m c 0 t) (Rect.unit ![0, 896] ![128, 128] inb_S128x1024_S128x128_0_896))) (k0_pay30 (k0_pay7 (F := Ideal) (iblk m c 2 t) (iblk m c 1 t))) (k0_pay38 (View.ld (iblk m c 7 t) (Rect.unit ![0, 12] ![128, 1] inb_S128x128_S128x1_0_12)) (View.ld (iblk m c 7 t) (Rect.unit ![0, 13] ![128, 1] inb_S128x128_S128x1_0_13)) (View.ld (iblk m c 7 t) (Rect.unit ![0, 14] ![128, 1] inb_S128x128_S128x1_0_14)) (View.ld (iblk m c 7 t) (Rect.unit ![0, 15] ![128, 1] inb_S128x128_S128x1_0_15))))) :=
  dlogits3 (P3 H t) (G3 H t) (keys_v3 (bv H t)) (D3 H t)

theorem S3 (H : Reads m c q k v g o lse sink) (t : Fin cfg0.N) :
    IsRows 3 (fun r h => Real.exp (sink h - sh t.val lse r h) * delta (sh t.val g) (sh t.val o) h r) (k0_pay101 (F := Ideal) (k0_pay38 (View.ld (iblk m c 7 t) (Rect.unit ![0, 12] ![128, 1] inb_S128x128_S128x1_0_12)) (View.ld (iblk m c 7 t) (Rect.unit ![0, 13] ![128, 1] inb_S128x128_S128x1_0_13)) (View.ld (iblk m c 7 t) (Rect.unit ![0, 14] ![128, 1] inb_S128x128_S128x1_0_14)) (View.ld (iblk m c 7 t) (Rect.unit ![0, 15] ![128, 1] inb_S128x128_S128x1_0_15))) (k0_pay43 (k0_pay9 (F := Ideal) (iblk m c 6 t) (iblk m c 5 t)))
      (k0_pay97 (iota Kind.tc S512x1 32 [0] iota_S512x1_d0_w32) (128#32) k0_pay94 k0_pay95 k0_pay96)
      (k0_pay98 (iota Kind.tc S512x1 32 [0] iota_S512x1_d0_w32) (128#32) k0_pay94 k0_pay95 k0_pay96 (View.ld (iblk m c 8 t) (Rect.unit ![0, 12] ![1, 1] inb_S1x128_S1x1_0_12)) (View.ld (iblk m c 8 t) (Rect.unit ![0, 13] ![1, 1] inb_S1x128_S1x1_0_13)))
      (k0_pay99 (iota Kind.tc S512x1 32 [0] iota_S512x1_d0_w32) (128#32) k0_pay94 k0_pay95 k0_pay96) (FloatOps.ofBits (F := Ideal) FTy.f32 0#32) (k0_pay100 (View.ld (iblk m c 8 t) (Rect.unit ![0, 14] ![1, 1] inb_S1x128_S1x1_0_14))) (View.ld (iblk m c 8 t) (Rect.unit ![0, 15] ![1, 1] inb_S1x128_S1x1_0_15))) :=
  sinks3 (L3 H t) (D3 H t) (entry_sink H t 12 (by decide) _) (entry_sink H t 13 (by decide) _)
    (entry_sink H t 14 (by decide) _) (entry_sink H t 15 (by decide) _)

end Cert.AttnIdeal.Block

end
-- ==== Proof.AttModel.lean ====
/-
  The attention's gradient over the real numbers as the reference computes it: the softmax is taken with the row's maximum
  and the sum it divides by, and differentiated by the quotient's rule. It is the gradient of `AttMath`, which reads the
  probabilities from the logarithm of the sum and the row's product of the output with its gradient.
-/
module

public import proofs.«01_k».proof.Proof.AttMath

@[expose] public section

noncomputable section

namespace Cert.AttMath

open Idealize.ShloMosaic Cert.Reals

/-- The keys block `n` sees: the block before it, which is zero before the first block, then its own. -/
def band (n : ℕ) (f : ℕ → ℕ → ℝ) (s c : ℕ) : ℝ := if 128 ≤ s ∨ 0 < n then pair n f s c else 0

theorem band_of_ok {n r s : ℕ} (h : ok n r s) (f : ℕ → ℕ → ℝ) (c : ℕ) : band n f s c = pair n f s c := if_pos h.2.2

section block

variable (n : ℕ) (q k v g : ℕ → ℕ → ℝ) (mx : ℕ → ℕ → ℝ) (sink : ℕ → ℝ)

/-- The scaled logit. -/
def lg (h r s : ℕ) : ℝ := (∑ d : Fin 64, k s (64 * (h / 4) + d) * q r (64 * h + d)) * (1 / 8)

/-- The exponential of a seen key's logit over the row's maximum. -/
def ex (h r s : ℕ) : ℝ := if ok n r s then Real.exp (lg q k h r s - mx h r) else 0

/-- The sum the softmax divides by. -/
def den (h r : ℕ) : ℝ := (∑ s : Fin 256, ex n q k mx h r s) + Real.exp (sink h - mx h r)

/-- The probability. -/
def pr (h r s : ℕ) : ℝ := ex n q k mx h r s * (1 / den n q k mx sink h r)

/-- The output. -/
def ou (r c : ℕ) : ℝ := ∑ s : Fin 256, v s (64 * (c / 256) + c % 64) * pr n q k mx sink (c / 64) r s

/-- The gradient of the probability. -/
def dp (h r s : ℕ) : ℝ := ∑ d : Fin 64, g r (64 * h + d) * v s (64 * (h / 4) + d)

/-- The gradient of the sum, up to its sign. -/
def da (h r : ℕ) : ℝ :=
  ∑ s : Fin 256, dp v g h r s * (1 * (1 / (den n q k mx sink h r * den n q k mx sink h r))) * ex n q k mx h r s

/-- The gradient of the logit. -/
def dl (h r s : ℕ) : ℝ :=
  (dp v g h r s * (1 / den n q k mx sink h r) + -(da n q k v g mx sink h r)) * ex n q k mx h r s

theorem ex_nonneg (h r s : ℕ) : 0 ≤ ex n q k mx h r s := by
  unfold ex; split_ifs
  · exact (Real.exp_pos _).le
  · exact le_rfl

theorem den_pos (h r : ℕ) : 0 < den n q k mx sink h r := by
  unfold den
  exact add_pos_of_nonneg_of_pos (Finset.sum_nonneg fun s _ => ex_nonneg n q k mx h r s) (Real.exp_pos _)

theorem den_ne (h r : ℕ) : den n q k mx sink h r ≠ 0 := (den_pos n q k mx sink h r).ne'

/-- The gradient of the sum is the row's mean of the probabilities' gradients, over the sum. -/
theorem da_eq (h r : ℕ) : da n q k v g mx sink h r
    = (∑ s : Fin 256, pr n q k mx sink h r s * dp v g h r s) * (1 / den n q k mx sink h r) := by
  unfold da
  rw [Finset.sum_mul]
  refine Finset.sum_congr rfl fun s _ => ?_
  have := den_ne n q k mx sink h r
  unfold pr
  field_simp

/-- The logit's gradient is the probability times its gradient over the mean. -/
theorem dl_eq (h r s : ℕ) : dl n q k v g mx sink h r s
    = pr n q k mx sink h r s * (dp v g h r s - ∑ s : Fin 256, pr n q k mx sink h r s * dp v g h r s) := by
  unfold dl
  rw [da_eq]
  unfold pr
  ring

/-- The gradient of the row's maximum: the shift cancels. -/
theorem dmax_eq (h r : ℕ) : -(-(da n q k v g mx sink h r) * Real.exp (sink h - mx h r)) + ∑ s : Fin 256, -(dl n q k v g mx sink h r s) = 0 := by
  have e : ∑ s : Fin 256, dl n q k v g mx sink h r s
      = da n q k v g mx sink h r * den n q k mx sink h r - da n q k v g mx sink h r * ∑ s : Fin 256, ex n q k mx h r s := by
    have hd := den_ne n q k mx sink h r
    rw [Finset.mul_sum]
    have e2 : da n q k v g mx sink h r * den n q k mx sink h r
        = ∑ s : Fin 256, dp v g h r s * (1 / den n q k mx sink h r) * ex n q k mx h r s := by
      conv_lhs => unfold da
      rw [Finset.sum_mul]
      refine Finset.sum_congr rfl fun s _ => ?_
      field_simp
    rw [e2, ← Finset.sum_sub_distrib]
    refine Finset.sum_congr rfl fun s _ => ?_
    unfold dl; ring
  rw [Finset.sum_neg_distrib, e]
  have : den n q k mx sink h r = (∑ s : Fin 256, ex n q k mx h r s) + Real.exp (sink h - mx h r) := rfl
  rw [this]; ring

end block

section tie

variable {n : ℕ} {q k v g : ℕ → ℕ → ℝ} {mx : ℕ → ℕ → ℝ} {sink : ℕ → ℝ} {lse o : ℕ → ℕ → ℝ}

/-- The probability read from the logarithm of the row's sum. -/
theorem prob_eq {h r : ℕ} (hl : lse r h = mx h r + Real.log (den n q (band n k) mx sink h r)) (s : ℕ) :
    prob n q lse (pair n k) h r s = pr n q (band n k) mx sink h r s := by
  unfold prob pr ex
  by_cases hs : ok n r s
  · rw [if_pos hs, if_pos hs, hl]
    have e : logit q (pair n k) h r s = lg q (band n k) h r s := by
      unfold logit lg
      refine congrArg (· * (1 / 8 : ℝ)) (Finset.sum_congr rfl fun d _ => ?_)
      rw [band_of_ok hs, mul_comm]
    rw [e, ← sub_sub, Real.exp_sub, Real.exp_log (den_pos n q (band n k) mx sink h r), one_div, div_eq_mul_inv]
  · rw [if_neg hs, if_neg hs, zero_mul]

/-- The row's product of the output with its gradient is the mean of the probabilities' gradients. -/
theorem delta_eq {h r : ℕ} (ho : ∀ d : Fin 64, o r (64 * h + d) = ou n q (band n k) (band n v) mx sink r (64 * h + d)) :
    delta g o h r = ∑ s : Fin 256, pr n q (band n k) mx sink h r s * dp (band n v) g h r s := by
  unfold delta dp
  simp only [Finset.mul_sum]
  rw [Finset.sum_comm]
  refine Finset.sum_congr rfl fun d _ => ?_
  have hd := d.isLt
  rw [ho]
  unfold ou
  rw [(by omega : (64 * h + d.val) / 64 = h), (by omega : (64 * h + d.val) / 256 = h / 4),
    (by omega : (64 * h + d.val) % 64 = d.val), Finset.mul_sum]
  exact Finset.sum_congr rfl fun s _ => by ring

/-- The gradient of the unscaled logit. -/
theorem dlogit_eq {h r : ℕ} (hl : lse r h = mx h r + Real.log (den n q (band n k) mx sink h r))
    (ho : ∀ d : Fin 64, o r (64 * h + d) = ou n q (band n k) (band n v) mx sink r (64 * h + d)) (s : ℕ) :
    dlogit n q g o lse (pair n k) (pair n v) h r s
      = (if ok n r s then dl n q (band n k) (band n v) g mx sink h r s else 0) * (1 / 8) := by
  unfold dlogit
  rw [prob_eq hl, delta_eq ho]
  by_cases hs : ok n r s
  · rw [if_pos hs, dl_eq]
    refine congrArg (fun x => pr n q (band n k) mx sink h r s * (x - _) * (1 / 8)) ?_
    unfold dprob dp
    exact Finset.sum_congr rfl fun d _ => by rw [band_of_ok hs]
  · rw [if_neg hs]
    unfold pr ex
    rw [if_neg hs]; ring

/-- The part of a row in the sink's gradient. -/
theorem sink_eq {h r : ℕ} (hl : lse r h = mx h r + Real.log (den n q (band n k) mx sink h r))
    (ho : ∀ d : Fin 64, o r (64 * h + d) = ou n q (band n k) (band n v) mx sink r (64 * h + d)) :
    Real.exp (sink h - lse r h) * delta g o h r
      = da n q (band n k) (band n v) g mx sink h r * Real.exp (sink h - mx h r) := by
  rw [delta_eq ho, da_eq, hl, ← sub_sub, Real.exp_sub _ (Real.log _), Real.exp_log (den_pos n q (band n k) mx sink h r)]
  rw [div_eq_mul_inv, one_div]; ring

end tie

end Cert.AttMath

end
-- ==== Proof.AttRows.lean ====
/-
  The reference of the attention's gradient, read at an index, up to the softmax: the keys each block sees, the scaled
  logits, which keys a query sees, the row's maximum, the exponentials, their sum, the probabilities and the output.
-/
module

public import proofs.«01_k».proof.Proof.AttModel
public import proofs.«01_k».proof.Proof.Gen.AttnRefIdeal.Read
public import Idealize.ShloMosaic.Lib.Pipeline.ValueKit
public import Idealize.ShloMosaic.Lib.Pointwise.Tactic
public import Idealize.ShloMosaic.Lib.KernelVsHost
public import Idealize.ShloMosaic.Lib.ValueIdx

@[expose] public section

set_option maxRecDepth 16384

noncomputable section

open Idealize.ShloMosaic Idealize.ShloMosaic.TcCoe Idealize.SL.Sem
open Idealize.ShloMosaic.Pipeline (Dat)

namespace Cert.AttnRefIdeal.Rows

open Cert.AttnRefIdeal Cert.AttnRefIdeal.Gen Cert.AttnRefIdeal.Read Cert.AttMath Cert.Reals

variable {x0 : S4096x1024.Idx → EReal} {x1 x2 : S4096x256.Idx → EReal} {x3 : S16.Idx → EReal} {x4 : S4096x1024.Idx → EReal}
variable {q k v g : ℕ → ℕ → ℝ} {sink : ℕ → ℝ}

/-- A wide array of real numbers. -/
def Wide (x : S4096x1024.Idx → EReal) (f : ℕ → ℕ → ℝ) : Prop := ∀ (R : Fin 4096) (C : Fin 1024), x (ix2 R C) = (f R C : ℝ)

/-- A narrow array of real numbers. -/
def Narrow (x : S4096x256.Idx → EReal) (f : ℕ → ℕ → ℝ) : Prop := ∀ (R : Fin 4096) (C : Fin 256), x (ix2 R C) = (f R C : ℝ)

/-- A list of real numbers. -/
def List16 (x : S16.Idx → EReal) (f : ℕ → ℝ) : Prop := ∀ h : Fin 16, x (ix1 h) = (f h : ℝ)

theorem zero_int : FloatOps.sitofp (F := Ideal) FTy.f32 0#32 = ((0 : ℝ) : EReal) := by
  simp [FloatOps.sitofp]

theorem scale : Ideal.ofBits .f32 0x3E000000#32 = ((1 / 8 : ℝ) : EReal) := by
  simp [Ideal.ofBits, Ideal.ieee, -EReal.coe_mul]; norm_num

theorem padded_key (hk : Narrow x1 k) (R : Fin 4224) (h : Fin 4) (d : Fin 64) :
    val_main_v3 (F := Ideal) x1 (ix3 R h d) = ((if 128 ≤ R.val then k (R.val - 128) (64 * h.val + d.val) else 0 : ℝ) : EReal) := by
  have hR := R.isLt
  have hh := h.isLt
  have hd := d.isLt
  unfold val_main_v3
  by_cases hp : 128 ≤ R.val
  · rw [if_pos hp, pad_apply_of_inside _ _ _ _ _ _ _ _ (ix3 (⟨R.val - 128, by omega⟩ : Fin 4096) h d)
      (fun a => match a with | ⟨0, _⟩ => by simp [ix3]; omega | ⟨1, _⟩ => by simp [ix3] | ⟨2, _⟩ => by simp [ix3])]
    unfold val_main_v2 val_main_v1
    pointwise
    refine Eq.trans ?_ (hk ⟨R.val - 128, by omega⟩ ⟨64 * h.val + d.val, by omega⟩)
    blk_ext
  · rw [if_neg hp, pad_apply_of_not_inside _ _ _ _ _ _ _ _ 0 (by simp [ix3]; omega)]
    unfold val_main_call0_v0 val_main_c
    pointwise
    exact zero_int

/-- The keys block `n` sees. -/
theorem key (hk : Narrow x1 k) (n : Fin 32) (s : Fin 256) (h : Fin 4) (d : Fin 64) :
    val_main_v7 (F := Ideal) x1 (ix4 n s h d) = (band n.val k s.val (64 * h.val + d.val) : ℝ) := by
  have hn := n.isLt
  have hs := s.isLt
  unfold val_main_v7 val_main_v5 val_main_v6 val_main_v4
  pointwise
  simp only [padded_key hk]
  unfold band pair
  split_ifs <;> first | (exfalso; omega) | exact congrArg (fun a => ((k a _ : ℝ) : EReal)) (by omega) | rfl

/-- The values block `n` sees. -/
theorem value (hv : Narrow x2 v) (n : Fin 32) (s : Fin 256) (h : Fin 4) (d : Fin 64) :
    val_main_v14 (F := Ideal) x2 (ix4 n s h d) = (band n.val v s.val (64 * h.val + d.val) : ℝ) :=
  key (x1 := x2) hv n s h d

/-- The queries' rows by head. -/
theorem query (hq : Wide x0 q) (n : Fin 32) (r : Fin 128) (h u : Fin 4) (d : Fin 64) :
    val_main_v15 (F := Ideal) x0 (ix5 n r h u d) = (sh n.val q r.val (64 * (4 * h.val + u.val) + d.val) : ℝ) := by
  have hn := n.isLt
  have hr := r.isLt
  have hh := h.isLt
  have hu := u.isLt
  have hd := d.isLt
  unfold val_main_v15 val_main_v0
  pointwise
  refine (hq _ _).trans ?_
  unfold sh
  exact congrArg₂ (fun a b => ((q a b : ℝ) : EReal)) (by simp only; omega) (by simp only; omega)

/-- The scaled logits. -/
theorem logits (hq : Wide x0 q) (hk : Narrow x1 k) (n : Fin 32) (h u : Fin 4) (r : Fin 128) (s : Fin 256) :
    val_main_v19 (F := Ideal) x0 x1 (ix5 n h u r s)
      = (lg (sh n.val q) (band n.val k) (4 * h.val + u.val) r.val s.val : ℝ) := by
  unfold val_main_v19 val_main_v18 val_main_v17 val_main_v16 val_main_cst
  pointwise
  simp only [key hk, query hq, scale, ← EReal.coe_mul, ← coe_sum]
  refine congrArg _ ?_
  unfold lg
  rw [(by omega : (4 * h.val + u.val) / 4 = h.val)]

theorem not_before : ∀ (n : Fin 32) (s : Fin 256), IntOp.cmpi CmpIPredicate.sge
    (IntOp.addi (IntOp.subi (IntOp.muli (BitVec.ofNat 32 n.val) 128#32) 128#32) (BitVec.ofNat 32 s.val)) 0#32
      = if 128 ≤ s.val ∨ 0 < n.val then 1#1 else 0#1 := by decide +kernel

theorem distance (a b c : BitVec 32) : IntOp.subi (IntOp.addi a b) (IntOp.addi (IntOp.subi a 128#32) c)
    = IntOp.subi (IntOp.addi b 128#32) c := by
  simp only [IntOp.subi, IntOp.addi]
  bv_omega

theorem not_after : ∀ (r : Fin 128) (s : Fin 256), IntOp.cmpi CmpIPredicate.sge
    (IntOp.subi (IntOp.addi (BitVec.ofNat 32 r.val) 128#32) (BitVec.ofNat 32 s.val)) 0#32
      = if s.val ≤ r.val + 128 then 1#1 else 0#1 := by decide +kernel

theorem near : ∀ (r : Fin 128) (s : Fin 256), IntOp.cmpi CmpIPredicate.slt
    (IntOp.subi (IntOp.addi (BitVec.ofNat 32 r.val) 128#32) (BitVec.ofNat 32 s.val)) 128#32
      = if r.val < s.val then 1#1 else 0#1 := by decide +kernel

/-- Which keys a query sees. -/
theorem valid (n : Fin 32) (r : Fin 128) (s : Fin 256) :
    val_main_v51 (F := Ideal) (ix3 n r s) = if ok n.val r.val s.val then 1#1 else 0#1 := by
  unfold val_main_v51 val_main_v50 val_main_v49 val_main_v48 val_main_v47 val_main_v46 val_main_v45 val_main_v44 val_main_v43 val_main_v42 val_main_v41 val_main_v40 val_main_v39 val_main_v38 val_main_v37 val_main_v36 val_main_v35 val_main_v34 val_main_v33 val_main_v32 val_main_v31 val_main_v30 val_main_v29 val_main_v28 val_main_v27 val_main_v26 val_main_v25 val_main_v24 val_main_v23 val_main_v22 val_main_v21 val_main_v20 val_main_c_1 val_main_c_2 val_main_c_3 val_main_c_4 val_main_c_5 val_main_c_6
  pointwise
  rw [not_before, distance, not_after, near]
  unfold ok
  by_cases h1 : 128 ≤ s.val ∨ 0 < n.val <;> by_cases h2 : s.val ≤ r.val + 128 <;> by_cases h3 : r.val < s.val <;>
    simp only [h1, h2, h3, if_true, if_false, and_self, and_true, and_false, false_and, true_and] <;> rfl

theorem infinite : FloatOps.ofBits (F := Ideal) .f32 4286578688#32 = (⊥ : EReal) := by
  simp [FloatOps.ofBits, Ideal.ofBits, Ideal.ieee]

/-- The masked logits. -/
theorem masked (hq : Wide x0 q) (hk : Narrow x1 k) (n : Fin 32) (h u : Fin 4) (r : Fin 128) (s : Fin 256) :
    val_main_v53_0 (F := Ideal) x0 x1 (ix5 n h u r s)
      = if ok n.val r.val s.val then ((lg (sh n.val q) (band n.val k) (4 * h.val + u.val) r.val s.val : ℝ) : EReal) else ⊥ := by
  unfold val_main_v53_0 val_main_v53_1 val_main_call2_v2 val_main_call2_v0 val_main_cst_7 val_main_v52
  pointwise
  rw [valid, logits hq hk]
  by_cases hs : ok n.val r.val s.val
  · rw [if_pos hs, if_pos hs]; rfl
  · rw [if_neg hs, if_neg hs]; exact infinite

/-- A fold of the maximum is one of its terms, if one of them is not below every number. -/
theorem fold_max {ι : Type} [DecidableEq ι] (t : Finset ι) (p : ι → Prop) [DecidablePred p] (f : ι → ℝ) :
    (∀ i ∈ t, ¬p i) ∧ t.fold max (⊥ : EReal) (fun i => if p i then (f i : EReal) else ⊥) = ⊥
      ∨ ∃ i ∈ t, p i ∧ t.fold max (⊥ : EReal) (fun i => if p i then (f i : EReal) else ⊥) = (f i : EReal) := by
  induction t using Finset.induction_on with
  | empty => exact Or.inl ⟨fun i hi => absurd hi (Finset.notMem_empty i), rfl⟩
  | insert a t ha ih =>
    rw [Finset.fold_insert ha]
    by_cases hp : p a
    · right
      rw [if_pos hp]
      rcases ih with ⟨_, e⟩ | ⟨i, hi, hpi, e⟩
      · exact ⟨a, Finset.mem_insert_self a t, hp, by rw [e]; exact max_bot_right _⟩
      · rw [e]
        rcases le_total (f a) (f i) with h | h
        · exact ⟨i, Finset.mem_insert_of_mem hi, hpi, max_eq_right (EReal.coe_le_coe_iff.mpr h)⟩
        · exact ⟨a, Finset.mem_insert_self a t, hp, max_eq_left (EReal.coe_le_coe_iff.mpr h)⟩
    · rw [if_neg hp, max_bot_left]
      rcases ih with ⟨h, e⟩ | ⟨i, hi, hpi, e⟩
      · exact Or.inl ⟨fun i hi => by
          rcases Finset.mem_insert.mp hi with rfl | hi
          · exact hp
          · exact h i hi, e⟩
      · exact Or.inr ⟨i, Finset.mem_insert_of_mem hi, hpi, e⟩

/-- The keys' maximum in a row is the logit of a seen key. -/
theorem maximum (hq : Wide x0 q) (hk : Narrow x1 k) (n : Fin 32) (h u : Fin 4) (r : Fin 128) :
    ∃ s : Fin 256, ok n.val r.val s.val ∧ val_main_v56 (F := Ideal) x0 x1 (ix4 n h u r)
      = ((lg (sh n.val q) (band n.val k) (4 * h.val + u.val) r.val s.val : ℝ) : EReal) := by
  have hr := r.isLt
  unfold val_main_v56 val_main_cst_8
  pointwise
  simp only [masked hq hk]
  rw [show Ideal.ofBits FTy.f32 4286578688#32 = (⊥ : EReal) from infinite]
  rcases fold_max Finset.univ (fun s : Fin 256 => ok n.val r.val s.val)
    (fun s => lg (sh n.val q) (band n.val k) (4 * h.val + u.val) r.val s.val) with ⟨hno, _⟩ | ⟨s, _, hs, e⟩
  · refine absurd ?_ (hno ⟨r.val + 128, by omega⟩ (Finset.mem_univ _))
    unfold ok; simp only; omega
  · exact ⟨s, hs, e⟩

/-- The sinks by head. -/
theorem sinks (hx : List16 x3 sink) (h u : Fin 4) :
    val_main_v55 (F := Ideal) x3 (ix5 0 h u 0 0) = ((sink (4 * h.val + u.val) : ℝ) : EReal) := by
  rw [val_main_v55_apply, val_main_v54_apply]
  refine Eq.trans ?_ ((hx ⟨4 * h.val + u.val, by omega⟩).trans rfl)
  blk_ext

end Cert.AttnRefIdeal.Rows

end
-- ==== Proof.AttSoft.lean ====
/-
  The softmax as the reference computes it over the real numbers: every row's maximum and every sum it divides by is a real
  number, and the sum is positive.
-/
module

public import proofs.«01_k».proof.Proof.AttRows
public import proofs.«01_k».proof.Proof.AttModel

@[expose] public section

set_option maxRecDepth 16384

noncomputable section

open Idealize.ShloMosaic Idealize.ShloMosaic.TcCoe Idealize.SL.Sem
open Idealize.ShloMosaic.Pipeline (Dat)

namespace Cert.AttnRefIdeal.Rows

open Cert.AttnRefIdeal Cert.AttnRefIdeal.Gen Cert.AttnRefIdeal.Read Cert.AttMath Cert.Reals

variable {x0 : S4096x1024.Idx → EReal} {x1 x2 : S4096x256.Idx → EReal} {x3 : S16.Idx → EReal} {x4 : S4096x1024.Idx → EReal}
variable {q k v g : ℕ → ℕ → ℝ} {sink : ℕ → ℝ}

/-- A row's maximum over the keys and the sink, as a number. -/
def rowMax (x0 : S4096x1024.Idx → EReal) (x1 : S4096x256.Idx → EReal) (x3 : S16.Idx → EReal) (n h r : ℕ) : ℝ :=
  EReal.toReal (val_main_v64 (F := Ideal) x0 x1 x3
    (ix5 ⟨n % 32, Nat.mod_lt _ (by decide)⟩ ⟨h / 4 % 4, Nat.mod_lt _ (by decide)⟩ ⟨h % 4, Nat.mod_lt _ (by decide)⟩
      ⟨r % 128, Nat.mod_lt _ (by decide)⟩ 0))

theorem at62 (n : Fin 32) (h u : Fin 4) (r : Fin 128) :
    val_main_v62 (F := Ideal) x0 x1 (ix5 n h u r 0) = val_main_v56 (F := Ideal) x0 x1 (ix4 n h u r) := by
  unfold val_main_v62
  pointwise

theorem at63 (n : Fin 32) (h u : Fin 4) (r : Fin 128) :
    val_main_v63 (F := Ideal) x3 (ix5 n h u r 0) = val_main_v55 (F := Ideal) x3 (ix5 0 h u 0 0) := by
  rw [val_main_v63_apply]
  blk_ext

theorem at88 (n : Fin 32) (h u : Fin 4) (r : Fin 128) :
    val_main_v88 (F := Ideal) x3 (ix5 n h u r 0) = val_main_v55 (F := Ideal) x3 (ix5 0 h u 0 0) := by
  rw [val_main_v88_apply]
  blk_ext

theorem top (hq : Wide x0 q) (hk : Narrow x1 k) (hx : List16 x3 sink) (n : Fin 32) (h u : Fin 4) (r : Fin 128) :
    val_main_v64 (F := Ideal) x0 x1 x3 (ix5 n h u r 0) = ((rowMax x0 x1 x3 n.val (4 * h.val + u.val) r.val : ℝ) : EReal) := by
  have hn := n.isLt
  have hr := r.isLt
  have hh := h.isLt
  have hu := u.isLt
  have e : ∃ y : ℝ, val_main_v64 (F := Ideal) x0 x1 x3 (ix5 n h u r 0) = (y : EReal) := by
    obtain ⟨s, _, e⟩ := maximum hq hk n h u r
    rw [val_main_v64_apply, at62, at63, e, sinks hx]
    exact ⟨max (lg (sh n.val q) (band n.val k) (4 * h.val + u.val) r.val s.val) (sink (4 * h.val + u.val)), rfl⟩
  obtain ⟨y, e⟩ := e
  unfold rowMax
  have i1 : (⟨n.val % 32, Nat.mod_lt _ (by decide)⟩ : Fin 32) = n := Fin.ext (Nat.mod_eq_of_lt hn)
  have i2 : (⟨(4 * h.val + u.val) / 4 % 4, Nat.mod_lt _ (by decide)⟩ : Fin 4) = h := Fin.ext (by simp only; omega)
  have i3 : (⟨(4 * h.val + u.val) % 4, Nat.mod_lt _ (by decide)⟩ : Fin 4) = u := Fin.ext (by simp only; omega)
  have i4 : (⟨r.val % 128, Nat.mod_lt _ (by decide)⟩ : Fin 128) = r := Fin.ext (Nat.mod_eq_of_lt hr)
  rw [i1, i2, i3, i4, e, EReal.toReal_coe]

/-- The exponentials. -/
theorem exps (hq : Wide x0 q) (hk : Narrow x1 k) (hx : List16 x3 sink) (n : Fin 32) (h u : Fin 4) (r : Fin 128) (s : Fin 256) :
    val_main_v85 (F := Ideal) x0 x1 x3 (ix5 n h u r s)
      = ((ex n.val (sh n.val q) (band n.val k) (rowMax x0 x1 x3 n.val) (4 * h.val + u.val) r.val s.val : ℝ) : EReal) := by
  unfold val_main_v85 val_main_v84 val_main_v83
  pointwise
  rw [masked hq hk, top hq hk hx]
  unfold ex
  split_ifs
  · rw [← EReal.coe_sub, Ideal.exp_coe]
  · rw [sub_eq_add_neg, EReal.bot_add]; rfl

/-- The sink's exponential. -/
theorem sinkExp (hq : Wide x0 q) (hk : Narrow x1 k) (hx : List16 x3 sink) (n : Fin 32) (h u : Fin 4) (r : Fin 128) :
    val_main_v90 (F := Ideal) x0 x1 x3 (ix5 n h u r 0)
      = ((Real.exp (sink (4 * h.val + u.val) - rowMax x0 x1 x3 n.val (4 * h.val + u.val) r.val) : ℝ) : EReal) := by
  rw [val_main_v90_apply, val_main_v89_apply, at88, sinks hx, top hq hk hx]
  exact (congrArg Ideal.exp (EReal.coe_sub _ _).symm).trans (Ideal.exp_coe _)

theorem zero_float : Ideal.ofBits .f32 0x00000000#32 = ((0 : ℝ) : EReal) := by
  simp [Ideal.ofBits, Ideal.ieee]

theorem one_float : Ideal.ofBits .f32 0x3F800000#32 = ((1 : ℝ) : EReal) := by
  simp [Ideal.ofBits, Ideal.ieee, -EReal.coe_mul]; norm_num

/-- The sum of the exponentials. -/
theorem expSum (hq : Wide x0 q) (hk : Narrow x1 k) (hx : List16 x3 sink) (n : Fin 32) (h u : Fin 4) (r : Fin 128) :
    val_main_v87 (F := Ideal) x0 x1 x3 (ix5 n h u r 0)
      = ((∑ s : Fin 256, ex n.val (sh n.val q) (band n.val k) (rowMax x0 x1 x3 n.val) (4 * h.val + u.val) r.val s.val : ℝ) : EReal) := by
  unfold val_main_v87 val_main_v86 val_main_cst_16
  pointwise
  simp only [exps hq hk hx, ← coe_sum]

/-- The sum the softmax divides by. -/
theorem total (hq : Wide x0 q) (hk : Narrow x1 k) (hx : List16 x3 sink) (n : Fin 32) (h u : Fin 4) (r : Fin 128) :
    val_main_v91 (F := Ideal) x0 x1 x3 (ix5 n h u r 0)
      = ((den n.val (sh n.val q) (band n.val k) (rowMax x0 x1 x3 n.val) sink (4 * h.val + u.val) r.val : ℝ) : EReal) := by
  rw [val_main_v91_apply, expSum hq hk hx, sinkExp hq hk hx]
  exact (EReal.coe_add _ _).symm

/-- The probabilities. -/
theorem probs (hq : Wide x0 q) (hk : Narrow x1 k) (hx : List16 x3 sink) (n : Fin 32) (h u : Fin 4) (r : Fin 128) (s : Fin 256) :
    val_main_v93 (F := Ideal) x0 x1 x3 (ix5 n h u r s)
      = ((pr n.val (sh n.val q) (band n.val k) (rowMax x0 x1 x3 n.val) sink (4 * h.val + u.val) r.val s.val : ℝ) : EReal) := by
  unfold val_main_v93 val_main_v92
  pointwise
  rw [exps hq hk hx, total hq hk hx, Ideal.div_coe (den_ne _ _ _ _ _ _ _), ← EReal.coe_mul]
  rfl

/-- The output. -/
theorem output (hq : Wide x0 q) (hk : Narrow x1 k) (hv : Narrow x2 v) (hx : List16 x3 sink) (R : Fin 4096) (C : Fin 1024) :
    val_main_v99 (F := Ideal) x0 x1 x2 x3 (ix2 R C)
      = ((ou (R.val / 128) (sh (R.val / 128) q) (band (R.val / 128) k) (band (R.val / 128) v) (rowMax x0 x1 x3 (R.val / 128)) sink
          (R.val % 128) C.val : ℝ) : EReal) := by
  have hR := R.isLt
  have hC := C.isLt
  unfold val_main_v99 val_main_v98 val_main_v97
  pointwise
  simp only [value hv, probs hq hk hx, ← EReal.coe_mul, ← coe_sum]
  refine congrArg _ ?_
  unfold ou
  refine Finset.sum_congr rfl fun s _ => ?_
  congr 2 <;> omega

/-- How many keys of a row reach its maximum: not none. -/
theorem count_ne (hq : Wide x0 q) (hk : Narrow x1 k) (n : Fin 32) (h u : Fin 4) (r : Fin 128) :
    val_main_v61 (F := Ideal) x0 x1 (ix4 n h u r) ≠ (0 : EReal) := by
  obtain ⟨s, hs, e⟩ := maximum hq hk n h u r
  unfold val_main_v61 val_main_v60 val_main_v59 val_main_v58 val_main_v57 val_main_cst_9
  pointwise
  have hz : ∀ x : Fin 256, (0 : EReal) ≤ FloatOps.uitofp (F := Ideal) FTy.f32 (BitVec.ofBool (decide
      (val_main_v53_0 (F := Ideal) x0 x1 (ix5 n h u r x) = val_main_v56 (F := Ideal) x0 x1 (ix4 n h u r)))) := by
    intro x
    by_cases hx : val_main_v53_0 (F := Ideal) x0 x1 (ix5 n h u r x) = val_main_v56 (F := Ideal) x0 x1 (ix4 n h u r)
    · rw [decide_eq_true hx]; simp [FloatOps.uitofp]
    · rw [decide_eq_false hx]; simp [FloatOps.uitofp]
  have h1 := Finset.single_le_sum (fun x _ => hz x) (Finset.mem_univ s)
  rw [show val_main_v53_0 (F := Ideal) x0 x1 (ix5 n h u r s) = val_main_v56 (F := Ideal) x0 x1 (ix4 n h u r) by
    rw [e, masked hq hk, if_pos hs]] at h1
  refine ((lt_of_lt_of_le ?_ h1).ne' : _)
  simp [FloatOps.uitofp]

end Cert.AttnRefIdeal.Rows

end
-- ==== Proof.AttBack.lean ====
/-
  The gradient as the reference computes it over the real numbers: the softmax differentiated by the quotient's rule, the part
  of the row's maximum cancelling, then the products with the queries, the keys and the output's gradient.
-/
module

public import proofs.«01_k».proof.Proof.AttSoft

@[expose] public section

set_option maxRecDepth 16384

noncomputable section

open Idealize.ShloMosaic Idealize.ShloMosaic.TcCoe Idealize.SL.Sem
open Idealize.ShloMosaic.Pipeline (Dat)

namespace Cert.AttnRefIdeal.Rows

open Cert.AttnRefIdeal Cert.AttnRefIdeal.Gen Cert.AttnRefIdeal.Read Cert.AttMath Cert.Reals

variable {x0 : S4096x1024.Idx → EReal} {x1 x2 : S4096x256.Idx → EReal} {x3 : S16.Idx → EReal} {x4 : S4096x1024.Idx → EReal}
variable {q k v g : ℕ → ℕ → ℝ} {sink : ℕ → ℝ}

section back

variable (hq : Wide x0 q) (hk : Narrow x1 k) (hv : Narrow x2 v) (hx : List16 x3 sink) (hg : Wide x4 g)

include hq hk hx in
/-- The square of the sum, inverted. -/
theorem inverse (n : Fin 32) (h u : Fin 4) (r : Fin 128) :
    val_main_v96 (F := Ideal) x0 x1 x3 (ix5 n h u r 0)
      = ((1 * (1 / (den n.val (sh n.val q) (band n.val k) (rowMax x0 x1 x3 n.val) sink (4 * h.val + u.val) r.val
          * den n.val (sh n.val q) (band n.val k) (rowMax x0 x1 x3 n.val) sink (4 * h.val + u.val) r.val)) : ℝ) : EReal) := by
  have hd := den_ne n.val (sh n.val q) (band n.val k) (rowMax x0 x1 x3 n.val) sink (4 * h.val + u.val) r.val
  unfold val_main_v96 val_main_v95 val_main_v94 val_main_cst_17
  pointwise
  rw [total hq hk hx, ← EReal.coe_mul, Ideal.div_coe (mul_ne_zero hd hd)]
  rw [one_mul]

include hg in
/-- The output's gradient by head. -/
theorem grad (n : Fin 32) (h : Fin 4) (d : Fin 64) (u : Fin 4) (r : Fin 128) :
    val_main_v101 (F := Ideal) x4 (ix5 n h d u r) = ((sh n.val g r.val (64 * (4 * h.val + u.val) + d.val) : ℝ) : EReal) := by
  have hn := n.isLt
  have hr := r.isLt
  have hh := h.isLt
  have hu := u.isLt
  have hd := d.isLt
  unfold val_main_v101 val_main_v100
  pointwise
  refine (hg _ _).trans ?_
  unfold sh
  exact congrArg₂ (fun a b => ((g a b : ℝ) : EReal)) (by simp only; omega) (by simp only; omega)

include hv hg in
/-- The probability's gradient. -/
theorem gradProb (n : Fin 32) (h u : Fin 4) (r : Fin 128) (s : Fin 256) :
    val_main_v102 (F := Ideal) x2 x4 (ix5 n h u r s)
      = ((dp (band n.val v) (sh n.val g) (4 * h.val + u.val) r.val s.val : ℝ) : EReal) := by
  unfold val_main_v102
  pointwise
  simp only [grad hg, value hv, ← EReal.coe_mul, ← coe_sum]
  refine congrArg _ ?_
  unfold dp
  rw [(by omega : (4 * h.val + u.val) / 4 = h.val)]

include hq hk hx hg in
/-- The gradient of the values block `n` sees. -/
theorem gradValues (n : Fin 32) (s : Fin 256) (h : Fin 4) (d : Fin 64) :
    val_main_v104 (F := Ideal) x0 x1 x3 x4 (ix4 n s h d)
      = ((dcol (pr n.val (sh n.val q) (band n.val k) (rowMax x0 x1 x3 n.val) sink) (sh n.val g) s.val (64 * h.val + d.val) : ℝ) : EReal) := by
  have hh := h.isLt
  have hd := d.isLt
  unfold val_main_v104 val_main_v103
  pointwise
  simp only [grad hg, probs hq hk hx, ← EReal.coe_mul, ← coe_sum]
  refine congrArg _ ?_
  unfold dcol
  rw [(by omega : (64 * h.val + d.val) / 64 = h.val), (by omega : (64 * h.val + d.val) % 64 = d.val)]
  exact Finset.sum_congr rfl fun t _ => Finset.sum_congr rfl fun r _ => mul_comm _ _

include hq hk hv hx hg in
/-- The gradient of the sum the softmax divides by. -/
theorem gradSum (n : Fin 32) (h u : Fin 4) (r : Fin 128) :
    val_main_v110 (F := Ideal) x0 x1 x2 x3 x4 (ix5 n h u r 0)
      = ((-(da n.val (sh n.val q) (band n.val k) (band n.val v) (sh n.val g) (rowMax x0 x1 x3 n.val) sink (4 * h.val + u.val) r.val) : ℝ) : EReal) := by
  unfold val_main_v110 val_main_v109 val_main_v108 val_main_v107 val_main_v106 val_main_v105 val_main_cst_18
  pointwise
  simp only [gradProb hv hg, inverse hq hk hx, exps hq hk hx, ← EReal.coe_mul, ← coe_sum]
  first | rfl | (rw [← EReal.coe_neg]; rfl)

include hq hk hv hx hg in
/-- The sink's part of the gradient in a row. -/
theorem gradSinkRow (n : Fin 32) (h u : Fin 4) (r : Fin 128) :
    val_main_v113 (F := Ideal) x0 x1 x2 x3 x4 (ix5 n h u r 0)
      = ((-(da n.val (sh n.val q) (band n.val k) (band n.val v) (sh n.val g) (rowMax x0 x1 x3 n.val) sink (4 * h.val + u.val) r.val)
          * Real.exp (sink (4 * h.val + u.val) - rowMax x0 x1 x3 n.val (4 * h.val + u.val) r.val) : ℝ) : EReal) := by
  rw [val_main_v113_apply, gradSum hq hk hv hx hg, sinkExp hq hk hx]
  exact (EReal.coe_mul _ _).symm

include hq hk hv hx hg in
/-- The gradient of the masked logit, the row's maximum held. -/
theorem gradLogit (n : Fin 32) (h u : Fin 4) (r : Fin 128) (s : Fin 256) :
    val_main_v120 (F := Ideal) x0 x1 x2 x3 x4 (ix5 n h u r s)
      = ((dl n.val (sh n.val q) (band n.val k) (band n.val v) (sh n.val g) (rowMax x0 x1 x3 n.val) sink (4 * h.val + u.val) r.val s.val : ℝ) : EReal) := by
  unfold val_main_v120 val_main_v119 val_main_v118 val_main_v117 val_main_v112 val_main_v111 val_main_cst_20
  pointwise
  simp only [gradProb hv hg, total hq hk hx, exps hq hk hx]
  rw [Fin.sum_univ_one, gradSum hq hk hv hx hg, Ideal.div_coe (den_ne _ _ _ _ _ _ _), ← EReal.coe_mul, ← EReal.coe_add,
    ← EReal.coe_mul]
  rfl

include hq hk hv hx hg in
/-- The gradient of the row's maximum is zero. -/
theorem gradMax (n : Fin 32) (h u : Fin 4) (r : Fin 128) :
    val_main_v124 (F := Ideal) x0 x1 x2 x3 x4 (ix5 n h u r 0) = ((0 : ℝ) : EReal) := by
  have e : val_main_v123 (F := Ideal) x0 x1 x2 x3 x4 (ix5 n h u r 0)
      = ((∑ s : Fin 256, -(dl n.val (sh n.val q) (band n.val k) (band n.val v) (sh n.val g) (rowMax x0 x1 x3 n.val) sink
          (4 * h.val + u.val) r.val s.val) : ℝ) : EReal) := by
    unfold val_main_v123 val_main_v122 val_main_v121 val_main_cst_21
    pointwise
    simp only [gradLogit hq hk hv hx hg, ← EReal.coe_neg, ← coe_sum]
  rw [val_main_v124_apply, val_main_v116_apply, gradSinkRow hq hk hv hx hg, e]
  refine ((congrArg (· + _) (EReal.coe_neg _).symm).trans (EReal.coe_add _ _).symm).trans ?_
  rw [dmax_eq]

end back

end Cert.AttnRefIdeal.Rows

end
-- ==== Proof.AttFinal.lean ====
/-
  The results of the reference over the real numbers: the gradients of the queries, the keys, the values and the sinks. No
  gradient passes through the row's maximum.
-/
module

public import proofs.«01_k».proof.Proof.AttBack

@[expose] public section

set_option maxRecDepth 16384

noncomputable section

open Idealize.ShloMosaic Idealize.ShloMosaic.TcCoe Idealize.SL.Sem
open Idealize.ShloMosaic.Pipeline (Dat)

namespace Cert.AttnRefIdeal.Rows

open Cert.AttnRefIdeal Cert.AttnRefIdeal.Gen Cert.AttnRefIdeal.Read Cert.AttMath Cert.Reals

variable {x0 : S4096x1024.Idx → EReal} {x1 x2 : S4096x256.Idx → EReal} {x3 : S16.Idx → EReal} {x4 : S4096x1024.Idx → EReal}
variable {q k v g : ℕ → ℕ → ℝ} {sink : ℕ → ℝ}

section back

variable (hq : Wide x0 q) (hk : Narrow x1 k) (hv : Narrow x2 v) (hx : List16 x3 sink) (hg : Wide x4 g)

/-- A sum over the blocks and their rows. -/
theorem sumRows (f : S32x4x4x128x1.Idx → EReal) (h u : Fin 4) :
    ∑ i ∈ Finset.univ.filter (fun i => reducesTo_S32x4x4x128x1_S4x4x1_d0_3.drop i = (ix3 h u 0 : S4x4x1.Idx)), f i
      = ∑ n : Fin 32, ∑ r : Fin 128, f (ix5 n h u r 0) := by
  refine (Finset.sum_filter_eq_sum_of_fiber _ (fun k : Fin 32 × Fin 128 => (ix5 k.1 h u k.2 0 : S32x4x4x128x1.Idx))
    (fun _ _ e => Prod.ext (congrFun e 0) (congrFun e 3)) (fun i => ?_) f).trans ?_
  · constructor
    · intro e
      refine ⟨(i 0, i 3), ?_⟩
      funext a; apply Fin.ext
      match a with
      | ⟨0, _⟩ => rfl
      | ⟨1, _⟩ => exact (congrArg Fin.val (congrFun e ⟨0, by decide⟩)).symm
      | ⟨2, _⟩ => exact (congrArg Fin.val (congrFun e ⟨1, by decide⟩)).symm
      | ⟨3, _⟩ => rfl
      | ⟨4, _⟩ => exact (congrArg Fin.val (congrFun e ⟨2, by decide⟩)).symm
    · rintro ⟨k, rfl⟩
      funext b
      apply Fin.ext
      match b with
      | ⟨0, _⟩ => rfl
      | ⟨1, _⟩ => rfl
      | ⟨2, _⟩ => rfl
  · simp only [Fintype.sum_prod_type]

/-- A sum over axes of one entry. -/
theorem sumOne (f : S1x4x4x1x1.Idx → EReal) (h u : Fin 4) :
    ∑ i ∈ Finset.univ.filter (fun i => reducesTo_S1x4x4x1x1_S4x4_d0_3_4.drop i = (ix2 h u : S4x4.Idx)), f i
      = f (ix5 0 h u 0 0) := by
  refine (Finset.sum_filter_eq_sum_of_fiber _ (fun _ : Fin 1 => (ix5 0 h u 0 0 : S1x4x4x1x1.Idx))
    (fun _ _ _ => Subsingleton.elim _ _) (fun i => ?_) f).trans (Fin.sum_univ_one _)
  constructor
  · intro e
    refine ⟨0, ?_⟩
    have h0 : (i 0).val < 1 := (i 0).isLt
    have h3 : (i 3).val < 1 := (i 3).isLt
    have h4 : (i 4).val < 1 := (i 4).isLt
    funext a; apply Fin.ext
    match a with
    | ⟨0, _⟩ => exact (Nat.lt_one_iff.mp h0).symm
    | ⟨1, _⟩ => exact (congrArg Fin.val (congrFun e ⟨0, by decide⟩)).symm
    | ⟨2, _⟩ => exact (congrArg Fin.val (congrFun e ⟨1, by decide⟩)).symm
    | ⟨3, _⟩ => exact (Nat.lt_one_iff.mp h3).symm
    | ⟨4, _⟩ => exact (Nat.lt_one_iff.mp h4).symm
  · rintro ⟨k, rfl⟩
    funext b
    apply Fin.ext
    match b with
    | ⟨0, _⟩ => rfl
    | ⟨1, _⟩ => rfl

theorem first_zero (i : S_.Idx) : val_main_cst_22 (F := Ideal) i = (0 : EReal) := zero_float

include hq hk hv hx hg in
/-- No gradient passes through the row's maximum to the sinks. -/
theorem gradMaxSink (h u : Fin 4) :
    val_main_v126 (F := Ideal) x0 x1 x2 x3 x4 (ix3 h u 0) = (0 : EReal) := by
  unfold val_main_v126
  refine (congrArg₂ (· + ·) (first_zero _) (sumRows _ h u)).trans ?_
  rw [zero_add]
  refine Finset.sum_eq_zero fun n _ => Finset.sum_eq_zero fun r _ => ?_
  rw [val_main_v125_apply, gradMax hq hk hv hx hg]
  exact zero_mul _

include hq hk hv hx hg in
/-- The sinks' gradient. -/
theorem gradSink (h u : Fin 4) :
    val_main_v114 (F := Ideal) x0 x1 x2 x3 x4 (ix3 h u 0)
      = ((∑ n : Fin 32, ∑ r : Fin 128, -(da n.val (sh n.val q) (band n.val k) (band n.val v) (sh n.val g) (rowMax x0 x1 x3 n.val) sink
            (4 * h.val + u.val) r.val)
          * Real.exp (sink (4 * h.val + u.val) - rowMax x0 x1 x3 n.val (4 * h.val + u.val) r.val) : ℝ) : EReal) := by
  unfold val_main_v114
  refine (congrArg₂ (· + ·) (first_zero _) (sumRows _ h u)).trans ?_
  rw [zero_add]
  simp only [gradSinkRow hq hk hv hx hg, ← coe_sum]

theorem at128 (h u : Fin 4) : val_main_v128 (F := Ideal) x0 x1 x2 x3 x4 (ix5 0 h u 0 0)
    = val_main_v114 (F := Ideal) x0 x1 x2 x3 x4 (ix3 h u 0) + val_main_v126 (F := Ideal) x0 x1 x2 x3 x4 (ix3 h u 0) := by
  unfold val_main_v128 val_main_v127 val_main_v115
  pointwise

theorem at136 (H : Fin 16) : val_main_v136 (F := Ideal) x0 x1 x2 x3 x4 (ix1 H)
    = val_main_v135 (F := Ideal) x0 x1 x2 x3 x4 (ix2 ⟨H.val / 4, by omega⟩ ⟨H.val % 4, by omega⟩) := by
  unfold val_main_v136
  pointwise

theorem at135 (h u : Fin 4) : val_main_v135 (F := Ideal) x0 x1 x2 x3 x4 (ix2 h u)
    = val_main_v128 (F := Ideal) x0 x1 x2 x3 x4 (ix5 0 h u 0 0) := by
  unfold val_main_v135
  refine (congrArg₂ (· + ·) (first_zero _) (sumOne _ h u)).trans (zero_add _)

theorem at130 (n : Fin 32) (h u : Fin 4) (r : Fin 128) :
    val_main_v130 (F := Ideal) x0 x1 x2 x3 x4 (ix4 n h u r) = val_main_v129 (F := Ideal) x0 x1 x2 x3 x4 (ix5 n h u r 0) := by
  unfold val_main_v130 val_main_cst_23
  pointwise
  rw [Fin.sum_univ_one]

theorem at132 (n : Fin 32) (h u : Fin 4) (r : Fin 128) (s : Fin 256) :
    val_main_v132 (F := Ideal) x0 x1 x2 x3 x4 (ix5 n h u r s) = val_main_v131 (F := Ideal) x0 x1 x2 x3 x4 (ix4 n h u r) := by
  unfold val_main_v132
  pointwise

theorem zero_div (x : EReal) {y : EReal} (h : y ≠ 0) : Ideal.div (((0 : ℝ) : EReal) * x) y = 0 := by
  unfold Ideal.div
  rw [if_neg h, EReal.coe_zero, zero_mul, zero_mul]

include hq hk hv hx hg in
/-- No gradient passes through the row's maximum to the keys. -/
theorem gradMaxKey (n : Fin 32) (h u : Fin 4) (r : Fin 128) (s : Fin 256) :
    val_main_v133 (F := Ideal) x0 x1 x2 x3 x4 (ix5 n h u r s) = (0 : EReal) := by
  have e : val_main_v131 (F := Ideal) x0 x1 x2 x3 x4 (ix4 n h u r) = (0 : EReal) := by
    rw [val_main_v131_apply, at130, val_main_v129_apply, gradMax hq hk hv hx hg]
    exact zero_div _ (count_ne hq hk n h u r)
  rw [val_main_v133_apply, at132, e]
  exact zero_mul _

/-- The gradient of the unscaled logit. -/
def dz (q k v g : ℕ → ℕ → ℝ) (mx : ℕ → ℕ → ℕ → ℝ) (sink : ℕ → ℝ) (n h r s : ℕ) : ℝ :=
  (if ok n r s then dl n (sh n q) (band n k) (band n v) (sh n g) (mx n) sink h r s else 0) * (1 / 8)

include hq hk hv hx hg in
theorem gradUnscaled (n : Fin 32) (h u : Fin 4) (r : Fin 128) (s : Fin 256) :
    val_main_v139 (F := Ideal) x0 x1 x2 x3 x4 (ix5 n h u r s)
      = ((dz q k v g (rowMax x0 x1 x3) sink n.val (4 * h.val + u.val) r.val s.val : ℝ) : EReal) := by
  have e : val_main_v134 (F := Ideal) x0 x1 x2 x3 x4 (ix5 n h u r s)
      = ((dl n.val (sh n.val q) (band n.val k) (band n.val v) (sh n.val g) (rowMax x0 x1 x3 n.val) sink (4 * h.val + u.val) r.val s.val : ℝ) : EReal) := by
    rw [val_main_v134_apply, gradLogit hq hk hv hx hg, gradMaxKey hq hk hv hx hg]
    exact add_zero _
  unfold val_main_v139 val_main_v138 val_main_v137 val_main_call3_v0 val_main_v53_1 val_main_v52 val_main_cst_25
  pointwise
  rw [valid, e, scale]
  unfold dz
  rw [EReal.coe_mul]
  refine congrArg (· * ((1 / 8 : ℝ) : EReal)) ?_
  by_cases hs : ok n.val r.val s.val
  · rw [if_pos hs, if_pos hs]; rfl
  · rw [if_neg hs, if_neg hs]; exact zero_float

include hq hk hv hx hg in
/-- The gradient of the queries. -/
theorem outQuery (R : Fin 4096) (C : Fin 1024) : val_main_v145 (F := Ideal) x0 x1 x2 x3 x4 (ix2 R C)
    = ((∑ s : Fin 256, dz q k v g (rowMax x0 x1 x3) sink (R.val / 128) (C.val / 64) (R.val % 128) s.val
        * band (R.val / 128) k s.val (64 * (C.val / 256) + C.val % 64) : ℝ) : EReal) := by
  have hR := R.isLt
  have hC := C.isLt
  unfold val_main_v145 val_main_v142 val_main_v141 val_main_v140
  pointwise
  simp only [gradUnscaled hq hk hv hx hg, key hk, ← EReal.coe_mul, ← coe_sum]
  refine congrArg _ (Finset.sum_congr rfl fun s _ => ?_)
  rw [(by omega : 4 * (C.val / 256) + C.val / 64 % 4 = C.val / 64)]

include hq hk hv hx hg in
/-- The gradient of the keys block `n` sees. -/
theorem gradKeys (n : Fin 32) (s : Fin 256) (h : Fin 4) (d : Fin 64) :
    val_main_v144 (F := Ideal) x0 x1 x2 x3 x4 (ix4 n s h d)
      = ((dcol (dz q k v g (rowMax x0 x1 x3) sink n.val) (sh n.val q) s.val (64 * h.val + d.val) : ℝ) : EReal) := by
  have hh := h.isLt
  have hd := d.isLt
  unfold val_main_v144 val_main_v143 val_main_v140
  pointwise
  simp only [gradUnscaled hq hk hv hx hg, query hq, ← EReal.coe_mul, ← coe_sum]
  refine congrArg _ ?_
  unfold dcol
  rw [(by omega : (64 * h.val + d.val) / 64 = h.val), (by omega : (64 * h.val + d.val) % 64 = d.val), Finset.sum_comm]

include hq hk hv hx hg in
/-- The keys' gradient from the block itself. -/
theorem outKeyOwn (R : Fin 4096) (C : Fin 256) : val_main_v147 (F := Ideal) x0 x1 x2 x3 x4 (ix2 R C)
    = ((dcol (dz q k v g (rowMax x0 x1 x3) sink (R.val / 128)) (sh (R.val / 128) q) (128 + R.val % 128) C.val : ℝ) : EReal) := by
  have hC := C.isLt
  unfold val_main_v147 val_main_v146
  pointwise
  rw [gradKeys hq hk hv hx hg]
  exact congrArg (fun c => ((dcol _ _ _ c : ℝ) : EReal)) (by simp only; omega)

include hq hk hv hx hg in
/-- The keys' gradient from the block after. -/
theorem outKeyPrev (R : Fin 4096) (C : Fin 256) : val_main_v149 (F := Ideal) x0 x1 x2 x3 x4 (ix2 R C)
    = ((dcol (dz q k v g (rowMax x0 x1 x3) sink (R.val / 128)) (sh (R.val / 128) q) (R.val % 128) C.val : ℝ) : EReal) := by
  have hC := C.isLt
  unfold val_main_v149 val_main_v148
  pointwise
  rw [gradKeys hq hk hv hx hg]
  exact congrArg (fun c => ((dcol _ _ _ c : ℝ) : EReal)) (by simp only; omega)

include hq hk hx hg in
/-- The values' gradient from the block itself. -/
theorem outValueOwn (R : Fin 4096) (C : Fin 256) : val_main_v151 (F := Ideal) x0 x1 x3 x4 (ix2 R C)
    = ((dcol (pr (R.val / 128) (sh (R.val / 128) q) (band (R.val / 128) k) (rowMax x0 x1 x3 (R.val / 128)) sink)
        (sh (R.val / 128) g) (128 + R.val % 128) C.val : ℝ) : EReal) := by
  have hC := C.isLt
  unfold val_main_v151 val_main_v150
  pointwise
  rw [gradValues hq hk hx hg]
  exact congrArg (fun c => ((dcol _ _ _ c : ℝ) : EReal)) (by simp only; omega)

include hq hk hx hg in
/-- The values' gradient from the block after. -/
theorem outValuePrev (R : Fin 4096) (C : Fin 256) : val_main_v153 (F := Ideal) x0 x1 x3 x4 (ix2 R C)
    = ((dcol (pr (R.val / 128) (sh (R.val / 128) q) (band (R.val / 128) k) (rowMax x0 x1 x3 (R.val / 128)) sink)
        (sh (R.val / 128) g) (R.val % 128) C.val : ℝ) : EReal) := by
  have hC := C.isLt
  unfold val_main_v153 val_main_v152
  pointwise
  rw [gradValues hq hk hx hg]
  exact congrArg (fun c => ((dcol _ _ _ c : ℝ) : EReal)) (by simp only; omega)

theorem at154 (H : Fin 16) : val_main_v154 (F := Ideal) x0 x1 x2 x3 x4 (ix2 0 H) = val_main_v136 (F := Ideal) x0 x1 x2 x3 x4 (ix1 H) := by
  unfold val_main_v154
  pointwise
  try blk_ext

include hq hk hv hx hg in
/-- The sinks' gradient on a row of lanes. -/
theorem outSink (l : Fin 128) : val_main_v155 (F := Ideal) x0 x1 x2 x3 x4 (ix2 0 l)
    = ((if l.val < 16 then ∑ n : Fin 32, ∑ r : Fin 128, -(da n.val (sh n.val q) (band n.val k) (band n.val v) (sh n.val g)
          (rowMax x0 x1 x3 n.val) sink l.val r.val) * Real.exp (sink l.val - rowMax x0 x1 x3 n.val l.val r.val) else 0 : ℝ) : EReal) := by
  unfold val_main_v155
  by_cases hl : l.val < 16
  · rw [if_pos hl, pad_apply_of_inside _ _ _ _ _ _ _ _ (ix2 (0 : Fin 1) (⟨l.val, hl⟩ : Fin 16))
      (fun a => match a with | ⟨0, _⟩ => by simp [ix2] | ⟨1, _⟩ => by simp [ix2]),
      at154, at136, at135, at128, gradSink hq hk hv hx hg, gradMaxSink hq hk hv hx hg, add_zero]
    simp only [(by omega : 4 * (l.val / 4) + l.val % 4 = l.val)]
  · rw [if_neg hl, pad_apply_of_not_inside _ _ _ _ _ _ _ _ 1 (by simp [ix2]; omega)]
    unfold val_main_call4_v0
    pointwise
    exact zero_int

end back

end Cert.AttnRefIdeal.Rows

end
-- ==== Proof.AttHost.lean ====
/-
  What the call's host code hands the attention gradient: the output of the forward pass, the logarithms of the sums the
  softmax divides by, and the sinks, each as the reference's own forward pass computes it.
-/
module

public import proofs.«01_k».proof.Proof.Gen.AttnIdeal.Value
public import proofs.«01_k».proof.Proof.AttRead
public import proofs.«01_k».proof.Proof.AttFinal
public import Idealize.ShloMosaic.Lib.Pipeline.ValueKit
public import Idealize.ShloMosaic.Lib.Pointwise.Tactic
public import Idealize.ShloMosaic.Lib.StableHlo.RunRead
public import Idealize.ShloMosaic.Lib.KernelVsHost

@[expose] public section

set_option maxRecDepth 16384

noncomputable section

open Idealize.ShloMosaic Idealize.ShloMosaic.TcCoe Idealize.SL.Sem

namespace Cert.AttnIdeal.Block

open Cert.AttnIdeal Cert.AttnIdeal.Gen Cert.AttMath Cert.Reals

variable (m : (ℓ : Loc nD τ sig) → Buf (Elt Ideal) ℓ) (c : Dev nD)

/-- The queries as launched. -/
abbrev A0 : S4096x1024.Idx → EReal := m (c, Proc.devRef .tc main_arg0)
/-- The keys as launched. -/
abbrev A1 : S4096x256.Idx → EReal := m (c, Proc.devRef .tc main_arg1)
/-- The values as launched. -/
abbrev A2 : S4096x256.Idx → EReal := m (c, Proc.devRef .tc main_arg2)
/-- The sinks as launched. -/
abbrev A3 : S16.Idx → EReal := m (c, Proc.devRef .tc main_arg3)

/-- The sums by row. -/
def rowLogs (x0 : S4096x1024.Idx → EReal) (x1 : S4096x256.Idx → EReal) (x3 : S16.Idx → EReal) : S32x4x4x128x1.Idx → EReal :=
  addf (F := Ideal) (φ := .f32) (Cert.AttnRefIdeal.Read.val_main_v64 (F := Ideal) x0 x1 x3)
    (Host.log (F := Ideal) (φ := .f32) (Cert.AttnRefIdeal.Read.val_main_v91 (F := Ideal) x0 x1 x3))

set_option maxHeartbeats 4000000 in
theorem read_out : V m c main_v79 = Cert.AttnRefIdeal.Read.val_main_v99 (F := Ideal) (A0 m c) (A1 m c) (A2 m c) (A3 m c) := by
  unfold_abbrev_sides
  after_reads_simp
  rfl

/-- The logarithms as the kernel takes them. -/
def logArr (x : S32x4x4x128x1.Idx → EReal) : S4096x16.Idx → EReal :=
  shapeCast S4096x16 (transpose S32x128x16 [0, 2, 1] (shapeCast S32x16x128 x shapeCasts_S32x4x4x128x1_S32x16x128)
    transposes_S32x16x128_S32x128x16_0_2_1) shapeCasts_S32x128x16_S4096x16

/-- The fill of the unused lanes. -/
def fill : S_.Idx → EReal := sitofp (F := Ideal) .f32 (constantI S_ 32 0#32)

/-- Two lists of host operations, one after the other. -/
theorem after_two (l₁ l₂ : List (HloOp τ sig (Elt Ideal))) (W : Valuation τ sig (Elt Ideal)) :
    StableHlo.after (l₁ ++ l₂) W = StableHlo.after l₂ (StableHlo.after l₁ W) := by
  induction l₁ generalizing W with
  | nil => rfl
  | cons op l ih => exact ih _

/-- What the last host operations write, from what the operations before them left. -/
theorem tail80 (W : Valuation τ sig (Elt Ideal)) :
    (StableHlo.after (List.flatten [hostOps0_7, hostOps0_8, hostOps0_9]) W main_v80 : S4096x128.Idx → EReal)
      = pad S4096x128 ![0, 0] ![0, 112] ![0, 0] (W main_v78 : S4096x16.Idx → EReal) (sitofp (F := Ideal) .f32 (W main_c_10 : S_.Idx → BitVec 32))
    pads_S4096x16_S4096x128_000_01120 h_S_ := by
  after_reads_simp
  rfl

/-- What the host operations before them left. -/
def before (m : (ℓ : Loc nD τ sig) → Buf (Elt Ideal) ℓ) (c : Dev nD) : Valuation τ sig (Elt Ideal) :=
  StableHlo.after (List.flatten [hostOps0, hostOps0_1, hostOps0_2, hostOps0_3, hostOps0_4, hostOps0_5, hostOps0_6]) (fun b => m (c, b))

set_option maxHeartbeats 4000000 in
theorem cut : V m c main_v80 = StableHlo.after (List.flatten [hostOps0_7, hostOps0_8, hostOps0_9]) (before m c) main_v80 :=
  congrFun (after_two (List.flatten [hostOps0, hostOps0_1, hostOps0_2, hostOps0_3, hostOps0_4, hostOps0_5, hostOps0_6])
    (List.flatten [hostOps0_7, hostOps0_8, hostOps0_9]) _) _

set_option maxHeartbeats 4000000 in
theorem before_fill : before m c main_c_10 = constantI S_ 32 0#32 := by
  unfold before
  after_reads_simp

set_option maxHeartbeats 4000000 in
theorem before_sum : before m c main_v75 = rowLogs (A0 m c) (A1 m c) (A3 m c) := by
  unfold before
  after_reads_simp
  rfl

set_option maxHeartbeats 4000000 in
theorem before_logs : before m c main_v78 = logArr (before m c main_v75) := by
  unfold before
  after_reads_simp
  rfl

theorem read_logs : V m c main_v80 = pad S4096x128 ![0, 0] ![0, 112] ![0, 0] (logArr (rowLogs (A0 m c) (A1 m c) (A3 m c))) fill
    pads_S4096x16_S4096x128_000_01120 h_S_ := by
  rw [cut, tail80, before_fill, before_logs, before_sum]
  rfl

set_option maxHeartbeats 4000000 in
theorem read_sinks : V m c main_v82 = pad S1x128 ![0, 0] ![0, 112] ![0, 0] (shapeCast S1x16 (A3 m c) shapeCasts_S16_S1x16) fill
    pads_S1x16_S1x128_000_01120 h_S_ := by
  unfold_abbrev_sides
  after_reads_simp
  rfl

theorem logArr_apply (x : S32x4x4x128x1.Idx → EReal) (R : Fin 4096) (h : Fin 16) :
    logArr x (ix2 R h) = x (ix5 ⟨R.val / 128, by omega⟩ ⟨h.val / 4, by omega⟩ ⟨h.val % 4, by omega⟩ ⟨R.val % 128, by omega⟩ 0) := by
  unfold logArr
  pointwise

theorem sinkRow_apply (x : S16.Idx → EReal) (h : Fin 16) : shapeCast S1x16 x shapeCasts_S16_S1x16 (ix2 0 h) = x (ix1 h) := by
  pointwise

end Cert.AttnIdeal.Block

end
-- ==== Proof.AttTake.lean ====
/-
  The call's operands are real numbers where the launched arrays are: the forward pass' output and the logarithms of its sums.
-/
module

public import proofs.«01_k».proof.Proof.Gen.AttnIdeal.Value
public import proofs.«01_k».proof.Proof.AttRead
public import proofs.«01_k».proof.Proof.AttHost
public import Idealize.ShloMosaic.Lib.Pipeline.ValueKit
public import Idealize.ShloMosaic.Lib.Pointwise.Tactic
public import Idealize.ShloMosaic.Lib.StableHlo.RunRead
public import Idealize.ShloMosaic.Lib.KernelVsHost

@[expose] public section

set_option maxRecDepth 16384

noncomputable section

open Idealize.ShloMosaic Idealize.ShloMosaic.TcCoe Idealize.SL.Sem

namespace Cert.AttnIdeal.Block

open Cert.AttnIdeal Cert.AttnIdeal.Gen Cert.AttMath Cert.Reals

variable {m : (ℓ : Loc nD τ sig) → Buf (Elt Ideal) ℓ} {c : Dev nD}

/-- The forward pass' output by row. -/
def outOf (q k v : ℕ → ℕ → ℝ) (mx : ℕ → ℕ → ℕ → ℝ) (sink : ℕ → ℝ) (R C : ℕ) : ℝ :=
  ou (R / 128) (sh (R / 128) q) (band (R / 128) k) (band (R / 128) v) (mx (R / 128)) sink (R % 128) C

/-- The logarithms of the sums by row. -/
def logOf (q k : ℕ → ℕ → ℝ) (mx : ℕ → ℕ → ℕ → ℝ) (sink : ℕ → ℝ) (R h : ℕ) : ℝ :=
  mx (R / 128) h (R % 128) + Real.log (den (R / 128) (sh (R / 128) q) (band (R / 128) k) (mx (R / 128)) sink h (R % 128))

variable {q k v g : ℕ → ℕ → ℝ} {sink : ℕ → ℝ}

/-- A sum of an array and a logarithm at an index. -/
theorem addLog_apply (a b : S32x4x4x128x1.Idx → EReal) (i : S32x4x4x128x1.Idx) :
    addf (F := Ideal) (φ := .f32) a (Host.log (F := Ideal) (φ := .f32) b) i = a i + Ideal.log (b i) := rfl

theorem rowLogs_apply (x0 : S4096x1024.Idx → EReal) (x1 : S4096x256.Idx → EReal) (x3 : S16.Idx → EReal) (i : S32x4x4x128x1.Idx) :
    rowLogs x0 x1 x3 i = Cert.AttnRefIdeal.Read.val_main_v64 (F := Ideal) x0 x1 x3 i
      + Ideal.log (Cert.AttnRefIdeal.Read.val_main_v91 (F := Ideal) x0 x1 x3 i) := by
  unfold rowLogs
  exact addLog_apply _ _ _

/-- The logarithm of a positive sum, added to a real number. -/
theorem log_real {a b : EReal} {x y : ℝ} (ha : a = x) (hb : b = y) (hy : 0 < y) : a + Ideal.log b = ((x + Real.log y : ℝ) : EReal) := by
  rw [ha, hb, Ideal.log_coe, if_neg (not_le.mpr hy), ← EReal.coe_add]

theorem rowLogs_real {x0 : S4096x1024.Idx → EReal} {x1 : S4096x256.Idx → EReal} {x3 : S16.Idx → EReal}
    (hq : Cert.AttnRefIdeal.Rows.Wide x0 q) (hk : Cert.AttnRefIdeal.Rows.Narrow x1 k) (hx : Cert.AttnRefIdeal.Rows.List16 x3 sink)
    (n : Fin 32) (h u : Fin 4) (r : Fin 128) : rowLogs x0 x1 x3 (ix5 n h u r 0)
      = ((Cert.AttnRefIdeal.Rows.rowMax x0 x1 x3 n.val (4 * h.val + u.val) r.val
        + Real.log (den n.val (sh n.val q) (band n.val k) (Cert.AttnRefIdeal.Rows.rowMax x0 x1 x3 n.val) sink (4 * h.val + u.val) r.val) : ℝ) : EReal) := by
  rw [rowLogs_apply]
  exact log_real (Cert.AttnRefIdeal.Rows.top hq hk hx n h u r) (Cert.AttnRefIdeal.Rows.total hq hk hx n h u r) (den_pos _ _ _ _ _ _ _)

/-- The padded logarithms at one of the first sixteen lanes. -/
theorem padded_apply (x : S4096x16.Idx → EReal) (R : Fin 4096) (h : Fin 128) (hh : h.val < 16) :
    pad S4096x128 ![0, 0] ![0, 112] ![0, 0] x fill pads_S4096x16_S4096x128_000_01120 h_S_ (ix2 R h)
      = x (ix2 R (⟨h.val, hh⟩ : Fin 16)) :=
  pad_apply_of_inside _ _ _ _ _ _ _ _ (ix2 R (⟨h.val, hh⟩ : Fin 16))
    (fun a => match a with | ⟨0, _⟩ => by simp [ix2] | ⟨1, _⟩ => by simp [ix2])

/-- The padded sinks at one of the first sixteen lanes. -/
theorem paddedRow_apply (x : S1x16.Idx → EReal) (h : Fin 128) (hh : h.val < 16) :
    pad S1x128 ![0, 0] ![0, 112] ![0, 0] x fill pads_S1x16_S1x128_000_01120 h_S_ (ix2 0 h)
      = x (ix2 0 (⟨h.val, hh⟩ : Fin 16)) :=
  pad_apply_of_inside _ _ _ _ _ _ _ _ (ix2 0 (⟨h.val, hh⟩ : Fin 16))
    (fun a => match a with | ⟨0, _⟩ => by simp [ix2] | ⟨1, _⟩ => by simp [ix2])

theorem reads_out (hq : Cert.AttnRefIdeal.Rows.Wide (A0 m c) q) (hk : Cert.AttnRefIdeal.Rows.Narrow (A1 m c) k)
    (hv : Cert.AttnRefIdeal.Rows.Narrow (A2 m c) v) (hx : Cert.AttnRefIdeal.Rows.List16 (A3 m c) sink) :
    Wide (V m c main_v79) (outOf q k v (Cert.AttnRefIdeal.Rows.rowMax (A0 m c) (A1 m c) (A3 m c)) sink) := by
  rw [read_out]
  intro R C
  exact Cert.AttnRefIdeal.Rows.output hq hk hv hx R C

theorem reads_logs (hq : Cert.AttnRefIdeal.Rows.Wide (A0 m c) q) (hk : Cert.AttnRefIdeal.Rows.Narrow (A1 m c) k)
    (hx : Cert.AttnRefIdeal.Rows.List16 (A3 m c) sink) :
    Columns (V m c main_v80) (logOf q k (Cert.AttnRefIdeal.Rows.rowMax (A0 m c) (A1 m c) (A3 m c)) sink) := by
  rw [read_logs]
  intro R h hh
  have hR := R.isLt
  have h4 : 4 * (h.val / 4) + h.val % 4 = h.val := by omega
  rw [padded_apply _ _ _ hh, logArr_apply]
  have e := rowLogs_real hq hk hx ⟨R.val / 128, by omega⟩ ⟨h.val / 4, by omega⟩ ⟨h.val % 4, by omega⟩ ⟨R.val % 128, by omega⟩
  simp only [h4] at e
  exact e

theorem reads_sinks (hx : Cert.AttnRefIdeal.Rows.List16 (A3 m c) sink) : Entries (V m c main_v82) sink := by
  rw [read_sinks]
  intro h hh
  rw [paddedRow_apply _ _ hh, sinkRow_apply]
  exact hx ⟨h.val, hh⟩

/-- The operands of the call are real numbers, where the launched ones are. -/
theorem reads (hq : Cert.AttnRefIdeal.Rows.Wide (A0 m c) q) (hk : Cert.AttnRefIdeal.Rows.Narrow (A1 m c) k)
    (hv : Cert.AttnRefIdeal.Rows.Narrow (A2 m c) v) (hx : Cert.AttnRefIdeal.Rows.List16 (A3 m c) sink)
    (hg : Cert.AttnRefIdeal.Rows.Wide (m ((c : Thread nD τ).loc main_arg4)) g) :
    Reads m c q k v g (outOf q k v (Cert.AttnRefIdeal.Rows.rowMax (A0 m c) (A1 m c) (A3 m c)) sink)
      (logOf q k (Cert.AttnRefIdeal.Rows.rowMax (A0 m c) (A1 m c) (A3 m c)) sink) sink where
  hq := by rw [V_main_arg0]; exact hq
  hk := by rw [V_main_arg1]; exact hk
  hv := by rw [V_main_arg2]; exact hv
  hg := by rw [V_main_arg4]; exact hg
  ho := reads_out hq hk hv hx
  hlse := reads_logs hq hk hx
  hsink := reads_sinks hx

end Cert.AttnIdeal.Block

end
-- ==== Proof.AttKernel.lean ====
/-
  The attention gradient's output arrays after the run: the gradient of the queries, and for each block of keys the parts
  that its own queries and the next block's queries give to the gradients of the keys and values.
-/
module

public import proofs.«01_k».proof.Proof.Gen.AttnIdeal.Value
public import proofs.«01_k».proof.Proof.AttRead
public import Idealize.ShloMosaic.Lib.Pipeline.ValueKit
public import Idealize.ShloMosaic.Lib.Pointwise.Tactic

@[expose] public section

set_option maxRecDepth 16384

noncomputable section

open Idealize.ShloMosaic Idealize.ShloMosaic.TcCoe Idealize.SL.Sem

namespace Cert.AttnIdeal.Block

open Cert.AttnIdeal Cert.AttnIdeal.Gen Cert.AttMath Cert.Reals

variable (m : (ℓ : Loc nD τ sig) → Buf (Elt Ideal) ℓ)

section

variable (q k v g o lse : ℕ → ℕ → ℝ)

/-- The gradient of the queries over the whole array. -/
def queries (R C : ℕ) : ℝ :=
  dquery (R / 128) (sh (R / 128) q) (sh (R / 128) g) (sh (R / 128) o) (sh (R / 128) lse) (pair (R / 128) k) (pair (R / 128) v) (R % 128) C

/-- What block `n` gives to the gradient of its key row `s`, counted from the block before it. -/
def keysAt (n s C : ℕ) : ℝ :=
  dcol (dlogit n (sh n q) (sh n g) (sh n o) (sh n lse) (pair n k) (pair n v)) (sh n q) s C

/-- What block `n` gives to the gradient of its value row `s`, counted from the block before it. -/
def valuesAt (n s C : ℕ) : ℝ := dcol (prob n (sh n q) (sh n lse) (pair n k)) (sh n g) s C

theorem queries_of (n r R C d e : ℕ) (hn : R / 128 = n) (hr : R % 128 = r) (hd : d = C / 64) (he : e = 64 * (C / 256) + C % 64) :
    (∑ s : Fin 256, dlogit n (sh n q) (sh n g) (sh n o) (sh n lse) (pair n k) (pair n v) d r s * pair n k s e)
      = queries q k v g o lse R C := by
  subst hn hr hd he; rfl

end

variable {m}
variable {c : Dev nD} {q k v g o lse : ℕ → ℕ → ℝ} {sink : ℕ → ℝ}

set_option maxHeartbeats 4000000 in
/-- The gradient of the queries. -/
theorem final9 (H : Reads m c q k v g o lse sink) : (dats m 0 c).arrAt 9 (cfgs 0).N = fun i => ((queries q k v g o lse (i 0).val (i 1).val : ℝ) : EReal) := by
  refine (dats m 0 c).arrAt_eq_of_covers 9 _ (by decide +kernel) fun t hf y => ?_
  have ht := lt t
  have e0 : ((((cfg0.win 9).blk t).view.emb y) 0 : ℕ) = t.val * 128 + (y 0).val := by blk_simp [idx t]
  have e1 : ((((cfg0.win 9).blk t).view.emb y) 1 : ℕ) = (y 1).val := by blk_simp [idx t]
  generalize ((cfg0.win 9).blk t).view.emb y = i at e0 e1 ⊢
  have hy := (y 0).isLt
  have hR : (i 0).val / 128 = t.val := by change (y 0).val < 128 at hy; omega
  have hr : (i 0).val % 128 = (y 0).val := by change (y 0).val < 128 at hy; omega
  blk_simp; rw [after0_9]
  by_cases h0 : t.val % 32 = 0
  · rw [outsAt0_A m c t h0 (by omega)]; frame_out
    canon_tiles x h
    · idx_vars x
      exact (query31 (DS3 H t) (keys_k3 (bk H t)) x0 x1).trans
        (congrArg _ (queries_of q k v g o lse t.val x0 _ _ _ _ hR (by omega) (by omega) (by omega)))
    · idx_vars x
      exact (query30 (DS3 H t) (keys_k3 (bk H t)) x0 x1).trans
        (congrArg _ (queries_of q k v g o lse t.val x0 _ _ _ _ hR (by omega) (by omega) (by omega)))
    · idx_vars x
      exact (query21 (DS2 H t) (keys_k2 (bk H t)) x0 x1).trans
        (congrArg _ (queries_of q k v g o lse t.val x0 _ _ _ _ hR (by omega) (by omega) (by omega)))
    · idx_vars x
      exact (query20 (DS2 H t) (keys_k2 (bk H t)) x0 x1).trans
        (congrArg _ (queries_of q k v g o lse t.val x0 _ _ _ _ hR (by omega) (by omega) (by omega)))
    · idx_vars x
      exact (query11 (DS1 H t) (keys_k1 (bk H t)) x0 x1).trans
        (congrArg _ (queries_of q k v g o lse t.val x0 _ _ _ _ hR (by omega) (by omega) (by omega)))
    · idx_vars x
      exact (query10 (DS1 H t) (keys_k1 (bk H t)) x0 x1).trans
        (congrArg _ (queries_of q k v g o lse t.val x0 _ _ _ _ hR (by omega) (by omega) (by omega)))
    · idx_vars x
      exact (query01 (DS0 H t) (keys_k0 (bk H t)) x0 x1).trans
        (congrArg _ (queries_of q k v g o lse t.val x0 _ _ _ _ hR (by omega) (by omega) (by omega)))
    · idx_vars x
      exact (query00 (DS0 H t) (keys_k0 (bk H t)) x0 x1).trans
        (congrArg _ (queries_of q k v g o lse t.val x0 _ _ _ _ hR (by omega) (by omega) (by omega)))
  · rw [outsAt0_B m c t h0 (by omega)]; frame_out
    canon_tiles x h
    · idx_vars x
      exact (query31 (DS3 H t) (keys_k3 (bk H t)) x0 x1).trans
        (congrArg _ (queries_of q k v g o lse t.val x0 _ _ _ _ hR (by omega) (by omega) (by omega)))
    · idx_vars x
      exact (query30 (DS3 H t) (keys_k3 (bk H t)) x0 x1).trans
        (congrArg _ (queries_of q k v g o lse t.val x0 _ _ _ _ hR (by omega) (by omega) (by omega)))
    · idx_vars x
      exact (query21 (DS2 H t) (keys_k2 (bk H t)) x0 x1).trans
        (congrArg _ (queries_of q k v g o lse t.val x0 _ _ _ _ hR (by omega) (by omega) (by omega)))
    · idx_vars x
      exact (query20 (DS2 H t) (keys_k2 (bk H t)) x0 x1).trans
        (congrArg _ (queries_of q k v g o lse t.val x0 _ _ _ _ hR (by omega) (by omega) (by omega)))
    · idx_vars x
      exact (query11 (DS1 H t) (keys_k1 (bk H t)) x0 x1).trans
        (congrArg _ (queries_of q k v g o lse t.val x0 _ _ _ _ hR (by omega) (by omega) (by omega)))
    · idx_vars x
      exact (query10 (DS1 H t) (keys_k1 (bk H t)) x0 x1).trans
        (congrArg _ (queries_of q k v g o lse t.val x0 _ _ _ _ hR (by omega) (by omega) (by omega)))
    · idx_vars x
      exact (query01 (DS0 H t) (keys_k0 (bk H t)) x0 x1).trans
        (congrArg _ (queries_of q k v g o lse t.val x0 _ _ _ _ hR (by omega) (by omega) (by omega)))
    · idx_vars x
      exact (query00 (DS0 H t) (keys_k0 (bk H t)) x0 x1).trans
        (congrArg _ (queries_of q k v g o lse t.val x0 _ _ _ _ hR (by omega) (by omega) (by omega)))

set_option maxHeartbeats 4000000 in
theorem final10 (H : Reads m c q k v g o lse sink) :
    (dats m 0 c).arrAt 10 (cfgs 0).N = fun i => ((keysAt q k v g o lse ((i 0).val / 128) (128 + (i 0).val % 128) (i 1).val : ℝ) : EReal) := by
  refine (dats m 0 c).arrAt_eq_of_covers 10 _ (by decide +kernel) fun t hf y => ?_
  have ht := lt t
  have e0 : ((((cfg0.win 10).blk t).view.emb y) 0 : ℕ) = t.val * 128 + (y 0).val := by blk_simp [idx t]
  have e1 : ((((cfg0.win 10).blk t).view.emb y) 1 : ℕ) = (y 1).val := by blk_simp [idx t]
  generalize ((cfg0.win 10).blk t).view.emb y = i at e0 e1 ⊢
  have hy := (y 0).isLt
  have hR : (i 0).val / 128 = t.val := by change (y 0).val < 128 at hy; omega
  have hr : (i 0).val % 128 = (y 0).val := by change (y 0).val < 128 at hy; omega
  blk_simp; rw [after0_10]
  by_cases h0 : t.val % 32 = 0
  · rw [outsAt0_A m c t h0 (by omega)]; frame_out
    canon_tiles x h
    · idx_vars x
      refine (column_k11 (DS2 H t) (Q2 H t) (DS3 H t) (Q3 H t) x0 x1).trans
        (congrArg _ ?_)
      rw [hR]
      exact congrArg₂ (dcol _ _) (by omega) (by omega)
    · idx_vars x
      refine (column_k01 (DS0 H t) (Q0 H t) (DS1 H t) (Q1 H t) x0 x1).trans
        (congrArg _ ?_)
      rw [hR]
      exact congrArg₂ (dcol _ _) (by omega) (by omega)
  · rw [outsAt0_B m c t h0 (by omega)]; frame_out
    canon_tiles x h
    · idx_vars x
      refine (column_k11 (DS2 H t) (Q2 H t) (DS3 H t) (Q3 H t) x0 x1).trans
        (congrArg _ ?_)
      rw [hR]
      exact congrArg₂ (dcol _ _) (by omega) (by omega)
    · idx_vars x
      refine (column_k01 (DS0 H t) (Q0 H t) (DS1 H t) (Q1 H t) x0 x1).trans
        (congrArg _ ?_)
      rw [hR]
      exact congrArg₂ (dcol _ _) (by omega) (by omega)

set_option maxHeartbeats 4000000 in
theorem final11 (H : Reads m c q k v g o lse sink) :
    (dats m 0 c).arrAt 11 (cfgs 0).N = fun i => ((keysAt q k v g o lse ((i 0).val / 128) ((i 0).val % 128) (i 1).val : ℝ) : EReal) := by
  refine (dats m 0 c).arrAt_eq_of_covers 11 _ (by decide +kernel) fun t hf y => ?_
  have ht := lt t
  have e0 : ((((cfg0.win 11).blk t).view.emb y) 0 : ℕ) = t.val * 128 + (y 0).val := by blk_simp [idx t]
  have e1 : ((((cfg0.win 11).blk t).view.emb y) 1 : ℕ) = (y 1).val := by blk_simp [idx t]
  generalize ((cfg0.win 11).blk t).view.emb y = i at e0 e1 ⊢
  have hy := (y 0).isLt
  have hR : (i 0).val / 128 = t.val := by change (y 0).val < 128 at hy; omega
  have hr : (i 0).val % 128 = (y 0).val := by change (y 0).val < 128 at hy; omega
  blk_simp; rw [after0_11]
  by_cases h0 : t.val % 32 = 0
  · rw [outsAt0_A m c t h0 (by omega)]; frame_out
    canon_tiles x h
    · idx_vars x
      refine (column_k10 (DS2 H t) (Q2 H t) (DS3 H t) (Q3 H t) x0 x1).trans
        (congrArg _ ?_)
      rw [hR]
      exact congrArg₂ (dcol _ _) (by omega) (by omega)
    · idx_vars x
      refine (column_k00 (DS0 H t) (Q0 H t) (DS1 H t) (Q1 H t) x0 x1).trans
        (congrArg _ ?_)
      rw [hR]
      exact congrArg₂ (dcol _ _) (by omega) (by omega)
  · rw [outsAt0_B m c t h0 (by omega)]; frame_out
    canon_tiles x h
    · idx_vars x
      refine (column_k10 (DS2 H t) (Q2 H t) (DS3 H t) (Q3 H t) x0 x1).trans
        (congrArg _ ?_)
      rw [hR]
      exact congrArg₂ (dcol _ _) (by omega) (by omega)
    · idx_vars x
      refine (column_k00 (DS0 H t) (Q0 H t) (DS1 H t) (Q1 H t) x0 x1).trans
        (congrArg _ ?_)
      rw [hR]
      exact congrArg₂ (dcol _ _) (by omega) (by omega)

set_option maxHeartbeats 4000000 in
theorem final12 (H : Reads m c q k v g o lse sink) :
    (dats m 0 c).arrAt 12 (cfgs 0).N = fun i => ((valuesAt q k g lse ((i 0).val / 128) (128 + (i 0).val % 128) (i 1).val : ℝ) : EReal) := by
  refine (dats m 0 c).arrAt_eq_of_covers 12 _ (by decide +kernel) fun t hf y => ?_
  have ht := lt t
  have e0 : ((((cfg0.win 12).blk t).view.emb y) 0 : ℕ) = t.val * 128 + (y 0).val := by blk_simp [idx t]
  have e1 : ((((cfg0.win 12).blk t).view.emb y) 1 : ℕ) = (y 1).val := by blk_simp [idx t]
  generalize ((cfg0.win 12).blk t).view.emb y = i at e0 e1 ⊢
  have hy := (y 0).isLt
  have hR : (i 0).val / 128 = t.val := by change (y 0).val < 128 at hy; omega
  have hr : (i 0).val % 128 = (y 0).val := by change (y 0).val < 128 at hy; omega
  blk_simp; rw [after0_12]
  by_cases h0 : t.val % 32 = 0
  · rw [outsAt0_A m c t h0 (by omega)]; frame_out
    canon_tiles x h
    · idx_vars x
      refine (column_v11 (P2 H t) (G2 H t) (P3 H t) (G3 H t) x0 x1).trans
        (congrArg _ ?_)
      rw [hR]
      exact congrArg₂ (dcol _ _) (by omega) (by omega)
    · idx_vars x
      refine (column_v01 (P0 H t) (G0 H t) (P1 H t) (G1 H t) x0 x1).trans
        (congrArg _ ?_)
      rw [hR]
      exact congrArg₂ (dcol _ _) (by omega) (by omega)
  · rw [outsAt0_B m c t h0 (by omega)]; frame_out
    canon_tiles x h
    · idx_vars x
      refine (column_v11 (P2 H t) (G2 H t) (P3 H t) (G3 H t) x0 x1).trans
        (congrArg _ ?_)
      rw [hR]
      exact congrArg₂ (dcol _ _) (by omega) (by omega)
    · idx_vars x
      refine (column_v01 (P0 H t) (G0 H t) (P1 H t) (G1 H t) x0 x1).trans
        (congrArg _ ?_)
      rw [hR]
      exact congrArg₂ (dcol _ _) (by omega) (by omega)

set_option maxHeartbeats 4000000 in
theorem final13 (H : Reads m c q k v g o lse sink) :
    (dats m 0 c).arrAt 13 (cfgs 0).N = fun i => ((valuesAt q k g lse ((i 0).val / 128) ((i 0).val % 128) (i 1).val : ℝ) : EReal) := by
  refine (dats m 0 c).arrAt_eq_of_covers 13 _ (by decide +kernel) fun t hf y => ?_
  have ht := lt t
  have e0 : ((((cfg0.win 13).blk t).view.emb y) 0 : ℕ) = t.val * 128 + (y 0).val := by blk_simp [idx t]
  have e1 : ((((cfg0.win 13).blk t).view.emb y) 1 : ℕ) = (y 1).val := by blk_simp [idx t]
  generalize ((cfg0.win 13).blk t).view.emb y = i at e0 e1 ⊢
  have hy := (y 0).isLt
  have hR : (i 0).val / 128 = t.val := by change (y 0).val < 128 at hy; omega
  have hr : (i 0).val % 128 = (y 0).val := by change (y 0).val < 128 at hy; omega
  blk_simp; rw [after0_13]
  by_cases h0 : t.val % 32 = 0
  · rw [outsAt0_A m c t h0 (by omega)]; frame_out
    canon_tiles x h
    · idx_vars x
      refine (column_v10 (P2 H t) (G2 H t) (P3 H t) (G3 H t) x0 x1).trans
        (congrArg _ ?_)
      rw [hR]
      exact congrArg₂ (dcol _ _) (by omega) (by omega)
    · idx_vars x
      refine (column_v00 (P0 H t) (G0 H t) (P1 H t) (G1 H t) x0 x1).trans
        (congrArg _ ?_)
      rw [hR]
      exact congrArg₂ (dcol _ _) (by omega) (by omega)
  · rw [outsAt0_B m c t h0 (by omega)]; frame_out
    canon_tiles x h
    · idx_vars x
      refine (column_v10 (P2 H t) (G2 H t) (P3 H t) (G3 H t) x0 x1).trans
        (congrArg _ ?_)
      rw [hR]
      exact congrArg₂ (dcol _ _) (by omega) (by omega)
    · idx_vars x
      refine (column_v00 (P0 H t) (G0 H t) (P1 H t) (G1 H t) x0 x1).trans
        (congrArg _ ?_)
      rw [hR]
      exact congrArg₂ (dcol _ _) (by omega) (by omega)

end Cert.AttnIdeal.Block

end
-- ==== Proof.AttState.lean ====
/-
  The gradient of the attention's sinks after the run: the sum over all blocks of the rows' products, carried from one grid
  point to the next.
-/
module

public import proofs.«01_k».proof.Proof.Gen.AttnIdeal.Value
public import proofs.«01_k».proof.Proof.AttRead
public import Idealize.ShloMosaic.Lib.Pipeline.ValueKit
public import Idealize.ShloMosaic.Lib.Pointwise.Tactic

@[expose] public section

set_option maxRecDepth 16384

noncomputable section

open Idealize.ShloMosaic Idealize.ShloMosaic.TcCoe Idealize.SL.Sem

namespace Cert.AttnIdeal.Block

open Cert.AttnIdeal Cert.AttnIdeal.Gen Cert.AttMath Cert.Reals

variable (m : (ℓ : Loc nD τ sig) → Buf (Elt Ideal) ℓ)

/-- What block `n` adds to the gradient of the sink of head `l`. -/
def sinkPart (g o lse : ℕ → ℕ → ℝ) (sink : ℕ → ℝ) (n l : ℕ) : ℝ :=
  if l < 4 * 3 + 4 then -(∑ r : Fin 128, Real.exp (sink l - sh n lse r l) * delta (sh n g) (sh n o) l r) else 0

theorem pay4_apply (x : FVec Ideal S1x128 .f32) (a : Vec Ideal S1x128 .f32) (l : Fin 128) :
    k0_pay4 (F := Ideal) x a (ix2 0 l) = a (ix2 0 l) + x (ix2 0 l) := by
  unfold k0_pay4; pointwise

theorem pay14_apply (f : ℝ) (l : Fin 128) :
    (k0_pay14 (F := Ideal)) (ix2 0 l) = ((if l.val < 4 * 0 then f else 0 : ℝ) : EReal) := by
  rw [if_neg (by omega)]
  unfold k0_pay14; pointwise; exact EReal.coe_zero.symm

variable {m}
variable {c : Dev nD} {q k v g o lse : ℕ → ℕ → ℝ} {sink : ℕ → ℝ}

set_option maxHeartbeats 4000000 in
/-- The sinks' gradient after point `t`. -/
theorem state (H : Reads m c q k v g o lse sink) (t : Fin cfg0.N) (l : Fin 128) :
    @Eq EReal ((outsAt0 m c t.val t.isLt).2.2.2.2.2 (ix2 0 l))
      (0 + ∑ n ∈ Finset.range (t.val + 1), ((sinkPart g o lse sink n l.val : ℝ) : EReal)) := by
  refine Pipeline.eq_sum_of_reset_step_apply_single (M := EReal) (fun n h (l : Fin 128) => (outsAt0 m c n h).2.2.2.2.2 (ix2 0 l)) 32
    (fun _ => 0) (fun n l => ((sinkPart g o lse sink n l.val : ℝ) : EReal)) ?_ ?_ (by decide) t l
  · intro t h0 l
    have ht := lt t
    rw [outsAt0_A m c t h0 (by omega), zero_add]; frame_out
    exact lanes3 (hs := S3 H t) (l := l) (hl := lanes2 (hs := S2 H t) (l := l) (hl := lanes1 (hs := S1 H t) (l := l)
      (hl := lanes0 (hs := S0 H t) (l := l) (hl := pay14_apply _ l))))
  · intro t h0 l
    have ht := lt t
    rw [outsAt0_B m c t h0 (by omega)]; frame_out
    refine (pay4_apply _ _ l).trans (congrArg (_ + ·) ?_)
    exact lanes3 (hs := S3 H t) (l := l) (hl := lanes2 (hs := S2 H t) (l := l) (hl := lanes1 (hs := S1 H t) (l := l)
      (hl := lanes0 (hs := S0 H t) (l := l) (hl := pay14_apply _ l))))

/-- The last point. -/
def last : Fin cfg0.N := ⟨31, by decide⟩

/-- The sinks' gradient after the run. -/
theorem final14 (H : Reads m c q k v g o lse sink) : (dats m 0 c).arrAt 14 (cfgs 0).N
    = fun i => ((∑ n ∈ Finset.range 32, sinkPart g o lse sink n (i 1).val : ℝ) : EReal) := by
  refine (dats m 0 c).arrAt_eq_of_after_last 14 last (by decide +kernel) _ fun j => ?_
  blk_simp
  rw [after0_14]
  idx_vars j
  obtain rfl : j0 = 0 := Subsingleton.elim _ _
  refine (state H last j1).trans ?_
  rw [zero_add]
  exact (Cert.Reals.coe_sum _ _).symm

end Cert.AttnIdeal.Block

end
-- ==== Proof.AttTie.lean ====
/-
  The attention gradient's closed form, with the output and the logarithms of the sums as the forward pass gives them, is the
  reference's gradient.
-/
module

public import proofs.«01_k».proof.Proof.AttTake
public import proofs.«01_k».proof.Proof.AttKernel
public import proofs.«01_k».proof.Proof.AttState

@[expose] public section

noncomputable section

namespace Cert.AttTie

open Cert.AttMath Cert.AttnIdeal.Block Cert.AttnRefIdeal.Rows

variable (q k v g : ℕ → ℕ → ℝ) (mx : ℕ → ℕ → ℕ → ℝ) (sink : ℕ → ℝ)

theorem log_at (n h : ℕ) {r : ℕ} (hr : r < 128) : sh n (logOf q k mx sink) r h
    = mx n h r + Real.log (den n (sh n q) (band n k) (mx n) sink h r) := by
  unfold sh logOf
  rw [(by omega : (128 * n + r) / 128 = n), (by omega : (128 * n + r) % 128 = r)]
  rfl

theorem out_at (n : ℕ) {r : ℕ} (hr : r < 128) (c : ℕ) : sh n (outOf q k v mx sink) r c
    = ou n (sh n q) (band n k) (band n v) (mx n) sink r c := by
  unfold sh outOf
  rw [(by omega : (128 * n + r) / 128 = n), (by omega : (128 * n + r) % 128 = r)]
  rfl

theorem logit_at (n h : ℕ) {r : ℕ} (hr : r < 128) (s : ℕ) :
    dlogit n (sh n q) (sh n g) (sh n (outOf q k v mx sink)) (sh n (logOf q k mx sink)) (pair n k) (pair n v) h r s
      = dz q k v g mx sink n h r s :=
  dlogit_eq (log_at q k mx sink n h hr) (fun d => out_at q k v mx sink n hr _) s

/-- The queries' gradient. -/
theorem query_tie (R C : ℕ) : queries q k v g (outOf q k v mx sink) (logOf q k mx sink) R C
    = ∑ s : Fin 256, dz q k v g mx sink (R / 128) (C / 64) (R % 128) s.val * band (R / 128) k s.val (64 * (C / 256) + C % 64) := by
  unfold queries dquery
  refine Finset.sum_congr rfl fun s _ => ?_
  rw [logit_at q k v g mx sink _ _ (Nat.mod_lt _ (by decide))]
  by_cases hs : ok (R / 128) (R % 128) s.val
  · rw [band_of_ok hs]
  · unfold dz
    rw [if_neg hs]; ring

/-- The keys' gradient. -/
theorem key_tie (n s C : ℕ) : keysAt q k v g (outOf q k v mx sink) (logOf q k mx sink) n s C
    = dcol (dz q k v g mx sink n) (sh n q) s C := by
  unfold keysAt dcol
  exact Finset.sum_congr rfl fun t _ => Finset.sum_congr rfl fun r _ => by rw [logit_at q k v g mx sink _ _ r.isLt]

/-- The values' gradient. -/
theorem value_tie (n s C : ℕ) : valuesAt q k g (logOf q k mx sink) n s C
    = dcol (pr n (sh n q) (band n k) (mx n) sink) (sh n g) s C := by
  unfold valuesAt dcol
  exact Finset.sum_congr rfl fun t _ => Finset.sum_congr rfl fun r _ => by
    rw [prob_eq (log_at q k mx sink n _ r.isLt)]

/-- The sinks' gradient. -/
theorem sink_tie (l : ℕ) : (∑ n ∈ Finset.range 32, sinkPart g (outOf q k v mx sink) (logOf q k mx sink) sink n l)
    = if l < 16 then ∑ n : Fin 32, ∑ r : Fin 128, -(da n.val (sh n.val q) (band n.val k) (band n.val v) (sh n.val g)
          (mx n.val) sink l r.val) * Real.exp (sink l - mx n.val l r.val) else 0 := by
  rw [Finset.sum_range]
  unfold sinkPart
  by_cases hl : l < 16
  · simp only [if_pos hl, if_pos (show l < 4 * 3 + 4 from hl)]
    refine Finset.sum_congr rfl fun n _ => ?_
    rw [← Finset.sum_neg_distrib]
    refine Finset.sum_congr rfl fun r _ => ?_
    rw [sink_eq (log_at q k mx sink n.val l r.isLt) (fun d => out_at q k v mx sink n.val r.isLt _), neg_mul]
  · simp only [if_neg hl, if_neg (show ¬ l < 4 * 3 + 4 from hl), Finset.sum_const_zero]

end Cert.AttTie

end
-- ==== Proof.AttValue.lean ====
/-
  The claims about the attention gradient.
-/
module

public import proofs.«01_k».proof.Defs
public import proofs.«01_k».proof.Proof.Gen.Attn.Frame
public import proofs.«01_k».proof.Proof.Gen.AttnIdeal.Frame
public import proofs.«01_k».proof.Proof.Gen.Pre_finite_att
public import proofs.«01_k».proof.Proof.AttTie
public import Idealize.ShloMosaic.Lib.Quiescent

@[expose] public section

set_option maxRecDepth 16384

noncomputable section

open Idealize.ShloMosaic Idealize.ShloMosaic.TcCoe Idealize.SL.Sem
open Idealize.ShloMosaic.Pipeline (Dat)

namespace Cert.AttClaims

open Cert.AttMath Cert.AttnIdeal Cert.AttnIdeal.Gen Cert.AttnIdeal.Block Cert.AttTie

/-- An array of real numbers by natural row and column. -/
theorem real_rows {a b : ℕ} (x : (⟨2, ![a, b]⟩ : Shape).Idx → EReal) (hx : ∀ i, ∃ r : ℝ, x i = r) :
    ∃ f : ℕ → ℕ → ℝ, ∀ (R : Fin a) (C : Fin b), x (ix2 R C) = (f R C : ℝ) := by
  choose y hy using hx
  refine ⟨fun R C => if h : R < a ∧ C < b then y (ix2 ⟨R, h.1⟩ ⟨C, h.2⟩) else 0, fun R C => ?_⟩
  beta_reduce
  rw [dif_pos ⟨R.isLt, C.isLt⟩]
  exact hy _

/-- A list of real numbers by natural index. -/
theorem real_list {a : ℕ} (x : (⟨1, ![a]⟩ : Shape).Idx → EReal) (hx : ∀ i, ∃ r : ℝ, x i = r) :
    ∃ f : ℕ → ℝ, ∀ R : Fin a, x (ix1 R) = (f R : ℝ) := by
  choose y hy using hx
  refine ⟨fun R => if h : R < a then y (ix1 ⟨R, h⟩) else 0, fun R => ?_⟩
  beta_reduce
  rw [dif_pos R.isLt]
  exact hy _

theorem real_wide (x : Cert.AttnRefIdeal.S4096x1024.Idx → EReal) (hx : ∀ i, ∃ r : ℝ, x i = r) :
    ∃ f, Cert.AttnRefIdeal.Rows.Wide x f := real_rows x hx

theorem real_narrow (x : Cert.AttnRefIdeal.S4096x256.Idx → EReal) (hx : ∀ i, ∃ r : ℝ, x i = r) :
    ∃ f, Cert.AttnRefIdeal.Rows.Narrow x f := real_rows x hx

theorem real_sinks (x : Cert.AttnRefIdeal.S16.Idx → EReal) (hx : ∀ i, ∃ r : ℝ, x i = r) :
    ∃ f, Cert.AttnRefIdeal.Rows.List16 x f := real_list x hx

variable {m : (ℓ : Loc nD τ sig) → Buf (Elt Ideal) ℓ} {c : Dev nD}
variable {q k v g : ℕ → ℕ → ℝ} {sink : ℕ → ℝ}

/-- The output's gradient as launched. -/
abbrev A4 (m : (ℓ : Loc nD τ sig) → Buf (Elt Ideal) ℓ) (c : Dev nD) : S4096x1024.Idx → EReal := m (c, Proc.devRef .tc main_arg4)

section
variable (hq : Cert.AttnRefIdeal.Rows.Wide (A0 m c) q) (hk : Cert.AttnRefIdeal.Rows.Narrow (A1 m c) k)
  (hv : Cert.AttnRefIdeal.Rows.Narrow (A2 m c) v) (hx : Cert.AttnRefIdeal.Rows.List16 (A3 m c) sink)
  (hg : Cert.AttnRefIdeal.Rows.Wide (A4 m c) g)
include hq hk hv hx hg

theorem result9 : (dats m 0 c).arrAt 9 cfg0.N
    = Cert.AttnRefIdeal.Read.val_main_v145 (F := Ideal) (A0 m c) (A1 m c) (A2 m c) (A3 m c) (A4 m c) := by
  refine (final9 (reads hq hk hv hx hg)).trans ?_
  funext i
  idx_vars i
  exact (congrArg (fun x : ℝ => (x : EReal)) (query_tie q k v g _ sink i0.val i1.val)).trans
    (Cert.AttnRefIdeal.Rows.outQuery hq hk hv hx hg i0 i1).symm

theorem result10 : (dats m 0 c).arrAt 10 cfg0.N
    = Cert.AttnRefIdeal.Read.val_main_v147 (F := Ideal) (A0 m c) (A1 m c) (A2 m c) (A3 m c) (A4 m c) := by
  refine (final10 (reads hq hk hv hx hg)).trans ?_
  funext i
  idx_vars i
  exact (congrArg (fun x : ℝ => (x : EReal)) (key_tie q k v g _ sink (i0.val / 128) (128 + i0.val % 128) i1.val)).trans
    (Cert.AttnRefIdeal.Rows.outKeyOwn hq hk hv hx hg i0 i1).symm

theorem result11 : (dats m 0 c).arrAt 11 cfg0.N
    = Cert.AttnRefIdeal.Read.val_main_v149 (F := Ideal) (A0 m c) (A1 m c) (A2 m c) (A3 m c) (A4 m c) := by
  refine (final11 (reads hq hk hv hx hg)).trans ?_
  funext i
  idx_vars i
  exact (congrArg (fun x : ℝ => (x : EReal)) (key_tie q k v g _ sink (i0.val / 128) (i0.val % 128) i1.val)).trans
    (Cert.AttnRefIdeal.Rows.outKeyPrev hq hk hv hx hg i0 i1).symm

theorem result12 : (dats m 0 c).arrAt 12 cfg0.N
    = Cert.AttnRefIdeal.Read.val_main_v151 (F := Ideal) (A0 m c) (A1 m c) (A3 m c) (A4 m c) := by
  refine (final12 (reads hq hk hv hx hg)).trans ?_
  funext i
  idx_vars i
  exact (congrArg (fun x : ℝ => (x : EReal)) (value_tie q k g _ sink (i0.val / 128) (128 + i0.val % 128) i1.val)).trans
    (Cert.AttnRefIdeal.Rows.outValueOwn hq hk hx hg i0 i1).symm

theorem result13 : (dats m 0 c).arrAt 13 cfg0.N
    = Cert.AttnRefIdeal.Read.val_main_v153 (F := Ideal) (A0 m c) (A1 m c) (A3 m c) (A4 m c) := by
  refine (final13 (reads hq hk hv hx hg)).trans ?_
  funext i
  idx_vars i
  exact (congrArg (fun x : ℝ => (x : EReal)) (value_tie q k g _ sink (i0.val / 128) (i0.val % 128) i1.val)).trans
    (Cert.AttnRefIdeal.Rows.outValuePrev hq hk hx hg i0 i1).symm

theorem result14 : (dats m 0 c).arrAt 14 cfg0.N
    = Cert.AttnRefIdeal.Read.val_main_v155 (F := Ideal) (A0 m c) (A1 m c) (A2 m c) (A3 m c) (A4 m c) := by
  refine (final14 (reads hq hk hv hx hg)).trans ?_
  funext i
  idx_vars i
  obtain rfl : i0 = 0 := Subsingleton.elim _ _
  exact (congrArg (fun x : ℝ => (x : EReal)) (sink_tie q k v g _ sink i1.val)).trans
    (Cert.AttnRefIdeal.Rows.outSink hq hk hv hx hg i1).symm

end

/-- The launched arrays are real numbers. -/
def RealAt (m : (ℓ : Loc nD τ sig) → Buf (Elt Ideal) ℓ) (c : Dev nD) : Prop :=
  ∃ q k v sink g, Cert.AttnRefIdeal.Rows.Wide (A0 m c) q ∧ Cert.AttnRefIdeal.Rows.Narrow (A1 m c) k
    ∧ Cert.AttnRefIdeal.Rows.Narrow (A2 m c) v ∧ Cert.AttnRefIdeal.Rows.List16 (A3 m c) sink
    ∧ Cert.AttnRefIdeal.Rows.Wide (A4 m c) g

theorem realAt (h0 : ∀ i, ∃ r : ℝ, A0 m c i = r) (h1 : ∀ i, ∃ r : ℝ, A1 m c i = r) (h2 : ∀ i, ∃ r : ℝ, A2 m c i = r)
    (h3 : ∀ i, ∃ r : ℝ, A3 m c i = r) (h4 : ∀ i, ∃ r : ℝ, A4 m c i = r) : RealAt m c := by
  obtain ⟨q, hq⟩ := real_wide (A0 m c) h0
  obtain ⟨k, hk⟩ := real_narrow (A1 m c) h1
  obtain ⟨v, hv⟩ := real_narrow (A2 m c) h2
  obtain ⟨sink, hx⟩ := real_sinks (A3 m c) h3
  obtain ⟨g, hg⟩ := real_wide (A4 m c) h4
  exact ⟨q, k, v, sink, g, hq, hk, hv, hx, hg⟩

theorem array9 (H : RealAt m c) : (dats m 0 c).arrAt 9 cfg0.N
    = Cert.AttnRefIdeal.Read.val_main_v145 (F := Ideal) (A0 m c) (A1 m c) (A2 m c) (A3 m c) (A4 m c) := by
  obtain ⟨q, k, v, sink, g, hq, hk, hv, hx, hg⟩ := H
  exact result9 hq hk hv hx hg

theorem array10 (H : RealAt m c) : (dats m 0 c).arrAt 10 cfg0.N
    = Cert.AttnRefIdeal.Read.val_main_v147 (F := Ideal) (A0 m c) (A1 m c) (A2 m c) (A3 m c) (A4 m c) := by
  obtain ⟨q, k, v, sink, g, hq, hk, hv, hx, hg⟩ := H
  exact result10 hq hk hv hx hg

theorem array11 (H : RealAt m c) : (dats m 0 c).arrAt 11 cfg0.N
    = Cert.AttnRefIdeal.Read.val_main_v149 (F := Ideal) (A0 m c) (A1 m c) (A2 m c) (A3 m c) (A4 m c) := by
  obtain ⟨q, k, v, sink, g, hq, hk, hv, hx, hg⟩ := H
  exact result11 hq hk hv hx hg

theorem array12 (H : RealAt m c) : (dats m 0 c).arrAt 12 cfg0.N
    = Cert.AttnRefIdeal.Read.val_main_v151 (F := Ideal) (A0 m c) (A1 m c) (A3 m c) (A4 m c) := by
  obtain ⟨q, k, v, sink, g, hq, hk, hv, hx, hg⟩ := H
  exact result12 hq hk hv hx hg

theorem array13 (H : RealAt m c) : (dats m 0 c).arrAt 13 cfg0.N
    = Cert.AttnRefIdeal.Read.val_main_v153 (F := Ideal) (A0 m c) (A1 m c) (A3 m c) (A4 m c) := by
  obtain ⟨q, k, v, sink, g, hq, hk, hv, hx, hg⟩ := H
  exact result13 hq hk hv hx hg

theorem array14 (H : RealAt m c) : (dats m 0 c).arrAt 14 cfg0.N
    = Cert.AttnRefIdeal.Read.val_main_v155 (F := Ideal) (A0 m c) (A1 m c) (A2 m c) (A3 m c) (A4 m c) := by
  obtain ⟨q, k, v, sink, g, hq, hk, hv, hx, hg⟩ := H
  exact result14 hq hk hv hx hg

end Cert.AttClaims

end
-- ==== Proof.AttClaims.lean ====
/-
  The claims about the attention gradient.
-/
module

public import proofs.«01_k».proof.Defs
public import proofs.«01_k».proof.Proof.Gen.Attn.Frame
public import proofs.«01_k».proof.Proof.Gen.AttnIdeal.Frame
public import proofs.«01_k».proof.Proof.Gen.Pre_finite_att
public import proofs.«01_k».proof.Proof.AttValue
public import Idealize.ShloMosaic.Lib.Quiescent

@[expose] public section

set_option maxRecDepth 16384

noncomputable section

open Idealize.ShloMosaic Idealize.ShloMosaic.TcCoe Idealize.SL.Sem
open Idealize.ShloMosaic.Pipeline (Dat)

namespace Cert.AttClaims

open Cert.AttnIdeal Cert.AttnIdeal.Gen Cert.AttnIdeal.Block

theorem frame : Cert.quiescent_Attn := fun m ρ _ => Cert.Attn.Gen.frame m ρ
theorem frameIdeal : Cert.quiescent_AttnIdeal := fun m ρ _ => Cert.AttnIdeal.Gen.frame m ρ
theorem frameIdealPre : Cert.quiescent_AttnIdeal_pre_finite_att := fun m ρ _ => Cert.AttnIdeal.Gen.frame m ρ
theorem frameRef : Cert.quiescent_AttnRefIdeal := fun m ρ _ =>
  (θ_run Cert.AttnRefIdeal.defs _ _).mono (fun r h => ⟨fun c => (h c).2.2.2.2.2.2, sem_eq_zero_of_no_sems (by decide) r.2⟩)
    (Cert.AttnRefIdeal.Value.run (F := Ideal) m ρ)
theorem frameRefPre : Cert.quiescent_AttnRefIdeal_pre_finite_att := fun m ρ _ => frameRef m ρ trivial
theorem preserves : Cert.preserves_Attn_AttnIdeal :=
  IdealRules.named_const.statement Cert.AttnIdeal.κ "mask" .f32 0xF149F2CA#32 ⊥ rfl

/-- A function of equal arguments. -/
theorem congr_four {α β γ δ ε : Type} (f : α → β → γ → δ → ε) {a a' : α} {b b' : β} {c c' : γ} {d d' : δ}
    (ha : a = a') (hb : b = b') (hc : c = c') (hd : d = d') : f a b c d = f a' b' c' d' := by
  subst ha hb hc hd; rfl

/-- A function of equal arguments. -/
theorem congr_five {α β γ δ ε ζ : Type} (f : α → β → γ → δ → ε → ζ) {a a' : α} {b b' : β} {c c' : γ} {d d' : δ} {e e' : ε}
    (ha : a = a') (hb : b = b') (hc : c = c') (hd : d = d') (he : e = e') : f a b c d e = f a' b' c' d' e' := by
  subst ha hb hc hd he; rfl

set_option maxHeartbeats 8000000 in
/-- The call computes the reference's gradient. -/
theorem algebraic : Cert.algebraic_AttnIdeal_AttnRefIdeal_pre_finite_att := fun m ρ m' ρ' hpre hag => by
  have R : ∀ c : Dev nD, RealAt m c := fun c => realAt
    (fun j => Cert.Reals.real_of_lt (congrFun (hpre c).1 j))
    (fun j => Cert.Reals.real_of_lt (congrFun (hpre c).2.1 j))
    (fun j => Cert.Reals.real_of_lt (congrFun (hpre c).2.2.1 j))
    (fun j => Cert.Reals.real_of_lt (congrFun (hpre c).2.2.2.1 j))
    (fun j => Cert.Reals.real_of_lt (congrFun (hpre c).2.2.2.2 j))
  refine ⟨fun c => (dats m 0 c).arrAt 9 cfg0.N, fun c => (dats m 0 c).arrAt 10 cfg0.N, fun c => (dats m 0 c).arrAt 11 cfg0.N,
    fun c => (dats m 0 c).arrAt 12 cfg0.N, fun c => (dats m 0 c).arrAt 13 cfg0.N, fun c => (dats m 0 c).arrAt 14 cfg0.N,
    Cert.AttnIdeal.Value.run_blocks m ρ,
    (θ_run _ _ _).mono (fun _ h c => ⟨(h c).1.trans ?_, (h c).2.1.trans ?_, (h c).2.2.1.trans ?_, (h c).2.2.2.1.trans ?_,
      (h c).2.2.2.2.1.trans ?_, (h c).2.2.2.2.2.1.trans ?_, (h c).2.2.2.2.2.2⟩)
      (Cert.AttnRefIdeal.Value.run (F := Ideal) m' ρ')⟩
  · exact (Cert.AttnRefIdeal.Read.val_main_v145_eq (F := Ideal) _).trans
      ((congr_five (Cert.AttnRefIdeal.Read.val_main_v145 (F := Ideal)) (hag c).1 (hag c).2.1 (hag c).2.2.1 (hag c).2.2.2.1 (hag c).2.2.2.2).trans (array9 (R c)).symm)
  · exact (Cert.AttnRefIdeal.Read.val_main_v147_eq (F := Ideal) _).trans
      ((congr_five (Cert.AttnRefIdeal.Read.val_main_v147 (F := Ideal)) (hag c).1 (hag c).2.1 (hag c).2.2.1 (hag c).2.2.2.1 (hag c).2.2.2.2).trans (array10 (R c)).symm)
  · exact (Cert.AttnRefIdeal.Read.val_main_v149_eq (F := Ideal) _).trans
      ((congr_five (Cert.AttnRefIdeal.Read.val_main_v149 (F := Ideal)) (hag c).1 (hag c).2.1 (hag c).2.2.1 (hag c).2.2.2.1 (hag c).2.2.2.2).trans (array11 (R c)).symm)
  · exact (Cert.AttnRefIdeal.Read.val_main_v151_eq (F := Ideal) _).trans
      ((congr_four (Cert.AttnRefIdeal.Read.val_main_v151 (F := Ideal)) (hag c).1 (hag c).2.1 (hag c).2.2.2.1 (hag c).2.2.2.2).trans (array12 (R c)).symm)
  · exact (Cert.AttnRefIdeal.Read.val_main_v153_eq (F := Ideal) _).trans
      ((congr_four (Cert.AttnRefIdeal.Read.val_main_v153 (F := Ideal)) (hag c).1 (hag c).2.1 (hag c).2.2.2.1 (hag c).2.2.2.2).trans (array13 (R c)).symm)
  · exact (Cert.AttnRefIdeal.Read.val_main_v155_eq (F := Ideal) _).trans
      ((congr_five (Cert.AttnRefIdeal.Read.val_main_v155 (F := Ideal)) (hag c).1 (hag c).2.1 (hag c).2.2.1 (hag c).2.2.2.1 (hag c).2.2.2.2).trans (array14 (R c)).symm)

end Cert.AttClaims

end
-- ==== Proof.HidMath.lean ====
/-
  The arithmetic of the gradient of `silu(gate) * up`: what the kernel stores and what the differentiated reference
  computes are the same real number.
-/
module

public import proofs.«01_k».proof.Proof.Reals

@[expose] public section

set_option maxRecDepth 16384

noncomputable section

open Idealize.ShloMosaic Idealize.ShloMosaic.TcCoe Idealize.SL.Sem
open Idealize.ShloMosaic.Pipeline (Dat)

namespace Cert.HidMath

open Cert.Reals

/-- The kernel's element for the gate: `dm · up · s · (1 + gate · (1 − s))`, `s` the logistic of the gate through `tanh`. -/
def gateK (dm a b : EReal) : EReal :=
  dm * b * (Ideal.ofBits .f32 0x3F000000#32 * Ideal.tanh (Ideal.ofBits .f32 0x3F000000#32 * a) + Ideal.ofBits .f32 0x3F000000#32)
    * (1 + a * (1 - (Ideal.ofBits .f32 0x3F000000#32 * Ideal.tanh (Ideal.ofBits .f32 0x3F000000#32 * a) + Ideal.ofBits .f32 0x3F000000#32)))

/-- The kernel's element for the up projection: `dm · gate · s`. -/
def upK (dm a : EReal) : EReal :=
  dm * a * (Ideal.ofBits .f32 0x3F000000#32 * Ideal.tanh (Ideal.ofBits .f32 0x3F000000#32 * a) + Ideal.ofBits .f32 0x3F000000#32)

/-- The reference's element for the gate: the two terms of the product rule through `gate · σ(gate)`. -/
def gateR (dm a b : EReal) : EReal :=
  dm * b * Ideal.div 1 (1 + Ideal.exp (-a))
    + a * (dm * b) * (Ideal.div 1 (1 + Ideal.exp (-a)) * (1 - Ideal.div 1 (1 + Ideal.exp (-a))))

/-- The reference's element for the up projection. -/
def upR (dm a : EReal) : EReal := a * Ideal.div 1 (1 + Ideal.exp (-a)) * dm

/-- The logistic quotient of a real number. -/
theorem sigma_coe (a : ℝ) : Ideal.div 1 (1 + Ideal.exp (-(a : EReal))) = (((1 + Real.exp (-a))⁻¹ : ℝ) : EReal) := by
  have h : (1 + Real.exp (-a)) ≠ 0 := by have := Real.exp_pos (-a); positivity
  rw [← EReal.coe_neg, Ideal.exp_coe, ← EReal.coe_one, ← EReal.coe_add, Ideal.div_coe h, ← EReal.coe_mul]
  simp

/-- The kernel's logistic of a real number. -/
theorem sigmaK_coe (a : ℝ) :
    Ideal.ofBits .f32 0x3F000000#32 * Ideal.tanh (Ideal.ofBits .f32 0x3F000000#32 * (a : EReal)) + Ideal.ofBits .f32 0x3F000000#32
      = (((1 + Real.exp (-a))⁻¹ : ℝ) : EReal) := by
  rw [half, ← EReal.coe_mul, Ideal.tanh_coe, ← EReal.coe_mul, ← EReal.coe_add, sigmoid_tanh]

/-- The gate's element is the same on both sides. -/
theorem gate_eq (dm a b : ℝ) : gateK dm a b = gateR dm a b := by
  unfold gateK gateR
  rw [sigmaK_coe, sigma_coe]
  generalize (1 + Real.exp (-a))⁻¹ = s
  norm_cast
  ring

/-- The up projection's element is the same on both sides. -/
theorem up_eq (dm a : ℝ) : upK dm a = upR dm a := by
  unfold upK upR
  rw [sigmaK_coe, sigma_coe]
  generalize (1 + Real.exp (-a))⁻¹ = s
  norm_cast
  ring

/-- A product row scaled after the sum is the row scaled before it. -/
theorem scaled_sum (x w : Fin 1024 → ℝ) :
    Ideal.ofBits .f32 0x3F000000#32 * ∑ k, (x k : EReal) * (w k : EReal)
      = ((1 / 2 * ∑ k, x k * w k : ℝ) : EReal) := by
  simp only [half, ← EReal.coe_mul, ← coe_sum]

theorem sum_scaled (x w : Fin 1024 → ℝ) :
    ∑ k, (Ideal.ofBits .f32 0x3F000000#32 * (x k : EReal)) * (w k : EReal)
      = ((1 / 2 * ∑ k, x k * w k : ℝ) : EReal) := by
  simp only [half, ← EReal.coe_mul, ← coe_sum]
  rw [Finset.mul_sum]
  congr 1
  exact Finset.sum_congr rfl fun k _ => by ring

end Cert.HidMath

end
-- ==== Proof.HidKernel.lean ====
/-
  The backward call of swiglu's second half: what its output array holds. The grid is four row tiles by two hidden
  blocks; at every point the kernel stores the gradients of the gate and of the up projection, side by side.
-/
module

public import proofs.«01_k».proof.Proof.Gen.FfnHidIdeal.Value
public import proofs.«01_k».proof.Proof.HidMath

@[expose] public section

set_option maxRecDepth 16384

noncomputable section

open Idealize.ShloMosaic Idealize.ShloMosaic.TcCoe Idealize.SL.Sem
open Idealize.ShloMosaic.Pipeline (Dat)

namespace Cert.FfnHidIdeal.Block

open Cert.FfnHidIdeal Cert.FfnHidIdeal.Gen Cert.HidMath

/-- The windows' block indices at a point: row tile `t / 2`, hidden block `t % 2`. -/
theorem idx : ∀ t : Fin cfg0.N, win0_0.index t = ![t.val / 2, 0] ∧ win0_1.index t = ![t.val % 2, 0]
    ∧ win0_2.index t = ![t.val / 2, t.val % 2] ∧ win0_3.index t = ![t.val / 2, t.val % 2] :=
  (by decide +kernel : ∀ t : Fin grid0.N, win0_0.index t = ![t.val / 2, 0] ∧ win0_1.index t = ![t.val % 2, 0]
    ∧ win0_2.index t = ![t.val / 2, t.val % 2] ∧ win0_3.index t = ![t.val / 2, t.val % 2])

/-- The gate's payload at an index. -/
theorem pay4 (v0 : Vec Ideal S1024x1024 .f32) (v1 : Vec Ideal S1408x1024 .bf16) (v6 v8 : Vec Ideal S1024x1408 .bf16)
    (r : Fin 1024) (q : Fin 1408) :
    k0_pay4 v0 v1 v6 v8 (ix2 r q)
      = gateK (Ideal.ofBits .f32 0x3F000000#32 * ∑ k : Fin 1024, v0 (ix2 r k) * v1 (ix2 q k)) (v6 (ix2 r q)) (v8 (ix2 r q)) := by
  unfold gateK
  unfold_payloads
  pointwise

/-- The up projection's payload at an index. -/
theorem pay5 (v0 : Vec Ideal S1024x1024 .f32) (v1 : Vec Ideal S1408x1024 .bf16) (v6 : Vec Ideal S1024x1408 .bf16)
    (r : Fin 1024) (q : Fin 1408) :
    k0_pay5 v0 v1 v6 (ix2 r q)
      = upK (Ideal.ofBits .f32 0x3F000000#32 * ∑ k : Fin 1024, v0 (ix2 r k) * v1 (ix2 q k)) (v6 (ix2 r q)) := by
  unfold upK
  unfold_payloads
  pointwise

/-- The hidden unit of a packed column. -/
abbrev unit (l : Fin 5632) : Fin 2816 := ⟨l.val / 2816 * 1408 + l.val % 1408, by omega⟩

/-- The packed column of a hidden unit's gate. -/
abbrev gateCol (f : Fin 2816) : Fin 5632 := ⟨f.val / 1408 * 2816 + f.val % 1408, by omega⟩

/-- The packed column of a hidden unit's up projection. -/
abbrev upCol (f : Fin 2816) : Fin 5632 := ⟨f.val / 1408 * 2816 + 1408 + f.val % 1408, by omega⟩

/-- What the output array holds at row `r` and packed column `l`. -/
def out (dh : S4096x1024.Idx → EReal) (w : S2816x1024.Idx → EReal) (u : S4096x5632.Idx → EReal) (r : Fin 4096) (l : Fin 5632) : EReal :=
  if l.val / 1408 % 2 = 1
  then upK (Ideal.ofBits .f32 0x3F000000#32 * ∑ k : Fin 1024, dh (ix2 r k) * w (ix2 (unit l) k)) (u (ix2 r (gateCol (unit l))))
  else gateK (Ideal.ofBits .f32 0x3F000000#32 * ∑ k : Fin 1024, dh (ix2 r k) * w (ix2 (unit l) k)) (u (ix2 r (gateCol (unit l))))
    (u (ix2 r (upCol (unit l))))

variable (m : (ℓ : Loc nD τ sig) → Buf (Elt Ideal) ℓ)

/-- The output array after the run, as a function of the argument arrays. -/
abbrev G (c : Dev nD) : Buf (Elt Ideal) ((c : Thread nD τ).loc main_v0) := fun i =>
  out (m ((c : Thread nD τ).loc main_arg0)) (m ((c : Thread nD τ).loc main_arg1)) (m ((c : Thread nD τ).loc main_arg2)) (i 0) (i 1)

/-- The three operands' blocks read in their arrays. -/
theorem rd0 (c : Dev nD) (t : Fin cfg0.N) (r k : Fin 1024) (R : Fin 4096) (hR : R.val = t.val / 2 * 1024 + r.val) :
    iblk m c 0 t (ix2 r k) = m ((c : Thread nD τ).loc main_arg0) (ix2 R k) := by
  blk_ext [iblk, V, idx t]

theorem rd1 (c : Dev nD) (t : Fin cfg0.N) (q : Fin 1408) (k : Fin 1024) (f : Fin 2816) (hf : f.val = t.val % 2 * 1408 + q.val) :
    iblk m c 1 t (ix2 q k) = m ((c : Thread nD τ).loc main_arg1) (ix2 f k) := by
  blk_ext [iblk, V, idx t]

theorem rd2 (c : Dev nD) (t : Fin cfg0.N) (r : Fin 1024) (q : Fin 1408) (o : ℕ) (inb) (R : Fin 4096) (l : Fin 5632)
    (hR : R.val = t.val / 2 * 1024 + r.val) (hl : l.val = t.val % 2 * 2816 + o + q.val) :
    View.ld (iblk m c 2 t) (Rect.unit ![0, o] ![1024, 1408] inb) (ix2 r q) = m ((c : Thread nD τ).loc main_arg2) (ix2 R l) := by
  have ho : o + 1408 ≤ 2816 := inb 1
  refine (View.ld_unit_apply_of (iblk m c 2 t) _ _ inb (ix2 r q) (ix2 r (⟨o + q.val, by omega⟩ : Fin 2816))
    (fun a => match a with | ⟨0, _⟩ => (Nat.zero_add _).symm | ⟨1, _⟩ => rfl)).trans ?_
  blk_ext [iblk, V, idx t]

/-- The whole output array: its blocks tile it. -/
theorem final (c : Dev nD) : (dats m 0 c).arrAt 3 (cfgs 0).N = G m c := by
  refine (dats m 0 c).arrAt_eq_of_covers 3 _ (by decide +kernel) fun t hf y => ?_
  have e0 : ((((cfg0.win 3).blk t).view.emb y) 0 : ℕ) = t.val / 2 * 1024 + (y 0).val := by blk_simp [idx t]
  have e1 : ((((cfg0.win 3).blk t).view.emb y) 1 : ℕ) = t.val % 2 * 2816 + (y 1).val := by blk_simp [idx t]
  generalize ((cfg0.win 3).blk t).view.emb y = i at e0 e1 ⊢
  blk_simp; rw [after0_3]; unfold outsAt0; frame_out
  have hi1 : (i 1).val < 5632 := (i 1).isLt
  canon_tiles x h
  · idx_vars x
    rw [pay5, rd2 m c t x0 x1 0 _ (i 0) (gateCol (unit (i 1))) (by omega) (by simp only; omega)]
    unfold G out
    rw [if_pos (by omega)]
    refine congrArg (upK · _) (congrArg _ (Finset.sum_congr rfl fun k _ => ?_))
    rw [rd0 m c t x0 k (i 0) (by omega), rd1 m c t x1 k (unit (i 1)) (by simp only; omega)]
  · idx_vars x
    rw [pay4, rd2 m c t x0 x1 0 _ (i 0) (gateCol (unit (i 1))) (by omega) (by simp only; omega),
      rd2 m c t x0 x1 1408 _ (i 0) (upCol (unit (i 1))) (by omega) (by simp only; omega)]
    unfold G out
    rw [if_neg (by omega)]
    refine congrArg (gateK · _ _) (congrArg _ (Finset.sum_congr rfl fun k _ => ?_))
    rw [rd0 m c t x0 k (i 0) (by omega), rd1 m c t x1 k (unit (i 1)) (by simp only; omega)]

/-- The run: the output array at its closed form, the arguments unchanged. -/
theorem run (ρ : Dev nD → PrngReg) : θ_run defs (onTc (τ := τ) (main (F := Ideal))) ⟨m, fun _ => 0, ρ⟩ fun r => ∀ c : Dev nD,
      r.2.mem ((c : Thread nD τ).loc main_v0) = G m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun _ h c => ⟨(h c).1.trans (final m c), (h c).2⟩) (Value.run_blocks m ρ)

end Cert.FfnHidIdeal.Block

end
-- ==== Proof.HidReference.lean ====
/-
  The reference of the backward call of swiglu's second half, read at an index: the differentiated program's gradient of
  the packed columns.
-/
module

public import proofs.«01_k».proof.Proof.Gen.FfnHidRefIdeal.Run
public import proofs.«01_k».proof.Proof.Gen.FfnHidRefIdeal.Read
public import Idealize.ShloMosaic.Lib.KernelVsHost
public import proofs.«01_k».proof.Proof.HidMath

@[expose] public section

set_option maxRecDepth 16384

noncomputable section

open Idealize.ShloMosaic Idealize.ShloMosaic.TcCoe Idealize.SL.Sem
open Idealize.ShloMosaic.Pipeline (Dat)

namespace Cert.FfnHidRefIdeal.Rows

open Cert.FfnHidRefIdeal Cert.FfnHidRefIdeal.Gen Cert.FfnHidRefIdeal.Read Cert.HidMath

variable (x0 : (⟨S4096x1024, .f32⟩ : BufTy).Contents (Elt Ideal)) (x1 : (⟨S2816x1024, .bf16⟩ : BufTy).Contents (Elt Ideal))
  (x2 : (⟨S4096x5632, .bf16⟩ : BufTy).Contents (Elt Ideal))

/-- The gate of hidden unit `f`. -/
theorem gate (r : Fin 4096) (f : Fin 2816) :
    val_main_v5 x2 (ix2 r f) = x2 (ix2 r ⟨f.val / 1408 * 2816 + f.val % 1408, by omega⟩) := by
  rw [val_main_v5_apply, val_main_v4_apply, val_main_v3_apply, val_main_v2_apply, val_main_v1_apply]
  simp only [Ideal.extf_def]
  blk_ext

/-- The up projection of hidden unit `f`. -/
theorem up (r : Fin 4096) (f : Fin 2816) :
    val_main_v8 x2 (ix2 r f) = x2 (ix2 r ⟨f.val / 1408 * 2816 + 1408 + f.val % 1408, by omega⟩) := by
  rw [val_main_v8_apply, val_main_v7_apply, val_main_v6_apply, val_main_v2_apply, val_main_v1_apply]
  simp only [Ideal.extf_def]
  blk_ext

/-- The gradient of the hidden row. -/
theorem hidden (r : Fin 4096) (f : Fin 2816) : val_main_v16 x0 x1 (ix2 r f)
    = ∑ k : Fin 1024, (Ideal.ofBits .f32 0x3F000000#32 * x0 (ix2 r k)) * x1 (ix2 f k) := by
  unfold val_main_v16 val_main_v15 val_main_v14 val_main_cst_0 val_main_v0
  pointwise

/-- The gradient of the gate, before it is put back in its column. -/
theorem dgate (r : Fin 4096) (f : Fin 2816) : val_main_v19 x0 x1 x2 (ix2 r f)
    = gateR (∑ k : Fin 1024, (Ideal.ofBits .f32 0x3F000000#32 * x0 (ix2 r k)) * x1 (ix2 f k))
        (x2 (ix2 r ⟨f.val / 1408 * 2816 + f.val % 1408, by omega⟩))
        (x2 (ix2 r ⟨f.val / 1408 * 2816 + 1408 + f.val % 1408, by omega⟩)) := by
  simp only [val_main_v19_apply, val_main_call1_v0_apply, val_main_call1_v1_apply, val_main_call1_v2_apply, val_main_v18_apply,
    val_main_v9_2_apply, val_main_v9_1_apply, val_main_v9_0_apply, hidden, gate, up, val_main_call0_v7_apply,
    val_main_call0_v6_apply, val_main_call0_v4_apply, val_main_call0_v3_apply, val_main_call0_v2_apply,
    val_main_call0_v1_apply, val_main_call0_v0_apply, val_main_call0_cst_apply, val_main_call0_cst_0_apply,
    val_main_call0_cst_1_apply]
  unfold gateR
  pointwise

/-- The gradient of the up projection, before it is put back in its column. -/
theorem dup (r : Fin 4096) (f : Fin 2816) : val_main_v17 x0 x1 x2 (ix2 r f)
    = upR (∑ k : Fin 1024, (Ideal.ofBits .f32 0x3F000000#32 * x0 (ix2 r k)) * x1 (ix2 f k))
        (x2 (ix2 r ⟨f.val / 1408 * 2816 + f.val % 1408, by omega⟩)) := by
  simp only [val_main_v17_apply, val_main_v9_2_apply, val_main_v9_0_apply, hidden, gate,
    val_main_call0_v4_apply, val_main_call0_v3_apply, val_main_call0_v2_apply,
    val_main_call0_v1_apply, val_main_call0_v0_apply, val_main_call0_cst_apply, val_main_call0_cst_0_apply]
  unfold upR
  pointwise

/-- The up projection's gradient padded into the packed columns. -/
theorem padUp (r : Fin 4096) (h p : Fin 2) (q : Fin 1408) : val_main_v22 x0 x1 x2 (ix4 r h p q)
    = if p = 1 then val_main_v17 x0 x1 x2 (ix2 r ⟨h.val * 1408 + q.val, by omega⟩) else 0 := by
  unfold val_main_v22
  by_cases hp : p = 1
  · subst hp
    rw [if_pos rfl, pad_apply_of_inside _ _ _ _ _ _ _ _ (ix4 r h (0 : Fin 1) q)
      (fun a => match a with | ⟨0, _⟩ => by simp [ix4] | ⟨1, _⟩ => by simp [ix4] | ⟨2, _⟩ => by simp [ix4] | ⟨3, _⟩ => by simp [ix4]),
      val_main_v21_apply, val_main_v20_apply]
    blk_ext
  · have hp0 : p.val = 0 := by omega
    rw [if_neg hp, pad_apply_of_not_inside _ _ _ _ _ _ _ _ 2 (by simp [ix4, hp0])]
    simp only [val_main_cst_1_apply]
    exact Ideal.ofBits_zero_f32

/-- The gate's gradient padded into the packed columns. -/
theorem padGate (r : Fin 4096) (h p : Fin 2) (q : Fin 1408) : val_main_v25 x0 x1 x2 (ix4 r h p q)
    = if p = 1 then 0 else val_main_v19 x0 x1 x2 (ix2 r ⟨h.val * 1408 + q.val, by omega⟩) := by
  unfold val_main_v25
  by_cases hp : p = 1
  · subst hp
    rw [if_pos rfl, pad_apply_of_not_inside _ _ _ _ _ _ _ _ 2 (by simp [ix4])]
    simp only [val_main_cst_2_apply]
    exact Ideal.ofBits_zero_f32
  · have hp0 : p = 0 := by omega
    subst hp0
    rw [if_neg hp, pad_apply_of_inside _ _ _ _ _ _ _ _ (ix4 r h (0 : Fin 1) q)
      (fun a => match a with | ⟨0, _⟩ => by simp [ix4] | ⟨1, _⟩ => by simp [ix4] | ⟨2, _⟩ => by simp [ix4] | ⟨3, _⟩ => by simp [ix4]),
      val_main_v24_apply, val_main_v23_apply]
    blk_ext

/-- The reference's result at row `r` and packed column `l`. -/
theorem result (r : Fin 4096) (l : Fin 5632) : val_main_v28 x0 x1 x2 (ix2 r l)
    = if l.val / 1408 % 2 = 1 then val_main_v17 x0 x1 x2 (ix2 r ⟨l.val / 2816 * 1408 + l.val % 1408, by omega⟩)
      else val_main_v19 x0 x1 x2 (ix2 r ⟨l.val / 2816 * 1408 + l.val % 1408, by omega⟩) := by
  rw [val_main_v28_apply, val_main_v27_apply,
    show idx_main_v27 (ix2 r l) = ix4 r (⟨l.val / 2816, by omega⟩ : Fin 2) (⟨l.val / 1408 % 2, by omega⟩ : Fin 2)
      (⟨l.val % 1408, by omega⟩ : Fin 1408) by blk_ext,
    val_main_v26_apply, padUp, padGate]
  by_cases h : l.val / 1408 % 2 = 1
  · rw [if_pos h, if_pos (Fin.ext h), if_pos (Fin.ext h)]
    simp
  · rw [if_neg h, if_neg (fun e => h (congrArg Fin.val e)), if_neg (fun e => h (congrArg Fin.val e))]
    simp

end Cert.FfnHidRefIdeal.Rows

end
-- ==== Proof.HidClaims.lean ====
/-
  The claims about the backward call of swiglu's second half.
-/
module

public import proofs.«01_k».proof.Defs
public import proofs.«01_k».proof.Proof.Gen.FfnHid.Frame
public import proofs.«01_k».proof.Proof.Gen.FfnHidIdeal.Frame
public import proofs.«01_k».proof.Proof.Gen.Pre_finite_hid
public import proofs.«01_k».proof.Proof.HidKernel
public import proofs.«01_k».proof.Proof.HidReference
public import Idealize.ShloMosaic.Lib.Quiescent

@[expose] public section

set_option maxRecDepth 16384

noncomputable section

open Idealize.ShloMosaic Idealize.ShloMosaic.TcCoe Idealize.SL.Sem
open Idealize.ShloMosaic.Pipeline (Dat)

namespace Cert.HidClaims

open Cert.HidMath

/-- The kernel's output and the reference's are equal at real operands. -/
theorem tie (dh : Cert.FfnHidIdeal.S4096x1024.Idx → EReal) (w : Cert.FfnHidIdeal.S2816x1024.Idx → EReal)
    (u : Cert.FfnHidIdeal.S4096x5632.Idx → EReal)
    (hdh : ∀ i, ∃ r : ℝ, dh i = r) (hw : ∀ i, ∃ r : ℝ, w i = r) (hu : ∀ i, ∃ r : ℝ, u i = r) (r : Fin 4096) (l : Fin 5632) :
    Cert.FfnHidIdeal.Block.out dh w u r l = Cert.FfnHidRefIdeal.Read.val_main_v28 (F := Ideal) dh w u (ix2 r l) := by
  choose dh' hdh using hdh
  choose w' hw using hw
  choose u' hu using hu
  rw [Cert.FfnHidRefIdeal.Rows.result, Cert.FfnHidRefIdeal.Rows.dup, Cert.FfnHidRefIdeal.Rows.dgate]
  unfold Cert.FfnHidIdeal.Block.out
  simp only [hdh, hw, hu, scaled_sum, sum_scaled, up_eq, gate_eq]

theorem frame : Cert.quiescent_FfnHid := fun m ρ _ => Cert.FfnHid.Gen.frame m ρ
theorem frameIdeal : Cert.quiescent_FfnHidIdeal := fun m ρ _ => Cert.FfnHidIdeal.Gen.frame m ρ
theorem frameIdealPre : Cert.quiescent_FfnHidIdeal_pre_finite_hid := fun m ρ _ => Cert.FfnHidIdeal.Gen.frame m ρ
theorem frameRef : Cert.quiescent_FfnHidRefIdeal := fun m ρ _ =>
  (θ_run Cert.FfnHidRefIdeal.defs _ _).mono (fun r h => ⟨fun c => (h c).2, sem_eq_zero_of_no_sems (by decide) r.2⟩)
    (Cert.FfnHidRefIdeal.Value.run (F := Ideal) m ρ)
theorem frameRefPre : Cert.quiescent_FfnHidRefIdeal_pre_finite_hid := fun m ρ _ => frameRef m ρ trivial
theorem preserves : Cert.preserves_FfnHid_FfnHidIdeal := trivial

/-- The call computes the reference's gradient. -/
theorem algebraic : Cert.algebraic_FfnHidIdeal_FfnHidRefIdeal_pre_finite_hid := fun m ρ m' ρ' hpre hag =>
  ⟨fun c => Cert.FfnHidIdeal.Block.G m c, Cert.FfnHidIdeal.Block.run m ρ,
    (θ_run _ _ _).mono (fun _ h c => ⟨(h c).1.trans (by
      rw [Cert.FfnHidRefIdeal.Read.val_main_v28_eq, (hag c).1, (hag c).2.1, (hag c).2.2.1]
      have hp := hpre c
      funext i
      idx_vars i
      refine (tie _ _ _ ?_ ?_ ?_ i0 i1).symm
      · exact fun j => Cert.Reals.real_of_lt (congrFun hp.1 j)
      · exact fun j => Cert.Reals.real_of_lt (congrFun hp.2.1 j)
      · exact fun j => Cert.Reals.real_of_lt (congrFun hp.2.2 j)), (h c).2⟩)
      (Cert.FfnHidRefIdeal.Value.run (F := Ideal) m' ρ')⟩

end Cert.HidClaims

end
-- ==== Proof.NrmMath.lean ====
/-
  The arithmetic of the gradient through a root-mean-square norm behind a product with a transposed weight, over real
  numbers: what the kernel stores and what the differentiated reference computes.
-/
module

public import proofs.«01_k».proof.Proof.Reals

@[expose] public section

set_option maxRecDepth 16384

noncomputable section

open Idealize.ShloMosaic Idealize.ShloMosaic.TcCoe Idealize.SL.Sem

namespace Cert.NrmMath

open Cert.Reals

/-- The norm's epsilon. -/
def eps : ℝ := 8796093 / 2 ^ 43

theorem eps_pos : 0 < eps := by unfold eps; positivity

theorem eps_coe : Ideal.ofBits .f32 0x358637BD#32 = ((eps : ℝ) : EReal) := by
  unfold eps; simp [Ideal.ofBits, Ideal.ieee, -EReal.coe_mul]; norm_num

theorem width_coe : Ideal.ofBits .f32 0x44800000#32 = ((1024 : ℝ) : EReal) := by
  simp [Ideal.ofBits, Ideal.ieee, -EReal.coe_mul]; norm_num

theorem minus_half_coe : Ideal.ofBits .f32 0xBF000000#32 = ((-(1 / 2) : ℝ) : EReal) := by
  simp [Ideal.ofBits, Ideal.ieee, -EReal.coe_mul]; norm_num

theorem div_width (x : ℝ) : Ideal.div (x : EReal) (Ideal.ofBits .f32 0x44800000#32) = ((x / 1024 : ℝ) : EReal) := by
  rw [width_coe, Ideal.div_coe (by norm_num), ← EReal.coe_mul]; congr 1; ring

theorem rsqrt_pos {x : ℝ} (h : 0 < x) : Ideal.rsqrt (x : EReal) = (((Real.sqrt x)⁻¹ : ℝ) : EReal) := by
  rw [Ideal.rsqrt_coe, if_neg (not_lt.mpr h.le), if_neg h.ne']

/-- The mean square of row `r`, plus epsilon. -/
def meansq (h : ℕ → ℕ → ℝ) (r : ℕ) : ℝ := (∑ k : Fin 1024, h r k * h r k) / 1024 + eps

theorem meansq_pos (h : ℕ → ℕ → ℝ) (r : ℕ) : 0 < meansq h r := by
  have : 0 ≤ ∑ k : Fin 1024, h r k * h r k := Finset.sum_nonneg fun k _ => mul_self_nonneg _
  have := eps_pos
  unfold meansq; positivity

/-- The reciprocal root of it. -/
def scale (h : ℕ → ℕ → ℝ) (r : ℕ) : ℝ := (Real.sqrt (meansq h r))⁻¹

theorem scale_sq (h : ℕ → ℕ → ℝ) (r : ℕ) : 1 / meansq h r = scale h r * scale h r := by
  have p := meansq_pos h r
  unfold scale
  rw [← mul_inv, Real.mul_self_sqrt p.le, one_div]

/-- One chip's share of the product with the transposed weight: column block `q` of the packed gradient against the
    weight's block `q % 2 * 2 + q / 2`. -/
def part (a w : ℕ → ℕ → ℝ) (r k q : ℕ) : ℝ := ∑ j : Fin 1408, a r (q * 1408 + j) * w k ((q % 2 * 2 + q / 2) * 1408 + j)

/-- The product: the gradient of the normalised row. -/
def dxn (a w : ℕ → ℕ → ℝ) (r k : ℕ) : ℝ := ∑ q ∈ Finset.range 4, part a w r k q

/-- The kernel's gradient of the stream, from the product's row `d`. -/
def outK (d : ℕ → ℝ) (h : ℕ → ℕ → ℝ) (g : ℕ → ℝ) (e : ℝ) (r k : ℕ) : ℝ :=
  e + scale h r * (d k * g k - (h r k * scale h r) * ((∑ l : Fin 1024, d l * g l * (h r l * scale h r)) / 1024))

/-- The reference's gradient of the stream. -/
def outR (d : ℕ → ℝ) (h : ℕ → ℕ → ℝ) (g : ℕ → ℝ) (e : ℝ) (r k : ℕ) : ℝ :=
  e + (d k * g k) * scale h r
    + h r k * ((∑ l : Fin 1024, h r l * (d l * g l)) * (-(1 / 2) * (scale h r * (1 / meansq h r))) / 1024)
    + ((∑ l : Fin 1024, h r l * (d l * g l)) * (-(1 / 2) * (scale h r * (1 / meansq h r))) / 1024) * h r k

theorem out_eq (d : ℕ → ℝ) (h : ℕ → ℕ → ℝ) (g : ℕ → ℝ) (e : ℝ) (r k : ℕ) : outK d h g e r k = outR d h g e r k := by
  unfold outK outR
  rw [scale_sq]
  have hs : ∑ l : Fin 1024, d l * g l * (h r l * scale h r) = scale h r * ∑ l : Fin 1024, h r l * (d l * g l) := by
    rw [Finset.mul_sum]; exact Finset.sum_congr rfl fun l _ => by ring
  rw [hs]; ring

/-- The gain's gradient at column `k`: over the rows of tile `i`. -/
def gainPart (a w h : ℕ → ℕ → ℝ) (k i : ℕ) : ℝ :=
  ∑ r : Fin 1024, dxn a w (i * 1024 + r) k * (h (i * 1024 + r) k * scale h (i * 1024 + r))

/-- A sum over the rows, tile by tile. -/
theorem sum_tiles {n b : ℕ} (f : ℕ → ℝ) : ∑ i ∈ Finset.range n, ∑ r : Fin b, f (i * b + r) = ∑ r : Fin (n * b), f r := by
  rw [Finset.sum_range]
  rw [← finProdFinEquiv.sum_comp (fun r : Fin (n * b) => f r), Fintype.sum_prod_type]
  refine Finset.sum_congr rfl fun i _ => Finset.sum_congr rfl fun r _ => ?_
  congr 1
  simp [finProdFinEquiv]; ring

/-- The gain's gradient over all rows. -/
theorem gain_eq (a w h : ℕ → ℕ → ℝ) (k : ℕ) : ∑ i ∈ Finset.range 4, gainPart a w h k i
    = ∑ r : Fin 4096, (h r k * scale h r) * dxn a w r k := by
  unfold gainPart
  rw [sum_tiles (n := 4) (b := 1024) fun r => dxn a w r k * (h r k * scale h r)]
  exact Finset.sum_congr rfl fun r _ => mul_comm _ _

/-- The product over all columns in the weight's order. -/
theorem dxn_plain (a w : ℕ → ℕ → ℝ) (r k : ℕ) : dxn a w r k
    = ∑ p : Fin 5632, a r ((p.val / 1408 % 2 * 2 + p.val / 2816) * 1408 + p.val % 1408) * w k p := by
  have e := sum_tiles (n := 4) (b := 1408) fun p => a r ((p / 1408 % 2 * 2 + p / 2816) * 1408 + p % 1408) * w k p
  refine Eq.trans ?_ e
  have u : ∀ q, q < 4 → (∑ j : Fin 1408, a r (((q * 1408 + j.val) / 1408 % 2 * 2 + (q * 1408 + j.val) / 2816) * 1408
      + (q * 1408 + j.val) % 1408) * w k (q * 1408 + j.val)) = part a w r k (q % 2 * 2 + q / 2) := fun q hq => by
    unfold part
    refine Finset.sum_congr rfl fun j _ => ?_
    have hj := j.isLt
    congr 2 <;> (try congr 1) <;> omega
  rw [Finset.sum_congr rfl fun q hq => u q (Finset.mem_range.mp hq)]
  unfold dxn
  simp only [Finset.sum_range_succ, Finset.sum_range_zero]
  norm_num
  ring

/-- A matrix of real numbers, as a function of natural numbers. -/
theorem exists_rows {n0 n1 : ℕ} (x : (⟨2, ![n0, n1]⟩ : Shape).Idx → EReal) (h : ∀ i, ∃ r : ℝ, x i = r) :
    ∃ A : ℕ → ℕ → ℝ, ∀ (r : Fin n0) (k : Fin n1), x (ix2 r k) = (A r.val k.val : EReal) := by
  choose f hf using h
  refine ⟨fun r k => if hr : r < n0 then if hk : k < n1 then f (ix2 ⟨r, hr⟩ ⟨k, hk⟩) else 0 else 0, fun r k => ?_⟩
  beta_reduce
  rw [dif_pos r.isLt, dif_pos k.isLt]; exact hf _

/-- A list of real numbers, as a function of natural numbers. -/
theorem exists_list {n : ℕ} (x : (⟨1, ![n]⟩ : Shape).Idx → EReal) (h : ∀ i, ∃ r : ℝ, x i = r) :
    ∃ A : ℕ → ℝ, ∀ k : Fin n, x (ix1 k) = (A k.val : EReal) := by
  choose f hf using h
  refine ⟨fun k => if hk : k < n then f (ix1 ⟨k, hk⟩) else 0, fun k => ?_⟩
  beta_reduce
  rw [dif_pos k.isLt]; exact hf _

end Cert.NrmMath

end
-- ==== Proof.NrmKernel.lean ====
/-
  The kernel of the gradient through the norm: its operands read block by block, and what it stores at an index.
-/
module

public import proofs.«01_k».proof.Proof.Gen.NrmIdeal.Value
public import proofs.«01_k».proof.Proof.NrmMath
public import Idealize.ShloMosaic.Lib.StableHlo.RunRead

@[expose] public section

set_option maxRecDepth 16384

noncomputable section

open Idealize.ShloMosaic Idealize.ShloMosaic.TcCoe Idealize.SL.Sem

namespace Cert.NrmIdeal.Block

open Cert.NrmIdeal Cert.NrmIdeal.Gen Cert.NrmMath Cert.Reals

/-! ## What the body stores -/

theorem pay1 (r k : Fin 1024) : k0_pay1 (F := Ideal) (ix2 r k) = (0 : EReal) := by
  unfold k0_pay1; pointwise

theorem pay2 (v3 : Vec Ideal S1024x1024 .f32) (v4 : Vec Ideal S1024x1408 .bf16) (v5 : Vec Ideal S1x1024x1408 .bf16) (r k : Fin 1024) :
    k0_pay2 (F := Ideal) v3 v4 v5 (ix2 r k) = v3 (ix2 r k) + ∑ j : Fin 1408, v4 (ix2 r j) * v5 (ix3 0 k j) := by
  unfold k0_pay2; pointwise

theorem pay3 (v31 : FVec Ideal S1x1024 .f32) (v53 : Vec Ideal S1x1024 .f32) (k : Fin 1024) :
    k0_pay3 (F := Ideal) v31 v53 (ix2 0 k) = v53 (ix2 0 k) + v31 (ix2 0 k) := by
  unfold k0_pay3; pointwise

theorem pay4 (x : Vec Ideal S1024x1024 .f32) (r : Fin 1024) : k0_pay4 (F := Ideal) x (ix2 r 0)
    = Ideal.rsqrt (Ideal.div (∑ k : Fin 1024, x (ix2 r k) * x (ix2 r k)) (Ideal.ofBits .f32 0x44800000#32)
        + Ideal.ofBits .f32 0x358637BD#32) := by
  unfold k0_pay4; pointwise

theorem pay6 (x d : Vec Ideal S1024x1024 .f32) (k : Fin 1024) : k0_pay6 (F := Ideal) x d (ix2 0 k)
    = ∑ r : Fin 1024, d (ix2 r k) * (x (ix2 r k) * k0_pay4 (F := Ideal) x (ix2 r 0)) := by
  unfold k0_pay6 k0_pay5; pointwise

theorem pay7 (x : Vec Ideal S1024x1024 .f32) (g : Vec Ideal S1x1024 .f32) (d e : Vec Ideal S1024x1024 .f32) (r k : Fin 1024) :
    k0_pay7 (F := Ideal) x g d e (ix2 r k)
      = e (ix2 r k) + k0_pay4 (F := Ideal) x (ix2 r 0) * (d (ix2 r k) * g (ix2 0 k)
          - (x (ix2 r k) * k0_pay4 (F := Ideal) x (ix2 r 0))
            * Ideal.div (∑ l : Fin 1024, d (ix2 r l) * g (ix2 0 l) * (x (ix2 r l) * k0_pay4 (F := Ideal) x (ix2 r 0)))
                (Ideal.ofBits .f32 0x44800000#32)) := by
  unfold k0_pay7 k0_pay5; pointwise

/-! ## The same at real operands -/

/-- The reciprocal root of a row. -/
theorem root (h : ℕ → ℕ → ℝ) (R : ℕ) (x : Vec Ideal S1024x1024 .f32) (r : Fin 1024)
    (hx : ∀ k : Fin 1024, @Eq EReal (x (ix2 r k)) (h R k : ℝ)) :
    k0_pay4 (F := Ideal) x (ix2 r 0) = ((scale h R : ℝ) : EReal) := by
  rw [pay4]
  simp only [hx, ← EReal.coe_mul, ← coe_sum]
  rw [div_width, eps_coe, ← EReal.coe_add]
  exact rsqrt_pos (meansq_pos h R)

/-- The gradient of the stream. -/
theorem stored (d : ℕ → ℝ) (h : ℕ → ℕ → ℝ) (g : ℕ → ℝ) (e' : ℝ) (R : ℕ) (x : Vec Ideal S1024x1024 .f32) (gg : Vec Ideal S1x1024 .f32)
    (dd ee : Vec Ideal S1024x1024 .f32) (r k : Fin 1024)
    (hx : ∀ k : Fin 1024, @Eq EReal (x (ix2 r k)) (h R k : ℝ)) (hg : ∀ k : Fin 1024, @Eq EReal (gg (ix2 0 k)) (g k : ℝ))
    (hd : ∀ k : Fin 1024, @Eq EReal (dd (ix2 r k)) (d k : ℝ)) (he : @Eq EReal (ee (ix2 r k)) (e' : ℝ)) :
    k0_pay7 (F := Ideal) x gg dd ee (ix2 r k) = ((outK d h g e' R k : ℝ) : EReal) := by
  rw [pay7, root h R x r hx]
  simp only [hx, hg, hd, he, ← EReal.coe_mul, ← coe_sum]
  rw [div_width]
  unfold outK
  norm_cast

/-- A tile's share of the gains' gradient. -/
theorem share (d : ℕ → ℕ → ℝ) (h : ℕ → ℕ → ℝ) (R : ℕ) (x dd : Vec Ideal S1024x1024 .f32) (k : Fin 1024)
    (hx : ∀ r k : Fin 1024, @Eq EReal (x (ix2 r k)) (h (R + r.val) k : ℝ))
    (hd : ∀ r k : Fin 1024, @Eq EReal (dd (ix2 r k)) (d (R + r.val) k : ℝ)) :
    k0_pay6 (F := Ideal) x dd (ix2 0 k)
      = ((∑ r : Fin 1024, d (R + r.val) k * (h (R + r.val) k * scale h (R + r.val)) : ℝ) : EReal) := by
  rw [pay6, coe_sum]
  refine Finset.sum_congr rfl fun r _ => ?_
  rw [root h (R + r.val) x r (hx r), hx, hd, EReal.coe_mul, EReal.coe_mul]

/-! ## The operands -/

/-- The windows' block indices at a point: row tile `t / 4`, column block `t % 4`, and the weight's block. -/
theorem idx : ∀ t : Fin cfg0.N, win0_0.index t = ![t.val / 4, t.val % 4] ∧ win0_1.index t = ![t.val % 4 % 2 * 2 + t.val % 4 / 2, 0, 0]
    ∧ win0_2.index t = ![t.val / 4, 0] ∧ win0_3.index t = ![0, 0] ∧ win0_4.index t = ![t.val / 4, 0]
    ∧ win0_5.index t = ![t.val / 4, 0] ∧ win0_6.index t = ![0, 0] :=
  (by decide +kernel : ∀ t : Fin grid0.N, win0_0.index t = ![t.val / 4, t.val % 4]
    ∧ win0_1.index t = ![t.val % 4 % 2 * 2 + t.val % 4 / 2, 0, 0]
    ∧ win0_2.index t = ![t.val / 4, 0] ∧ win0_3.index t = ![0, 0] ∧ win0_4.index t = ![t.val / 4, 0]
    ∧ win0_5.index t = ![t.val / 4, 0] ∧ win0_6.index t = ![0, 0])

variable (m : (ℓ : Loc nD τ sig) → Buf (Elt Ideal) ℓ) (c : Dev nD)

/-- The packed gradient as launched. -/
abbrev A0 : S4096x5632.Idx → EReal := m (c, Proc.devRef .tc main_arg0)
/-- The weight as launched. -/
abbrev A1 : S1024x5632.Idx → EReal := m (c, Proc.devRef .tc main_arg1)
/-- The stream as launched. -/
abbrev A2 : S4096x1024.Idx → EReal := m (c, Proc.devRef .tc main_arg2)
/-- The gains as launched. -/
abbrev A3 : S1024.Idx → EReal := m (c, Proc.devRef .tc main_arg3)
/-- The stream's gradient as launched. -/
abbrev A4 : S4096x1024.Idx → EReal := m (c, Proc.devRef .tc main_arg4)

/-- The weight by column blocks, as the host code prepares it. -/
theorem read_weight : V m c main_v1 = transpose S4x1024x1408 [1, 0, 2] (shapeCast S1024x4x1408 (A1 m c) shapeCasts_S1024x5632_S1024x4x1408)
    transposes_S1024x4x1408_S4x1024x1408_1_0_2 := by
  unfold_abbrev_sides
  after_reads_simp
  rfl

/-- The gains as a row, as the host code prepares them. -/
theorem read_gains : V m c main_v2 = shapeCast S1x1024 (A3 m c) shapeCasts_S1024_S1x1024 := by
  unfold_abbrev_sides
  after_reads_simp
  rfl

theorem weight (q : Fin 4) (k : Fin 1024) (j : Fin 1408) :
    V m c main_v1 (ix3 q k j) = A1 m c (ix2 k ⟨q.val * 1408 + j.val, by omega⟩) := by
  rw [read_weight]; pointwise; blk_ext

theorem gain (k : Fin 1024) : V m c main_v2 (ix2 0 k) = A3 m c (ix1 k) := by
  rw [read_gains]; pointwise

/-- The operands are real numbers. -/
structure Reads (a w h e : ℕ → ℕ → ℝ) (g : ℕ → ℝ) : Prop where
  h0 : ∀ (r : Fin 4096) (p : Fin 5632), A0 m c (ix2 r p) = (a r p : ℝ)
  h1 : ∀ (k : Fin 1024) (p : Fin 5632), A1 m c (ix2 k p) = (w k p : ℝ)
  h2 : ∀ (r : Fin 4096) (k : Fin 1024), A2 m c (ix2 r k) = (h r k : ℝ)
  h3 : ∀ k : Fin 1024, A3 m c (ix1 k) = (g k : ℝ)
  h4 : ∀ (r : Fin 4096) (k : Fin 1024), A4 m c (ix2 r k) = (e r k : ℝ)

variable {m c}
variable {a w h e : ℕ → ℕ → ℝ} {g : ℕ → ℝ}

theorem lt (t : Fin cfg0.N) : t.val < 16 := t.isLt

theorem block0 (H : Reads m c a w h e g) (t : Fin cfg0.N) (r : Fin 1024) (j : Fin 1408) :
    @Eq EReal (iblk m c 0 t (ix2 r j)) (a (t.val / 4 * 1024 + r.val) (t.val % 4 * 1408 + j.val) : ℝ) := by
  have ht := lt t
  refine Eq.trans ?_ (H.h0 ⟨t.val / 4 * 1024 + r.val, by omega⟩ ⟨t.val % 4 * 1408 + j.val, by omega⟩)
  blk_ext [iblk, V, idx t]

theorem block1 (H : Reads m c a w h e g) (t : Fin cfg0.N) (k : Fin 1024) (j : Fin 1408) :
    @Eq EReal (iblk m c 1 t (ix3 0 k j)) (w k ((t.val % 4 % 2 * 2 + t.val % 4 / 2) * 1408 + j.val) : ℝ) := by
  refine Eq.trans ?_ ((weight m c ⟨t.val % 4 % 2 * 2 + t.val % 4 / 2, by omega⟩ k j).trans (H.h1 k _))
  blk_ext [iblk, idx t]

theorem block2 (H : Reads m c a w h e g) (t : Fin cfg0.N) (r k : Fin 1024) :
    @Eq EReal (iblk m c 2 t (ix2 r k)) (h (t.val / 4 * 1024 + r.val) k : ℝ) := by
  have ht := lt t
  refine Eq.trans ?_ (H.h2 ⟨t.val / 4 * 1024 + r.val, by omega⟩ k)
  blk_ext [iblk, V, idx t]

theorem block3 (H : Reads m c a w h e g) (t : Fin cfg0.N) (k : Fin 1024) :
    @Eq EReal (iblk m c 3 t (ix2 0 k)) (g k : ℝ) := by
  refine Eq.trans ?_ ((gain m c k).trans (H.h3 k))
  blk_ext [iblk, idx t]

theorem block4 (H : Reads m c a w h e g) (t : Fin cfg0.N) (r k : Fin 1024) :
    @Eq EReal (iblk m c 4 t (ix2 r k)) (e (t.val / 4 * 1024 + r.val) k : ℝ) := by
  have ht := lt t
  refine Eq.trans ?_ (H.h4 ⟨t.val / 4 * 1024 + r.val, by omega⟩ k)
  blk_ext [iblk, V, idx t]

/-- The product a point adds. -/
theorem added (H : Reads m c a w h e g) (t : Fin cfg0.N) (acc : Vec Ideal S1024x1024 .f32) (r k : Fin 1024) :
    @Eq EReal (k0_pay2 (F := Ideal) acc (iblk m c 0 t) (iblk m c 1 t) (ix2 r k))
      (acc (ix2 r k) + ((part a w (t.val / 4 * 1024 + r.val) k (t.val % 4) : ℝ) : EReal)) := by
  unfold part
  rw [pay2, coe_sum]
  refine congrArg (acc (ix2 r k) + ·) (Finset.sum_congr rfl fun j _ => ?_)
  rw [EReal.coe_mul]
  exact congr (congrArg _ (block0 H t r j)) (block1 H t k j)

end Cert.NrmIdeal.Block

end
-- ==== Proof.NrmState.lean ====
/-
  The kernel of the gradient through the norm after the run: the product summed over the column blocks in the scratch, the
  stream's gradient stored at a tile's last point, and the gains' gradient carried from tile to tile.
-/
module

public import proofs.«01_k».proof.Proof.NrmKernel
public import Idealize.ShloMosaic.Lib.Pipeline.ValueKit

@[expose] public section

set_option maxRecDepth 16384

noncomputable section

open Idealize.ShloMosaic Idealize.ShloMosaic.TcCoe Idealize.SL.Sem

namespace Cert.NrmIdeal.Block

open Cert.NrmIdeal Cert.NrmIdeal.Gen Cert.NrmMath Cert.Reals

variable {m : (ℓ : Loc nD τ sig) → Buf (Elt Ideal) ℓ} {c : Dev nD}
variable {a w h e : ℕ → ℕ → ℝ} {g : ℕ → ℝ}

/-- A tile's first point: the scratch is set to zero before the product is added. -/
theorem scratch_first (H : Reads m c a w h e g) (t : Fin cfg0.N) (h0 : t.val % 4 = 0) (r k : Fin 1024) :
    @Eq EReal ((outsAt0 m c t.val t.isLt).2.2 (ix2 r k)) (0 + ((part a w (t.val / 4 * 1024 + r.val) k (t.val % 4) : ℝ) : EReal)) := by
  rw [outsAt0_A m c t h0 (by omega)]; frame_out
  exact (added H t _ r k).trans (congrArg (· + _) (pay1 r k))

/-- A later point: the product is added to what the point before left. -/
theorem scratch_next (H : Reads m c a w h e g) (t : Fin cfg0.N) (h0 : ¬t.val % 4 = 0) (r k : Fin 1024) :
    @Eq EReal ((outsAt0 m c t.val t.isLt).2.2 (ix2 r k))
      ((outsAt0 m c (t.val - 1) (Nat.lt_of_le_of_lt (Nat.sub_le _ _) t.isLt)).2.2 (ix2 r k)
        + ((part a w (t.val / 4 * 1024 + r.val) k (t.val % 4) : ℝ) : EReal)) := by
  by_cases h1 : t.val % 4 = 3
  · by_cases h2 : t.val < 4
    · rw [outsAt0_C m c t h0 h1 h2 (by omega)]; frame_out
      refine (added H t _ r k).trans (congrArg (fun x : Vec Ideal S1024x1024 .f32 => x (ix2 r k) + _) ?_)
      exact Memref.IsWhole.read_unread _ _
    · rw [outsAt0_D m c t h0 h1 h2 (by omega)]; frame_out
      refine (added H t _ r k).trans (congrArg (fun x : Vec Ideal S1024x1024 .f32 => x (ix2 r k) + _) ?_)
      exact Memref.IsWhole.read_unread _ _
  · rw [outsAt0_B m c t h0 h1]; frame_out
    refine (added H t _ r k).trans (congrArg (fun x : Vec Ideal S1024x1024 .f32 => x (ix2 r k) + _) ?_)
    exact Memref.IsWhole.read_unread _ _

/-- The scratch after a tile's last point: the whole product. -/
theorem scratch (H : Reads m c a w h e g) (t : Fin cfg0.N) (h1 : t.val % 4 = 3) (r k : Fin 1024) :
    @Eq EReal ((outsAt0 m c t.val t.isLt).2.2 (ix2 r k)) (dxn a w (t.val / 4 * 1024 + r.val) k : ℝ) := by
  refine (Pipeline.eq_sum_of_reset_step_divmod (M := EReal) (fun n hn => (outsAt0 m c n hn).2.2 (ix2 r k)) 4 0
    (fun i q => ((part a w (i * 1024 + r.val) k q : ℝ) : EReal)) (fun t h0 => scratch_first H t h0 r k)
    (fun t h0 => scratch_next H t h0 r k) t).trans ?_
  rw [h1, zero_add, ← coe_sum]
  rfl

/-- The stream's gradient at a tile's last point. -/
theorem stream (H : Reads m c a w h e g) (t : Fin cfg0.N) (h1 : t.val % 4 = 3) (r k : Fin 1024) :
    @Eq EReal ((outsAt0 m c t.val t.isLt).1 (ix2 r k))
      (outK (dxn a w (t.val / 4 * 1024 + r.val)) h g (e (t.val / 4 * 1024 + r.val) k) (t.val / 4 * 1024 + r.val) k : ℝ) := by
  have hs := fun k => scratch H t h1 r k
  by_cases h2 : t.val < 4
  · rw [outsAt0_C m c t (by omega) h1 h2 (by omega)] at hs ⊢
    frame_out at hs
    frame_out
    exact stored _ h g _ _ _ _ _ _ r k (block2 H t r) (block3 H t) hs (block4 H t r k)
  · rw [outsAt0_D m c t (by omega) h1 h2 (by omega)] at hs ⊢
    frame_out at hs
    frame_out
    exact stored _ h g _ _ _ _ _ _ r k (block2 H t r) (block3 H t) hs (block4 H t r k)

/-- The gains' gradient at the first tile's last point. -/
theorem gains_first (H : Reads m c a w h e g) (t : Fin cfg0.N) (h1 : t.val % 4 = 3) (h2 : t.val < 4) (k : Fin 1024) :
    @Eq EReal ((outsAt0 m c t.val t.isLt).2.1 (ix2 0 k)) (gainPart a w h k (t.val / 4) : ℝ) := by
  have hs := fun r k => scratch H t h1 r k
  rw [outsAt0_C m c t (by omega) h1 h2 (by omega)] at hs ⊢
  frame_out at hs
  frame_out
  exact share (dxn a w) h _ _ _ k (block2 H t) hs

/-- The gains' gradient at a later tile's last point: what the point before left, and the tile's share. -/
theorem gains_next (H : Reads m c a w h e g) (t : Fin cfg0.N) (h1 : t.val % 4 = 3) (h2 : ¬t.val < 4) (k : Fin 1024) :
    @Eq EReal ((outsAt0 m c t.val t.isLt).2.1 (ix2 0 k))
      ((outsAt0 m c (t.val - 1) (Nat.lt_of_le_of_lt (Nat.sub_le _ _) t.isLt)).2.1 (ix2 0 k)
        + ((gainPart a w h k (t.val / 4) : ℝ) : EReal)) := by
  have hs := fun r k => scratch H t h1 r k
  rw [outsAt0_D m c t (by omega) h1 h2 (by omega)] at hs ⊢
  frame_out at hs
  frame_out
  refine (pay3 _ _ k).trans ?_
  exact congr (congrArg _ rfl) (share (dxn a w) h _ _ _ k (block2 H t) hs)

/-- Between two tiles' last points the gains' gradient stays. -/
theorem gains_kept (t : Fin cfg0.N) (h1 : ¬t.val % 4 = 3) :
    (outsAt0 m c t.val t.isLt).2.1 = (outsAt0 m c (t.val - 1) (Nat.lt_of_le_of_lt (Nat.sub_le _ _) t.isLt)).2.1 := by
  by_cases h0 : t.val % 4 = 0
  · rw [outsAt0_A m c t h0 h1]; rfl
  · rw [outsAt0_B m c t h0 h1]; rfl

/-- The gains' gradient after a tile's last point. -/
theorem gains (H : Reads m c a w h e g) (k : Fin 1024) : ∀ (n : ℕ) (hn : n * 4 + 3 < cfg0.N),
    @Eq EReal ((outsAt0 m c (n * 4 + 3) hn).2.1 (ix2 0 k)) (∑ i ∈ Finset.range (n + 1), gainPart a w h k i : ℝ)
  | 0, hn => by
    refine (gains_first H ⟨3, hn⟩ rfl (by simp only; omega) k).trans ?_
    simp
  | n + 1, hn => by
    have hN : (n + 1) * 4 + 3 < 16 := hn
    have d : (n * 4 + 7) / 4 = n + 1 := by omega
    have e3 := gains_next H ⟨n * 4 + 7, by show _ < 16; omega⟩ (by simp only; omega) (by simp only; omega) k
    have e2 := gains_kept (m := m) (c := c) ⟨n * 4 + 6, by show _ < 16; omega⟩ (by simp only; omega)
    have e1 := gains_kept (m := m) (c := c) ⟨n * 4 + 5, by show _ < 16; omega⟩ (by simp only; omega)
    have e0 := gains_kept (m := m) (c := c) ⟨n * 4 + 4, by show _ < 16; omega⟩ (by simp only; omega)
    have ih := gains H k n (by show _ < 16; omega)
    have ek := congrFun (e2.trans (e1.trans e0)) (ix2 0 k)
    simp only [d] at e3
    have e4 := e3.trans (congrArg (· + _) (ek.trans ih))
    rw [← EReal.coe_add, ← Finset.sum_range_succ] at e4
    have key : ∀ (j : ℕ) (hj : j < cfg0.N), j = n * 4 + 7 → @Eq EReal ((outsAt0 m c j hj).2.1 (ix2 0 k))
        (∑ i ∈ Finset.range (n + 1 + 1), gainPart a w h k i : ℝ) := by
      rintro j hj rfl; exact e4
    exact key _ hn (by omega)

/-- The stream's gradient after the run. -/
theorem final5 (H : Reads m c a w h e g) : (dats m 0 c).arrAt 5 (cfgs 0).N
    = fun i => ((outK (dxn a w (i 0).val) h g (e (i 0).val (i 1).val) (i 0).val (i 1).val : ℝ) : EReal) := by
  refine (dats m 0 c).arrAt_eq_of_covers 5 _ (by decide +kernel) fun t hf y => ?_
  have e0 : ((((cfg0.win 5).blk t).view.emb y) 0 : ℕ) = t.val / 4 * 1024 + (y 0).val := by blk_simp [idx t]
  have e1 : ((((cfg0.win 5).blk t).view.emb y) 1 : ℕ) = (y 1).val := by blk_simp [idx t]
  have h1 : t.val % 4 = 3 := (flush0_5 t).mp hf
  rw [e0, e1]
  blk_simp
  rw [after0_5]
  idx_vars y
  exact stream H t h1 y0 y1

/-- The last point. -/
def last : Fin cfg0.N := ⟨15, by decide⟩

/-- The gains' gradient after the run. -/
theorem final6 (H : Reads m c a w h e g) : (dats m 0 c).arrAt 6 (cfgs 0).N
    = fun i => ((∑ n ∈ Finset.range 4, gainPart a w h (i 1).val n : ℝ) : EReal) := by
  refine (dats m 0 c).arrAt_eq_of_after_last 6 last (by decide +kernel) _ fun j => ?_
  blk_simp
  rw [after0_6]
  idx_vars j
  obtain rfl : j0 = 0 := Subsingleton.elim _ _
  exact gains H j1 3 (by decide)

end Cert.NrmIdeal.Block

end
-- ==== Proof.NrmReference.lean ====
/-
  The reference of the gradient through the norm, read at an index: the differentiated program's two results at real
  operands.
-/
module

public import proofs.«01_k».proof.Proof.Gen.NrmRefIdeal.Run
public import proofs.«01_k».proof.Proof.Gen.NrmRefIdeal.Read
public import Idealize.ShloMosaic.Lib.KernelVsHost
public import proofs.«01_k».proof.Proof.NrmMath

@[expose] public section

set_option maxRecDepth 16384

noncomputable section

open Idealize.ShloMosaic Idealize.ShloMosaic.TcCoe Idealize.SL.Sem

namespace Cert.NrmRefIdeal.Rows

open Cert.NrmRefIdeal Cert.NrmRefIdeal.Gen Cert.NrmRefIdeal.Read Cert.NrmMath Cert.Reals

variable (x0 : (⟨S4096x5632, .bf16⟩ : BufTy).Contents (Elt Ideal)) (x1 : (⟨S1024x5632, .bf16⟩ : BufTy).Contents (Elt Ideal))
  (x2 : (⟨S4096x1024, .f32⟩ : BufTy).Contents (Elt Ideal)) (x3 : (⟨S1024, .f32⟩ : BufTy).Contents (Elt Ideal))
  (x4 : (⟨S4096x1024, .f32⟩ : BufTy).Contents (Elt Ideal))

/-- The gradient in the weight's column order. -/
theorem unpack (r : Fin 4096) (p : Fin 5632) : val_main_v3 x0 (ix2 r p)
    = x0 (ix2 r ⟨(p.val / 1408 % 2 * 2 + p.val / 2816) * 1408 + p.val % 1408, by omega⟩) := by
  rw [val_main_v3_apply, val_main_v2_apply, val_main_v1_apply, val_main_v0_apply]
  simp only [Ideal.extf_def]
  have e1 : (r.val * 5632 + p.val) / 5632 = r.val := by omega
  have e2 : (r.val * 5632 + p.val) / 1408 % 2 = p.val / 1408 % 2 := by omega
  have e3 : (r.val * 5632 + p.val) / 2816 % 2 = p.val / 2816 := by omega
  have e4 : (r.val * 5632 + p.val) % 1408 = p.val % 1408 := by omega
  blk_ext

variable {x0 x1 x2 x3 x4}
variable {a w h e : ℕ → ℕ → ℝ} {g : ℕ → ℝ}

/-- The product with the transposed weight. -/
theorem product (h0 : ∀ (r : Fin 4096) (p : Fin 5632), x0 (ix2 r p) = (a r p : EReal))
    (h1 : ∀ (k : Fin 1024) (p : Fin 5632), x1 (ix2 k p) = (w k p : EReal)) (r : Fin 4096) (k : Fin 1024) :
    val_main_v22 x0 x1 (ix2 r k) = ((dxn a w r k : ℝ) : EReal) := by
  have e : val_main_v22 x0 x1 (ix2 r k) = ∑ p : Fin 5632, val_main_v3 x0 (ix2 r p) * x1 (ix2 k p) := by
    unfold val_main_v22 val_main_v4
    pointwise
  rw [e, dxn_plain, coe_sum]
  refine Finset.sum_congr rfl fun p _ => ?_
  rw [unpack, h0, h1, EReal.coe_mul]

/-- The mean square of a row, plus epsilon. -/
theorem meansquare (h2 : ∀ (r : Fin 4096) (k : Fin 1024), x2 (ix2 r k) = (h r k : EReal)) (r : Fin 4096) :
    val_main_v11 x2 (ix2 r 0) = ((meansq h r : ℝ) : EReal) := by
  have e : val_main_v11 x2 (ix2 r 0) = Ideal.div (∑ k : Fin 1024, x2 (ix2 r k) * x2 (ix2 r k)) (Ideal.ofBits .f32 0x44800000#32)
      + Ideal.ofBits .f32 0x358637BD#32 := by
    unfold val_main_v11 val_main_v10 val_main_v9 val_main_v8 val_main_v7 val_main_v6 val_main_v5 val_main_cst val_main_cst_0 val_main_cst_1
    pointwise
  rw [e]
  simp only [h2, ← EReal.coe_mul, ← coe_sum]
  rw [div_width, eps_coe, ← EReal.coe_add]
  rfl

/-- The reciprocal root. -/
theorem root (h2 : ∀ (r : Fin 4096) (k : Fin 1024), x2 (ix2 r k) = (h r k : EReal)) (r : Fin 4096) :
    val_main_v12 x2 (ix2 r 0) = ((scale h r : ℝ) : EReal) := by
  rw [val_main_v12_apply, meansquare h2]
  exact rsqrt_pos (meansq_pos h r)

/-- The factor of the root's derivative. -/
theorem factor (h2 : ∀ (r : Fin 4096) (k : Fin 1024), x2 (ix2 r k) = (h r k : EReal)) (r : Fin 4096) :
    val_main_v15 x2 (ix2 r 0) = ((-(1 / 2) * (scale h r * (1 / meansq h r)) : ℝ) : EReal) := by
  rw [val_main_v15_apply, val_main_v13_apply, meansquare h2, root h2, val_main_v14_apply, val_main_cst_2_apply]
  show Ideal.ofBits .f32 0xBF000000#32 * Ideal.div _ _ = _
  rw [minus_half_coe, Ideal.div_coe (meansq_pos h r).ne', ← EReal.coe_mul, ← EReal.coe_mul]

/-- The sum over the row that the root's derivative multiplies, over the width. -/
theorem rowsum (h0 : ∀ (r : Fin 4096) (p : Fin 5632), x0 (ix2 r p) = (a r p : EReal))
    (h1 : ∀ (k : Fin 1024) (p : Fin 5632), x1 (ix2 k p) = (w k p : EReal))
    (h2 : ∀ (r : Fin 4096) (k : Fin 1024), x2 (ix2 r k) = (h r k : EReal))
    (h3 : ∀ k : Fin 1024, x3 (ix1 k) = (g k : EReal)) (r : Fin 4096) (k : Fin 1024) :
    val_main_v39 x0 x1 x2 x3 (ix2 r k)
      = (((∑ l : Fin 1024, h r l * (dxn a w r l * g l)) * (-(1 / 2) * (scale h r * (1 / meansq h r))) / 1024 : ℝ) : EReal) := by
  have e : val_main_v39 x0 x1 x2 x3 (ix2 r k)
      = Ideal.div ((∑ l : Fin 1024, x2 (ix2 r l) * (val_main_v22 x0 x1 (ix2 r l) * x3 (ix1 l))) * val_main_v15 x2 (ix2 r 0))
        (Ideal.ofBits .f32 0x44800000#32) := by
    unfold val_main_v39 val_main_v38 val_main_v37 val_main_v36 val_main_v35 val_main_v31 val_main_v30 val_main_v29 val_main_v27
      val_main_v26 val_main_v18 val_main_cst_5 val_main_cst_6 val_main_cst_7
    pointwise
    exact Fin.sum_univ_one _
  rw [e, factor h2]
  simp only [h2, h3, product h0 h1, ← EReal.coe_mul, ← coe_sum]
  exact div_width _

/-- The gradient of the stream. -/
theorem stream (h0 : ∀ (r : Fin 4096) (p : Fin 5632), x0 (ix2 r p) = (a r p : EReal))
    (h1 : ∀ (k : Fin 1024) (p : Fin 5632), x1 (ix2 k p) = (w k p : EReal))
    (h2 : ∀ (r : Fin 4096) (k : Fin 1024), x2 (ix2 r k) = (h r k : EReal))
    (h3 : ∀ k : Fin 1024, x3 (ix1 k) = (g k : EReal))
    (h4 : ∀ (r : Fin 4096) (k : Fin 1024), x4 (ix2 r k) = (e r k : EReal)) (r : Fin 4096) (k : Fin 1024) :
    val_main_v43 x0 x1 x2 x3 x4 (ix2 r k) = ((outR (dxn a w r) h g (e r k) r k : ℝ) : EReal) := by
  have e' : val_main_v43 x0 x1 x2 x3 x4 (ix2 r k)
      = x4 (ix2 r k) + (val_main_v22 x0 x1 (ix2 r k) * x3 (ix1 k)) * val_main_v12 x2 (ix2 r 0)
        + x2 (ix2 r k) * val_main_v39 x0 x1 x2 x3 (ix2 r k) + val_main_v39 x0 x1 x2 x3 (ix2 r k) * x2 (ix2 r k) := by
    unfold val_main_v43 val_main_v42 val_main_v41 val_main_v40 val_main_v34 val_main_v33 val_main_v32 val_main_v27 val_main_v26
      val_main_v18
    pointwise
  rw [e', rowsum h0 h1 h2 h3, product h0 h1, h2, h3, h4, root h2]
  unfold outR
  norm_cast

/-- The gradient of the gains. -/
theorem gains (h0 : ∀ (r : Fin 4096) (p : Fin 5632), x0 (ix2 r p) = (a r p : EReal))
    (h1 : ∀ (k : Fin 1024) (p : Fin 5632), x1 (ix2 k p) = (w k p : EReal))
    (h2 : ∀ (r : Fin 4096) (k : Fin 1024), x2 (ix2 r k) = (h r k : EReal)) (k : Fin 1024) :
    val_main_v44 x0 x1 x2 (ix2 0 k) = ((∑ r : Fin 4096, (h r k * scale h r) * dxn a w r k : ℝ) : EReal) := by
  have e' : val_main_v44 x0 x1 x2 (ix2 0 k)
      = ∑ r : Fin 4096, (x2 (ix2 r k) * val_main_v12 x2 (ix2 r 0)) * val_main_v22 x0 x1 (ix2 r k) := by
    unfold val_main_v44 val_main_v28 val_main_v25 val_main_v24 val_main_v23 val_main_v17 val_main_v16 val_main_cst_3 val_main_cst_4
    pointwise
    exact Fin.sum_univ_one _
  rw [e']
  simp only [h2, root h2, product h0 h1, ← EReal.coe_mul, ← coe_sum]

end Cert.NrmRefIdeal.Rows

end
-- ==== Proof.NrmClaims.lean ====
/-
  The claims about the gradient through the norm.
-/
module

public import proofs.«01_k».proof.Defs
public import proofs.«01_k».proof.Proof.Gen.Nrm.Frame
public import proofs.«01_k».proof.Proof.Gen.NrmIdeal.Frame
public import proofs.«01_k».proof.Proof.Gen.Pre_finite_nrm
public import proofs.«01_k».proof.Proof.NrmState
public import proofs.«01_k».proof.Proof.NrmReference
public import Idealize.ShloMosaic.Lib.Quiescent

@[expose] public section

set_option maxRecDepth 16384

noncomputable section

open Idealize.ShloMosaic Idealize.ShloMosaic.TcCoe Idealize.SL.Sem

namespace Cert.NrmClaims

open Cert.NrmIdeal Cert.NrmIdeal.Gen Cert.NrmIdeal.Block Cert.NrmMath

/-- At real operands the two output arrays are the reference's results. -/
theorem arrays (m : (ℓ : Loc nD τ sig) → Buf (Elt Ideal) ℓ) (c : Dev nD)
    (h0 : ∀ i, ∃ r : ℝ, A0 m c i = r) (h1 : ∀ i, ∃ r : ℝ, A1 m c i = r) (h2 : ∀ i, ∃ r : ℝ, A2 m c i = r)
    (h3 : ∀ i, ∃ r : ℝ, A3 m c i = r) (h4 : ∀ i, ∃ r : ℝ, A4 m c i = r) :
    (dats m 0 c).arrAt 5 (cfgs 0).N
        = Cert.NrmRefIdeal.Read.val_main_v43 (F := Ideal) (A0 m c) (A1 m c) (A2 m c) (A3 m c) (A4 m c)
      ∧ (dats m 0 c).arrAt 6 (cfgs 0).N = Cert.NrmRefIdeal.Read.val_main_v44 (F := Ideal) (A0 m c) (A1 m c) (A2 m c) := by
  obtain ⟨a, ha⟩ := exists_rows (n0 := 4096) (n1 := 5632) _ h0
  obtain ⟨w, hw⟩ := exists_rows (n0 := 1024) (n1 := 5632) _ h1
  obtain ⟨h, hh⟩ := exists_rows (n0 := 4096) (n1 := 1024) _ h2
  obtain ⟨g, hg⟩ := exists_list (n := 1024) _ h3
  obtain ⟨e, he⟩ := exists_rows (n0 := 4096) (n1 := 1024) _ h4
  have H : Reads m c a w h e g := ⟨ha, hw, hh, hg, he⟩
  constructor
  · refine (final5 H).trans (funext fun i => ?_)
    idx_vars i
    refine Eq.trans ?_ (Cert.NrmRefIdeal.Rows.stream ha hw hh hg he i0 i1).symm
    exact congrArg _ (out_eq _ _ _ _ _ _)
  · refine (final6 H).trans (funext fun i => ?_)
    idx_vars i
    obtain rfl : i0 = 0 := Subsingleton.elim _ _
    refine Eq.trans ?_ (Cert.NrmRefIdeal.Rows.gains ha hw hh i1).symm
    exact congrArg _ (gain_eq _ _ _ _)

theorem frame : Cert.quiescent_Nrm := fun m ρ _ => Cert.Nrm.Gen.frame m ρ
theorem frameIdeal : Cert.quiescent_NrmIdeal := fun m ρ _ => Cert.NrmIdeal.Gen.frame m ρ
theorem frameIdealPre : Cert.quiescent_NrmIdeal_pre_finite_nrm := fun m ρ _ => Cert.NrmIdeal.Gen.frame m ρ
theorem frameRef : Cert.quiescent_NrmRefIdeal := fun m ρ _ =>
  (θ_run Cert.NrmRefIdeal.defs _ _).mono (fun r h => ⟨fun c => (h c).2.2, sem_eq_zero_of_no_sems (by decide) r.2⟩)
    (Cert.NrmRefIdeal.Value.run (F := Ideal) m ρ)
theorem frameRefPre : Cert.quiescent_NrmRefIdeal_pre_finite_nrm := fun m ρ _ => frameRef m ρ trivial
theorem preserves : Cert.preserves_Nrm_NrmIdeal := trivial

/-- A function of equal arguments. -/
theorem congr_three {α β γ δ : Type} (f : α → β → γ → δ) {a a' : α} {b b' : β} {c c' : γ}
    (ha : a = a') (hb : b = b') (hc : c = c') : f a b c = f a' b' c' := by
  subst ha hb hc; rfl

/-- A function of equal arguments. -/
theorem congr_five {α β γ δ ε ζ : Type} (f : α → β → γ → δ → ε → ζ) {a a' : α} {b b' : β} {c c' : γ} {d d' : δ} {e e' : ε}
    (ha : a = a') (hb : b = b') (hc : c = c') (hd : d = d') (he : e = e') : f a b c d e = f a' b' c' d' e' := by
  subst ha hb hc hd he; rfl

set_option maxHeartbeats 8000000 in
/-- The call computes the reference's gradients. -/
theorem algebraic : Cert.algebraic_NrmIdeal_NrmRefIdeal_pre_finite_nrm := fun m ρ m' ρ' hpre hag => by
  have R := fun c : Dev nD => arrays m c
    (fun j => Cert.Reals.real_of_lt (congrFun (hpre c).1 j))
    (fun j => Cert.Reals.real_of_lt (congrFun (hpre c).2.1 j))
    (fun j => Cert.Reals.real_of_lt (congrFun (hpre c).2.2.1 j))
    (fun j => Cert.Reals.real_of_lt (congrFun (hpre c).2.2.2.1 j))
    (fun j => Cert.Reals.real_of_lt (congrFun (hpre c).2.2.2.2 j))
  refine ⟨fun c => (dats m 0 c).arrAt 5 cfg0.N, fun c => (dats m 0 c).arrAt 6 cfg0.N,
    Cert.NrmIdeal.Value.run_blocks m ρ,
    (θ_run _ _ _).mono (fun _ h c => ⟨(h c).1.trans ?_, (h c).2.1.trans ?_, (h c).2.2⟩)
      (Cert.NrmRefIdeal.Value.run (F := Ideal) m' ρ')⟩
  · exact (Cert.NrmRefIdeal.Read.val_main_v43_eq (F := Ideal) m' c).trans
      ((congr_five (Cert.NrmRefIdeal.Read.val_main_v43 (F := Ideal)) (hag c).1 (hag c).2.1 (hag c).2.2.1 (hag c).2.2.2.1 (hag c).2.2.2.2).trans (R c).1.symm)
  · exact (Cert.NrmRefIdeal.Read.val_main_v44_eq (F := Ideal) _ _ _).trans
      ((congr_three (Cert.NrmRefIdeal.Read.val_main_v44 (F := Ideal)) (hag c).1 (hag c).2.1 (hag c).2.2.1).trans (R c).2.symm)

end Cert.NrmClaims

end
-- ==== Proof.WgtMath.lean ====
/-
  Sums of products as the weight-gradient calls form them: over two tiles of rows, and with a factor one half taken in.
-/
module

public import proofs.«01_k».proof.Proof.Reals

@[expose] public section

set_option maxRecDepth 16384

noncomputable section

open Idealize.ShloMosaic Idealize.ShloMosaic.TcCoe Idealize.SL.Sem

namespace Cert.WgtMath

/-- A matrix, as a function of natural numbers. -/
def rows {n0 n1 : ℕ} (x : (⟨2, ![n0, n1]⟩ : Shape).Idx → EReal) (r k : ℕ) : EReal :=
  if hr : r < n0 then if hk : k < n1 then x (ix2 ⟨r, hr⟩ ⟨k, hk⟩) else 0 else 0

theorem rows_apply {n0 n1 : ℕ} (x : (⟨2, ![n0, n1]⟩ : Shape).Idx → EReal) (r : Fin n0) (k : Fin n1) :
    x (ix2 r k) = rows x r.val k.val := by
  unfold rows
  rw [dif_pos r.isLt, dif_pos k.isLt]

/-- A sum over the rows, tile by tile. -/
theorem sum_tiles {n b : ℕ} (f : ℕ → EReal) : ∑ i ∈ Finset.range n, ∑ r : Fin b, f (i * b + r) = ∑ r : Fin (n * b), f r := by
  rw [Finset.sum_range]
  rw [← finProdFinEquiv.sum_comp (fun r : Fin (n * b) => f r), Fintype.sum_prod_type]
  refine Finset.sum_congr rfl fun i _ => Finset.sum_congr rfl fun r _ => ?_
  congr 1
  simp [finProdFinEquiv]; ring

/-- One tile's share of the product: 2048 rows. -/
def part (a b : ℕ → ℕ → EReal) (k l i : ℕ) : EReal := ∑ r : Fin 2048, a (i * 2048 + r) k * b (i * 2048 + r) l

/-- Both tiles: all rows. -/
theorem part_sum (a b : ℕ → ℕ → EReal) (k l : ℕ) :
    ∑ i ∈ Finset.range 2, part a b k l i = ∑ r : Fin 4096, a r k * b r l :=
  sum_tiles (n := 2) (b := 2048) fun r => a r k * b r l

theorem half_coe : Ideal.ofBits .f32 0x3F000000#32 = (((1 / 2 : ℝ)) : EReal) := by
  simp [Ideal.ofBits, Ideal.ieee, -EReal.coe_mul]; norm_num

/-- One half goes into a sum. -/
theorem half_sum {n : ℕ} (f : Fin n → EReal) : (∑ r, f r) * Ideal.ofBits .f32 0x3F000000#32
    = ∑ r, Ideal.ofBits .f32 0x3F000000#32 * f r := by
  rw [half_coe, mul_comm]
  have h : ∀ s : Finset (Fin n), ((1 / 2 : ℝ) : EReal) * ∑ r ∈ s, f r = ∑ r ∈ s, ((1 / 2 : ℝ) : EReal) * f r := by
    intro s
    induction s using Finset.induction_on with
    | empty => simp
    | insert a s ha ih =>
      rw [Finset.sum_insert ha, Finset.sum_insert ha, EReal.left_distrib_of_nonneg_of_ne_top _ (EReal.coe_ne_top _), ih]
      exact EReal.coe_nonneg.mpr (by norm_num)
  exact h _

end Cert.WgtMath

end
-- ==== Proof.WinKernel.lean ====
/-
  The gradient of swiglu's first matrix: the kernel's product summed over two tiles of rows in the scratch, and the array
  after the run.
-/
module

public import proofs.«01_k».proof.Proof.Gen.DwinIdeal.Value
public import proofs.«01_k».proof.Proof.WgtMath
public import Idealize.ShloMosaic.Lib.Pipeline.ValueKit

@[expose] public section

set_option maxRecDepth 16384

noncomputable section

open Idealize.ShloMosaic Idealize.ShloMosaic.TcCoe Idealize.SL.Sem

namespace Cert.DwinIdeal.Block

open Cert.DwinIdeal Cert.DwinIdeal.Gen Cert.WgtMath

theorem pay1 (k : Fin 1024) (l : Fin 1408) : k0_pay1 (F := Ideal) (ix2 k l) = (0 : EReal) := by
  unfold k0_pay1; pointwise

theorem pay2 (v3 : Vec Ideal S1024x1408 .f32) (v4 : Vec Ideal S2048x1024 .bf16) (v5 : Vec Ideal S2048x1408 .bf16)
    (k : Fin 1024) (l : Fin 1408) :
    k0_pay2 (F := Ideal) v3 v4 v5 (ix2 k l) = v3 (ix2 k l) + ∑ r : Fin 2048, v4 (ix2 r k) * v5 (ix2 r l) := by
  unfold k0_pay2; pointwise

theorem pay3 (v : Vec Ideal S1024x1408 .f32) (k : Fin 1024) (l : Fin 1408) :
    k0_pay3 (F := Ideal) v (ix3 0 k l) = v (ix2 k l) := by
  unfold k0_pay3; pointwise

/-- The windows' block indices at a point: row tile `t % 2`, column block `t / 2`, and the place of the block stored. -/
theorem idx : ∀ t : Fin cfg0.N, win0_0.index t = ![t.val % 2, 0] ∧ win0_1.index t = ![t.val % 2, t.val / 2]
    ∧ win0_2.index t = ![t.val / 2 % 2 * 2 + t.val / 2 / 2, 0, 0] :=
  (by decide +kernel : ∀ t : Fin grid0.N, win0_0.index t = ![t.val % 2, 0] ∧ win0_1.index t = ![t.val % 2, t.val / 2]
    ∧ win0_2.index t = ![t.val / 2 % 2 * 2 + t.val / 2 / 2, 0, 0])

variable (m : (ℓ : Loc nD τ sig) → Buf (Elt Ideal) ℓ) (c : Dev nD)

/-- The normalised stream as launched. -/
abbrev A0 : S4096x1024.Idx → EReal := m (c, Proc.devRef .tc main_arg0)
/-- The packed gradient as launched. -/
abbrev A1 : S4096x5632.Idx → EReal := m (c, Proc.devRef .tc main_arg1)

theorem lt (t : Fin cfg0.N) : t.val < 8 := t.isLt

theorem block0 (t : Fin cfg0.N) (r : Fin 2048) (k : Fin 1024) :
    @Eq EReal (iblk m c 0 t (ix2 r k)) (rows (A0 m c) (t.val % 2 * 2048 + r.val) k.val) := by
  refine Eq.trans ?_ (rows_apply (A0 m c) ⟨t.val % 2 * 2048 + r.val, by omega⟩ k)
  blk_ext [iblk, V, idx t]

theorem block1 (t : Fin cfg0.N) (r : Fin 2048) (l : Fin 1408) :
    @Eq EReal (iblk m c 1 t (ix2 r l)) (rows (A1 m c) (t.val % 2 * 2048 + r.val) (t.val / 2 * 1408 + l.val)) := by
  have ht := lt t
  refine Eq.trans ?_ (rows_apply (A1 m c) ⟨t.val % 2 * 2048 + r.val, by omega⟩ ⟨t.val / 2 * 1408 + l.val, by omega⟩)
  blk_ext [iblk, V, idx t]

/-- The product a point adds. -/
theorem added (t : Fin cfg0.N) (acc : Vec Ideal S1024x1408 .f32) (k : Fin 1024) (l : Fin 1408) :
    @Eq EReal (k0_pay2 (F := Ideal) acc (iblk m c 0 t) (iblk m c 1 t) (ix2 k l))
      (acc (ix2 k l) + part (rows (A0 m c)) (rows (A1 m c)) k.val (t.val / 2 * 1408 + l.val) (t.val % 2)) := by
  unfold part
  rw [pay2]
  refine congrArg (acc (ix2 k l) + ·) (Finset.sum_congr rfl fun r _ => ?_)
  exact congr (congrArg _ (block0 m c t r k)) (block1 m c t r l)

/-- A column block's first point: the scratch is set to zero before the product is added. -/
theorem scratch_first (t : Fin cfg0.N) (h0 : t.val % 2 = 0) (k : Fin 1024) (l : Fin 1408) :
    @Eq EReal ((outsAt0 m c t.val t.isLt).2 (ix2 k l))
      (0 + part (rows (A0 m c)) (rows (A1 m c)) k.val (t.val / 2 * 1408 + l.val) (t.val % 2)) := by
  rw [outsAt0_A m c t h0 (by omega)]; frame_out
  exact (added m c t _ k l).trans (congrArg (· + _) (pay1 k l))

/-- The second point: the product is added to what the first left. -/
theorem scratch_next (t : Fin cfg0.N) (h0 : ¬t.val % 2 = 0) (k : Fin 1024) (l : Fin 1408) :
    @Eq EReal ((outsAt0 m c t.val t.isLt).2 (ix2 k l))
      ((outsAt0 m c (t.val - 1) (Nat.lt_of_le_of_lt (Nat.sub_le _ _) t.isLt)).2 (ix2 k l)
        + part (rows (A0 m c)) (rows (A1 m c)) k.val (t.val / 2 * 1408 + l.val) (t.val % 2)) := by
  rw [outsAt0_B m c t h0 (by omega)]; frame_out
  refine (added m c t _ k l).trans (congrArg (fun x : Vec Ideal S1024x1408 .f32 => x (ix2 k l) + _) ?_)
  exact Memref.IsWhole.read_unread _ _

/-- The scratch after a column block's second point: the whole product. -/
theorem scratch (t : Fin cfg0.N) (h1 : t.val % 2 = 1) (k : Fin 1024) (l : Fin 1408) :
    @Eq EReal ((outsAt0 m c t.val t.isLt).2 (ix2 k l))
      (∑ r : Fin 4096, rows (A0 m c) r k * rows (A1 m c) r (t.val / 2 * 1408 + l.val)) := by
  refine (Pipeline.eq_sum_of_reset_step_divmod (M := EReal) (fun n hn => (outsAt0 m c n hn).2 (ix2 k l)) 2 0
    (fun i q => part (rows (A0 m c)) (rows (A1 m c)) k.val (i * 1408 + l.val) q) (fun t h0 => scratch_first m c t h0 k l)
    (fun t h0 => scratch_next m c t h0 k l) t).trans ?_
  rw [h1, zero_add]
  exact part_sum _ _ _ _

/-- What the second point stores. -/
theorem stored (t : Fin cfg0.N) (h1 : t.val % 2 = 1) (k : Fin 1024) (l : Fin 1408) :
    @Eq EReal ((outsAt0 m c t.val t.isLt).1 (ix3 0 k l))
      (∑ r : Fin 4096, rows (A0 m c) r k * rows (A1 m c) r (t.val / 2 * 1408 + l.val)) := by
  have hs := scratch m c t h1 k l
  rw [outsAt0_B m c t (by omega) h1] at hs ⊢
  frame_out at hs
  frame_out
  exact (pay3 _ k l).trans hs

/-- The array after the run. -/
theorem final : (dats m 0 c).arrAt 2 (cfgs 0).N = fun i => ∑ r : Fin 4096,
    rows (A0 m c) r (i 1).val * rows (A1 m c) r (((i 0).val % 2 * 2 + (i 0).val / 2) * 1408 + (i 2).val) := by
  refine (dats m 0 c).arrAt_eq_of_covers 2 _ (by decide +kernel) fun t hf y => ?_
  have e0 : ((((cfg0.win 2).blk t).view.emb y) 0 : ℕ) = t.val / 2 % 2 * 2 + t.val / 2 / 2 := by blk_simp [idx t]
  have e1 : ((((cfg0.win 2).blk t).view.emb y) 1 : ℕ) = (y 1).val := by blk_simp [idx t]
  have e2 : ((((cfg0.win 2).blk t).view.emb y) 2 : ℕ) = (y 2).val := by blk_simp [idx t]
  have h1 : t.val % 2 = 1 := (flush0_2 t).mp hf
  have ht := lt t
  rw [e0, e1, e2]
  have e3 : (t.val / 2 % 2 * 2 + t.val / 2 / 2) % 2 * 2 + (t.val / 2 % 2 * 2 + t.val / 2 / 2) / 2 = t.val / 2 := by omega
  rw [e3]
  blk_simp
  rw [after0_2]
  idx_vars y
  obtain rfl : y0 = 0 := Subsingleton.elim _ _
  exact stored m c t h1 y1 y2

end Cert.DwinIdeal.Block

end
-- ==== Proof.WinClaims.lean ====
/-
  The claims about the gradient of swiglu's first matrix.
-/
module

public import proofs.«01_k».proof.Defs
public import proofs.«01_k».proof.Proof.Gen.Dwin.Frame
public import proofs.«01_k».proof.Proof.Gen.DwinIdeal.Frame
public import proofs.«01_k».proof.Proof.Gen.DwinRefIdeal.Run
public import proofs.«01_k».proof.Proof.Gen.DwinRefIdeal.Read
public import proofs.«01_k».proof.Proof.WinKernel
public import Idealize.ShloMosaic.Lib.KernelVsHost
public import Idealize.ShloMosaic.Lib.Quiescent

@[expose] public section

set_option maxRecDepth 16384

noncomputable section

open Idealize.ShloMosaic Idealize.ShloMosaic.TcCoe Idealize.SL.Sem

namespace Cert.DwinRefIdeal.Rows

open Cert.DwinRefIdeal Cert.DwinRefIdeal.Gen Cert.DwinRefIdeal.Read Cert.WgtMath

variable (x0 : (⟨S4096x1024, .bf16⟩ : BufTy).Contents (Elt Ideal)) (x1 : (⟨S4096x5632, .bf16⟩ : BufTy).Contents (Elt Ideal))

/-- The gradient in the weight's column order. -/
theorem unpack (r : Fin 4096) (p : Fin 5632) : val_main_v3 x1 (ix2 r p)
    = x1 (ix2 r ⟨(p.val / 1408 % 2 * 2 + p.val / 2816) * 1408 + p.val % 1408, by omega⟩) := by
  rw [val_main_v3_apply, val_main_v2_apply, val_main_v1_apply, val_main_v0_apply]
  simp only [Ideal.extf_def]
  have e1 : (r.val * 5632 + p.val) / 5632 = r.val := by omega
  have e2 : (r.val * 5632 + p.val) / 1408 % 2 = p.val / 1408 % 2 := by omega
  have e3 : (r.val * 5632 + p.val) / 2816 % 2 = p.val / 2816 := by omega
  have e4 : (r.val * 5632 + p.val) % 1408 = p.val % 1408 := by omega
  blk_ext

/-- The matrix's gradient before it is cut into the devices' blocks. -/
theorem whole (k : Fin 1024) (p : Fin 5632) : val_main_v8 x0 x1 (ix2 k p)
    = ∑ r : Fin 4096, val_main_v3 x1 (ix2 r p) * x0 (ix2 r k) := by
  unfold val_main_v8 val_main_v7 val_main_v5
  pointwise

/-- The reference's result at an index. -/
theorem result (q : Fin 4) (k : Fin 1024) (l : Fin 1408) : val_main_v11 x0 x1 (ix3 q k l)
    = ∑ r : Fin 4096, rows x0 r k * rows x1 r ((q.val % 2 * 2 + q.val / 2) * 1408 + l.val) := by
  have e : val_main_v11 x0 x1 (ix3 q k l) = val_main_v8 x0 x1 (ix2 k ⟨q.val * 1408 + l.val, by omega⟩) := by
    rw [val_main_v11_apply, val_main_v10_apply, val_main_v9_apply]
    simp only [Ideal.truncf_def]
    have e1 : ((k.val * 4 + q.val) * 1408 + l.val) / 5632 = k.val := by omega
    have e2 : ((k.val * 4 + q.val) * 1408 + l.val) % 5632 = q.val * 1408 + l.val := by omega
    blk_ext
  rw [e, whole]
  refine Finset.sum_congr rfl fun r _ => ?_
  rw [unpack, rows_apply x0, rows_apply x1, mul_comm]
  have e3 : (q.val * 1408 + l.val) / 1408 % 2 * 2 + (q.val * 1408 + l.val) / 2816 = q.val % 2 * 2 + q.val / 2 := by omega
  have e4 : (q.val * 1408 + l.val) % 1408 = l.val := by omega
  simp only [e3, e4]

end Cert.DwinRefIdeal.Rows

namespace Cert.DwinClaims

open Cert.DwinIdeal Cert.DwinIdeal.Gen Cert.DwinIdeal.Block

/-- The output array is the reference's result. -/
theorem array (m : (ℓ : Loc nD τ sig) → Buf (Elt Ideal) ℓ) (c : Dev nD) :
    (dats m 0 c).arrAt 2 (cfgs 0).N = Cert.DwinRefIdeal.Read.val_main_v11 (F := Ideal) (A0 m c) (A1 m c) := by
  refine (final m c).trans (funext fun i => ?_)
  idx_vars i
  exact (Cert.DwinRefIdeal.Rows.result (A0 m c) (A1 m c) i0 i1 i2).symm

theorem frame : Cert.quiescent_Dwin := fun m ρ _ => Cert.Dwin.Gen.frame m ρ
theorem frameIdeal : Cert.quiescent_DwinIdeal := fun m ρ _ => Cert.DwinIdeal.Gen.frame m ρ
theorem frameRef : Cert.quiescent_DwinRefIdeal := fun m ρ _ =>
  (θ_run Cert.DwinRefIdeal.defs _ _).mono (fun r h => ⟨fun c => (h c).2, sem_eq_zero_of_no_sems (by decide) r.2⟩)
    (Cert.DwinRefIdeal.Value.run (F := Ideal) m ρ)
theorem preserves : Cert.preserves_Dwin_DwinIdeal := trivial

/-- A function of equal arguments. -/
theorem congr_two {α β γ : Type} (f : α → β → γ) {a a' : α} {b b' : β} (ha : a = a') (hb : b = b') : f a b = f a' b' := by
  subst ha hb; rfl

set_option maxHeartbeats 8000000 in
/-- The call computes the reference's gradient. -/
theorem algebraic : Cert.algebraic_DwinIdeal_DwinRefIdeal := fun m ρ m' ρ' _ hag => by
  refine ⟨fun c => (dats m 0 c).arrAt 2 cfg0.N, Cert.DwinIdeal.Value.run_blocks m ρ,
    (θ_run _ _ _).mono (fun _ h c => ⟨(h c).1.trans ?_, (h c).2⟩) (Cert.DwinRefIdeal.Value.run (F := Ideal) m' ρ')⟩
  exact (Cert.DwinRefIdeal.Read.val_main_v11_eq (F := Ideal) _ _).trans
    ((congr_two (Cert.DwinRefIdeal.Read.val_main_v11 (F := Ideal)) (hag c).1 (hag c).2).trans (array m c).symm)

end Cert.DwinClaims

end
-- ==== Proof.WoutKernel.lean ====
/-
  The gradient of swiglu's second matrix: the kernel's product summed over two tiles of rows in the scratch, and the array
  after the run.
-/
module

public import proofs.«01_k».proof.Proof.Gen.DwoutIdeal.Value
public import proofs.«01_k».proof.Proof.WgtMath
public import Idealize.ShloMosaic.Lib.Pipeline.ValueKit

@[expose] public section

set_option maxRecDepth 16384

noncomputable section

open Idealize.ShloMosaic Idealize.ShloMosaic.TcCoe Idealize.SL.Sem

namespace Cert.DwoutIdeal.Block

open Cert.DwoutIdeal Cert.DwoutIdeal.Gen Cert.WgtMath

theorem pay1 (k : Fin 1408) (l : Fin 1024) : k0_pay1 (F := Ideal) (ix2 k l) = (0 : EReal) := by
  unfold k0_pay1; pointwise

theorem pay2 (v3 : Vec Ideal S1408x1024 .f32) (v4 : Vec Ideal S2048x1408 .bf16) (v5 : Vec Ideal S2048x1024 .f32)
    (k : Fin 1408) (l : Fin 1024) :
    k0_pay2 (F := Ideal) v3 v4 v5 (ix2 k l) = v3 (ix2 k l) + ∑ r : Fin 2048, v4 (ix2 r k) * v5 (ix2 r l) := by
  unfold k0_pay2; pointwise

theorem pay3 (v : Vec Ideal S1408x1024 .f32) (q : Fin 2) (f : Fin 704) (l : Fin 1024) :
    k0_pay3 (F := Ideal) v (ix3 q f l) = v (ix2 ⟨q.val * 704 + f.val, by omega⟩ l) * Ideal.ofBits .f32 0x3F000000#32 := by
  unfold k0_pay3; pointwise; blk_ext

/-- The windows' block indices at a point: row tile `t % 2` and column block `t / 2` of the hidden columns. -/
theorem idx : ∀ t : Fin cfg0.N, win0_0.index t = ![t.val % 2, t.val / 2] ∧ win0_1.index t = ![t.val % 2, 0]
    ∧ win0_2.index t = ![t.val / 2, 0, 0] :=
  (by decide +kernel : ∀ t : Fin grid0.N, win0_0.index t = ![t.val % 2, t.val / 2] ∧ win0_1.index t = ![t.val % 2, 0]
    ∧ win0_2.index t = ![t.val / 2, 0, 0])

variable (m : (ℓ : Loc nD τ sig) → Buf (Elt Ideal) ℓ) (c : Dev nD)

/-- The hidden columns as launched. -/
abbrev A0 : S4096x2816.Idx → EReal := m (c, Proc.devRef .tc main_arg0)
/-- The stream's gradient as launched. -/
abbrev A1 : S4096x1024.Idx → EReal := m (c, Proc.devRef .tc main_arg1)

theorem lt (t : Fin cfg0.N) : t.val < 4 := t.isLt

theorem block0 (t : Fin cfg0.N) (r : Fin 2048) (k : Fin 1408) :
    @Eq EReal (iblk m c 0 t (ix2 r k)) (rows (A0 m c) (t.val % 2 * 2048 + r.val) (t.val / 2 * 1408 + k.val)) := by
  have ht := lt t
  refine Eq.trans ?_ (rows_apply (A0 m c) ⟨t.val % 2 * 2048 + r.val, by omega⟩ ⟨t.val / 2 * 1408 + k.val, by omega⟩)
  blk_ext [iblk, V, idx t]

theorem block1 (t : Fin cfg0.N) (r : Fin 2048) (l : Fin 1024) :
    @Eq EReal (iblk m c 1 t (ix2 r l)) (rows (A1 m c) (t.val % 2 * 2048 + r.val) l.val) := by
  refine Eq.trans ?_ (rows_apply (A1 m c) ⟨t.val % 2 * 2048 + r.val, by omega⟩ l)
  blk_ext [iblk, V, idx t]

/-- The product a point adds. -/
theorem added (t : Fin cfg0.N) (acc : Vec Ideal S1408x1024 .f32) (k : Fin 1408) (l : Fin 1024) :
    @Eq EReal (k0_pay2 (F := Ideal) acc (iblk m c 0 t) (iblk m c 1 t) (ix2 k l))
      (acc (ix2 k l) + part (rows (A0 m c)) (rows (A1 m c)) (t.val / 2 * 1408 + k.val) l.val (t.val % 2)) := by
  unfold part
  rw [pay2]
  refine congrArg (acc (ix2 k l) + ·) (Finset.sum_congr rfl fun r _ => ?_)
  exact congr (congrArg _ (block0 m c t r k)) (block1 m c t r l)

/-- A column block's first point: the scratch is set to zero before the product is added. -/
theorem scratch_first (t : Fin cfg0.N) (h0 : t.val % 2 = 0) (k : Fin 1408) (l : Fin 1024) :
    @Eq EReal ((outsAt0 m c t.val t.isLt).2 (ix2 k l))
      (0 + part (rows (A0 m c)) (rows (A1 m c)) (t.val / 2 * 1408 + k.val) l.val (t.val % 2)) := by
  rw [outsAt0_A m c t h0 (by omega)]; frame_out
  exact (added m c t _ k l).trans (congrArg (· + _) (pay1 k l))

/-- The second point: the product is added to what the first left. -/
theorem scratch_next (t : Fin cfg0.N) (h0 : ¬t.val % 2 = 0) (k : Fin 1408) (l : Fin 1024) :
    @Eq EReal ((outsAt0 m c t.val t.isLt).2 (ix2 k l))
      ((outsAt0 m c (t.val - 1) (Nat.lt_of_le_of_lt (Nat.sub_le _ _) t.isLt)).2 (ix2 k l)
        + part (rows (A0 m c)) (rows (A1 m c)) (t.val / 2 * 1408 + k.val) l.val (t.val % 2)) := by
  rw [outsAt0_B m c t h0 (by omega)]; frame_out
  refine (added m c t _ k l).trans (congrArg (fun x : Vec Ideal S1408x1024 .f32 => x (ix2 k l) + _) ?_)
  exact Memref.IsWhole.read_unread _ _

/-- The scratch after a column block's second point: the whole product. -/
theorem scratch (t : Fin cfg0.N) (h1 : t.val % 2 = 1) (k : Fin 1408) (l : Fin 1024) :
    @Eq EReal ((outsAt0 m c t.val t.isLt).2 (ix2 k l))
      (∑ r : Fin 4096, rows (A0 m c) r (t.val / 2 * 1408 + k.val) * rows (A1 m c) r l.val) := by
  refine (Pipeline.eq_sum_of_reset_step_divmod (M := EReal) (fun n hn => (outsAt0 m c n hn).2 (ix2 k l)) 2 0
    (fun i q => part (rows (A0 m c)) (rows (A1 m c)) (i * 1408 + k.val) l.val q) (fun t h0 => scratch_first m c t h0 k l)
    (fun t h0 => scratch_next m c t h0 k l) t).trans ?_
  rw [h1, zero_add]
  exact part_sum _ _ _ _

/-- What the second point stores. -/
theorem stored (t : Fin cfg0.N) (h1 : t.val % 2 = 1) (q : Fin 2) (f : Fin 704) (l : Fin 1024) :
    @Eq EReal ((outsAt0 m c t.val t.isLt).1 (ix3 q f l))
      ((∑ r : Fin 4096, rows (A0 m c) r (t.val / 2 * 1408 + (q.val * 704 + f.val)) * rows (A1 m c) r l.val)
        * Ideal.ofBits .f32 0x3F000000#32) := by
  have hs := scratch m c t h1 ⟨q.val * 704 + f.val, by omega⟩ l
  rw [outsAt0_B m c t (by omega) h1] at hs ⊢
  frame_out at hs
  frame_out
  exact (pay3 _ q f l).trans (congrArg (· * _) hs)

/-- The array after the run. -/
theorem final : (dats m 0 c).arrAt 2 (cfgs 0).N = fun i => (∑ r : Fin 4096,
    rows (A0 m c) r ((i 0).val * 704 + (i 1).val) * rows (A1 m c) r (i 2).val) * Ideal.ofBits .f32 0x3F000000#32 := by
  refine (dats m 0 c).arrAt_eq_of_covers 2 _ (by decide +kernel) fun t hf y => ?_
  have e0 : ((((cfg0.win 2).blk t).view.emb y) 0 : ℕ) = t.val / 2 * 2 + (y 0).val := by blk_simp [idx t]
  have e1 : ((((cfg0.win 2).blk t).view.emb y) 1 : ℕ) = (y 1).val := by blk_simp [idx t]
  have e2 : ((((cfg0.win 2).blk t).view.emb y) 2 : ℕ) = (y 2).val := by blk_simp [idx t]
  have h1 : t.val % 2 = 1 := (flush0_2 t).mp hf
  rw [e0, e1, e2]
  have e3 : (t.val / 2 * 2 + (y 0).val) * 704 + (y 1).val = t.val / 2 * 1408 + ((y 0).val * 704 + (y 1).val) := by omega
  rw [e3]
  blk_simp
  rw [after0_2]
  idx_vars y
  exact stored m c t h1 y0 y1 y2

end Cert.DwoutIdeal.Block

end
-- ==== Proof.WoutClaims.lean ====
/-
  The claims about the gradient of swiglu's second matrix.
-/
module

public import proofs.«01_k».proof.Defs
public import proofs.«01_k».proof.Proof.Gen.Dwout.Frame
public import proofs.«01_k».proof.Proof.Gen.DwoutIdeal.Frame
public import proofs.«01_k».proof.Proof.Gen.DwoutRefIdeal.Run
public import proofs.«01_k».proof.Proof.Gen.DwoutRefIdeal.Read
public import proofs.«01_k».proof.Proof.WoutKernel
public import Idealize.ShloMosaic.Lib.KernelVsHost
public import Idealize.ShloMosaic.Lib.Quiescent

@[expose] public section

set_option maxRecDepth 16384

noncomputable section

open Idealize.ShloMosaic Idealize.ShloMosaic.TcCoe Idealize.SL.Sem

namespace Cert.DwoutRefIdeal.Rows

open Cert.DwoutRefIdeal Cert.DwoutRefIdeal.Gen Cert.DwoutRefIdeal.Read Cert.WgtMath

variable (x0 : (⟨S4096x2816, .bf16⟩ : BufTy).Contents (Elt Ideal)) (x1 : (⟨S4096x1024, .f32⟩ : BufTy).Contents (Elt Ideal))

/-- The matrix's gradient before it is cut into the devices' blocks. -/
theorem whole (k : Fin 2816) (l : Fin 1024) : val_main_v8 x0 x1 (ix2 k l)
    = ∑ r : Fin 4096, (Ideal.ofBits .f32 0x3F000000#32 * x1 (ix2 r l)) * x0 (ix2 r k) := by
  unfold val_main_v8 val_main_v7 val_main_v6 val_main_v5 val_main_v1 val_main_cst_1
  pointwise

/-- The reference's result at an index. -/
theorem result (q : Fin 4) (f : Fin 704) (l : Fin 1024) : val_main_v10 x0 x1 (ix3 q f l)
    = (∑ r : Fin 4096, rows x0 r (q.val * 704 + f.val) * rows x1 r l.val) * Ideal.ofBits .f32 0x3F000000#32 := by
  have e : val_main_v10 x0 x1 (ix3 q f l) = val_main_v8 x0 x1 (ix2 ⟨q.val * 704 + f.val, by omega⟩ l) := by
    rw [val_main_v10_apply, val_main_v9_apply]
    simp only [Ideal.truncf_def]
    have e1 : ((q.val * 704 + f.val) * 1024 + l.val) / 1024 = q.val * 704 + f.val := by omega
    have e2 : ((q.val * 704 + f.val) * 1024 + l.val) % 1024 = l.val := by omega
    blk_ext
  rw [e, whole, half_sum]
  refine Finset.sum_congr rfl fun r _ => ?_
  rw [rows_apply x0, rows_apply x1, mul_assoc]
  exact congrArg _ (mul_comm _ _)

end Cert.DwoutRefIdeal.Rows

namespace Cert.DwoutClaims

open Cert.DwoutIdeal Cert.DwoutIdeal.Gen Cert.DwoutIdeal.Block

/-- The output array is the reference's result. -/
theorem array (m : (ℓ : Loc nD τ sig) → Buf (Elt Ideal) ℓ) (c : Dev nD) :
    (dats m 0 c).arrAt 2 (cfgs 0).N = Cert.DwoutRefIdeal.Read.val_main_v10 (F := Ideal) (A0 m c) (A1 m c) := by
  refine (final m c).trans (funext fun i => ?_)
  idx_vars i
  exact (Cert.DwoutRefIdeal.Rows.result (A0 m c) (A1 m c) i0 i1 i2).symm

theorem frame : Cert.quiescent_Dwout := fun m ρ _ => Cert.Dwout.Gen.frame m ρ
theorem frameIdeal : Cert.quiescent_DwoutIdeal := fun m ρ _ => Cert.DwoutIdeal.Gen.frame m ρ
theorem frameRef : Cert.quiescent_DwoutRefIdeal := fun m ρ _ =>
  (θ_run Cert.DwoutRefIdeal.defs _ _).mono (fun r h => ⟨fun c => (h c).2, sem_eq_zero_of_no_sems (by decide) r.2⟩)
    (Cert.DwoutRefIdeal.Value.run (F := Ideal) m ρ)
theorem preserves : Cert.preserves_Dwout_DwoutIdeal := trivial

/-- A function of equal arguments. -/
theorem congr_two {α β γ : Type} (f : α → β → γ) {a a' : α} {b b' : β} (ha : a = a') (hb : b = b') : f a b = f a' b' := by
  subst ha hb; rfl

set_option maxHeartbeats 8000000 in
/-- The call computes the reference's gradient. -/
theorem algebraic : Cert.algebraic_DwoutIdeal_DwoutRefIdeal := fun m ρ m' ρ' _ hag => by
  refine ⟨fun c => (dats m 0 c).arrAt 2 cfg0.N, Cert.DwoutIdeal.Value.run_blocks m ρ,
    (θ_run _ _ _).mono (fun _ h c => ⟨(h c).1.trans ?_, (h c).2⟩) (Cert.DwoutRefIdeal.Value.run (F := Ideal) m' ρ')⟩
  exact (Cert.DwoutRefIdeal.Read.val_main_v10_eq (F := Ideal) _ _).trans
    ((congr_two (Cert.DwoutRefIdeal.Read.val_main_v10 (F := Ideal)) (hag c).1 (hag c).2).trans (array m c).symm)

end Cert.DwoutClaims

end
-- ==== Proof.FoutClaims.lean ====
/-
  Swiglu's second product and the residual stream: the kernel's array after the run, and the reference's result.
-/
module

public import proofs.«01_k».proof.Defs
public import proofs.«01_k».proof.Proof.Gen.FfnOut.Frame
public import proofs.«01_k».proof.Proof.Gen.FfnOutIdeal.Frame
public import proofs.«01_k».proof.Proof.Gen.FfnOutIdeal.Value
public import proofs.«01_k».proof.Proof.Gen.FfnOutRefIdeal.Run
public import proofs.«01_k».proof.Proof.Gen.FfnOutRefIdeal.Read
public import Idealize.ShloMosaic.Lib.Pipeline.ValueKit
public import Idealize.ShloMosaic.Lib.KernelVsHost
public import Idealize.ShloMosaic.Lib.Quiescent

@[expose] public section

set_option maxRecDepth 16384

noncomputable section

open Idealize.ShloMosaic Idealize.ShloMosaic.TcCoe Idealize.SL.Sem

namespace Cert.FfnOutIdeal.Block

open Cert.FfnOutIdeal Cert.FfnOutIdeal.Gen

theorem pay1 (v0 : Vec Ideal S1024x2816 .bf16) (v1 : Vec Ideal S2816x1024 .bf16) (v5 : Vec Ideal S1024x1024 .f32)
    (r k : Fin 1024) : k0_pay1 (F := Ideal) v0 v1 v5 (ix2 r k)
      = (∑ f : Fin 2816, v0 (ix2 r f) * v1 (ix2 f k)) * Ideal.ofBits .f32 0x3F000000#32 + v5 (ix2 r k) := by
  unfold k0_pay1; pointwise

/-- The windows' block indices at a point: one tile of rows, the whole matrix. -/
theorem idx : ∀ t : Fin cfg0.N, win0_0.index t = ![t.val, 0] ∧ win0_1.index t = ![0, 0]
    ∧ win0_2.index t = ![t.val, 0] ∧ win0_3.index t = ![t.val, 0] :=
  (by decide +kernel : ∀ t : Fin grid0.N, win0_0.index t = ![t.val, 0] ∧ win0_1.index t = ![0, 0]
    ∧ win0_2.index t = ![t.val, 0] ∧ win0_3.index t = ![t.val, 0])

variable (m : (ℓ : Loc nD τ sig) → Buf (Elt Ideal) ℓ) (c : Dev nD)

/-- The hidden columns as launched. -/
abbrev A0 : S4096x2816.Idx → EReal := m (c, Proc.devRef .tc main_arg0)
/-- The matrix as launched. -/
abbrev A1 : S2816x1024.Idx → EReal := m (c, Proc.devRef .tc main_arg1)
/-- The stream as launched. -/
abbrev A2 : S4096x1024.Idx → EReal := m (c, Proc.devRef .tc main_arg2)

theorem block0 (t : Fin cfg0.N) (r : Fin 1024) (f : Fin 2816) (R : Fin 4096) (hR : R.val = t.val * 1024 + r.val) :
    @Eq EReal (iblk m c 0 t (ix2 r f)) (A0 m c (ix2 R f)) := by
  blk_ext [iblk, V, idx t]

theorem block1 (t : Fin cfg0.N) (f : Fin 2816) (k : Fin 1024) : @Eq EReal (iblk m c 1 t (ix2 f k)) (A1 m c (ix2 f k)) := by
  blk_ext [iblk, V, idx t]

theorem block2 (t : Fin cfg0.N) (r k : Fin 1024) (R : Fin 4096) (hR : R.val = t.val * 1024 + r.val) :
    @Eq EReal (iblk m c 2 t (ix2 r k)) (A2 m c (ix2 R k)) := by
  blk_ext [iblk, V, idx t]

/-- One row of the result. -/
def out (R : Fin 4096) (k : Fin 1024) : EReal :=
  (∑ f : Fin 2816, A0 m c (ix2 R f) * A1 m c (ix2 f k)) * Ideal.ofBits .f32 0x3F000000#32 + A2 m c (ix2 R k)

/-- What a point stores. -/
theorem stored (t : Fin cfg0.N) (r k : Fin 1024) (R : Fin 4096) (hR : R.val = t.val * 1024 + r.val) :
    @Eq EReal (k0_pay1 (F := Ideal) (iblk m c 0 t) (iblk m c 1 t) (iblk m c 2 t) (ix2 r k)) (out m c R k) := by
  rw [pay1]
  unfold out
  refine congr (congrArg _ (congrArg (· * _) (Finset.sum_congr rfl fun f _ => ?_))) (block2 m c t r k R hR)
  exact congr (congrArg _ (block0 m c t r f R hR)) (block1 m c t f k)

/-- The array after the run. -/
theorem final : (dats m 0 c).arrAt 3 (cfgs 0).N = fun i => out m c (i 0) (i 1) := by
  refine (dats m 0 c).arrAt_eq_of_covers 3 _ (by decide +kernel) fun t hf y => ?_
  have e0 : ((((cfg0.win 3).blk t).view.emb y) 0 : ℕ) = t.val * 1024 + (y 0).val := by blk_simp [idx t]
  have e1 : ((((cfg0.win 3).blk t).view.emb y) 1 : ℕ) = (y 1).val := by blk_simp [idx t]
  generalize ((cfg0.win 3).blk t).view.emb y = i at e0 e1 ⊢
  blk_simp; rw [after0_3]; unfold outsAt0; frame_out
  idx_vars y
  have e2 : i 1 = y1 := Fin.ext e1
  rw [e2]
  exact stored m c t y0 y1 (i 0) e0

end Cert.FfnOutIdeal.Block

namespace Cert.FfnOutClaims

open Cert.FfnOutIdeal Cert.FfnOutIdeal.Gen Cert.FfnOutIdeal.Block

theorem reference (x0 : Cert.FfnOutRefIdeal.S4096x2816.Idx → EReal) (x1 : Cert.FfnOutRefIdeal.S2816x1024.Idx → EReal)
    (x2 : Cert.FfnOutRefIdeal.S4096x1024.Idx → EReal) (r : Fin 4096) (k : Fin 1024) :
    Cert.FfnOutRefIdeal.Read.val_main_v5 (F := Ideal) x0 x1 x2 (ix2 r k)
      = x2 (ix2 r k) + Ideal.ofBits .f32 0x3F000000#32 * ∑ f : Fin 2816, x0 (ix2 r f) * x1 (ix2 f k) := by
  unfold Cert.FfnOutRefIdeal.Read.val_main_v5 Cert.FfnOutRefIdeal.Read.val_main_v4 Cert.FfnOutRefIdeal.Read.val_main_v3
    Cert.FfnOutRefIdeal.Read.val_main_v2 Cert.FfnOutRefIdeal.Read.val_main_v1 Cert.FfnOutRefIdeal.Read.val_main_v0
    Cert.FfnOutRefIdeal.Read.val_main_cst
  pointwise

/-- The output array is the reference's result. -/
theorem array (m : (ℓ : Loc nD τ sig) → Buf (Elt Ideal) ℓ) (c : Dev nD) :
    (dats m 0 c).arrAt 3 (cfgs 0).N
      = Cert.FfnOutRefIdeal.Read.val_main_v5 (F := Ideal) (A0 m c) (A1 m c) (A2 m c) := by
  refine (final m c).trans (funext fun i => ?_)
  idx_vars i
  refine Eq.trans ?_ (reference (A0 m c) (A1 m c) (A2 m c) i0 i1).symm
  unfold out
  rw [add_comm, mul_comm]

theorem frame : Cert.quiescent_FfnOut := fun m ρ _ => Cert.FfnOut.Gen.frame m ρ
theorem frameIdeal : Cert.quiescent_FfnOutIdeal := fun m ρ _ => Cert.FfnOutIdeal.Gen.frame m ρ
theorem frameRef : Cert.quiescent_FfnOutRefIdeal := fun m ρ _ =>
  (θ_run Cert.FfnOutRefIdeal.defs _ _).mono (fun r h => ⟨fun c => (h c).2, sem_eq_zero_of_no_sems (by decide) r.2⟩)
    (Cert.FfnOutRefIdeal.Value.run (F := Ideal) m ρ)
theorem preserves : Cert.preserves_FfnOut_FfnOutIdeal := trivial

/-- A function of equal arguments. -/
theorem congr_three {α β γ δ : Type} (f : α → β → γ → δ) {a a' : α} {b b' : β} {c c' : γ}
    (ha : a = a') (hb : b = b') (hc : c = c') : f a b c = f a' b' c' := by
  subst ha hb hc; rfl

set_option maxHeartbeats 8000000 in
/-- The call computes the reference's stream. -/
theorem algebraic : Cert.algebraic_FfnOutIdeal_FfnOutRefIdeal := fun m ρ m' ρ' _ hag => by
  refine ⟨fun c => (dats m 0 c).arrAt 3 cfg0.N, Cert.FfnOutIdeal.Value.run_blocks m ρ,
    (θ_run _ _ _).mono (fun _ h c => ⟨(h c).1.trans ?_, (h c).2⟩) (Cert.FfnOutRefIdeal.Value.run (F := Ideal) m' ρ')⟩
  exact (Cert.FfnOutRefIdeal.Read.val_main_v5_eq (F := Ideal) _ _ _).trans
    ((congr_three (Cert.FfnOutRefIdeal.Read.val_main_v5 (F := Ideal)) (hag c).1 (hag c).2.1 (hag c).2.2).trans (array m c).symm)

end Cert.FfnOutClaims

end
-- ==== Proof.AttDoClaims.lean ====
/-
  The gradient in front of attention's out-projection: the kernel's array after the run, and the reference's result.
-/
module

public import proofs.«01_k».proof.Defs
public import proofs.«01_k».proof.Proof.Gen.AttDo.Frame
public import proofs.«01_k».proof.Proof.Gen.AttDoIdeal.Frame
public import proofs.«01_k».proof.Proof.Gen.AttDoIdeal.Value
public import proofs.«01_k».proof.Proof.Gen.AttDoRefIdeal.Run
public import proofs.«01_k».proof.Proof.Gen.AttDoRefIdeal.Read
public import Idealize.ShloMosaic.Lib.Pipeline.ValueKit
public import Idealize.ShloMosaic.Lib.KernelVsHost
public import Idealize.ShloMosaic.Lib.Quiescent

@[expose] public section

set_option maxRecDepth 16384

noncomputable section

open Idealize.ShloMosaic Idealize.ShloMosaic.TcCoe Idealize.SL.Sem

namespace Cert.AttDoIdeal.Block

open Cert.AttDoIdeal Cert.AttDoIdeal.Gen

theorem pay1 (v0 : Vec Ideal S1024x1024 .f32) (v1 : Vec Ideal S1024x1024 .bf16)
    (r k : Fin 1024) : k0_pay1 (F := Ideal) v0 v1 (ix2 r k)
      = (∑ f : Fin 1024, v0 (ix2 r f) * v1 (ix2 k f)) := by
  unfold k0_pay1; pointwise

/-- The windows' block indices at a point: one tile of rows, the whole matrix. -/
theorem idx : ∀ t : Fin cfg0.N, win0_0.index t = ![t.val, 0] ∧ win0_1.index t = ![0, 0]
    ∧ win0_2.index t = ![t.val, 0] :=
  (by decide +kernel : ∀ t : Fin grid0.N, win0_0.index t = ![t.val, 0] ∧ win0_1.index t = ![0, 0]
    ∧ win0_2.index t = ![t.val, 0])

variable (m : (ℓ : Loc nD τ sig) → Buf (Elt Ideal) ℓ) (c : Dev nD)

/-- The rows as launched. -/
abbrev A0 : S4096x1024.Idx → EReal := m (c, Proc.devRef .tc main_arg0)
/-- The matrix as launched. -/
abbrev A1 : S1024x1024.Idx → EReal := m (c, Proc.devRef .tc main_arg1)

theorem block0 (t : Fin cfg0.N) (r : Fin 1024) (f : Fin 1024) (R : Fin 4096) (hR : R.val = t.val * 1024 + r.val) :
    @Eq EReal (iblk m c 0 t (ix2 r f)) (A0 m c (ix2 R f)) := by
  blk_ext [iblk, V, idx t]

theorem block1 (t : Fin cfg0.N) (k f : Fin 1024) : @Eq EReal (iblk m c 1 t (ix2 k f)) (A1 m c (ix2 k f)) := by
  blk_ext [iblk, V, idx t]

/-- One row of the result. -/
def out (R : Fin 4096) (k : Fin 1024) : EReal :=
  (∑ f : Fin 1024, A0 m c (ix2 R f) * A1 m c (ix2 k f))

/-- What a point stores. -/
theorem stored (t : Fin cfg0.N) (r k : Fin 1024) (R : Fin 4096) (hR : R.val = t.val * 1024 + r.val) :
    @Eq EReal (k0_pay1 (F := Ideal) (iblk m c 0 t) (iblk m c 1 t) (ix2 r k)) (out m c R k) := by
  rw [pay1]
  unfold out
  refine Finset.sum_congr rfl fun f _ => ?_
  exact congr (congrArg _ (block0 m c t r f R hR)) (block1 m c t k f)

/-- The array after the run. -/
theorem final : (dats m 0 c).arrAt 2 (cfgs 0).N = fun i => out m c (i 0) (i 1) := by
  refine (dats m 0 c).arrAt_eq_of_covers 2 _ (by decide +kernel) fun t hf y => ?_
  have e0 : ((((cfg0.win 2).blk t).view.emb y) 0 : ℕ) = t.val * 1024 + (y 0).val := by blk_simp [idx t]
  have e1 : ((((cfg0.win 2).blk t).view.emb y) 1 : ℕ) = (y 1).val := by blk_simp [idx t]
  generalize ((cfg0.win 2).blk t).view.emb y = i at e0 e1 ⊢
  blk_simp; rw [after0_2]; unfold outsAt0; frame_out
  idx_vars y
  have e2 : i 1 = y1 := Fin.ext e1
  rw [e2]
  exact stored m c t y0 y1 (i 0) e0

end Cert.AttDoIdeal.Block

namespace Cert.AttDoClaims

open Cert.AttDoIdeal Cert.AttDoIdeal.Gen Cert.AttDoIdeal.Block

theorem reference (x0 : Cert.AttDoRefIdeal.S4096x1024.Idx → EReal) (x1 : Cert.AttDoRefIdeal.S1024x1024.Idx → EReal) (r : Fin 4096) (k : Fin 1024) :
    Cert.AttDoRefIdeal.Read.val_main_v3 (F := Ideal) x0 x1 (ix2 r k)
      = ∑ f : Fin 1024, x0 (ix2 r f) * x1 (ix2 k f) := by
  unfold Cert.AttDoRefIdeal.Read.val_main_v3 Cert.AttDoRefIdeal.Read.val_main_v1
  pointwise

/-- The output array is the reference's result. -/
theorem array (m : (ℓ : Loc nD τ sig) → Buf (Elt Ideal) ℓ) (c : Dev nD) :
    (dats m 0 c).arrAt 2 (cfgs 0).N
      = Cert.AttDoRefIdeal.Read.val_main_v3 (F := Ideal) (A0 m c) (A1 m c) := by
  refine (final m c).trans (funext fun i => ?_)
  idx_vars i
  refine Eq.trans ?_ (reference (A0 m c) (A1 m c) i0 i1).symm
  rfl

theorem frame : Cert.quiescent_AttDo := fun m ρ _ => Cert.AttDo.Gen.frame m ρ
theorem frameIdeal : Cert.quiescent_AttDoIdeal := fun m ρ _ => Cert.AttDoIdeal.Gen.frame m ρ
theorem frameRef : Cert.quiescent_AttDoRefIdeal := fun m ρ _ =>
  (θ_run Cert.AttDoRefIdeal.defs _ _).mono (fun r h => ⟨fun c => (h c).2, sem_eq_zero_of_no_sems (by decide) r.2⟩)
    (Cert.AttDoRefIdeal.Value.run (F := Ideal) m ρ)
theorem preserves : Cert.preserves_AttDo_AttDoIdeal := trivial

/-- A function of equal arguments. -/
theorem congr_two {α β γ : Type} (f : α → β → γ) {a a' : α} {b b' : β}
    (ha : a = a') (hb : b = b') : f a b = f a' b' := by
  subst ha hb; rfl

set_option maxHeartbeats 8000000 in
/-- The call computes the reference's gradient. -/
theorem algebraic : Cert.algebraic_AttDoIdeal_AttDoRefIdeal := fun m ρ m' ρ' _ hag => by
  refine ⟨fun c => (dats m 0 c).arrAt 2 cfg0.N, Cert.AttDoIdeal.Value.run_blocks m ρ,
    (θ_run _ _ _).mono (fun _ h c => ⟨(h c).1.trans ?_, (h c).2⟩) (Cert.AttDoRefIdeal.Value.run (F := Ideal) m' ρ')⟩
  exact (Cert.AttDoRefIdeal.Read.val_main_v3_eq (F := Ideal) _ _).trans
    ((congr_two (Cert.AttDoRefIdeal.Read.val_main_v3 (F := Ideal)) (hag c).1 (hag c).2).trans (array m c).symm)

end Cert.AttDoClaims

end
-- ==== Proof.DwqkvKernel.lean ====
/-
  The gradient of attention's in-projection: the kernel's product summed over two tiles of rows in the scratch, and the array
  after the run.
-/
module

public import proofs.«01_k».proof.Proof.Gen.DwqkvIdeal.Value
public import proofs.«01_k».proof.Proof.WgtMath
public import Idealize.ShloMosaic.Lib.Pipeline.ValueKit

@[expose] public section

set_option maxRecDepth 16384

noncomputable section

open Idealize.ShloMosaic Idealize.ShloMosaic.TcCoe Idealize.SL.Sem

namespace Cert.DwqkvIdeal.Block

open Cert.DwqkvIdeal Cert.DwqkvIdeal.Gen Cert.WgtMath

theorem pay1 (k : Fin 1024) (l : Fin 384) : k0_pay1 (F := Ideal) (ix2 k l) = (0 : EReal) := by
  unfold k0_pay1; pointwise

theorem pay2 (v3 : Vec Ideal S1024x384 .f32) (v4 : Vec Ideal S2048x1024 .bf16) (v5 : Vec Ideal S2048x384 .bf16)
    (k : Fin 1024) (l : Fin 384) :
    k0_pay2 (F := Ideal) v3 v4 v5 (ix2 k l) = v3 (ix2 k l) + ∑ r : Fin 2048, v4 (ix2 r k) * v5 (ix2 r l) := by
  unfold k0_pay2; pointwise

theorem pay3 (v : Vec Ideal S1024x384 .f32) (k : Fin 1024) (l : Fin 384) :
    k0_pay3 (F := Ideal) v (ix3 0 k l) = v (ix2 k l) := by
  unfold k0_pay3; pointwise

/-- The windows' block indices at a point: row tile `t % 2`, column block `t / 2`, and the place of the block stored. -/
theorem idx : ∀ t : Fin cfg0.N, win0_0.index t = ![t.val % 2, 0] ∧ win0_1.index t = ![t.val % 2, t.val / 2]
    ∧ win0_2.index t = ![t.val / 2, 0, 0] :=
  (by decide +kernel : ∀ t : Fin grid0.N, win0_0.index t = ![t.val % 2, 0] ∧ win0_1.index t = ![t.val % 2, t.val / 2]
    ∧ win0_2.index t = ![t.val / 2, 0, 0])

variable (m : (ℓ : Loc nD τ sig) → Buf (Elt Ideal) ℓ) (c : Dev nD)

/-- The normalised stream as launched. -/
abbrev A0 : S4096x1024.Idx → EReal := m (c, Proc.devRef .tc main_arg0)
/-- The gradient of the products as launched. -/
abbrev A1 : S4096x1536.Idx → EReal := m (c, Proc.devRef .tc main_arg1)

theorem lt (t : Fin cfg0.N) : t.val < 8 := t.isLt

theorem block0 (t : Fin cfg0.N) (r : Fin 2048) (k : Fin 1024) :
    @Eq EReal (iblk m c 0 t (ix2 r k)) (rows (A0 m c) (t.val % 2 * 2048 + r.val) k.val) := by
  refine Eq.trans ?_ (rows_apply (A0 m c) ⟨t.val % 2 * 2048 + r.val, by omega⟩ k)
  blk_ext [iblk, V, idx t]

theorem block1 (t : Fin cfg0.N) (r : Fin 2048) (l : Fin 384) :
    @Eq EReal (iblk m c 1 t (ix2 r l)) (rows (A1 m c) (t.val % 2 * 2048 + r.val) (t.val / 2 * 384 + l.val)) := by
  have ht := lt t
  refine Eq.trans ?_ (rows_apply (A1 m c) ⟨t.val % 2 * 2048 + r.val, by omega⟩ ⟨t.val / 2 * 384 + l.val, by omega⟩)
  blk_ext [iblk, V, idx t]

/-- The product a point adds. -/
theorem added (t : Fin cfg0.N) (acc : Vec Ideal S1024x384 .f32) (k : Fin 1024) (l : Fin 384) :
    @Eq EReal (k0_pay2 (F := Ideal) acc (iblk m c 0 t) (iblk m c 1 t) (ix2 k l))
      (acc (ix2 k l) + part (rows (A0 m c)) (rows (A1 m c)) k.val (t.val / 2 * 384 + l.val) (t.val % 2)) := by
  unfold part
  rw [pay2]
  refine congrArg (acc (ix2 k l) + ·) (Finset.sum_congr rfl fun r _ => ?_)
  exact congr (congrArg _ (block0 m c t r k)) (block1 m c t r l)

/-- A column block's first point: the scratch is set to zero before the product is added. -/
theorem scratch_first (t : Fin cfg0.N) (h0 : t.val % 2 = 0) (k : Fin 1024) (l : Fin 384) :
    @Eq EReal ((outsAt0 m c t.val t.isLt).2 (ix2 k l))
      (0 + part (rows (A0 m c)) (rows (A1 m c)) k.val (t.val / 2 * 384 + l.val) (t.val % 2)) := by
  rw [outsAt0_A m c t h0 (by omega)]; frame_out
  exact (added m c t _ k l).trans (congrArg (· + _) (pay1 k l))

/-- The second point: the product is added to what the first left. -/
theorem scratch_next (t : Fin cfg0.N) (h0 : ¬t.val % 2 = 0) (k : Fin 1024) (l : Fin 384) :
    @Eq EReal ((outsAt0 m c t.val t.isLt).2 (ix2 k l))
      ((outsAt0 m c (t.val - 1) (Nat.lt_of_le_of_lt (Nat.sub_le _ _) t.isLt)).2 (ix2 k l)
        + part (rows (A0 m c)) (rows (A1 m c)) k.val (t.val / 2 * 384 + l.val) (t.val % 2)) := by
  rw [outsAt0_B m c t h0 (by omega)]; frame_out
  refine (added m c t _ k l).trans (congrArg (fun x : Vec Ideal S1024x384 .f32 => x (ix2 k l) + _) ?_)
  exact Memref.IsWhole.read_unread _ _

/-- The scratch after a column block's second point: the whole product. -/
theorem scratch (t : Fin cfg0.N) (h1 : t.val % 2 = 1) (k : Fin 1024) (l : Fin 384) :
    @Eq EReal ((outsAt0 m c t.val t.isLt).2 (ix2 k l))
      (∑ r : Fin 4096, rows (A0 m c) r k * rows (A1 m c) r (t.val / 2 * 384 + l.val)) := by
  refine (Pipeline.eq_sum_of_reset_step_divmod (M := EReal) (fun n hn => (outsAt0 m c n hn).2 (ix2 k l)) 2 0
    (fun i q => part (rows (A0 m c)) (rows (A1 m c)) k.val (i * 384 + l.val) q) (fun t h0 => scratch_first m c t h0 k l)
    (fun t h0 => scratch_next m c t h0 k l) t).trans ?_
  rw [h1, zero_add]
  exact part_sum _ _ _ _

/-- What the second point stores. -/
theorem stored (t : Fin cfg0.N) (h1 : t.val % 2 = 1) (k : Fin 1024) (l : Fin 384) :
    @Eq EReal ((outsAt0 m c t.val t.isLt).1 (ix3 0 k l))
      (∑ r : Fin 4096, rows (A0 m c) r k * rows (A1 m c) r (t.val / 2 * 384 + l.val)) := by
  have hs := scratch m c t h1 k l
  rw [outsAt0_B m c t (by omega) h1] at hs ⊢
  frame_out at hs
  frame_out
  exact (pay3 _ k l).trans hs

/-- The array after the run. -/
theorem final : (dats m 0 c).arrAt 2 (cfgs 0).N = fun i => ∑ r : Fin 4096,
    rows (A0 m c) r (i 1).val * rows (A1 m c) r ((i 0).val * 384 + (i 2).val) := by
  refine (dats m 0 c).arrAt_eq_of_covers 2 _ (by decide +kernel) fun t hf y => ?_
  have e0 : ((((cfg0.win 2).blk t).view.emb y) 0 : ℕ) = t.val / 2 := by blk_simp [idx t]
  have e1 : ((((cfg0.win 2).blk t).view.emb y) 1 : ℕ) = (y 1).val := by blk_simp [idx t]
  have e2 : ((((cfg0.win 2).blk t).view.emb y) 2 : ℕ) = (y 2).val := by blk_simp [idx t]
  have h1 : t.val % 2 = 1 := (flush0_2 t).mp hf
  have ht := lt t
  rw [e0, e1, e2]
  blk_simp
  rw [after0_2]
  idx_vars y
  obtain rfl : y0 = 0 := Subsingleton.elim _ _
  exact stored m c t h1 y1 y2

end Cert.DwqkvIdeal.Block

end
-- ==== Proof.DwqkvClaims.lean ====
/-
  The claims about the gradient of attention's in-projection.
-/
module

public import proofs.«01_k».proof.Defs
public import proofs.«01_k».proof.Proof.Gen.Dwqkv.Frame
public import proofs.«01_k».proof.Proof.Gen.DwqkvIdeal.Frame
public import proofs.«01_k».proof.Proof.Gen.DwqkvRefIdeal.Run
public import proofs.«01_k».proof.Proof.Gen.DwqkvRefIdeal.Read
public import proofs.«01_k».proof.Proof.DwqkvKernel
public import Idealize.ShloMosaic.Lib.KernelVsHost
public import Idealize.ShloMosaic.Lib.Quiescent

@[expose] public section

set_option maxRecDepth 16384

noncomputable section

open Idealize.ShloMosaic Idealize.ShloMosaic.TcCoe Idealize.SL.Sem

namespace Cert.DwqkvRefIdeal.Rows

open Cert.DwqkvRefIdeal Cert.DwqkvRefIdeal.Gen Cert.DwqkvRefIdeal.Read Cert.WgtMath

variable (x0 : (⟨S4096x1024, .bf16⟩ : BufTy).Contents (Elt Ideal)) (x1 : (⟨S4096x1536, .bf16⟩ : BufTy).Contents (Elt Ideal))

/-- The matrix's gradient before it is cut into the devices' blocks. -/
theorem whole (k : Fin 1024) (p : Fin 1536) : val_main_v5 x0 x1 (ix2 k p)
    = ∑ r : Fin 4096, x1 (ix2 r p) * x0 (ix2 r k) := by
  unfold val_main_v5 val_main_v4 val_main_v3 val_main_v1
  pointwise

/-- The reference's result at an index. -/
theorem result (q : Fin 4) (k : Fin 1024) (l : Fin 384) : val_main_v8 x0 x1 (ix3 q k l)
    = ∑ r : Fin 4096, rows x0 r k * rows x1 r (q.val * 384 + l.val) := by
  have e : val_main_v8 x0 x1 (ix3 q k l) = val_main_v5 x0 x1 (ix2 k ⟨q.val * 384 + l.val, by omega⟩) := by
    rw [val_main_v8_apply, val_main_v7_apply, val_main_v6_apply]
    simp only [Ideal.truncf_def]
    have e1 : ((k.val * 4 + q.val) * 384 + l.val) / 1536 = k.val := by omega
    have e2 : ((k.val * 4 + q.val) * 384 + l.val) % 1536 = q.val * 384 + l.val := by omega
    blk_ext
  rw [e, whole]
  refine Finset.sum_congr rfl fun r _ => ?_
  rw [rows_apply x0, rows_apply x1, mul_comm]

end Cert.DwqkvRefIdeal.Rows

namespace Cert.DwqkvClaims

open Cert.DwqkvIdeal Cert.DwqkvIdeal.Gen Cert.DwqkvIdeal.Block

/-- The output array is the reference's result. -/
theorem array (m : (ℓ : Loc nD τ sig) → Buf (Elt Ideal) ℓ) (c : Dev nD) :
    (dats m 0 c).arrAt 2 (cfgs 0).N = Cert.DwqkvRefIdeal.Read.val_main_v8 (F := Ideal) (A0 m c) (A1 m c) := by
  refine (final m c).trans (funext fun i => ?_)
  idx_vars i
  exact (Cert.DwqkvRefIdeal.Rows.result (A0 m c) (A1 m c) i0 i1 i2).symm

theorem frame : Cert.quiescent_Dwqkv := fun m ρ _ => Cert.Dwqkv.Gen.frame m ρ
theorem frameIdeal : Cert.quiescent_DwqkvIdeal := fun m ρ _ => Cert.DwqkvIdeal.Gen.frame m ρ
theorem frameRef : Cert.quiescent_DwqkvRefIdeal := fun m ρ _ =>
  (θ_run Cert.DwqkvRefIdeal.defs _ _).mono (fun r h => ⟨fun c => (h c).2, sem_eq_zero_of_no_sems (by decide) r.2⟩)
    (Cert.DwqkvRefIdeal.Value.run (F := Ideal) m ρ)
theorem preserves : Cert.preserves_Dwqkv_DwqkvIdeal := trivial

/-- A function of equal arguments. -/
theorem congr_two {α β γ : Type} (f : α → β → γ) {a a' : α} {b b' : β} (ha : a = a') (hb : b = b') : f a b = f a' b' := by
  subst ha hb; rfl

set_option maxHeartbeats 8000000 in
/-- The call computes the reference's gradient. -/
theorem algebraic : Cert.algebraic_DwqkvIdeal_DwqkvRefIdeal := fun m ρ m' ρ' _ hag => by
  refine ⟨fun c => (dats m 0 c).arrAt 2 cfg0.N, Cert.DwqkvIdeal.Value.run_blocks m ρ,
    (θ_run _ _ _).mono (fun _ h c => ⟨(h c).1.trans ?_, (h c).2⟩) (Cert.DwqkvRefIdeal.Value.run (F := Ideal) m' ρ')⟩
  exact (Cert.DwqkvRefIdeal.Read.val_main_v8_eq (F := Ideal) _ _).trans
    ((congr_two (Cert.DwqkvRefIdeal.Read.val_main_v8 (F := Ideal)) (hag c).1 (hag c).2).trans (array m c).symm)

end Cert.DwqkvClaims

end
-- ==== Proof.AttOClaims.lean ====
/-
  Attention's out-projection, its bias and the residual stream: the kernel's array after the run, and the reference's result.
-/
module

public import proofs.«01_k».proof.Defs
public import proofs.«01_k».proof.Proof.Gen.AttO.Frame
public import proofs.«01_k».proof.Proof.Gen.AttOIdeal.Frame
public import proofs.«01_k».proof.Proof.Gen.AttOIdeal.Value
public import proofs.«01_k».proof.Proof.Gen.AttORefIdeal.Run
public import proofs.«01_k».proof.Proof.Gen.AttORefIdeal.Read
public import Idealize.ShloMosaic.Lib.Pipeline.ValueKit
public import Idealize.ShloMosaic.Lib.StableHlo.RunRead
public import Idealize.ShloMosaic.Lib.KernelVsHost
public import Idealize.ShloMosaic.Lib.Quiescent

@[expose] public section

set_option maxRecDepth 16384

noncomputable section

open Idealize.ShloMosaic Idealize.ShloMosaic.TcCoe Idealize.SL.Sem

namespace Cert.AttOIdeal.Block

open Cert.AttOIdeal Cert.AttOIdeal.Gen

theorem pay1 (v0 : Vec Ideal S1024x1024 .bf16) (v1 : Vec Ideal S1024x1024 .bf16) (v3 : Vec Ideal S1x1024 .f32)
    (v7 : Vec Ideal S1024x1024 .f32)
    (r k : Fin 1024) : k0_pay1 (F := Ideal) v0 v1 v3 v7 (ix2 r k)
      = (∑ f : Fin 1024, v0 (ix2 r f) * v1 (ix2 f k)) + v3 (ix2 0 k) + v7 (ix2 r k) := by
  unfold k0_pay1; pointwise

/-- The windows' block indices at a point: one tile of rows, the whole matrix. -/
theorem idx : ∀ t : Fin cfg0.N, win0_0.index t = ![t.val, 0] ∧ win0_1.index t = ![0, 0]
    ∧ win0_2.index t = ![0, 0] ∧ win0_3.index t = ![t.val, 0] ∧ win0_4.index t = ![t.val, 0] :=
  (by decide +kernel : ∀ t : Fin grid0.N, win0_0.index t = ![t.val, 0] ∧ win0_1.index t = ![0, 0]
    ∧ win0_2.index t = ![0, 0] ∧ win0_3.index t = ![t.val, 0] ∧ win0_4.index t = ![t.val, 0])

variable (m : (ℓ : Loc nD τ sig) → Buf (Elt Ideal) ℓ) (c : Dev nD)

/-- The rows as launched. -/
abbrev A0 : S4096x1024.Idx → EReal := m (c, Proc.devRef .tc main_arg0)
/-- The matrix as launched. -/
abbrev A1 : S1024x1024.Idx → EReal := m (c, Proc.devRef .tc main_arg1)
/-- The bias as launched. -/
abbrev A2 : S1024.Idx → EReal := m (c, Proc.devRef .tc main_arg2)
/-- The stream as launched. -/
abbrev A3 : S4096x1024.Idx → EReal := m (c, Proc.devRef .tc main_arg3)

theorem read_bias : V m c main_v0 = shapeCast S1x1024 (A2 m c) shapeCasts_S1024_S1x1024 := by
  unfold_abbrev_sides
  after_reads_simp
  rfl

theorem bias (k : Fin 1024) : V m c main_v0 (ix2 0 k) = A2 m c (ix1 k) := by
  rw [read_bias]; pointwise

theorem block0 (t : Fin cfg0.N) (r : Fin 1024) (f : Fin 1024) (R : Fin 4096) (hR : R.val = t.val * 1024 + r.val) :
    @Eq EReal (iblk m c 0 t (ix2 r f)) (A0 m c (ix2 R f)) := by
  blk_ext [iblk, V, idx t]

theorem block1 (t : Fin cfg0.N) (f : Fin 1024) (k : Fin 1024) : @Eq EReal (iblk m c 1 t (ix2 f k)) (A1 m c (ix2 f k)) := by
  blk_ext [iblk, V, idx t]

theorem block2 (t : Fin cfg0.N) (k : Fin 1024) : @Eq EReal (iblk m c 2 t (ix2 0 k)) (A2 m c (ix1 k)) := by
  refine Eq.trans ?_ (bias m c k)
  blk_ext [iblk, idx t]

theorem block3 (t : Fin cfg0.N) (r k : Fin 1024) (R : Fin 4096) (hR : R.val = t.val * 1024 + r.val) :
    @Eq EReal (iblk m c 3 t (ix2 r k)) (A3 m c (ix2 R k)) := by
  blk_ext [iblk, V, idx t]

/-- One row of the result. -/
def out (R : Fin 4096) (k : Fin 1024) : EReal :=
  (∑ f : Fin 1024, A0 m c (ix2 R f) * A1 m c (ix2 f k)) + A2 m c (ix1 k) + A3 m c (ix2 R k)

/-- What a point stores. -/
theorem stored (t : Fin cfg0.N) (r k : Fin 1024) (R : Fin 4096) (hR : R.val = t.val * 1024 + r.val) :
    @Eq EReal (k0_pay1 (F := Ideal) (iblk m c 0 t) (iblk m c 1 t) (iblk m c 2 t) (iblk m c 3 t) (ix2 r k)) (out m c R k) := by
  rw [pay1]
  unfold out
  refine congr (congrArg _ (congr (congrArg _ (Finset.sum_congr rfl fun f _ => ?_)) (block2 m c t k))) (block3 m c t r k R hR)
  exact congr (congrArg _ (block0 m c t r f R hR)) (block1 m c t f k)

/-- The array after the run. -/
theorem final : (dats m 0 c).arrAt 4 (cfgs 0).N = fun i => out m c (i 0) (i 1) := by
  refine (dats m 0 c).arrAt_eq_of_covers 4 _ (by decide +kernel) fun t hf y => ?_
  have e0 : ((((cfg0.win 4).blk t).view.emb y) 0 : ℕ) = t.val * 1024 + (y 0).val := by blk_simp [idx t]
  have e1 : ((((cfg0.win 4).blk t).view.emb y) 1 : ℕ) = (y 1).val := by blk_simp [idx t]
  generalize ((cfg0.win 4).blk t).view.emb y = i at e0 e1 ⊢
  blk_simp; rw [after0_4]; unfold outsAt0; frame_out
  idx_vars y
  have e2 : i 1 = y1 := Fin.ext e1
  rw [e2]
  exact stored m c t y0 y1 (i 0) e0

end Cert.AttOIdeal.Block

namespace Cert.AttOClaims

open Cert.AttOIdeal Cert.AttOIdeal.Gen Cert.AttOIdeal.Block

theorem reference (x0 : Cert.AttORefIdeal.S4096x1024.Idx → EReal) (x1 : Cert.AttORefIdeal.S1024x1024.Idx → EReal)
    (x2 : Cert.AttORefIdeal.S1024.Idx → EReal) (x3 : Cert.AttORefIdeal.S4096x1024.Idx → EReal) (r : Fin 4096) (k : Fin 1024) :
    Cert.AttORefIdeal.Read.val_main_v6 (F := Ideal) x0 x1 x2 x3 (ix2 r k)
      = x3 (ix2 r k) + ((∑ f : Fin 1024, x0 (ix2 r f) * x1 (ix2 f k)) + x2 (ix1 k)) := by
  unfold Cert.AttORefIdeal.Read.val_main_v6 Cert.AttORefIdeal.Read.val_main_v5 Cert.AttORefIdeal.Read.val_main_v4
    Cert.AttORefIdeal.Read.val_main_v3 Cert.AttORefIdeal.Read.val_main_v2 Cert.AttORefIdeal.Read.val_main_v1
    Cert.AttORefIdeal.Read.val_main_v0
  pointwise

/-- The output array is the reference's result. -/
theorem array (m : (ℓ : Loc nD τ sig) → Buf (Elt Ideal) ℓ) (c : Dev nD) :
    (dats m 0 c).arrAt 4 (cfgs 0).N
      = Cert.AttORefIdeal.Read.val_main_v6 (F := Ideal) (A0 m c) (A1 m c) (A2 m c) (A3 m c) := by
  refine (final m c).trans (funext fun i => ?_)
  idx_vars i
  refine Eq.trans ?_ (reference (A0 m c) (A1 m c) (A2 m c) (A3 m c) i0 i1).symm
  unfold out
  rw [add_comm]

theorem frame : Cert.quiescent_AttO := fun m ρ _ => Cert.AttO.Gen.frame m ρ
theorem frameIdeal : Cert.quiescent_AttOIdeal := fun m ρ _ => Cert.AttOIdeal.Gen.frame m ρ
theorem frameRef : Cert.quiescent_AttORefIdeal := fun m ρ _ =>
  (θ_run Cert.AttORefIdeal.defs _ _).mono (fun r h => ⟨fun c => (h c).2, sem_eq_zero_of_no_sems (by decide) r.2⟩)
    (Cert.AttORefIdeal.Value.run (F := Ideal) m ρ)
theorem preserves : Cert.preserves_AttO_AttOIdeal := trivial

/-- A function of equal arguments. -/
theorem congr_four {α β γ δ ε : Type} (f : α → β → γ → δ → ε) {a a' : α} {b b' : β} {c c' : γ} {d d' : δ}
    (ha : a = a') (hb : b = b') (hc : c = c') (hd : d = d') : f a b c d = f a' b' c' d' := by
  subst ha hb hc hd; rfl

set_option maxHeartbeats 8000000 in
/-- The call computes the reference's stream. -/
theorem algebraic : Cert.algebraic_AttOIdeal_AttORefIdeal := fun m ρ m' ρ' _ hag => by
  refine ⟨fun c => (dats m 0 c).arrAt 4 cfg0.N, Cert.AttOIdeal.Value.run_blocks m ρ,
    (θ_run _ _ _).mono (fun _ h c => ⟨(h c).1.trans ?_, (h c).2⟩) (Cert.AttORefIdeal.Value.run (F := Ideal) m' ρ')⟩
  exact (Cert.AttORefIdeal.Read.val_main_v6_eq (F := Ideal) _ _ _ _).trans
    ((congr_four (Cert.AttORefIdeal.Read.val_main_v6 (F := Ideal)) (hag c).1 (hag c).2.1 (hag c).2.2.1 (hag c).2.2.2).trans (array m c).symm)

end Cert.AttOClaims

end
-- ==== Proof.HybOClaims.lean ====
/-
  One half of the hybrid block's out-projection and the residual stream: the kernel's array after the run, and the reference's result.
-/
module

public import proofs.«01_k».proof.Defs
public import proofs.«01_k».proof.Proof.Gen.HybO.Frame
public import proofs.«01_k».proof.Proof.Gen.HybOIdeal.Frame
public import proofs.«01_k».proof.Proof.Gen.HybOIdeal.Value
public import proofs.«01_k».proof.Proof.Gen.HybORefIdeal.Run
public import proofs.«01_k».proof.Proof.Gen.HybORefIdeal.Read
public import Idealize.ShloMosaic.Lib.Pipeline.ValueKit
public import Idealize.ShloMosaic.Lib.KernelVsHost
public import Idealize.ShloMosaic.Lib.Quiescent

@[expose] public section

set_option maxRecDepth 16384

noncomputable section

open Idealize.ShloMosaic Idealize.ShloMosaic.TcCoe Idealize.SL.Sem

namespace Cert.HybOIdeal.Block

open Cert.HybOIdeal Cert.HybOIdeal.Gen

theorem pay1 (v0 : Vec Ideal S1024x1024 .bf16) (v1 : Vec Ideal S1024x1024 .bf16) (v3 : Vec Ideal S1024x1024 .f32)
    (r k : Fin 1024) : k0_pay1 (F := Ideal) v0 v1 v3 (ix2 r k)
      = (∑ f : Fin 1024, v0 (ix2 r f) * v1 (ix2 f k)) + v3 (ix2 r k) := by
  unfold k0_pay1; pointwise

/-- The windows' block indices at a point: one tile of rows, the whole matrix. -/
theorem idx : ∀ t : Fin cfg0.N, win0_0.index t = ![t.val, 0] ∧ win0_1.index t = ![0, 0]
    ∧ win0_2.index t = ![t.val, 0] ∧ win0_3.index t = ![t.val, 0] :=
  (by decide +kernel : ∀ t : Fin grid0.N, win0_0.index t = ![t.val, 0] ∧ win0_1.index t = ![0, 0]
    ∧ win0_2.index t = ![t.val, 0] ∧ win0_3.index t = ![t.val, 0])

variable (m : (ℓ : Loc nD τ sig) → Buf (Elt Ideal) ℓ) (c : Dev nD)

/-- The rows as launched. -/
abbrev A0 : S4096x1024.Idx → EReal := m (c, Proc.devRef .tc main_arg0)
/-- The matrix as launched. -/
abbrev A1 : S1024x1024.Idx → EReal := m (c, Proc.devRef .tc main_arg1)
/-- The stream as launched. -/
abbrev A2 : S4096x1024.Idx → EReal := m (c, Proc.devRef .tc main_arg2)

theorem block0 (t : Fin cfg0.N) (r : Fin 1024) (f : Fin 1024) (R : Fin 4096) (hR : R.val = t.val * 1024 + r.val) :
    @Eq EReal (iblk m c 0 t (ix2 r f)) (A0 m c (ix2 R f)) := by
  blk_ext [iblk, V, idx t]

theorem block1 (t : Fin cfg0.N) (f : Fin 1024) (k : Fin 1024) : @Eq EReal (iblk m c 1 t (ix2 f k)) (A1 m c (ix2 f k)) := by
  blk_ext [iblk, V, idx t]

theorem block2 (t : Fin cfg0.N) (r k : Fin 1024) (R : Fin 4096) (hR : R.val = t.val * 1024 + r.val) :
    @Eq EReal (iblk m c 2 t (ix2 r k)) (A2 m c (ix2 R k)) := by
  blk_ext [iblk, V, idx t]

/-- One row of the result. -/
def out (R : Fin 4096) (k : Fin 1024) : EReal :=
  (∑ f : Fin 1024, A0 m c (ix2 R f) * A1 m c (ix2 f k)) + A2 m c (ix2 R k)

/-- What a point stores. -/
theorem stored (t : Fin cfg0.N) (r k : Fin 1024) (R : Fin 4096) (hR : R.val = t.val * 1024 + r.val) :
    @Eq EReal (k0_pay1 (F := Ideal) (iblk m c 0 t) (iblk m c 1 t) (iblk m c 2 t) (ix2 r k)) (out m c R k) := by
  rw [pay1]
  unfold out
  refine congr (congrArg _ (Finset.sum_congr rfl fun f _ => ?_)) (block2 m c t r k R hR)
  exact congr (congrArg _ (block0 m c t r f R hR)) (block1 m c t f k)

/-- The array after the run. -/
theorem final : (dats m 0 c).arrAt 3 (cfgs 0).N = fun i => out m c (i 0) (i 1) := by
  refine (dats m 0 c).arrAt_eq_of_covers 3 _ (by decide +kernel) fun t hf y => ?_
  have e0 : ((((cfg0.win 3).blk t).view.emb y) 0 : ℕ) = t.val * 1024 + (y 0).val := by blk_simp [idx t]
  have e1 : ((((cfg0.win 3).blk t).view.emb y) 1 : ℕ) = (y 1).val := by blk_simp [idx t]
  generalize ((cfg0.win 3).blk t).view.emb y = i at e0 e1 ⊢
  blk_simp; rw [after0_3]; unfold outsAt0; frame_out
  idx_vars y
  have e2 : i 1 = y1 := Fin.ext e1
  rw [e2]
  exact stored m c t y0 y1 (i 0) e0

end Cert.HybOIdeal.Block

namespace Cert.HybOClaims

open Cert.HybOIdeal Cert.HybOIdeal.Gen Cert.HybOIdeal.Block

theorem reference (x0 : Cert.HybORefIdeal.S4096x1024.Idx → EReal) (x1 : Cert.HybORefIdeal.S1024x1024.Idx → EReal)
    (x2 : Cert.HybORefIdeal.S4096x1024.Idx → EReal) (r : Fin 4096) (k : Fin 1024) :
    Cert.HybORefIdeal.Read.val_main_v3 (F := Ideal) x0 x1 x2 (ix2 r k)
      = x2 (ix2 r k) + ∑ f : Fin 1024, x0 (ix2 r f) * x1 (ix2 f k) := by
  unfold Cert.HybORefIdeal.Read.val_main_v3 Cert.HybORefIdeal.Read.val_main_v2 Cert.HybORefIdeal.Read.val_main_v1
    Cert.HybORefIdeal.Read.val_main_v0
  pointwise

/-- The output array is the reference's result. -/
theorem array (m : (ℓ : Loc nD τ sig) → Buf (Elt Ideal) ℓ) (c : Dev nD) :
    (dats m 0 c).arrAt 3 (cfgs 0).N
      = Cert.HybORefIdeal.Read.val_main_v3 (F := Ideal) (A0 m c) (A1 m c) (A2 m c) := by
  refine (final m c).trans (funext fun i => ?_)
  idx_vars i
  refine Eq.trans ?_ (reference (A0 m c) (A1 m c) (A2 m c) i0 i1).symm
  unfold out
  rw [add_comm]

theorem frame : Cert.quiescent_HybO := fun m ρ _ => Cert.HybO.Gen.frame m ρ
theorem frameIdeal : Cert.quiescent_HybOIdeal := fun m ρ _ => Cert.HybOIdeal.Gen.frame m ρ
theorem frameRef : Cert.quiescent_HybORefIdeal := fun m ρ _ =>
  (θ_run Cert.HybORefIdeal.defs _ _).mono (fun r h => ⟨fun c => (h c).2, sem_eq_zero_of_no_sems (by decide) r.2⟩)
    (Cert.HybORefIdeal.Value.run (F := Ideal) m ρ)
theorem preserves : Cert.preserves_HybO_HybOIdeal := trivial

/-- A function of equal arguments. -/
theorem congr_three {α β γ δ : Type} (f : α → β → γ → δ) {a a' : α} {b b' : β} {c c' : γ}
    (ha : a = a') (hb : b = b') (hc : c = c') : f a b c = f a' b' c' := by
  subst ha hb hc; rfl

set_option maxHeartbeats 8000000 in
/-- The call computes the reference's stream. -/
theorem algebraic : Cert.algebraic_HybOIdeal_HybORefIdeal := fun m ρ m' ρ' _ hag => by
  refine ⟨fun c => (dats m 0 c).arrAt 3 cfg0.N, Cert.HybOIdeal.Value.run_blocks m ρ,
    (θ_run _ _ _).mono (fun _ h c => ⟨(h c).1.trans ?_, (h c).2⟩) (Cert.HybORefIdeal.Value.run (F := Ideal) m' ρ')⟩
  exact (Cert.HybORefIdeal.Read.val_main_v3_eq (F := Ideal) _ _ _).trans
    ((congr_three (Cert.HybORefIdeal.Read.val_main_v3 (F := Ideal)) (hag c).1 (hag c).2.1 (hag c).2.2).trans (array m c).symm)

end Cert.HybOClaims

end
-- ==== Proof.FinRun.lean ====
/-
  The normalisation and swiglu's first product: the body run at the points that store the normalised rows and at
  those that keep them.
-/
module

public import proofs.«01_k».proof.Proof.Gen.FfnInIdeal.Frame
public import proofs.«01_k».proof.Proof.Gen.FfnInIdeal.Skeleton
public import Idealize.ShloMosaic.Lib.Pipeline.FrameBody
public import Idealize.ShloMosaic.Lib.Pipeline.TableIdle
public import Idealize.ShloMosaic.Lib.Ring
public import Idealize.ShloMosaic.Lib.Tactic
public import Idealize.ShloMosaic.Lib.WordCmp

@[expose] public section

set_option maxRecDepth 16384

noncomputable section

namespace Cert.FfnInIdeal.Run

open Cert.FfnInIdeal Cert.FfnInIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)
abbrev cond0_0 (i : grid0.Coords) : Prop := k0_cond1 i = 1#1

theorem hcond0_0 : ∀ t : Fin cfg0.N, cond0_0 (grid0.coords t) ↔ t.val % 2 = 0 :=
  (fun t => by
    have ht : t.val < 8 := Nat.lt_of_lt_of_eq t.isLt N_0
    have e0 : (grid0.coords t 0).val = t.val / 2 % 4 := Pipeline.Grid.coords_val t 0 (by decide) rfl
    have e1 : (grid0.coords t 1).val = t.val / 1 % 2 := Pipeline.Grid.coords_val t 1 (by decide) rfl
    simp only [cond0_0, k0_cond1, e0, e1]
    word_cmp
   : ∀ t : Fin grid0.N, cond0_0 (grid0.coords t) ↔ t.val % 2 = 0)

theorem liveAt0_0 : ∀ t : Fin cfg0.N, cfg0.idle 0 (grid0.coords t) = false := fun _ => rfl

theorem liveAt0_1 : ∀ t : Fin cfg0.N, cfg0.idle 1 (grid0.coords t) = false := fun _ => rfl

theorem liveAt0_2 : ∀ t : Fin cfg0.N, cfg0.idle 2 (grid0.coords t) = false := fun _ => rfl

theorem liveAt0_3 : ∀ t : Fin cfg0.N, cfg0.idle 3 (grid0.coords t) = false := fun _ => rfl

theorem liveAt0_5 : ∀ t : Fin cfg0.N, cfg0.idle 5 (grid0.coords t) = false := fun _ => rfl

theorem liveAt0_6 : ∀ t : Fin cfg0.N, cfg0.idle 6 (grid0.coords t) = false := fun _ => rfl

def freshTab0_4 : ℕ → Bool
  | 0 => true
  | n + 1 => (0xaa : ℕ).testBit n
theorem freshTab0_4_step : ∀ t : Fin cfg0.N,
    freshTab0_4 (t.val + 1) = ((cfg0.win 4).flush t || (cfg0.idle 4 (cfg0.grid.coords t) && freshTab0_4 t.val)) := by decide +kernel
theorem fresh0_4_eq (t : Fin cfg0.N) : cfg0.fresh 4 t.val = freshTab0_4 t.val :=
  Pipeline.Cfg.fresh_tab cfg0 4 freshTab0_4 rfl freshTab0_4_step t.val (Nat.le_of_lt t.isLt)

theorem liveAt0_4_A : ∀ t : Fin cfg0.N, cond0_0 (grid0.coords t) → cfg0.idle 4 (grid0.coords t) = false := by decide +kernel

theorem flushAt0_4_B : ∀ t : Fin cfg0.N, ¬cond0_0 (grid0.coords t) → (cfg0.win 4).flush t = true := by decide +kernel
theorem idleAt0_4_B : ∀ t : Fin cfg0.N, ¬cond0_0 (grid0.coords t) → cfg0.idle 4 (grid0.coords t) = true := by decide +kernel

theorem notFresh0_4_B : ∀ t : Fin cfg0.N, ¬cond0_0 (grid0.coords t) → cfg0.fresh 4 t.val = false := by
  intro t; rw [fresh0_4_eq t]; revert t; decide +kernel

abbrev VO0_4 : View sig .tc .vmem S1024x1024 .bf16 := (Memref.whole cc0_stg4_0 : Memref sig .tc .vmem S1024x1024 .bf16).view

abbrev VO0_5 : View sig .tc .vmem S1024x2816 .bf16 := (Memref.whole cc0_stg5_0 : Memref sig .tc .vmem S1024x2816 .bf16).view

abbrev VO0_6 : View sig .tc .vmem S1024x1408 .bf16 := (Memref.whole cc0_stg6_0 : Memref sig .tc .vmem S1024x1408 .bf16).view

abbrev ms0_0 (t : Fin cfg0.N) : Memref sig .tc .vmem S1024x1024 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x1024 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x1024x1408 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x1024x1408 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1024x1024 .bf16 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1024x2816 .bf16 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1024x1408 .bf16 := win0_6.stage (cfg0.slots t 6)
abbrev hs0_6 (t : Fin cfg0.N) : (ms0_6 t).IsWhole := hstage0_6 ((cfg0.slots t 6).cast nbuf0_6)

set_option maxHeartbeats 1000000 in

/-- What the body leaves at a point that stores the normalised rows, with the proof that it runs. -/
noncomputable def kernelRun0_A (c : Dev nD) (i : grid0.Coords) (arg2 : Memref sig .tc .vmem S1024x1024 .f32) (harg2 : arg2.IsWhole) (arg3 : Memref sig .tc .vmem S1x1024 .f32) (harg3 : arg3.IsWhole) (arg4 : Memref sig .tc .vmem S1x1024x1408 .bf16) (harg4 : arg4.IsWhole) (arg5 : Memref sig .tc .vmem S1x1024x1408 .bf16) (harg5 : arg5.IsWhole) (arg6 : Memref sig .tc .vmem S1024x1024 .bf16) (harg6 : arg6.IsWhole) (arg7 : Memref sig .tc .vmem S1024x2816 .bf16) (harg7 : arg7.IsWhole) (arg8 : Memref sig .tc .vmem S1024x1408 .bf16) (harg8 : arg8.IsWhole) (hc0 : cond0_0 i)
    (x0 : Vec F S1024x1024 .f32) (x1 : Vec F S1x1024 .f32) (x2 : Vec F S1x1024x1408 .bf16) (x3 : Vec F S1x1024x1408 .bf16) :
    Σ' (L4 : List (View.Piece (Elt F) S1024x1024 .bf16)), Σ' (L5 : List (View.Piece (Elt F) S1024x2816 .bf16)), { L6 : List (View.Piece (Elt F) S1024x1408 .bf16) //
      ∀ (E : Set ℕ) (K : PUnit → sProp (MT nD τ sig Unit (Elt F) ℕ (UR sig nD τ) ℕ)),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ (∃ d, owns (c : Thread nD τ) arg7 fullShare d) ∗ (∃ d, owns (c : Thread nD τ) arg8 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f L5) ∗ (∃ f, arg8.view.loc (c : Thread nD τ) ↦[arg8.view.set]{fullShare} arg8.view.writes (Elt F) f L6)) -∗ K ⟨⟩))
          ⊢ wp frame (wpE (defs₀ (F := F)) Variants.none c none) E (cc0_ffn_in i arg2 harg2 arg3 harg3 arg4 harg4 arg5 harg5 arg6 harg6 arg7 harg7 arg8 harg8) K } := by
  refine ⟨?_, ?_, ?_, fun E K => ?run⟩
  case run =>
    simp only [cc0_ffn_in_eq_skeleton]; unfold cc0_ffn_in_skel
    simp only [k0_part1_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, Hk⟩
    obtain rfl := harg2.eq_unread hf0; obtain rfl := harg3.eq_unread hf1; obtain rfl := harg4.eq_unread hf2; obtain rfl := harg5.eq_unread hf3
    sl_exec (disch := sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    isplitl [H5]; · iexists _; iexact H5
    iexists _; iexact H6

set_option maxHeartbeats 1000000 in

/-- What the body leaves at a point that keeps the normalised rows, with the proof that it runs. -/
noncomputable def kernelRun0_B (c : Dev nD) (i : grid0.Coords) (arg2 : Memref sig .tc .vmem S1024x1024 .f32) (harg2 : arg2.IsWhole) (arg3 : Memref sig .tc .vmem S1x1024 .f32) (harg3 : arg3.IsWhole) (arg4 : Memref sig .tc .vmem S1x1024x1408 .bf16) (harg4 : arg4.IsWhole) (arg5 : Memref sig .tc .vmem S1x1024x1408 .bf16) (harg5 : arg5.IsWhole) (arg6 : Memref sig .tc .vmem S1024x1024 .bf16) (harg6 : arg6.IsWhole) (arg7 : Memref sig .tc .vmem S1024x2816 .bf16) (harg7 : arg7.IsWhole) (arg8 : Memref sig .tc .vmem S1024x1408 .bf16) (harg8 : arg8.IsWhole) (hc0 : ¬cond0_0 i)
    (x0 : Vec F S1024x1024 .f32) (x1 : Vec F S1x1024 .f32) (x2 : Vec F S1x1024x1408 .bf16) (x3 : Vec F S1x1024x1408 .bf16) (xo4 : Vec F S1024x1024 .bf16) :
    Σ' (L5 : List (View.Piece (Elt F) S1024x2816 .bf16)), { L6 : List (View.Piece (Elt F) S1024x1408 .bf16) //
      ∀ (E : Set ℕ) (K : PUnit → sProp (MT nD τ sig Unit (Elt F) ℕ (UR sig nD τ) ℕ)),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xo4 ∗ (∃ d, owns (c : Thread nD τ) arg7 fullShare d) ∗ (∃ d, owns (c : Thread nD τ) arg8 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xo4 ∗ (∃ f, arg7.view.loc (c : Thread nD τ) ↦[arg7.view.set]{fullShare} arg7.view.writes (Elt F) f L5) ∗ (∃ f, arg8.view.loc (c : Thread nD τ) ↦[arg8.view.set]{fullShare} arg8.view.writes (Elt F) f L6)) -∗ K ⟨⟩))
          ⊢ wp frame (wpE (defs₀ (F := F)) Variants.none c none) E (cc0_ffn_in i arg2 harg2 arg3 harg3 arg4 harg4 arg5 harg5 arg6 harg6 arg7 harg7 arg8 harg8) K } := by
  refine ⟨?_, ?_, fun E K => ?run⟩
  case run =>
    simp only [cc0_ffn_in_eq_skeleton]; unfold cc0_ffn_in_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, Hk⟩
    obtain rfl := harg2.eq_unread hf0; obtain rfl := harg3.eq_unread hf1; obtain rfl := harg4.eq_unread hf2; obtain rfl := harg5.eq_unread hf3; obtain rfl := harg6.eq_unread hf4
    sl_exec (disch := sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]; · iexists _; iexact H5
    iexists _; iexact H6

end Cert.FfnInIdeal.Run

end
-- ==== Proof.FinFrame.lean ====
/-
  The normalisation and swiglu's first product: what the three output buffers hold point by point, the body at any
  point, and the run.
-/
module

public import proofs.«01_k».proof.Proof.FinRun
public import Idealize.ShloMosaic.Lib.Claim

@[expose] public section

set_option maxRecDepth 16384

noncomputable section

namespace Cert.FfnInIdeal.Run

open Cert.FfnInIdeal Cert.FfnInIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

theorem cover0_A_4 (c : Dev nD) (i : grid0.Coords) (arg2 : Memref sig .tc .vmem S1024x1024 .f32) (harg2 : arg2.IsWhole) (arg3 : Memref sig .tc .vmem S1x1024 .f32) (harg3 : arg3.IsWhole) (arg4 : Memref sig .tc .vmem S1x1024x1408 .bf16) (harg4 : arg4.IsWhole) (arg5 : Memref sig .tc .vmem S1x1024x1408 .bf16) (harg5 : arg5.IsWhole) (arg6 : Memref sig .tc .vmem S1024x1024 .bf16) (harg6 : arg6.IsWhole) (arg7 : Memref sig .tc .vmem S1024x2816 .bf16) (harg7 : arg7.IsWhole) (arg8 : Memref sig .tc .vmem S1024x1408 .bf16) (harg8 : arg8.IsWhole) (hc0 : cond0_0 i)
    (x0 : Vec F S1024x1024 .f32) (x1 : Vec F S1x1024 .f32) (x2 : Vec F S1x1024x1408 .bf16) (x3 : Vec F S1x1024x1408 .bf16) (y : S1024x1024.Idx) :
    ∃ pc ∈ (kernelRun0_A c i arg2 harg2 arg3 harg3 arg4 harg4 arg5 harg5 arg6 harg6 arg7 harg7 arg8 harg8 hc0 x0 x1 x2 x3).1, y ∈ pc.1.set :=
  View.cover_of_tiledL (kernelRun0_A c i arg2 harg2 arg3 harg3 arg4 harg4 arg5 harg5 arg6 harg6 arg7 harg7 arg8 harg8 hc0 x0 x1 x2 x3).1 S1024x1024.size (by sl_kernel_rfl) y

def out0_A_4 (c : Dev nD) (i : grid0.Coords) (arg2 : Memref sig .tc .vmem S1024x1024 .f32) (harg2 : arg2.IsWhole) (arg3 : Memref sig .tc .vmem S1x1024 .f32) (harg3 : arg3.IsWhole) (arg4 : Memref sig .tc .vmem S1x1024x1408 .bf16) (harg4 : arg4.IsWhole) (arg5 : Memref sig .tc .vmem S1x1024x1408 .bf16) (harg5 : arg5.IsWhole) (arg6 : Memref sig .tc .vmem S1024x1024 .bf16) (harg6 : arg6.IsWhole) (arg7 : Memref sig .tc .vmem S1024x2816 .bf16) (harg7 : arg7.IsWhole) (arg8 : Memref sig .tc .vmem S1024x1408 .bf16) (harg8 : arg8.IsWhole) (hc0 : cond0_0 i)
    (x0 : Vec F S1024x1024 .f32) (x1 : Vec F S1x1024 .f32) (x2 : Vec F S1x1024x1408 .bf16) (x3 : Vec F S1x1024x1408 .bf16) : Vec F S1024x1024 .bf16 :=
  VO0_4.read (Elt F) (VO0_4.writes (Elt F) VO0_4.junk (kernelRun0_A c i arg2 harg2 arg3 harg3 arg4 harg4 arg5 harg5 arg6 harg6 arg7 harg7 arg8 harg8 hc0 x0 x1 x2 x3).1)

theorem cover0_A_5 (c : Dev nD) (i : grid0.Coords) (arg2 : Memref sig .tc .vmem S1024x1024 .f32) (harg2 : arg2.IsWhole) (arg3 : Memref sig .tc .vmem S1x1024 .f32) (harg3 : arg3.IsWhole) (arg4 : Memref sig .tc .vmem S1x1024x1408 .bf16) (harg4 : arg4.IsWhole) (arg5 : Memref sig .tc .vmem S1x1024x1408 .bf16) (harg5 : arg5.IsWhole) (arg6 : Memref sig .tc .vmem S1024x1024 .bf16) (harg6 : arg6.IsWhole) (arg7 : Memref sig .tc .vmem S1024x2816 .bf16) (harg7 : arg7.IsWhole) (arg8 : Memref sig .tc .vmem S1024x1408 .bf16) (harg8 : arg8.IsWhole) (hc0 : cond0_0 i)
    (x0 : Vec F S1024x1024 .f32) (x1 : Vec F S1x1024 .f32) (x2 : Vec F S1x1024x1408 .bf16) (x3 : Vec F S1x1024x1408 .bf16) (y : S1024x2816.Idx) :
    ∃ pc ∈ (kernelRun0_A c i arg2 harg2 arg3 harg3 arg4 harg4 arg5 harg5 arg6 harg6 arg7 harg7 arg8 harg8 hc0 x0 x1 x2 x3).2.1, y ∈ pc.1.set :=
  View.cover_of_tiledL (kernelRun0_A c i arg2 harg2 arg3 harg3 arg4 harg4 arg5 harg5 arg6 harg6 arg7 harg7 arg8 harg8 hc0 x0 x1 x2 x3).2.1 S1024x1408.size (by sl_kernel_rfl) y

def out0_A_5 (c : Dev nD) (i : grid0.Coords) (arg2 : Memref sig .tc .vmem S1024x1024 .f32) (harg2 : arg2.IsWhole) (arg3 : Memref sig .tc .vmem S1x1024 .f32) (harg3 : arg3.IsWhole) (arg4 : Memref sig .tc .vmem S1x1024x1408 .bf16) (harg4 : arg4.IsWhole) (arg5 : Memref sig .tc .vmem S1x1024x1408 .bf16) (harg5 : arg5.IsWhole) (arg6 : Memref sig .tc .vmem S1024x1024 .bf16) (harg6 : arg6.IsWhole) (arg7 : Memref sig .tc .vmem S1024x2816 .bf16) (harg7 : arg7.IsWhole) (arg8 : Memref sig .tc .vmem S1024x1408 .bf16) (harg8 : arg8.IsWhole) (hc0 : cond0_0 i)
    (x0 : Vec F S1024x1024 .f32) (x1 : Vec F S1x1024 .f32) (x2 : Vec F S1x1024x1408 .bf16) (x3 : Vec F S1x1024x1408 .bf16) : Vec F S1024x2816 .bf16 :=
  VO0_5.read (Elt F) (VO0_5.writes (Elt F) VO0_5.junk (kernelRun0_A c i arg2 harg2 arg3 harg3 arg4 harg4 arg5 harg5 arg6 harg6 arg7 harg7 arg8 harg8 hc0 x0 x1 x2 x3).2.1)

theorem cover0_A_6 (c : Dev nD) (i : grid0.Coords) (arg2 : Memref sig .tc .vmem S1024x1024 .f32) (harg2 : arg2.IsWhole) (arg3 : Memref sig .tc .vmem S1x1024 .f32) (harg3 : arg3.IsWhole) (arg4 : Memref sig .tc .vmem S1x1024x1408 .bf16) (harg4 : arg4.IsWhole) (arg5 : Memref sig .tc .vmem S1x1024x1408 .bf16) (harg5 : arg5.IsWhole) (arg6 : Memref sig .tc .vmem S1024x1024 .bf16) (harg6 : arg6.IsWhole) (arg7 : Memref sig .tc .vmem S1024x2816 .bf16) (harg7 : arg7.IsWhole) (arg8 : Memref sig .tc .vmem S1024x1408 .bf16) (harg8 : arg8.IsWhole) (hc0 : cond0_0 i)
    (x0 : Vec F S1024x1024 .f32) (x1 : Vec F S1x1024 .f32) (x2 : Vec F S1x1024x1408 .bf16) (x3 : Vec F S1x1024x1408 .bf16) (y : S1024x1408.Idx) :
    ∃ pc ∈ (kernelRun0_A c i arg2 harg2 arg3 harg3 arg4 harg4 arg5 harg5 arg6 harg6 arg7 harg7 arg8 harg8 hc0 x0 x1 x2 x3).2.2.1, y ∈ pc.1.set :=
  View.cover_of_tiledL (kernelRun0_A c i arg2 harg2 arg3 harg3 arg4 harg4 arg5 harg5 arg6 harg6 arg7 harg7 arg8 harg8 hc0 x0 x1 x2 x3).2.2.1 S1024x1408.size (by sl_kernel_rfl) y

def out0_A_6 (c : Dev nD) (i : grid0.Coords) (arg2 : Memref sig .tc .vmem S1024x1024 .f32) (harg2 : arg2.IsWhole) (arg3 : Memref sig .tc .vmem S1x1024 .f32) (harg3 : arg3.IsWhole) (arg4 : Memref sig .tc .vmem S1x1024x1408 .bf16) (harg4 : arg4.IsWhole) (arg5 : Memref sig .tc .vmem S1x1024x1408 .bf16) (harg5 : arg5.IsWhole) (arg6 : Memref sig .tc .vmem S1024x1024 .bf16) (harg6 : arg6.IsWhole) (arg7 : Memref sig .tc .vmem S1024x2816 .bf16) (harg7 : arg7.IsWhole) (arg8 : Memref sig .tc .vmem S1024x1408 .bf16) (harg8 : arg8.IsWhole) (hc0 : cond0_0 i)
    (x0 : Vec F S1024x1024 .f32) (x1 : Vec F S1x1024 .f32) (x2 : Vec F S1x1024x1408 .bf16) (x3 : Vec F S1x1024x1408 .bf16) : Vec F S1024x1408 .bf16 :=
  VO0_6.read (Elt F) (VO0_6.writes (Elt F) VO0_6.junk (kernelRun0_A c i arg2 harg2 arg3 harg3 arg4 harg4 arg5 harg5 arg6 harg6 arg7 harg7 arg8 harg8 hc0 x0 x1 x2 x3).2.2.1)

theorem cover0_B_5 (c : Dev nD) (i : grid0.Coords) (arg2 : Memref sig .tc .vmem S1024x1024 .f32) (harg2 : arg2.IsWhole) (arg3 : Memref sig .tc .vmem S1x1024 .f32) (harg3 : arg3.IsWhole) (arg4 : Memref sig .tc .vmem S1x1024x1408 .bf16) (harg4 : arg4.IsWhole) (arg5 : Memref sig .tc .vmem S1x1024x1408 .bf16) (harg5 : arg5.IsWhole) (arg6 : Memref sig .tc .vmem S1024x1024 .bf16) (harg6 : arg6.IsWhole) (arg7 : Memref sig .tc .vmem S1024x2816 .bf16) (harg7 : arg7.IsWhole) (arg8 : Memref sig .tc .vmem S1024x1408 .bf16) (harg8 : arg8.IsWhole) (hc0 : ¬cond0_0 i)
    (x0 : Vec F S1024x1024 .f32) (x1 : Vec F S1x1024 .f32) (x2 : Vec F S1x1024x1408 .bf16) (x3 : Vec F S1x1024x1408 .bf16) (xo4 : Vec F S1024x1024 .bf16) (y : S1024x2816.Idx) :
    ∃ pc ∈ (kernelRun0_B c i arg2 harg2 arg3 harg3 arg4 harg4 arg5 harg5 arg6 harg6 arg7 harg7 arg8 harg8 hc0 x0 x1 x2 x3 xo4).1, y ∈ pc.1.set :=
  View.cover_of_tiledL (kernelRun0_B c i arg2 harg2 arg3 harg3 arg4 harg4 arg5 harg5 arg6 harg6 arg7 harg7 arg8 harg8 hc0 x0 x1 x2 x3 xo4).1 S1024x1408.size (by sl_kernel_rfl) y

def out0_B_5 (c : Dev nD) (i : grid0.Coords) (arg2 : Memref sig .tc .vmem S1024x1024 .f32) (harg2 : arg2.IsWhole) (arg3 : Memref sig .tc .vmem S1x1024 .f32) (harg3 : arg3.IsWhole) (arg4 : Memref sig .tc .vmem S1x1024x1408 .bf16) (harg4 : arg4.IsWhole) (arg5 : Memref sig .tc .vmem S1x1024x1408 .bf16) (harg5 : arg5.IsWhole) (arg6 : Memref sig .tc .vmem S1024x1024 .bf16) (harg6 : arg6.IsWhole) (arg7 : Memref sig .tc .vmem S1024x2816 .bf16) (harg7 : arg7.IsWhole) (arg8 : Memref sig .tc .vmem S1024x1408 .bf16) (harg8 : arg8.IsWhole) (hc0 : ¬cond0_0 i)
    (x0 : Vec F S1024x1024 .f32) (x1 : Vec F S1x1024 .f32) (x2 : Vec F S1x1024x1408 .bf16) (x3 : Vec F S1x1024x1408 .bf16) (xo4 : Vec F S1024x1024 .bf16) : Vec F S1024x2816 .bf16 :=
  VO0_5.read (Elt F) (VO0_5.writes (Elt F) VO0_5.junk (kernelRun0_B c i arg2 harg2 arg3 harg3 arg4 harg4 arg5 harg5 arg6 harg6 arg7 harg7 arg8 harg8 hc0 x0 x1 x2 x3 xo4).1)

theorem cover0_B_6 (c : Dev nD) (i : grid0.Coords) (arg2 : Memref sig .tc .vmem S1024x1024 .f32) (harg2 : arg2.IsWhole) (arg3 : Memref sig .tc .vmem S1x1024 .f32) (harg3 : arg3.IsWhole) (arg4 : Memref sig .tc .vmem S1x1024x1408 .bf16) (harg4 : arg4.IsWhole) (arg5 : Memref sig .tc .vmem S1x1024x1408 .bf16) (harg5 : arg5.IsWhole) (arg6 : Memref sig .tc .vmem S1024x1024 .bf16) (harg6 : arg6.IsWhole) (arg7 : Memref sig .tc .vmem S1024x2816 .bf16) (harg7 : arg7.IsWhole) (arg8 : Memref sig .tc .vmem S1024x1408 .bf16) (harg8 : arg8.IsWhole) (hc0 : ¬cond0_0 i)
    (x0 : Vec F S1024x1024 .f32) (x1 : Vec F S1x1024 .f32) (x2 : Vec F S1x1024x1408 .bf16) (x3 : Vec F S1x1024x1408 .bf16) (xo4 : Vec F S1024x1024 .bf16) (y : S1024x1408.Idx) :
    ∃ pc ∈ (kernelRun0_B c i arg2 harg2 arg3 harg3 arg4 harg4 arg5 harg5 arg6 harg6 arg7 harg7 arg8 harg8 hc0 x0 x1 x2 x3 xo4).2.1, y ∈ pc.1.set :=
  View.cover_of_tiledL (kernelRun0_B c i arg2 harg2 arg3 harg3 arg4 harg4 arg5 harg5 arg6 harg6 arg7 harg7 arg8 harg8 hc0 x0 x1 x2 x3 xo4).2.1 S1024x1408.size (by sl_kernel_rfl) y

def out0_B_6 (c : Dev nD) (i : grid0.Coords) (arg2 : Memref sig .tc .vmem S1024x1024 .f32) (harg2 : arg2.IsWhole) (arg3 : Memref sig .tc .vmem S1x1024 .f32) (harg3 : arg3.IsWhole) (arg4 : Memref sig .tc .vmem S1x1024x1408 .bf16) (harg4 : arg4.IsWhole) (arg5 : Memref sig .tc .vmem S1x1024x1408 .bf16) (harg5 : arg5.IsWhole) (arg6 : Memref sig .tc .vmem S1024x1024 .bf16) (harg6 : arg6.IsWhole) (arg7 : Memref sig .tc .vmem S1024x2816 .bf16) (harg7 : arg7.IsWhole) (arg8 : Memref sig .tc .vmem S1024x1408 .bf16) (harg8 : arg8.IsWhole) (hc0 : ¬cond0_0 i)
    (x0 : Vec F S1024x1024 .f32) (x1 : Vec F S1x1024 .f32) (x2 : Vec F S1x1024x1408 .bf16) (x3 : Vec F S1x1024x1408 .bf16) (xo4 : Vec F S1024x1024 .bf16) : Vec F S1024x1408 .bf16 :=
  VO0_6.read (Elt F) (VO0_6.writes (Elt F) VO0_6.junk (kernelRun0_B c i arg2 harg2 arg3 harg3 arg4 harg4 arg5 harg5 arg6 harg6 arg7 harg7 arg8 harg8 hc0 x0 x1 x2 x3 xo4).2.1)

/-- What the three output buffers hold after each point: the normalised rows are kept at the odd points. -/
def outsAt0 (c : Dev nD) : (n : ℕ) → n < cfg0.N → Vec F S1024x1024 .bf16 × Vec F S1024x2816 .bf16 × Vec F S1024x1408 .bf16
  | 0, hn => (out0_A_4 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) ((hcond0_0 ⟨0, hn⟩).mpr (Nat.zero_mod _)) (iblk m c 0 ⟨0, hn⟩) (iblk m c 1 ⟨0, hn⟩) (iblk m c 2 ⟨0, hn⟩) (iblk m c 3 ⟨0, hn⟩), out0_A_5 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) ((hcond0_0 ⟨0, hn⟩).mpr (Nat.zero_mod _)) (iblk m c 0 ⟨0, hn⟩) (iblk m c 1 ⟨0, hn⟩) (iblk m c 2 ⟨0, hn⟩) (iblk m c 3 ⟨0, hn⟩), out0_A_6 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) ((hcond0_0 ⟨0, hn⟩).mpr (Nat.zero_mod _)) (iblk m c 0 ⟨0, hn⟩) (iblk m c 1 ⟨0, hn⟩) (iblk m c 2 ⟨0, hn⟩) (iblk m c 3 ⟨0, hn⟩))
  | n + 1, hn =>
    if h0 : (n + 1) % 2 = 0 then
      if h1 : (n + 1) % 2 = 1 then
        False.elim (by have hN : n + 1 < 8 := lt_of_lt_of_eq hn (show cfg0.N = 8 from N_0); omega)
      else
        (out0_A_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩), out0_A_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩), out0_A_6 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩))
    else
      if h1 : (n + 1) % 2 = 1 then
        ((outsAt0 c n (Nat.lt_of_succ_lt hn)).1, out0_B_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).1, out0_B_6 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).1)
      else
        False.elim (by have hN : n + 1 < 8 := lt_of_lt_of_eq hn (show cfg0.N = 8 from N_0); omega)

theorem outsAt0_A (c : Dev nD) (t : Fin cfg0.N) (h0 : t.val % 2 = 0) (h1 : ¬t.val % 2 = 1) :
    outsAt0 m c t.val t.isLt = (out0_A_4 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) ((hcond0_0 t).mpr h0) (iblk m c 0 t) (iblk m c 1 t) (iblk m c 2 t) (iblk m c 3 t), out0_A_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) ((hcond0_0 t).mpr h0) (iblk m c 0 t) (iblk m c 1 t) (iblk m c 2 t) (iblk m c 3 t), out0_A_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) ((hcond0_0 t).mpr h0) (iblk m c 0 t) (iblk m c 1 t) (iblk m c 2 t) (iblk m c 3 t)) := by
  obtain ⟨n, hn⟩ := t
  cases n with
  | zero => exact rfl
  | succ n => exact (dif_pos h0).trans ((dif_neg h1).trans rfl)

theorem outsAt0_B (c : Dev nD) (t : Fin cfg0.N) (h0 : ¬t.val % 2 = 0) (h1 : t.val % 2 = 1) :
    outsAt0 m c t.val t.isLt = ((outsAt0 m c (t.val - 1) (Nat.lt_of_le_of_lt (Nat.sub_le _ _) t.isLt)).1, out0_B_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (fun h => h0 ((hcond0_0 t).mp h)) (iblk m c 0 t) (iblk m c 1 t) (iblk m c 2 t) (iblk m c 3 t) (outsAt0 m c (t.val - 1) (Nat.lt_of_le_of_lt (Nat.sub_le _ _) t.isLt)).1, out0_B_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (fun h => h0 ((hcond0_0 t).mp h)) (iblk m c 0 t) (iblk m c 1 t) (iblk m c 2 t) (iblk m c 3 t) (outsAt0 m c (t.val - 1) (Nat.lt_of_le_of_lt (Nat.sub_le _ _) t.isLt)).1) := by
  obtain ⟨n, hn⟩ := t
  cases n with
  | zero => exact (by exfalso; (try dsimp only at h0); exact absurd (Nat.zero_mod _) h0)
  | succ n => exact (dif_neg h0).trans ((dif_pos h1).trans rfl)

/-- The proof data of the pipeline. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => (outsAt0 m c t.val t.isLt).1
    | ⟨5, _⟩ => (outsAt0 m c t.val t.isLt).2.1
    | ⟨6, _⟩ => (outsAt0 m c t.val t.isLt).2.2
  Φ _ := Pipeline.ΦA spec0 c
  q w := Pipeline.shareOf spec0 w
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = (outsAt0 m c t.val t.isLt).1 := by dsimp only [dats]
theorem after0_5 (c : Dev nD) (t : Fin cfg0.N) : (dats m 0 c).after 5 t = (outsAt0 m c t.val t.isLt).2.1 := by dsimp only [dats]
theorem after0_6 (c : Dev nD) (t : Fin cfg0.N) : (dats m 0 c).after 6 t = (outsAt0 m c t.val t.isLt).2.2 := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

/-- At an odd point the normalised rows are what the point before left. -/
theorem hcarry0_4 (c : Dev nD) : ∀ (t : Fin cfg0.N) (_ : t.val ≠ 0), cfg0.idle 4 (grid0.coords t) = true → cfg0.fresh 4 t.val = false →
    (dats m 0 c).after 4 t = (dats m 0 c).after 4 ⟨t.val - 1, by omega⟩ := by
  intro t _ hi _
  have hN : t.val < 8 := lt_of_lt_of_eq t.isLt (show cfg0.N = 8 from N_0)
  rw [after0_4, after0_4]
  by_cases h0 : t.val % 2 = 0
  · by_cases h1 : t.val % 2 = 1
    · exfalso; omega
    · rw [liveAt0_4_A t ((hcond0_0 t).mpr h0)] at hi
      exact absurd hi Bool.false_ne_true
  · by_cases h1 : t.val % 2 = 1
    · rw [outsAt0_B m c t h0 h1]
    · exfalso; omega

theorem before0_4_B (c : Dev nD) (t : Fin cfg0.N) (h0 : ¬t.val % 2 = 0) (h1 : t.val % 2 = 1) (d) :
    (dats m 0 c).before 4 t d = (outsAt0 m c (t.val - 1) (Nat.lt_of_le_of_lt (Nat.sub_le _ _) t.isLt)).1 := by
  rw [Dat.before_out_traj _ 4 rfl (fun _ _ => rfl) (hcarry0_4 m c) t.val t rfl d,
    if_neg (by rw [notFresh0_4_B t (fun h => h0 ((hcond0_0 t).mp h))]; exact Bool.false_ne_true)]
  dsimp only [dats]

/-- What the body is given at a point. -/
def bodyPre (c : Dev nD) (t : Fin cfg0.N) : sProp (MT nD τ sig Unit (Elt F) ℕ (UR sig nD τ) ℕ) :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d)))

/-- What the body gives back at a point. -/
def bodyPost (c : Dev nD) (t : Fin cfg0.N) : sProp (MT nD τ sig Unit (Elt F) ℕ (UR sig nD τ) ℕ) :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t)

set_option maxHeartbeats 800000 in

/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).Φ t.succ = (dats m 0 c).Φ t.castSucc from rfl,
    show (dats m 0 c).owesAt () t.succ = (dats m 0 c).owesAt () t.castSucc from rfl]
  have hN : t.val < 8 := lt_of_lt_of_eq t.isLt (show cfg0.N = 8 from N_0)
  by_cases h0 : t.val % 2 = 0
  · by_cases h1 : t.val % 2 = 1
    · exfalso; omega
    · rw [show (dats m 0 c).leavesExact 0 t = owns (c : Thread nD τ) (ms0_0 t) fullShare ((dats m 0 c).after 0 t) from by
      unfold Dat.leavesExact; rw [liveAt0_0 t], after0_0]
      rw [show (dats m 0 c).leavesExact 1 t = owns (c : Thread nD τ) (ms0_1 t) fullShare ((dats m 0 c).after 1 t) from by
      unfold Dat.leavesExact; rw [liveAt0_1 t], after0_1]
      rw [show (dats m 0 c).leavesExact 2 t = owns (c : Thread nD τ) (ms0_2 t) fullShare ((dats m 0 c).after 2 t) from by
      unfold Dat.leavesExact; rw [liveAt0_2 t], after0_2]
      rw [show (dats m 0 c).leavesExact 3 t = owns (c : Thread nD τ) (ms0_3 t) fullShare ((dats m 0 c).after 3 t) from by
      unfold Dat.leavesExact; rw [liveAt0_3 t], after0_3]
      rw [show (dats m 0 c).leavesExact 4 t = owns (c : Thread nD τ) (ms0_4 t) fullShare ((dats m 0 c).after 4 t) from by
      unfold Dat.leavesExact; rw [liveAt0_4_A t ((hcond0_0 t).mpr h0)], after0_4]
      rw [show (dats m 0 c).leavesExact 5 t = owns (c : Thread nD τ) (ms0_5 t) fullShare ((dats m 0 c).after 5 t) from by
      unfold Dat.leavesExact; rw [liveAt0_5 t], after0_5]
      rw [show (dats m 0 c).leavesExact 6 t = owns (c : Thread nD τ) (ms0_6 t) fullShare ((dats m 0 c).after 6 t) from by
      unfold Dat.leavesExact; rw [liveAt0_6 t], after0_6]
      rw [outsAt0_A m c t h0 h1]
      unfold out0_A_4 out0_A_5 out0_A_6; (try dsimp only)
      iintro ⟨HΦ, Ho, ⟨%d0, H0⟩, ⟨%d1, H1⟩, ⟨%d2, H2⟩, ⟨%d3, H3⟩, ⟨%d4, H4⟩, ⟨%d5, H5⟩, ⟨%d6, H6⟩⟩
      iapply ((kernelRun0_A c (grid0.coords t) _ _ _ _ _ _ _ _ _ _ _ _ _ _ ((hcond0_0 t).mpr h0) (iblk m c 0 t) (iblk m c 1 t) (iblk m c 2 t) (iblk m c 3 t)).2.2.2 Set.univ _)
      isplitl [H0]; · iexact H0
      isplitl [H1]; · iexact H1
      isplitl [H2]; · iexact H2
      isplitl [H3]; · iexact H3
      isplitl [H4]; · iexists _; iexact H4
      isplitl [H5]; · iexists _; iexact H5
      isplitl [H6]; · iexists _; iexact H6
      iintro ⟨H0, H1, H2, H3, ⟨%e4, H4⟩, ⟨%e5, H5⟩, ⟨%e6, H6⟩⟩
      isplitl [HΦ]; · iexact HΦ
      isplitl [Ho]; · iexact Ho
      isplitl [H0]; · iexact H0
      isplitl [H1]; · iexact H1
      isplitl [H2]; · iexact H2
      isplitl [H3]; · iexact H3
      isplitl [H4]
      · unfold owns; iexists _; isplitr
        swap; · iexact H4
        ipureintro; exact View.read_writes_of_cover _ _ _ _ _ (cover0_A_4 c _ _ _ _ _ _ _ _ _ _ _ _ _ _ _ _ _ _ _ _)
      isplitl [H5]
      · unfold owns; iexists _; isplitr
        swap; · iexact H5
        ipureintro; exact View.read_writes_of_cover _ _ _ _ _ (cover0_A_5 c _ _ _ _ _ _ _ _ _ _ _ _ _ _ _ _ _ _ _ _)
      unfold owns; iexists _; isplitr
      swap; · iexact H6
      ipureintro; exact View.read_writes_of_cover _ _ _ _ _ (cover0_A_6 c _ _ _ _ _ _ _ _ _ _ _ _ _ _ _ _ _ _ _ _)
  · by_cases h1 : t.val % 2 = 1
    · rw [show (dats m 0 c).leavesExact 0 t = owns (c : Thread nD τ) (ms0_0 t) fullShare ((dats m 0 c).after 0 t) from by
      unfold Dat.leavesExact; rw [liveAt0_0 t], after0_0]
      rw [show (dats m 0 c).leavesExact 1 t = owns (c : Thread nD τ) (ms0_1 t) fullShare ((dats m 0 c).after 1 t) from by
      unfold Dat.leavesExact; rw [liveAt0_1 t], after0_1]
      rw [show (dats m 0 c).leavesExact 2 t = owns (c : Thread nD τ) (ms0_2 t) fullShare ((dats m 0 c).after 2 t) from by
      unfold Dat.leavesExact; rw [liveAt0_2 t], after0_2]
      rw [show (dats m 0 c).leavesExact 3 t = owns (c : Thread nD τ) (ms0_3 t) fullShare ((dats m 0 c).after 3 t) from by
      unfold Dat.leavesExact; rw [liveAt0_3 t], after0_3]
      rw [show (dats m 0 c).leavesExact 4 t = owns (c : Thread nD τ) (ms0_4 t) fullShare ((dats m 0 c).after 4 t) from by
      unfold Dat.leavesExact; rw [idleAt0_4_B t (fun h => h0 ((hcond0_0 t).mp h)), flushAt0_4_B t (fun h => h0 ((hcond0_0 t).mp h))], after0_4]
      rw [show (dats m 0 c).leavesExact 5 t = owns (c : Thread nD τ) (ms0_5 t) fullShare ((dats m 0 c).after 5 t) from by
      unfold Dat.leavesExact; rw [liveAt0_5 t], after0_5]
      rw [show (dats m 0 c).leavesExact 6 t = owns (c : Thread nD τ) (ms0_6 t) fullShare ((dats m 0 c).after 6 t) from by
      unfold Dat.leavesExact; rw [liveAt0_6 t], after0_6]
      rw [outsAt0_B m c t h0 h1]
      simp only [before0_4_B m c t h0 h1]
      unfold out0_B_5 out0_B_6; (try dsimp only)
      iintro ⟨HΦ, Ho, ⟨%d0, H0⟩, ⟨%d1, H1⟩, ⟨%d2, H2⟩, ⟨%d3, H3⟩, ⟨%d4, H4⟩, ⟨%d5, H5⟩, ⟨%d6, H6⟩⟩
      iapply ((kernelRun0_B c (grid0.coords t) _ _ _ _ _ _ _ _ _ _ _ _ _ _ (fun h => h0 ((hcond0_0 t).mp h)) (iblk m c 0 t) (iblk m c 1 t) (iblk m c 2 t) (iblk m c 3 t) _).2.2 Set.univ _)
      isplitl [H0]; · iexact H0
      isplitl [H1]; · iexact H1
      isplitl [H2]; · iexact H2
      isplitl [H3]; · iexact H3
      isplitl [H4]; · iexact H4
      isplitl [H5]; · iexists _; iexact H5
      isplitl [H6]; · iexists _; iexact H6
      iintro ⟨H0, H1, H2, H3, H4, ⟨%e5, H5⟩, ⟨%e6, H6⟩⟩
      isplitl [HΦ]; · iexact HΦ
      isplitl [Ho]; · iexact Ho
      isplitl [H0]; · iexact H0
      isplitl [H1]; · iexact H1
      isplitl [H2]; · iexact H2
      isplitl [H3]; · iexact H3
      isplitl [H4]; · iexact H4
      isplitl [H5]
      · unfold owns; iexists _; isplitr
        swap; · iexact H5
        ipureintro; exact View.read_writes_of_cover _ _ _ _ _ (cover0_B_5 c _ _ _ _ _ _ _ _ _ _ _ _ _ _ _ _ _ _ _ _ _)
      unfold owns; iexists _; isplitr
      swap; · iexact H6
      ipureintro; exact View.read_writes_of_cover _ _ _ _ _ (cover0_B_6 c _ _ _ _ _ _ _ _ _ _ _ _ _ _ _ _ _ _ _ _ _)
    · exfalso; omega

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in

theorem run_main_quiescent : θ_run defs (onTc (τ := τ) (main (F := F))) (s₀ m ρ) (fun r => (Pipeline.FramePost cfgs (dats m) 0 (V m)) r ∧ r.2.sem = fun _ => 0) :=
  Pipeline.θ_run_frame_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hΦ := fun _ _ => rfl)

/-- The run. -/
theorem run_main : θ_run defs (onTc (τ := τ) (main (F := F))) (s₀ m ρ) (Pipeline.FramePost cfgs (dats m) 0 (V m)) :=
  (θ_run defs _ _).mono (fun _ h => h.1) (run_main_quiescent m ρ)

theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (dats m) (A_eq m) (run_main m ρ)

/-- The run ends with the arguments unchanged and every semaphore at rest. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (unchanged m ρ) ((θ_run defs _ _).mono (fun _ h => h.2) (run_main_quiescent m ρ))

theorem post4 (r : PUnit × MemSt nD τ sig (Elt F)) (h : Pipeline.FramePost cfgs (dats m) 0 (V m) r) (c : Dev nD) :
    r.2.mem ((c : Thread nD τ).loc main_v3_0) = (dats m 0 c).arrAt 4 cfg0.N :=
  (h c).1 4

theorem post5 (r : PUnit × MemSt nD τ sig (Elt F)) (h : Pipeline.FramePost cfgs (dats m) 0 (V m) r) (c : Dev nD) :
    r.2.mem ((c : Thread nD τ).loc main_v3_1) = (dats m 0 c).arrAt 5 cfg0.N :=
  (h c).1 5

theorem post6 (r : PUnit × MemSt nD τ sig (Elt F)) (h : Pipeline.FramePost cfgs (dats m) 0 (V m) r) (c : Dev nD) :
    r.2.mem ((c : Thread nD τ).loc main_v3_2) = (dats m 0 c).arrAt 6 cfg0.N :=
  (h c).1 6

theorem kept_main_arg0 (r : PUnit × MemSt nD τ sig (Elt F)) (h : Pipeline.FramePost cfgs (dats m) 0 (V m) r) (c : Dev nD) :
    r.2.mem ((c : Thread nD τ).loc main_arg0) = m ((c : Thread nD τ).loc main_arg0) :=
  ((h c).1 0).trans (((dats m 0 c).arrAt_in 0 rfl _).trans ((A_eq m c 0).trans (V_main_arg0 m c)))

theorem kept_main_arg1 (r : PUnit × MemSt nD τ sig (Elt F)) (h : Pipeline.FramePost cfgs (dats m) 0 (V m) r) (c : Dev nD) :
    r.2.mem ((c : Thread nD τ).loc main_arg1) = m ((c : Thread nD τ).loc main_arg1) :=
  ((h c).2 main_arg1 (Pipeline.mem_restRefs_of main_arg1 (by decide) (by decide))).trans (V_main_arg1 m c)

theorem kept_main_arg2 (r : PUnit × MemSt nD τ sig (Elt F)) (h : Pipeline.FramePost cfgs (dats m) 0 (V m) r) (c : Dev nD) :
    r.2.mem ((c : Thread nD τ).loc main_arg2) = m ((c : Thread nD τ).loc main_arg2) :=
  ((h c).2 main_arg2 (Pipeline.mem_restRefs_of main_arg2 (by decide) (by decide))).trans (V_main_arg2 m c)

/-- The run, its three arrays named. -/
theorem run_blocks : θ_run defs (onTc (τ := τ) (main (F := F))) ⟨m, fun _ => 0, ρ⟩ fun r => ∀ c : Dev nD,
      r.2.mem ((c : Thread nD τ).loc main_v3_0) = (dats m 0 c).arrAt 4 cfg0.N
      ∧ r.2.mem ((c : Thread nD τ).loc main_v3_1) = (dats m 0 c).arrAt 5 cfg0.N
      ∧ r.2.mem ((c : Thread nD τ).loc main_v3_2) = (dats m 0 c).arrAt 6 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨post4 m r h c,
      post5 m r h c,
      post6 m r h c,
      kept_main_arg0 m r h c,
      kept_main_arg1 m r h c,
      kept_main_arg2 m r h c⟩)
    (run_main m ρ)

end Cert.FfnInIdeal.Run

end
-- ==== Proof.FinMath.lean ====
/-
  The logistic function as the kernel of swiglu's first half computes it, and as the reference does: the same extended
  real number, at the infinities too.
-/
module

public import proofs.«01_k».proof.Proof.HidMath

@[expose] public section

noncomputable section

open Idealize.ShloMosaic

namespace Cert.FinMath

open Cert.Reals Cert.HidMath

/-- One half of an infinity is that infinity. -/
theorem half_top : ((1 / 2 : ℝ) : EReal) * ⊤ = ⊤ := EReal.coe_mul_top_of_pos (by norm_num)
theorem half_bot : ((1 / 2 : ℝ) : EReal) * ⊥ = ⊥ := EReal.coe_mul_bot_of_pos (by norm_num)

/-- The logistic through `tanh` is the logistic quotient. -/
theorem sigma (a : EReal) :
    Ideal.ofBits .f32 0x3F000000#32 * Ideal.tanh (Ideal.ofBits .f32 0x3F000000#32 * a) + Ideal.ofBits .f32 0x3F000000#32
      = Ideal.div 1 (1 + Ideal.exp (-a)) := by
  induction a with
  | coe a => rw [sigmaK_coe, sigma_coe]
  | top =>
    rw [half, half_top, Ideal.tanh_top, EReal.neg_top, Ideal.exp_bot, mul_one, add_zero, ← EReal.coe_add, ← EReal.coe_one,
      Ideal.div_coe one_ne_zero, ← EReal.coe_mul]
    norm_num
  | bot =>
    rw [half, half_bot, Ideal.tanh_bot, EReal.neg_bot, Ideal.exp_top, ← EReal.coe_one, EReal.coe_add_top, ← EReal.coe_neg,
      ← EReal.coe_mul, ← EReal.coe_add]
    simp [Ideal.div]

end Cert.FinMath

end
-- ==== Proof.FinKernel.lean ====
/-
  The kernel of swiglu's first half: its operands read block by block, and what its three output arrays hold after the
  run. The normalised rows are written at the first of a row tile's two points and kept at the second; the packed columns
  and the gated columns are written at both.
-/
module

public import proofs.«01_k».proof.Proof.FinFrame
public import proofs.«01_k».proof.Proof.FinMath
public import Idealize.ShloMosaic.Lib.StableHlo.RunRead

@[expose] public section

set_option maxRecDepth 16384

noncomputable section

open Idealize.ShloMosaic Idealize.ShloMosaic.TcCoe Idealize.SL.Sem

namespace Cert.FfnInIdeal.Block

open Cert.FfnInIdeal Cert.FfnInIdeal.Gen Cert.FfnInIdeal.Run

/-! ## What the body stores -/

/-- A row of the stream normalised, at a column. -/
def nrm (x : Fin 1024 → EReal) (g : EReal) (k : Fin 1024) : EReal :=
  x k * Ideal.rsqrt (Ideal.div (∑ l : Fin 1024, x l * x l) (Ideal.ofBits .f32 0x44800000#32) + Ideal.ofBits .f32 0x358637BD#32) * g

/-- A gate's value times its logistic times the up projection, as the kernel computes it. -/
def gated (a b : EReal) : EReal :=
  a * (Ideal.ofBits .f32 0x3F000000#32 * Ideal.tanh (Ideal.ofBits .f32 0x3F000000#32 * a) + Ideal.ofBits .f32 0x3F000000#32) * b

theorem pay2 (v0 : Vec Ideal S1024x1024 .f32) (v11 : Vec Ideal S1x1024 .f32) (r k : Fin 1024) :
    k0_pay2 (F := Ideal) v0 v11 (ix2 r k) = nrm (fun l => v0 (ix2 r l)) (v11 (ix2 0 k)) k := by
  unfold nrm k0_pay2; pointwise

theorem pay3 (v0 : Vec Ideal S1024x1024 .f32) (v11 : Vec Ideal S1x1024 .f32) (w : Vec Ideal S1x1024x1408 .bf16)
    (r : Fin 1024) (q : Fin 1408) : k0_pay3 (F := Ideal) v0 v11 w (ix2 r q)
      = ∑ k : Fin 1024, k0_pay2 (F := Ideal) v0 v11 (ix2 r k) * w (ix3 0 k q) := by
  unfold k0_pay3; pointwise

theorem pay4 (v0 : Vec Ideal S1024x1024 .f32) (v11 : Vec Ideal S1x1024 .f32) (w : Vec Ideal S1x1024x1408 .bf16)
    (r : Fin 1024) (q : Fin 1408) : k0_pay4 (F := Ideal) v0 v11 w (ix2 r q)
      = ∑ k : Fin 1024, k0_pay2 (F := Ideal) v0 v11 (ix2 r k) * w (ix3 0 k q) := by
  unfold k0_pay4; pointwise

theorem pay5 (v0 : Vec Ideal S1024x1024 .f32) (v11 : Vec Ideal S1x1024 .f32) (w : Vec Ideal S1x1024x1408 .bf16)
    (r : Fin 1024) (q : Fin 1408) : k0_pay5 (F := Ideal) v0 v11 w (ix2 r q) = k0_pay3 (F := Ideal) v0 v11 w (ix2 r q) := by
  unfold k0_pay5; pointwise

theorem pay6 (v0 : Vec Ideal S1024x1024 .f32) (v11 : Vec Ideal S1x1024 .f32) (w : Vec Ideal S1x1024x1408 .bf16)
    (r : Fin 1024) (q : Fin 1408) : k0_pay6 (F := Ideal) v0 v11 w (ix2 r q) = k0_pay4 (F := Ideal) v0 v11 w (ix2 r q) := by
  unfold k0_pay6; pointwise

theorem pay7 (v0 : Vec Ideal S1024x1024 .f32) (v11 : Vec Ideal S1x1024 .f32) (w : Vec Ideal S1x1024x1408 .bf16)
    (r : Fin 1024) (q : Fin 1408) : k0_pay7 (F := Ideal) v0 v11 w (ix2 r q)
      = Ideal.tanh (Ideal.ofBits .f32 0x3F000000#32 * k0_pay3 (F := Ideal) v0 v11 w (ix2 r q)) := by
  unfold k0_pay7; pointwise

theorem pay1 (a b s : FVec Ideal S1024x1408 .f32) (z : Ideal .f32) (r : Fin 1024) (q : Fin 1408) :
    k0_pay1 (F := Ideal) a b s z (ix2 r q) = a (ix2 r q) * (z * s (ix2 r q) + Ideal.ofBits .f32 0x3F000000#32) * b (ix2 r q) := by
  unfold k0_pay1; pointwise

/-! ## The operands -/

/-- The windows' block indices at a point: row tile `t / 2`, column half `t % 2`. -/
theorem idx : ∀ t : Fin cfg0.N, win0_0.index t = ![t.val / 2, 0] ∧ win0_1.index t = ![0, 0]
    ∧ win0_2.index t = ![t.val % 2, 0, 0] ∧ win0_3.index t = ![2 + t.val % 2, 0, 0] ∧ win0_4.index t = ![t.val / 2, 0]
    ∧ win0_5.index t = ![t.val / 2, t.val % 2] ∧ win0_6.index t = ![t.val / 2, t.val % 2] :=
  (by decide +kernel : ∀ t : Fin grid0.N, win0_0.index t = ![t.val / 2, 0] ∧ win0_1.index t = ![0, 0]
    ∧ win0_2.index t = ![t.val % 2, 0, 0] ∧ win0_3.index t = ![2 + t.val % 2, 0, 0] ∧ win0_4.index t = ![t.val / 2, 0]
    ∧ win0_5.index t = ![t.val / 2, t.val % 2] ∧ win0_6.index t = ![t.val / 2, t.val % 2])

theorem lt (t : Fin cfg0.N) : t.val < 8 := lt_of_lt_of_eq t.isLt (by decide)

variable (m : (ℓ : Loc nD τ sig) → Buf (Elt Ideal) ℓ) (c : Dev nD)

/-- The stream as launched. -/
abbrev A0 : S4096x1024.Idx → EReal := m (c, Proc.devRef .tc main_arg0)
/-- The gains as launched. -/
abbrev A1 : S1024.Idx → EReal := m (c, Proc.devRef .tc main_arg1)
/-- The weight as launched. -/
abbrev A2 : S1024x5632.Idx → EReal := m (c, Proc.devRef .tc main_arg2)

/-- The gains as a row, as the host code prepares them. -/
theorem read_gains : V m c main_v0 = shapeCast S1x1024 (A1 m c) shapeCasts_S1024_S1x1024 := by
  unfold_abbrev_sides
  after_reads_simp
  rfl

/-- The weight by blocks of columns, as the host code prepares it. -/
theorem read_weight : V m c main_v2 = transpose S4x1024x1408 [1, 0, 2] (shapeCast S1024x4x1408 (A2 m c) shapeCasts_S1024x5632_S1024x4x1408)
    transposes_S1024x4x1408_S4x1024x1408_1_0_2 := by
  unfold_abbrev_sides
  after_reads_simp
  rfl

theorem gain (k : Fin 1024) : V m c main_v0 (ix2 0 k) = A1 m c (ix1 k) := by
  rw [read_gains]; pointwise

theorem weight (q : Fin 4) (k : Fin 1024) (j : Fin 1408) :
    V m c main_v2 (ix3 q k j) = A2 m c (ix2 k ⟨q.val * 1408 + j.val, by omega⟩) := by
  rw [read_weight]; pointwise; blk_ext

theorem block0 (t : Fin cfg0.N) (r k : Fin 1024) (R : Fin 4096) (hR : R.val = t.val / 2 * 1024 + r.val) :
    @Eq EReal (iblk m c 0 t (ix2 r k)) (A0 m c (ix2 R k)) := by
  blk_ext [iblk, V, idx t]

theorem block1 (t : Fin cfg0.N) (k : Fin 1024) : @Eq EReal (iblk m c 1 t (ix2 0 k)) (A1 m c (ix1 k)) := by
  refine Eq.trans ?_ (gain m c k)
  blk_ext [iblk, idx t]

theorem block2 (t : Fin cfg0.N) (k : Fin 1024) (j : Fin 1408) (p : Fin 5632) (hp : p.val = t.val % 2 * 1408 + j.val) :
    @Eq EReal (iblk m c 2 t (ix3 0 k j)) (A2 m c (ix2 k p)) := by
  refine Eq.trans ?_ ((weight m c ⟨t.val % 2, by omega⟩ k j).trans (congrArg (fun p => A2 m c (ix2 k p)) (Fin.ext hp.symm)))
  blk_ext [iblk, idx t]

theorem block3 (t : Fin cfg0.N) (k : Fin 1024) (j : Fin 1408) (p : Fin 5632) (hp : p.val = (2 + t.val % 2) * 1408 + j.val) :
    @Eq EReal (iblk m c 3 t (ix3 0 k j)) (A2 m c (ix2 k p)) := by
  refine Eq.trans ?_ ((weight m c ⟨2 + t.val % 2, by omega⟩ k j).trans (congrArg (fun p => A2 m c (ix2 k p)) (Fin.ext hp.symm)))
  blk_ext [iblk, idx t]

/-! ## What a point stores -/

/-- The normalised stream. -/
def xn (R : Fin 4096) (k : Fin 1024) : EReal := nrm (fun l => A0 m c (ix2 R l)) (A1 m c (ix1 k)) k

/-- The product with the weight. -/
def prod (R : Fin 4096) (p : Fin 5632) : EReal := ∑ k : Fin 1024, xn m c R k * A2 m c (ix2 k p)

theorem rows (t : Fin cfg0.N) (r k : Fin 1024) (R : Fin 4096) (hR : R.val = t.val / 2 * 1024 + r.val) :
    @Eq EReal (k0_pay2 (F := Ideal) (iblk m c 0 t) (iblk m c 1 t) (ix2 r k)) (xn m c R k) := by
  rw [pay2]
  unfold xn
  exact congr (congr (congrArg nrm (funext fun l => block0 m c t r l R hR)) (block1 m c t k)) rfl

theorem gate (t : Fin cfg0.N) (r : Fin 1024) (q : Fin 1408) (R : Fin 4096) (hR : R.val = t.val / 2 * 1024 + r.val)
    (p : Fin 5632) (hp : p.val = t.val % 2 * 1408 + q.val) :
    @Eq EReal (k0_pay3 (F := Ideal) (iblk m c 0 t) (iblk m c 1 t) (iblk m c 2 t) (ix2 r q)) (prod m c R p) := by
  rw [pay3]
  exact Finset.sum_congr rfl fun k _ => congr (congrArg _ (rows m c t r k R hR)) (block2 m c t k q p hp)

theorem up (t : Fin cfg0.N) (r : Fin 1024) (q : Fin 1408) (R : Fin 4096) (hR : R.val = t.val / 2 * 1024 + r.val)
    (p : Fin 5632) (hp : p.val = (2 + t.val % 2) * 1408 + q.val) :
    @Eq EReal (k0_pay4 (F := Ideal) (iblk m c 0 t) (iblk m c 1 t) (iblk m c 3 t) (ix2 r q)) (prod m c R p) := by
  rw [pay4]
  exact Finset.sum_congr rfl fun k _ => congr (congrArg _ (rows m c t r k R hR)) (block3 m c t k q p hp)

/-- The gated columns a point stores. -/
theorem cols (t : Fin cfg0.N) (r : Fin 1024) (q : Fin 1408) (R : Fin 4096) (hR : R.val = t.val / 2 * 1024 + r.val)
    (p p' : Fin 5632) (hp : p.val = t.val % 2 * 1408 + q.val) (hp' : p'.val = (2 + t.val % 2) * 1408 + q.val) :
    @Eq EReal (k0_pay1 (F := Ideal) (k0_pay3 (F := Ideal) (iblk m c 0 t) (iblk m c 1 t) (iblk m c 2 t))
      (k0_pay4 (F := Ideal) (iblk m c 0 t) (iblk m c 1 t) (iblk m c 3 t))
      (k0_pay7 (F := Ideal) (iblk m c 0 t) (iblk m c 1 t) (iblk m c 2 t)) (Scalar.ofBits .f32 0x3F000000#32) (ix2 r q))
      (gated (prod m c R p) (prod m c R p')) := by
  rw [pay1, pay7]
  exact congr (congrArg gated (gate m c t r q R hR p hp)) (up m c t r q R hR p' hp')

/-- The normalised rows after a point. -/
theorem after_rows (t : Fin cfg0.N) (r k : Fin 1024) (R : Fin 4096) (hR : R.val = t.val / 2 * 1024 + r.val) :
    @Eq EReal ((outsAt0 m c t.val t.isLt).1 (ix2 r k)) (xn m c R k) := by
  by_cases h0 : t.val % 2 = 0
  · rw [outsAt0_A m c t h0 (by omega)]
    frame_out
    exact rows m c t r k R hR
  · rw [outsAt0_B m c t h0 (by omega)]
    have ht := t.isLt
    have e := outsAt0_A m c ⟨t.val - 1, by omega⟩ (show (t.val - 1) % 2 = 0 by omega) (show ¬(t.val - 1) % 2 = 1 by omega)
    have e' := rows m c ⟨t.val - 1, by omega⟩ r k R (show R.val = (t.val - 1) / 2 * 1024 + r.val by omega)
    refine Eq.trans (congrFun (congrArg Prod.fst e) (ix2 r k)) ?_
    frame_out
    exact e'

/-- The product's column a packed column holds. -/
abbrev packed (l : Fin 5632) : Fin 5632 := ⟨l.val / 1408 % 2 * 2816 + l.val / 2816 * 1408 + l.val % 1408, by omega⟩

/-- The packed columns after a point. -/
theorem after_packed (t : Fin cfg0.N) (y : S1024x2816.Idx) (R : Fin 4096) (hR : R.val = t.val / 2 * 1024 + (y 0).val)
    (l : Fin 5632) (hl : l.val = t.val % 2 * 2816 + (y 1).val) :
    @Eq EReal ((outsAt0 m c t.val t.isLt).2.1 y) (prod m c R (packed l)) := by
  have hlt : l.val < 5632 := l.isLt
  by_cases h0 : t.val % 2 = 0
  · rw [outsAt0_A m c t h0 (by omega)]
    frame_out
    canon_tiles x h
    · idx_vars x
      rw [pay6]
      exact up m c t x0 x1 R (by omega) (packed l) (by simp only; omega)
    · idx_vars x
      rw [pay5]
      exact gate m c t x0 x1 R (by omega) (packed l) (by simp only; omega)
  · rw [outsAt0_B m c t h0 (by omega)]
    frame_out
    canon_tiles x h
    · idx_vars x
      rw [pay6]
      exact up m c t x0 x1 R (by omega) (packed l) (by simp only; omega)
    · idx_vars x
      rw [pay5]
      exact gate m c t x0 x1 R (by omega) (packed l) (by simp only; omega)

/-- The gated columns after a point. -/
theorem after_gated (t : Fin cfg0.N) (r : Fin 1024) (q : Fin 1408) (R : Fin 4096) (hR : R.val = t.val / 2 * 1024 + r.val)
    (p p' : Fin 5632) (hp : p.val = t.val % 2 * 1408 + q.val) (hp' : p'.val = (2 + t.val % 2) * 1408 + q.val) :
    @Eq EReal ((outsAt0 m c t.val t.isLt).2.2 (ix2 r q)) (gated (prod m c R p) (prod m c R p')) := by
  by_cases h0 : t.val % 2 = 0
  · rw [outsAt0_A m c t h0 (by omega)]
    frame_out
    exact cols m c t r q R hR p p' hp hp'
  · rw [outsAt0_B m c t h0 (by omega)]
    frame_out
    exact cols m c t r q R hR p p' hp hp'

/-! ## The arrays after the run -/

theorem final4 : (dats m 0 c).arrAt 4 (cfgs 0).N = fun i => xn m c (i 0) (i 1) := by
  refine (dats m 0 c).arrAt_eq_of_covers 4 _ (by decide +kernel) fun t hf y => ?_
  have e0 : ((((cfg0.win 4).blk t).view.emb y) 0 : ℕ) = t.val / 2 * 1024 + (y 0).val := by blk_simp [idx t]
  have e1 : ((((cfg0.win 4).blk t).view.emb y) 1 : ℕ) = (y 1).val := by blk_simp [idx t]
  generalize ((cfg0.win 4).blk t).view.emb y = i at e0 e1 ⊢
  blk_simp; rw [after0_4]
  idx_vars y
  rw [show i 1 = y1 from Fin.ext e1]
  exact after_rows m c t y0 y1 (i 0) e0

theorem final5 : (dats m 0 c).arrAt 5 (cfgs 0).N = fun i => prod m c (i 0) (packed (i 1)) := by
  refine (dats m 0 c).arrAt_eq_of_covers 5 _ (by decide +kernel) fun t hf y => ?_
  have e0 : ((((cfg0.win 5).blk t).view.emb y) 0 : ℕ) = t.val / 2 * 1024 + (y 0).val := by blk_simp [idx t]
  have e1 : ((((cfg0.win 5).blk t).view.emb y) 1 : ℕ) = t.val % 2 * 2816 + (y 1).val := by blk_simp [idx t]
  generalize ((cfg0.win 5).blk t).view.emb y = i at e0 e1 ⊢
  blk_simp; rw [after0_5]
  exact after_packed m c t y (i 0) e0 (i 1) e1

/-- The column of a gated column's gate, and of its up projection. -/
abbrev gateCol (f : Fin 2816) : Fin 5632 := ⟨f.val, by omega⟩
abbrev upCol (f : Fin 2816) : Fin 5632 := ⟨2816 + f.val, by omega⟩

theorem final6 : (dats m 0 c).arrAt 6 (cfgs 0).N
    = fun i => gated (prod m c (i 0) (gateCol (i 1))) (prod m c (i 0) (upCol (i 1))) := by
  refine (dats m 0 c).arrAt_eq_of_covers 6 _ (by decide +kernel) fun t hf y => ?_
  have e0 : ((((cfg0.win 6).blk t).view.emb y) 0 : ℕ) = t.val / 2 * 1024 + (y 0).val := by blk_simp [idx t]
  have e1 : ((((cfg0.win 6).blk t).view.emb y) 1 : ℕ) = t.val % 2 * 1408 + (y 1).val := by blk_simp [idx t]
  generalize ((cfg0.win 6).blk t).view.emb y = i at e0 e1 ⊢
  blk_simp; rw [after0_6]
  idx_vars y
  exact after_gated m c t y0 y1 (i 0) e0 (gateCol (i 1)) (upCol (i 1)) (by simp only; omega) (by simp only; omega)

end Cert.FfnInIdeal.Block

end
-- ==== Proof.FinReference.lean ====
/-
  The reference of swiglu's first half, read at an index: the normalised stream, the packed product, the gated columns.
-/
module

public import proofs.«01_k».proof.Proof.Gen.FfnInRefIdeal.Run
public import proofs.«01_k».proof.Proof.Gen.FfnInRefIdeal.Read
public import Idealize.ShloMosaic.Lib.KernelVsHost
public import proofs.«01_k».proof.Proof.FinMath

@[expose] public section

set_option maxRecDepth 16384

noncomputable section

open Idealize.ShloMosaic Idealize.ShloMosaic.TcCoe Idealize.SL.Sem

namespace Cert.FfnInRefIdeal.Rows

open Cert.FfnInRefIdeal Cert.FfnInRefIdeal.Gen Cert.FfnInRefIdeal.Read

variable (x0 : (⟨S4096x1024, .f32⟩ : BufTy).Contents (Elt Ideal)) (x1 : (⟨S1024, .f32⟩ : BufTy).Contents (Elt Ideal))
  (x2 : (⟨S1024x5632, .bf16⟩ : BufTy).Contents (Elt Ideal))

/-- The normalised stream. -/
theorem normed (r : Fin 4096) (k : Fin 1024) : val_main_v12 x0 x1 (ix2 r k)
    = x0 (ix2 r k) * Ideal.rsqrt (Ideal.div (∑ l : Fin 1024, x0 (ix2 r l) * x0 (ix2 r l)) (Ideal.ofBits .f32 0x44800000#32)
        + Ideal.ofBits .f32 0x358637BD#32) * x1 (ix1 k) := by
  unfold val_main_v12 val_main_v11 val_main_v10 val_main_v9 val_main_v8 val_main_v7 val_main_v6 val_main_v5 val_main_cst_1
    val_main_v4 val_main_v3 val_main_cst_0 val_main_v2 val_main_v1 val_main_cst val_main_v0
  pointwise

/-- The product with the weight. -/
theorem product (r : Fin 4096) (p : Fin 5632) : val_main_v14 x0 x1 x2 (ix2 r p)
    = ∑ k : Fin 1024, val_main_v12 x0 x1 (ix2 r k) * x2 (ix2 k p) := by
  unfold val_main_v14 val_main_v13
  pointwise

/-- The first result: the normalised stream. -/
theorem first (r : Fin 4096) (k : Fin 1024) : val_main_v20 x0 x1 (ix2 r k) = val_main_v12 x0 x1 (ix2 r k) := by
  unfold val_main_v20
  pointwise

/-- The second result: the product's columns, packed. -/
theorem second (r : Fin 4096) (l : Fin 5632) : val_main_v21 x0 x1 x2 (ix2 r l)
    = val_main_v14 x0 x1 x2 (ix2 r ⟨l.val / 1408 % 2 * 2816 + l.val / 2816 * 1408 + l.val % 1408, by omega⟩) := by
  rw [val_main_v21_apply, val_main_v19_apply,
    show idx_main_v19 (ix2 r l) = ix4 r (⟨l.val / 2816, by omega⟩ : Fin 2) (⟨l.val / 1408 % 2, by omega⟩ : Fin 2)
      (⟨l.val % 1408, by omega⟩ : Fin 1408) by blk_ext,
    val_main_v18_apply, val_main_v17_apply]
  simp only [Ideal.truncf_def]
  blk_ext

theorem gate (r : Fin 4096) (f : Fin 2816) : val_main_v15 x0 x1 x2 (ix2 r f) = val_main_v14 x0 x1 x2 (ix2 r ⟨f.val, by omega⟩) := by
  rw [val_main_v15_apply]
  blk_ext

theorem up (r : Fin 4096) (f : Fin 2816) : val_main_v16 x0 x1 x2 (ix2 r f) = val_main_v14 x0 x1 x2 (ix2 r ⟨2816 + f.val, by omega⟩) := by
  rw [val_main_v16_apply]
  blk_ext

/-- The third result: the gate times its logistic times the up projection. -/
theorem third (r : Fin 4096) (f : Fin 2816) : val_main_v24 x0 x1 x2 (ix2 r f)
    = val_main_v14 x0 x1 x2 (ix2 r ⟨f.val, by omega⟩)
        * Ideal.div 1 (1 + Ideal.exp (-val_main_v14 x0 x1 x2 (ix2 r ⟨f.val, by omega⟩)))
        * val_main_v14 x0 x1 x2 (ix2 r ⟨2816 + f.val, by omega⟩) := by
  rw [← gate, ← up]
  simp only [val_main_v24_apply, val_main_v23_apply, val_main_v22_apply, val_main_call0_v5_apply, val_main_call0_v4_apply,
    val_main_call0_v3_apply, val_main_call0_v2_apply, val_main_call0_v1_apply, val_main_call0_v0_apply,
    val_main_call0_cst_apply, val_main_call0_cst_0_apply]
  pointwise

end Cert.FfnInRefIdeal.Rows

end
-- ==== Proof.FinClaims.lean ====
/-
  The claims about the call of swiglu's first half: the norm, the product, the gate.
-/
module

public import proofs.«01_k».proof.Defs
public import proofs.«01_k».proof.Proof.FinBitsFrame
public import proofs.«01_k».proof.Proof.FinKernel
public import proofs.«01_k».proof.Proof.FinReference
public import Idealize.ShloMosaic.Lib.Quiescent

@[expose] public section

set_option maxRecDepth 16384

noncomputable section

open Idealize.ShloMosaic Idealize.ShloMosaic.TcCoe Idealize.SL.Sem

namespace Cert.FinClaims

open Cert.FfnInIdeal Cert.FfnInIdeal.Gen Cert.FfnInIdeal.Run Cert.FfnInIdeal.Block

variable (m : (ℓ : Loc nD τ sig) → Buf (Elt Ideal) ℓ) (c : Dev nD)

/-- The reference's product is the kernel's. -/
theorem product (r : Fin 4096) (p : Fin 5632) :
    Cert.FfnInRefIdeal.Read.val_main_v14 (F := Ideal) (A0 m c) (A1 m c) (A2 m c) (ix2 r p) = prod m c r p := by
  refine (Cert.FfnInRefIdeal.Rows.product (A0 m c) (A1 m c) (A2 m c) r p).trans ?_
  unfold prod xn nrm
  exact Finset.sum_congr rfl fun k _ => congrArg (· * A2 m c (ix2 k p)) (Cert.FfnInRefIdeal.Rows.normed (A0 m c) (A1 m c) r k)

/-- The first array is the reference's normalised stream. -/
theorem array4 : (dats m 0 c).arrAt 4 (cfgs 0).N = Cert.FfnInRefIdeal.Read.val_main_v20 (F := Ideal) (A0 m c) (A1 m c) := by
  refine (final4 m c).trans (funext fun i => ?_)
  idx_vars i
  exact ((Cert.FfnInRefIdeal.Rows.first (A0 m c) (A1 m c) i0 i1).trans (Cert.FfnInRefIdeal.Rows.normed (A0 m c) (A1 m c) i0 i1)).symm

/-- The second array is the reference's packed product. -/
theorem array5 : (dats m 0 c).arrAt 5 (cfgs 0).N
    = Cert.FfnInRefIdeal.Read.val_main_v21 (F := Ideal) (A0 m c) (A1 m c) (A2 m c) := by
  refine (final5 m c).trans (funext fun i => ?_)
  idx_vars i
  exact ((Cert.FfnInRefIdeal.Rows.second (A0 m c) (A1 m c) (A2 m c) i0 i1).trans (product m c i0 (packed i1))).symm

/-- The third array is the reference's gated columns. -/
theorem array6 : (dats m 0 c).arrAt 6 (cfgs 0).N
    = Cert.FfnInRefIdeal.Read.val_main_v24 (F := Ideal) (A0 m c) (A1 m c) (A2 m c) := by
  refine (final6 m c).trans (funext fun i => ?_)
  idx_vars i
  refine Eq.trans ?_ (Cert.FfnInRefIdeal.Rows.third (A0 m c) (A1 m c) (A2 m c) i0 i1).symm
  show gated (prod m c i0 (gateCol i1)) (prod m c i0 (upCol i1)) = _
  rw [product m c i0 (gateCol i1), product m c i0 (upCol i1), ← Cert.FinMath.sigma]
  rfl

theorem frame : Cert.quiescent_FfnIn := fun m ρ _ => Cert.FfnIn.Run.frame m ρ
theorem frameIdeal : Cert.quiescent_FfnInIdeal := fun m ρ _ => Cert.FfnInIdeal.Run.frame m ρ
theorem frameRef : Cert.quiescent_FfnInRefIdeal := fun m ρ _ =>
  (θ_run Cert.FfnInRefIdeal.defs _ _).mono (fun r h => ⟨fun c => (h c).2.2.2, sem_eq_zero_of_no_sems (by decide) r.2⟩)
    (Cert.FfnInRefIdeal.Value.run (F := Ideal) m ρ)
theorem preserves : Cert.preserves_FfnIn_FfnInIdeal := trivial

/-- A function of equal arguments. -/
theorem congr_two {α β γ : Type} (f : α → β → γ) {a a' : α} {b b' : β} (ha : a = a') (hb : b = b') : f a b = f a' b' := by
  subst ha hb; rfl
theorem congr_three {α β γ δ : Type} (f : α → β → γ → δ) {a a' : α} {b b' : β} {c c' : γ}
    (ha : a = a') (hb : b = b') (hc : c = c') : f a b c = f a' b' c' := by
  subst ha hb hc; rfl

set_option maxHeartbeats 8000000 in
/-- The call computes the reference's three results. -/
theorem algebraic : Cert.algebraic_FfnInIdeal_FfnInRefIdeal := fun m ρ m' ρ' _ hag => by
  refine ⟨fun c => (dats m 0 c).arrAt 4 cfg0.N, fun c => (dats m 0 c).arrAt 5 cfg0.N, fun c => (dats m 0 c).arrAt 6 cfg0.N,
    Cert.FfnInIdeal.Run.run_blocks m ρ,
    (θ_run _ _ _).mono (fun _ h c => ⟨(h c).1.trans ?_, (h c).2.1.trans ?_, (h c).2.2.1.trans ?_, (h c).2.2.2⟩)
      (Cert.FfnInRefIdeal.Value.run (F := Ideal) m' ρ')⟩
  · exact (Cert.FfnInRefIdeal.Read.val_main_v20_eq (F := Ideal) _ _).trans
      ((congr_two (Cert.FfnInRefIdeal.Read.val_main_v20 (F := Ideal)) (hag c).1 (hag c).2.1).trans (array4 m c).symm)
  · exact (Cert.FfnInRefIdeal.Read.val_main_v21_eq (F := Ideal) _ _ _).trans
      ((congr_three (Cert.FfnInRefIdeal.Read.val_main_v21 (F := Ideal)) (hag c).1 (hag c).2.1 (hag c).2.2).trans (array5 m c).symm)
  · exact (Cert.FfnInRefIdeal.Read.val_main_v24_eq (F := Ideal) _ _ _).trans
      ((congr_three (Cert.FfnInRefIdeal.Read.val_main_v24 (F := Ideal)) (hag c).1 (hag c).2.1 (hag c).2.2).trans (array6 m c).symm)

end Cert.FinClaims

end
-- ==== Proof.lean ====
module

public import proofs.«01_k».proof.Defs
public import proofs.«01_k».proof.Proof.Gen.Attn
public import proofs.«01_k».proof.Proof.Gen.Attn.Skeleton
public import proofs.«01_k».proof.Proof.Gen.Attn.Launch
public import proofs.«01_k».proof.Proof.Gen.Attn.Points
public import proofs.«01_k».proof.Proof.Gen.Attn.Frame
public import proofs.«01_k».proof.Proof.Gen.AttnIdeal
public import proofs.«01_k».proof.Proof.Gen.AttnIdeal.Skeleton
public import proofs.«01_k».proof.Proof.Gen.AttnIdeal.Launch
public import proofs.«01_k».proof.Proof.Gen.AttnIdeal.Points
public import proofs.«01_k».proof.Proof.Gen.AttnIdeal.Frame
public import proofs.«01_k».proof.Proof.Gen.AttnRefIdeal
public import proofs.«01_k».proof.Proof.Gen.FfnHid
public import proofs.«01_k».proof.Proof.Gen.FfnHid.Skeleton
public import proofs.«01_k».proof.Proof.Gen.FfnHid.Launch
public import proofs.«01_k».proof.Proof.Gen.FfnHid.Points
public import proofs.«01_k».proof.Proof.Gen.FfnHid.Frame
public import proofs.«01_k».proof.Proof.Gen.FfnHidIdeal
public import proofs.«01_k».proof.Proof.Gen.FfnHidIdeal.Skeleton
public import proofs.«01_k».proof.Proof.Gen.FfnHidIdeal.Launch
public import proofs.«01_k».proof.Proof.Gen.FfnHidIdeal.Points
public import proofs.«01_k».proof.Proof.Gen.FfnHidIdeal.Frame
public import proofs.«01_k».proof.Proof.Gen.FfnHidRefIdeal
public import proofs.«01_k».proof.Proof.Gen.Nrm
public import proofs.«01_k».proof.Proof.Gen.Nrm.Skeleton
public import proofs.«01_k».proof.Proof.Gen.Nrm.Launch
public import proofs.«01_k».proof.Proof.Gen.Nrm.Points
public import proofs.«01_k».proof.Proof.Gen.Nrm.Frame
public import proofs.«01_k».proof.Proof.Gen.NrmIdeal
public import proofs.«01_k».proof.Proof.Gen.NrmIdeal.Skeleton
public import proofs.«01_k».proof.Proof.Gen.NrmIdeal.Launch
public import proofs.«01_k».proof.Proof.Gen.NrmIdeal.Points
public import proofs.«01_k».proof.Proof.Gen.NrmIdeal.Frame
public import proofs.«01_k».proof.Proof.Gen.NrmRefIdeal
public import proofs.«01_k».proof.Proof.Gen.Dwin
public import proofs.«01_k».proof.Proof.Gen.Dwin.Skeleton
public import proofs.«01_k».proof.Proof.Gen.Dwin.Launch
public import proofs.«01_k».proof.Proof.Gen.Dwin.Points
public import proofs.«01_k».proof.Proof.Gen.Dwin.Frame
public import proofs.«01_k».proof.Proof.Gen.DwinIdeal
public import proofs.«01_k».proof.Proof.Gen.DwinIdeal.Skeleton
public import proofs.«01_k».proof.Proof.Gen.DwinIdeal.Launch
public import proofs.«01_k».proof.Proof.Gen.DwinIdeal.Points
public import proofs.«01_k».proof.Proof.Gen.DwinIdeal.Frame
public import proofs.«01_k».proof.Proof.Gen.DwinRefIdeal
public import proofs.«01_k».proof.Proof.Gen.Dwout
public import proofs.«01_k».proof.Proof.Gen.Dwout.Skeleton
public import proofs.«01_k».proof.Proof.Gen.Dwout.Launch
public import proofs.«01_k».proof.Proof.Gen.Dwout.Points
public import proofs.«01_k».proof.Proof.Gen.Dwout.Frame
public import proofs.«01_k».proof.Proof.Gen.DwoutIdeal
public import proofs.«01_k».proof.Proof.Gen.DwoutIdeal.Skeleton
public import proofs.«01_k».proof.Proof.Gen.DwoutIdeal.Launch
public import proofs.«01_k».proof.Proof.Gen.DwoutIdeal.Points
public import proofs.«01_k».proof.Proof.Gen.DwoutIdeal.Frame
public import proofs.«01_k».proof.Proof.Gen.DwoutRefIdeal
public import proofs.«01_k».proof.Proof.Gen.FfnOut
public import proofs.«01_k».proof.Proof.Gen.FfnOut.Skeleton
public import proofs.«01_k».proof.Proof.Gen.FfnOut.Launch
public import proofs.«01_k».proof.Proof.Gen.FfnOut.Points
public import proofs.«01_k».proof.Proof.Gen.FfnOut.Frame
public import proofs.«01_k».proof.Proof.Gen.FfnOutIdeal
public import proofs.«01_k».proof.Proof.Gen.FfnOutIdeal.Skeleton
public import proofs.«01_k».proof.Proof.Gen.FfnOutIdeal.Launch
public import proofs.«01_k».proof.Proof.Gen.FfnOutIdeal.Points
public import proofs.«01_k».proof.Proof.Gen.FfnOutIdeal.Frame
public import proofs.«01_k».proof.Proof.Gen.FfnOutRefIdeal
public import proofs.«01_k».proof.Proof.Gen.AttDo
public import proofs.«01_k».proof.Proof.Gen.AttDo.Skeleton
public import proofs.«01_k».proof.Proof.Gen.AttDo.Launch
public import proofs.«01_k».proof.Proof.Gen.AttDo.Points
public import proofs.«01_k».proof.Proof.Gen.AttDo.Frame
public import proofs.«01_k».proof.Proof.Gen.AttDoIdeal
public import proofs.«01_k».proof.Proof.Gen.AttDoIdeal.Skeleton
public import proofs.«01_k».proof.Proof.Gen.AttDoIdeal.Launch
public import proofs.«01_k».proof.Proof.Gen.AttDoIdeal.Points
public import proofs.«01_k».proof.Proof.Gen.AttDoIdeal.Frame
public import proofs.«01_k».proof.Proof.Gen.AttDoRefIdeal
public import proofs.«01_k».proof.Proof.Gen.Dwqkv
public import proofs.«01_k».proof.Proof.Gen.Dwqkv.Skeleton
public import proofs.«01_k».proof.Proof.Gen.Dwqkv.Launch
public import proofs.«01_k».proof.Proof.Gen.Dwqkv.Points
public import proofs.«01_k».proof.Proof.Gen.Dwqkv.Frame
public import proofs.«01_k».proof.Proof.Gen.DwqkvIdeal
public import proofs.«01_k».proof.Proof.Gen.DwqkvIdeal.Skeleton
public import proofs.«01_k».proof.Proof.Gen.DwqkvIdeal.Launch
public import proofs.«01_k».proof.Proof.Gen.DwqkvIdeal.Points
public import proofs.«01_k».proof.Proof.Gen.DwqkvIdeal.Frame
public import proofs.«01_k».proof.Proof.Gen.DwqkvRefIdeal
public import proofs.«01_k».proof.Proof.Gen.AttO
public import proofs.«01_k».proof.Proof.Gen.AttO.Skeleton
public import proofs.«01_k».proof.Proof.Gen.AttO.Launch
public import proofs.«01_k».proof.Proof.Gen.AttO.Points
public import proofs.«01_k».proof.Proof.Gen.AttO.Frame
public import proofs.«01_k».proof.Proof.Gen.AttOIdeal
public import proofs.«01_k».proof.Proof.Gen.AttOIdeal.Skeleton
public import proofs.«01_k».proof.Proof.Gen.AttOIdeal.Launch
public import proofs.«01_k».proof.Proof.Gen.AttOIdeal.Points
public import proofs.«01_k».proof.Proof.Gen.AttOIdeal.Frame
public import proofs.«01_k».proof.Proof.Gen.AttORefIdeal
public import proofs.«01_k».proof.Proof.Gen.HybO
public import proofs.«01_k».proof.Proof.Gen.HybO.Skeleton
public import proofs.«01_k».proof.Proof.Gen.HybO.Launch
public import proofs.«01_k».proof.Proof.Gen.HybO.Points
public import proofs.«01_k».proof.Proof.Gen.HybO.Frame
public import proofs.«01_k».proof.Proof.Gen.HybOIdeal
public import proofs.«01_k».proof.Proof.Gen.HybOIdeal.Skeleton
public import proofs.«01_k».proof.Proof.Gen.HybOIdeal.Launch
public import proofs.«01_k».proof.Proof.Gen.HybOIdeal.Points
public import proofs.«01_k».proof.Proof.Gen.HybOIdeal.Frame
public import proofs.«01_k».proof.Proof.Gen.HybORefIdeal
public import proofs.«01_k».proof.Proof.Gen.FfnIn
public import proofs.«01_k».proof.Proof.Gen.FfnIn.Skeleton
public import proofs.«01_k».proof.Proof.Gen.FfnIn.Launch
public import proofs.«01_k».proof.Proof.Gen.FfnIn.Points
public import proofs.«01_k».proof.Proof.Gen.FfnIn.Frame
public import proofs.«01_k».proof.Proof.Gen.FfnInIdeal
public import proofs.«01_k».proof.Proof.Gen.FfnInIdeal.Skeleton
public import proofs.«01_k».proof.Proof.Gen.FfnInIdeal.Launch
public import proofs.«01_k».proof.Proof.Gen.FfnInIdeal.Points
public import proofs.«01_k».proof.Proof.Gen.FfnInIdeal.Frame
public import proofs.«01_k».proof.Proof.Gen.FfnInRefIdeal
public import proofs.«01_k».proof.Proof.Gen.Pre_finite_att
public import proofs.«01_k».proof.Proof.Gen.Pre_finite_hid
public import proofs.«01_k».proof.Proof.Gen.Pre_finite_nrm
public import proofs.«01_k».proof.Proof.Gen.AttnIdeal.Value
public import proofs.«01_k».proof.Proof.Gen.AttnRefIdeal.Run
public import proofs.«01_k».proof.Proof.Gen.AttnRefIdeal.Read
public import proofs.«01_k».proof.Proof.Gen.FfnHidIdeal.Value
public import proofs.«01_k».proof.Proof.Gen.FfnHidRefIdeal.Run
public import proofs.«01_k».proof.Proof.Gen.FfnHidRefIdeal.Read
public import proofs.«01_k».proof.Proof.Gen.NrmIdeal.Value
public import proofs.«01_k».proof.Proof.Gen.NrmRefIdeal.Run
public import proofs.«01_k».proof.Proof.Gen.NrmRefIdeal.Read
public import proofs.«01_k».proof.Proof.Gen.DwinIdeal.Value
public import proofs.«01_k».proof.Proof.Gen.DwinRefIdeal.Run
public import proofs.«01_k».proof.Proof.Gen.DwinRefIdeal.Read
public import proofs.«01_k».proof.Proof.Gen.DwoutIdeal.Value
public import proofs.«01_k».proof.Proof.Gen.DwoutRefIdeal.Run
public import proofs.«01_k».proof.Proof.Gen.DwoutRefIdeal.Read
public import proofs.«01_k».proof.Proof.Gen.FfnOutIdeal.Value
public import proofs.«01_k».proof.Proof.Gen.FfnOutRefIdeal.Run
public import proofs.«01_k».proof.Proof.Gen.FfnOutRefIdeal.Read
public import proofs.«01_k».proof.Proof.Gen.AttDoIdeal.Value
public import proofs.«01_k».proof.Proof.Gen.AttDoRefIdeal.Run
public import proofs.«01_k».proof.Proof.Gen.AttDoRefIdeal.Read
public import proofs.«01_k».proof.Proof.Gen.DwqkvIdeal.Value
public import proofs.«01_k».proof.Proof.Gen.DwqkvRefIdeal.Run
public import proofs.«01_k».proof.Proof.Gen.DwqkvRefIdeal.Read
public import proofs.«01_k».proof.Proof.Gen.AttOIdeal.Value
public import proofs.«01_k».proof.Proof.Gen.AttORefIdeal.Run
public import proofs.«01_k».proof.Proof.Gen.AttORefIdeal.Read
public import proofs.«01_k».proof.Proof.Gen.HybOIdeal.Value
public import proofs.«01_k».proof.Proof.Gen.HybORefIdeal.Run
public import proofs.«01_k».proof.Proof.Gen.HybORefIdeal.Read
public import proofs.«01_k».proof.Proof.Gen.FfnInRefIdeal.Run
public import proofs.«01_k».proof.Proof.Gen.FfnInRefIdeal.Read
public import proofs.«01_k».proof.Proof.AttClaims
public import proofs.«01_k».proof.Proof.HidClaims
public import proofs.«01_k».proof.Proof.NrmClaims
public import proofs.«01_k».proof.Proof.WinClaims
public import proofs.«01_k».proof.Proof.WoutClaims
public import proofs.«01_k».proof.Proof.FoutClaims
public import proofs.«01_k».proof.Proof.AttDoClaims
public import proofs.«01_k».proof.Proof.DwqkvClaims
public import proofs.«01_k».proof.Proof.AttOClaims
public import proofs.«01_k».proof.Proof.HybOClaims
public import proofs.«01_k».proof.Proof.FinClaims
public import Idealize.ShloMosaic.Adequacy
public import Idealize.ShloMosaic.Init

@[expose] public section

noncomputable section

namespace Cert.Proof

open Idealize.ShloMosaic Idealize.SL.Sem Cert.Attn

theorem claim : Cert.Claim := ⟨Cert.Attn.Gen.facts, Cert.AttnIdeal.Gen.facts, Cert.AttnRefIdeal.Gen.facts, Cert.FfnHid.Gen.facts, Cert.FfnHidIdeal.Gen.facts, Cert.FfnHidRefIdeal.Gen.facts, Cert.Nrm.Gen.facts, Cert.NrmIdeal.Gen.facts, Cert.NrmRefIdeal.Gen.facts, Cert.Dwin.Gen.facts, Cert.DwinIdeal.Gen.facts, Cert.DwinRefIdeal.Gen.facts, Cert.Dwout.Gen.facts, Cert.DwoutIdeal.Gen.facts, Cert.DwoutRefIdeal.Gen.facts, Cert.FfnOut.Gen.facts, Cert.FfnOutIdeal.Gen.facts, Cert.FfnOutRefIdeal.Gen.facts, Cert.AttDo.Gen.facts, Cert.AttDoIdeal.Gen.facts, Cert.AttDoRefIdeal.Gen.facts, Cert.Dwqkv.Gen.facts, Cert.DwqkvIdeal.Gen.facts, Cert.DwqkvRefIdeal.Gen.facts, Cert.AttO.Gen.facts, Cert.AttOIdeal.Gen.facts, Cert.AttORefIdeal.Gen.facts, Cert.HybO.Gen.facts, Cert.HybOIdeal.Gen.facts, Cert.HybORefIdeal.Gen.facts, Cert.FfnIn.Gen.facts, Cert.FfnInIdeal.Gen.facts, Cert.FfnInRefIdeal.Gen.facts, Cert.Pre_finite_att.Gen.facts, Cert.Pre_finite_hid.Gen.facts, Cert.Pre_finite_nrm.Gen.facts,
  Cert.AttClaims.frame, Cert.AttClaims.frameIdeal, Cert.AttClaims.frameIdealPre, Cert.AttClaims.frameRef, Cert.AttClaims.frameRefPre,
  Cert.HidClaims.frame, Cert.HidClaims.frameIdeal, Cert.HidClaims.frameIdealPre, Cert.HidClaims.frameRef, Cert.HidClaims.frameRefPre,
  Cert.NrmClaims.frame, Cert.NrmClaims.frameIdeal, Cert.NrmClaims.frameIdealPre, Cert.NrmClaims.frameRef, Cert.NrmClaims.frameRefPre,
  Cert.DwinClaims.frame, Cert.DwinClaims.frameIdeal, Cert.DwinClaims.frameRef,
  Cert.DwoutClaims.frame, Cert.DwoutClaims.frameIdeal, Cert.DwoutClaims.frameRef,
  Cert.FfnOutClaims.frame, Cert.FfnOutClaims.frameIdeal, Cert.FfnOutClaims.frameRef,
  Cert.AttDoClaims.frame, Cert.AttDoClaims.frameIdeal, Cert.AttDoClaims.frameRef,
  Cert.DwqkvClaims.frame, Cert.DwqkvClaims.frameIdeal, Cert.DwqkvClaims.frameRef,
  Cert.AttOClaims.frame, Cert.AttOClaims.frameIdeal, Cert.AttOClaims.frameRef,
  Cert.HybOClaims.frame, Cert.HybOClaims.frameIdeal, Cert.HybOClaims.frameRef,
  Cert.FinClaims.frame, Cert.FinClaims.frameIdeal, Cert.FinClaims.frameRef,
  Cert.AttClaims.preserves, Cert.AttClaims.algebraic, Cert.HidClaims.preserves, Cert.HidClaims.algebraic,
  Cert.NrmClaims.preserves, Cert.NrmClaims.algebraic,
  Cert.DwinClaims.preserves, Cert.DwinClaims.algebraic,
  Cert.DwoutClaims.preserves, Cert.DwoutClaims.algebraic,
  Cert.FfnOutClaims.preserves, Cert.FfnOutClaims.algebraic,
  Cert.AttDoClaims.preserves, Cert.AttDoClaims.algebraic,
  Cert.DwqkvClaims.preserves, Cert.DwqkvClaims.algebraic,
  Cert.AttOClaims.preserves, Cert.AttOClaims.algebraic,
  Cert.HybOClaims.preserves, Cert.HybOClaims.algebraic,
  Cert.FinClaims.preserves, Cert.FinClaims.algebraic⟩

end Cert.Proof

end
